-- ==== Defs.lean ====
def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_FirstPlainIdeal (m : (ℓ : Loc Cert.FirstPlainIdeal.nD Cert.FirstPlainIdeal.τ Cert.FirstPlainIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondReferenceIdeal (m : (ℓ : Loc Cert.SecondReferenceIdeal.nD Cert.SecondReferenceIdeal.τ Cert.SecondReferenceIdeal.sig) → Buf (Elt Ideal) ℓ) : Prop :=
  True

def Pre_SecondPlainIdeal (m : (ℓ : Loc Cert.SecondPlainIdeal.nD Cert.SecondPlainIdeal.τ Cert.SecondPlainIdeal.sig) → Buf (Elt Ideal) ℓ) : Prop :=
  True

def Pre_Third (m : (ℓ : Loc Cert.Third.nD Cert.Third.τ Cert.Third.sig) → Buf (Elt Bits) ℓ) : Prop :=
  True

def Pre_ThirdIdeal (m : (ℓ : Loc Cert.ThirdIdeal.nD Cert.ThirdIdeal.τ Cert.ThirdIdeal.sig) → Buf (Elt Ideal) ℓ) : Prop :=
  True

def Pre_ThirdReferenceIdeal (m : (ℓ : Loc Cert.ThirdReferenceIdeal.nD Cert.ThirdReferenceIdeal.τ Cert.ThirdReferenceIdeal.sig) → Buf (Elt Ideal) ℓ) : Prop :=
  True

def Pre_ThirdPlainIdeal (m : (ℓ : Loc Cert.ThirdPlainIdeal.nD Cert.ThirdPlainIdeal.τ Cert.ThirdPlainIdeal.sig) → Buf (Elt Ideal) ℓ) : Prop :=
  True

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8))
      ∧ r.2.sem = fun _ => 0)

def quiescent_FirstPlainIdeal [hFirstPlainIdeal : Cert.FirstPlainIdeal.Facts] : Prop :=
  ∀ (m : (ℓ : Loc Cert.FirstPlainIdeal.nD Cert.FirstPlainIdeal.τ Cert.FirstPlainIdeal.sig) → Buf (Elt Ideal) ℓ) (g : Dev Cert.FirstPlainIdeal.nD → PrngReg), Pre_FirstPlainIdeal m →
    θ_run (Cert.FirstPlainIdeal.defs (F := Ideal)) (onTc (τ := Cert.FirstPlainIdeal.τ) (Cert.FirstPlainIdeal.main (F := Ideal))) ⟨m, fun _ => 0, g⟩ (fun r => (∀ c : Dev Cert.FirstPlainIdeal.nD,
      r.2.mem ((c.tc : Thread Cert.FirstPlainIdeal.nD Cert.FirstPlainIdeal.τ).loc Cert.FirstPlainIdeal.main_arg0) = m ((c.tc : Thread Cert.FirstPlainIdeal.nD Cert.FirstPlainIdeal.τ).loc Cert.FirstPlainIdeal.main_arg0)
      ∧ r.2.mem ((c.tc : Thread Cert.FirstPlainIdeal.nD Cert.FirstPlainIdeal.τ).loc Cert.FirstPlainIdeal.main_arg1) = m ((c.tc : Thread Cert.FirstPlainIdeal.nD Cert.FirstPlainIdeal.τ).loc Cert.FirstPlainIdeal.main_arg1)
      ∧ r.2.mem ((c.tc : Thread Cert.FirstPlainIdeal.nD Cert.FirstPlainIdeal.τ).loc Cert.FirstPlainIdeal.main_arg2) = m ((c.tc : Thread Cert.FirstPlainIdeal.nD Cert.FirstPlainIdeal.τ).loc Cert.FirstPlainIdeal.main_arg2)
      ∧ r.2.mem ((c.tc : Thread Cert.FirstPlainIdeal.nD Cert.FirstPlainIdeal.τ).loc Cert.FirstPlainIdeal.main_arg3) = m ((c.tc : Thread Cert.FirstPlainIdeal.nD Cert.FirstPlainIdeal.τ).loc Cert.FirstPlainIdeal.main_arg3)
      ∧ r.2.mem ((c.tc : Thread Cert.FirstPlainIdeal.nD Cert.FirstPlainIdeal.τ).loc Cert.FirstPlainIdeal.main_arg4) = m ((c.tc : Thread Cert.FirstPlainIdeal.nD Cert.FirstPlainIdeal.τ).loc Cert.FirstPlainIdeal.main_arg4)
      ∧ r.2.mem ((c.tc : Thread Cert.FirstPlainIdeal.nD Cert.FirstPlainIdeal.τ).loc Cert.FirstPlainIdeal.main_arg5) = m ((c.tc : Thread Cert.FirstPlainIdeal.nD Cert.FirstPlainIdeal.τ).loc Cert.FirstPlainIdeal.main_arg5)
      ∧ r.2.mem ((c.tc : Thread Cert.FirstPlainIdeal.nD Cert.FirstPlainIdeal.τ).loc Cert.FirstPlainIdeal.main_arg6) = m ((c.tc : Thread Cert.FirstPlainIdeal.nD Cert.FirstPlainIdeal.τ).loc Cert.FirstPlainIdeal.main_arg6)
      ∧ r.2.mem ((c.tc : Thread Cert.FirstPlainIdeal.nD Cert.FirstPlainIdeal.τ).loc Cert.FirstPlainIdeal.main_arg7) = m ((c.tc : Thread Cert.FirstPlainIdeal.nD Cert.FirstPlainIdeal.τ).loc Cert.FirstPlainIdeal.main_arg7)
      ∧ r.2.mem ((c.tc : Thread Cert.FirstPlainIdeal.nD Cert.FirstPlainIdeal.τ).loc Cert.FirstPlainIdeal.main_arg8) = m ((c.tc : Thread Cert.FirstPlainIdeal.nD Cert.FirstPlainIdeal.τ).loc Cert.FirstPlainIdeal.main_arg8))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5)
      ∧ r.2.mem ((c.tc : Thread Cert.Second.nD Cert.Second.τ).loc Cert.Second.main_arg6) = m ((c.tc : Thread Cert.Second.nD Cert.Second.τ).loc Cert.Second.main_arg6)
      ∧ r.2.mem ((c.tc : Thread Cert.Second.nD Cert.Second.τ).loc Cert.Second.main_arg7) = m ((c.tc : Thread Cert.Second.nD Cert.Second.τ).loc Cert.Second.main_arg7)
      ∧ r.2.mem ((c.tc : Thread Cert.Second.nD Cert.Second.τ).loc Cert.Second.main_arg8) = m ((c.tc : Thread Cert.Second.nD Cert.Second.τ).loc Cert.Second.main_arg8)
      ∧ r.2.mem ((c.tc : Thread Cert.Second.nD Cert.Second.τ).loc Cert.Second.main_arg9) = m ((c.tc : Thread Cert.Second.nD Cert.Second.τ).loc Cert.Second.main_arg9)
      ∧ r.2.mem ((c.tc : Thread Cert.Second.nD Cert.Second.τ).loc Cert.Second.main_arg10) = m ((c.tc : Thread Cert.Second.nD Cert.Second.τ).loc Cert.Second.main_arg10))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
      ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8)
      ∧ r.2.mem ((c.tc : Thread Cert.SecondIdeal.nD Cert.SecondIdeal.τ).loc Cert.SecondIdeal.main_arg9) = m ((c.tc : Thread Cert.SecondIdeal.nD Cert.SecondIdeal.τ).loc Cert.SecondIdeal.main_arg9)
      ∧ r.2.mem ((c.tc : Thread Cert.SecondIdeal.nD Cert.SecondIdeal.τ).loc Cert.SecondIdeal.main_arg10) = m ((c.tc : Thread Cert.SecondIdeal.nD Cert.SecondIdeal.τ).loc Cert.SecondIdeal.main_arg10))
      ∧ r.2.sem = fun _ => 0)

def quiescent_SecondReferenceIdeal [hSecondReferenceIdeal : Cert.SecondReferenceIdeal.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4)
      ∧ r.2.mem ((c.tc : Thread Cert.SecondReferenceIdeal.nD Cert.SecondReferenceIdeal.τ).loc Cert.SecondReferenceIdeal.main_arg5) = m ((c.tc : Thread Cert.SecondReferenceIdeal.nD Cert.SecondReferenceIdeal.τ).loc Cert.SecondReferenceIdeal.main_arg5)
      ∧ r.2.mem ((c.tc : Thread Cert.SecondReferenceIdeal.nD Cert.SecondReferenceIdeal.τ).loc Cert.SecondReferenceIdeal.main_arg6) = m ((c.tc : Thread Cert.SecondReferenceIdeal.nD Cert.SecondReferenceIdeal.τ).loc Cert.SecondReferenceIdeal.main_arg6)
      ∧ r.2.mem ((c.tc : Thread Cert.SecondReferenceIdeal.nD Cert.SecondReferenceIdeal.τ).loc Cert.SecondReferenceIdeal.main_arg7) = m ((c.tc : Thread Cert.SecondReferenceIdeal.nD Cert.SecondReferenceIdeal.τ).loc Cert.SecondReferenceIdeal.main_arg7)
      ∧ r.2.mem ((c.tc : Thread Cert.SecondReferenceIdeal.nD Cert.SecondReferenceIdeal.τ).loc Cert.SecondReferenceIdeal.main_arg8) = m ((c.tc : Thread Cert.SecondReferenceIdeal.nD Cert.SecondReferenceIdeal.τ).loc Cert.SecondReferenceIdeal.main_arg8)
      ∧ r.2.mem ((c.tc : Thread Cert.SecondReferenceIdeal.nD Cert.SecondReferenceIdeal.τ).loc Cert.SecondReferenceIdeal.main_arg9) = m ((c.tc : Thread Cert.SecondReferenceIdeal.nD Cert.SecondReferenceIdeal.τ).loc Cert.SecondReferenceIdeal.main_arg9)
      ∧ r.2.mem ((c.tc : Thread Cert.SecondReferenceIdeal.nD Cert.SecondReferenceIdeal.τ).loc Cert.SecondReferenceIdeal.main_arg10) = m ((c.tc : Thread Cert.SecondReferenceIdeal.nD Cert.SecondReferenceIdeal.τ).loc Cert.SecondReferenceIdeal.main_arg10))
      ∧ r.2.sem = fun _ => 0)

def quiescent_SecondPlainIdeal [hSecondPlainIdeal : Cert.SecondPlainIdeal.Facts] : Prop :=
  ∀ (m : (ℓ : Loc Cert.SecondPlainIdeal.nD Cert.SecondPlainIdeal.τ Cert.SecondPlainIdeal.sig) → Buf (Elt Ideal) ℓ) (g : Dev Cert.SecondPlainIdeal.nD → PrngReg), Pre_SecondPlainIdeal m →
    θ_run (Cert.SecondPlainIdeal.defs (F := Ideal)) (onTc (τ := Cert.SecondPlainIdeal.τ) (Cert.SecondPlainIdeal.main (F := Ideal))) ⟨m, fun _ => 0, g⟩ (fun r => (∀ c : Dev Cert.SecondPlainIdeal.nD,
      r.2.mem ((c.tc : Thread Cert.SecondPlainIdeal.nD Cert.SecondPlainIdeal.τ).loc Cert.SecondPlainIdeal.main_arg0) = m ((c.tc : Thread Cert.SecondPlainIdeal.nD Cert.SecondPlainIdeal.τ).loc Cert.SecondPlainIdeal.main_arg0)
      ∧ r.2.mem ((c.tc : Thread Cert.SecondPlainIdeal.nD Cert.SecondPlainIdeal.τ).loc Cert.SecondPlainIdeal.main_arg1) = m ((c.tc : Thread Cert.SecondPlainIdeal.nD Cert.SecondPlainIdeal.τ).loc Cert.SecondPlainIdeal.main_arg1)
      ∧ r.2.mem ((c.tc : Thread Cert.SecondPlainIdeal.nD Cert.SecondPlainIdeal.τ).loc Cert.SecondPlainIdeal.main_arg2) = m ((c.tc : Thread Cert.SecondPlainIdeal.nD Cert.SecondPlainIdeal.τ).loc Cert.SecondPlainIdeal.main_arg2)
      ∧ r.2.mem ((c.tc : Thread Cert.SecondPlainIdeal.nD Cert.SecondPlainIdeal.τ).loc Cert.SecondPlainIdeal.main_arg3) = m ((c.tc : Thread Cert.SecondPlainIdeal.nD Cert.SecondPlainIdeal.τ).loc Cert.SecondPlainIdeal.main_arg3)
      ∧ r.2.mem ((c.tc : Thread Cert.SecondPlainIdeal.nD Cert.SecondPlainIdeal.τ).loc Cert.SecondPlainIdeal.main_arg4) = m ((c.tc : Thread Cert.SecondPlainIdeal.nD Cert.SecondPlainIdeal.τ).loc Cert.SecondPlainIdeal.main_arg4)
      ∧ r.2.mem ((c.tc : Thread Cert.SecondPlainIdeal.nD Cert.SecondPlainIdeal.τ).loc Cert.SecondPlainIdeal.main_arg5) = m ((c.tc : Thread Cert.SecondPlainIdeal.nD Cert.SecondPlainIdeal.τ).loc Cert.SecondPlainIdeal.main_arg5)
      ∧ r.2.mem ((c.tc : Thread Cert.SecondPlainIdeal.nD Cert.SecondPlainIdeal.τ).loc Cert.SecondPlainIdeal.main_arg6) = m ((c.tc : Thread Cert.SecondPlainIdeal.nD Cert.SecondPlainIdeal.τ).loc Cert.SecondPlainIdeal.main_arg6)
      ∧ r.2.mem ((c.tc : Thread Cert.SecondPlainIdeal.nD Cert.SecondPlainIdeal.τ).loc Cert.SecondPlainIdeal.main_arg7) = m ((c.tc : Thread Cert.SecondPlainIdeal.nD Cert.SecondPlainIdeal.τ).loc Cert.SecondPlainIdeal.main_arg7)
      ∧ r.2.mem ((c.tc : Thread Cert.SecondPlainIdeal.nD Cert.SecondPlainIdeal.τ).loc Cert.SecondPlainIdeal.main_arg8) = m ((c.tc : Thread Cert.SecondPlainIdeal.nD Cert.SecondPlainIdeal.τ).loc Cert.SecondPlainIdeal.main_arg8)
      ∧ r.2.mem ((c.tc : Thread Cert.SecondPlainIdeal.nD Cert.SecondPlainIdeal.τ).loc Cert.SecondPlainIdeal.main_arg9) = m ((c.tc : Thread Cert.SecondPlainIdeal.nD Cert.SecondPlainIdeal.τ).loc Cert.SecondPlainIdeal.main_arg9)
      ∧ r.2.mem ((c.tc : Thread Cert.SecondPlainIdeal.nD Cert.SecondPlainIdeal.τ).loc Cert.SecondPlainIdeal.main_arg10) = m ((c.tc : Thread Cert.SecondPlainIdeal.nD Cert.SecondPlainIdeal.τ).loc Cert.SecondPlainIdeal.main_arg10))
      ∧ r.2.sem = fun _ => 0)

def quiescent_Third [hThird : Cert.Third.Facts] : Prop :=
  ∀ (m : (ℓ : Loc Cert.Third.nD Cert.Third.τ Cert.Third.sig) → Buf (Elt Bits) ℓ) (g : Dev Cert.Third.nD → PrngReg), Pre_Third m →
    θ_run (Cert.Third.defs (F := Bits)) (onTc (τ := Cert.Third.τ) (Cert.Third.main (F := Bits))) ⟨m, fun _ => 0, g⟩ (fun r => (∀ c : Dev Cert.Third.nD,
      r.2.mem ((c.tc : Thread Cert.Third.nD Cert.Third.τ).loc Cert.Third.main_arg0) = m ((c.tc : Thread Cert.Third.nD Cert.Third.τ).loc Cert.Third.main_arg0)
      ∧ r.2.mem ((c.tc : Thread Cert.Third.nD Cert.Third.τ).loc Cert.Third.main_arg1) = m ((c.tc : Thread Cert.Third.nD Cert.Third.τ).loc Cert.Third.main_arg1)
      ∧ r.2.mem ((c.tc : Thread Cert.Third.nD Cert.Third.τ).loc Cert.Third.main_arg2) = m ((c.tc : Thread Cert.Third.nD Cert.Third.τ).loc Cert.Third.main_arg2)
      ∧ r.2.mem ((c.tc : Thread Cert.Third.nD Cert.Third.τ).loc Cert.Third.main_arg3) = m ((c.tc : Thread Cert.Third.nD Cert.Third.τ).loc Cert.Third.main_arg3)
      ∧ r.2.mem ((c.tc : Thread Cert.Third.nD Cert.Third.τ).loc Cert.Third.main_arg4) = m ((c.tc : Thread Cert.Third.nD Cert.Third.τ).loc Cert.Third.main_arg4)
      ∧ r.2.mem ((c.tc : Thread Cert.Third.nD Cert.Third.τ).loc Cert.Third.main_arg5) = m ((c.tc : Thread Cert.Third.nD Cert.Third.τ).loc Cert.Third.main_arg5)
      ∧ r.2.mem ((c.tc : Thread Cert.Third.nD Cert.Third.τ).loc Cert.Third.main_arg6) = m ((c.tc : Thread Cert.Third.nD Cert.Third.τ).loc Cert.Third.main_arg6)
      ∧ r.2.mem ((c.tc : Thread Cert.Third.nD Cert.Third.τ).loc Cert.Third.main_arg7) = m ((c.tc : Thread Cert.Third.nD Cert.Third.τ).loc Cert.Third.main_arg7)
      ∧ r.2.mem ((c.tc : Thread Cert.Third.nD Cert.Third.τ).loc Cert.Third.main_arg8) = m ((c.tc : Thread Cert.Third.nD Cert.Third.τ).loc Cert.Third.main_arg8)
      ∧ r.2.mem ((c.tc : Thread Cert.Third.nD Cert.Third.τ).loc Cert.Third.main_arg9) = m ((c.tc : Thread Cert.Third.nD Cert.Third.τ).loc Cert.Third.main_arg9)
      ∧ r.2.mem ((c.tc : Thread Cert.Third.nD Cert.Third.τ).loc Cert.Third.main_arg10) = m ((c.tc : Thread Cert.Third.nD Cert.Third.τ).loc Cert.Third.main_arg10))
      ∧ r.2.sem = fun _ => 0)

def quiescent_ThirdIdeal [hThirdIdeal : Cert.ThirdIdeal.Facts] : Prop :=
  ∀ (m : (ℓ : Loc Cert.ThirdIdeal.nD Cert.ThirdIdeal.τ Cert.ThirdIdeal.sig) → Buf (Elt Ideal) ℓ) (g : Dev Cert.ThirdIdeal.nD → PrngReg), Pre_ThirdIdeal m →
    θ_run (Cert.ThirdIdeal.defs (F := Ideal)) (onTc (τ := Cert.ThirdIdeal.τ) (Cert.ThirdIdeal.main (F := Ideal))) ⟨m, fun _ => 0, g⟩ (fun r => (∀ c : Dev Cert.ThirdIdeal.nD,
      r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
      ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
      ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
      ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
      ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
      ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
      ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6)
      ∧ r.2.mem ((c.tc : Thread Cert.ThirdIdeal.nD Cert.ThirdIdeal.τ).loc Cert.ThirdIdeal.main_arg7) = m ((c.tc : Thread Cert.ThirdIdeal.nD Cert.ThirdIdeal.τ).loc Cert.ThirdIdeal.main_arg7)
      ∧ r.2.mem ((c.tc : Thread Cert.ThirdIdeal.nD Cert.ThirdIdeal.τ).loc Cert.ThirdIdeal.main_arg8) = m ((c.tc : Thread Cert.ThirdIdeal.nD Cert.ThirdIdeal.τ).loc Cert.ThirdIdeal.main_arg8)
      ∧ r.2.mem ((c.tc : Thread Cert.ThirdIdeal.nD Cert.ThirdIdeal.τ).loc Cert.ThirdIdeal.main_arg9) = m ((c.tc : Thread Cert.ThirdIdeal.nD Cert.ThirdIdeal.τ).loc Cert.ThirdIdeal.main_arg9)
      ∧ r.2.mem ((c.tc : Thread Cert.ThirdIdeal.nD Cert.ThirdIdeal.τ).loc Cert.ThirdIdeal.main_arg10) = m ((c.tc : Thread Cert.ThirdIdeal.nD Cert.ThirdIdeal.τ).loc Cert.ThirdIdeal.main_arg10))
      ∧ r.2.sem = fun _ => 0)

def quiescent_ThirdReferenceIdeal [hThirdReferenceIdeal : Cert.ThirdReferenceIdeal.Facts] : Prop :=
  ∀ (m : (ℓ : Loc Cert.ThirdReferenceIdeal.nD Cert.ThirdReferenceIdeal.τ Cert.ThirdReferenceIdeal.sig) → Buf (Elt Ideal) ℓ) (g : Dev Cert.ThirdReferenceIdeal.nD → PrngReg), Pre_ThirdReferenceIdeal m →
    θ_run (Cert.ThirdReferenceIdeal.defs (F := Ideal)) (onTc (τ := Cert.ThirdReferenceIdeal.τ) (Cert.ThirdReferenceIdeal.main (F := Ideal))) ⟨m, fun _ => 0, g⟩ (fun r => (∀ c : Dev Cert.ThirdReferenceIdeal.nD,
      r.2.mem ((c.tc : Thread Cert.ThirdReferenceIdeal.nD Cert.ThirdReferenceIdeal.τ).loc Cert.ThirdReferenceIdeal.main_arg0) = m ((c.tc : Thread Cert.ThirdReferenceIdeal.nD Cert.ThirdReferenceIdeal.τ).loc Cert.ThirdReferenceIdeal.main_arg0)
      ∧ r.2.mem ((c.tc : Thread Cert.ThirdReferenceIdeal.nD Cert.ThirdReferenceIdeal.τ).loc Cert.ThirdReferenceIdeal.main_arg1) = m ((c.tc : Thread Cert.ThirdReferenceIdeal.nD Cert.ThirdReferenceIdeal.τ).loc Cert.ThirdReferenceIdeal.main_arg1)
      ∧ r.2.mem ((c.tc : Thread Cert.ThirdReferenceIdeal.nD Cert.ThirdReferenceIdeal.τ).loc Cert.ThirdReferenceIdeal.main_arg2) = m ((c.tc : Thread Cert.ThirdReferenceIdeal.nD Cert.ThirdReferenceIdeal.τ).loc Cert.ThirdReferenceIdeal.main_arg2)
      ∧ r.2.mem ((c.tc : Thread Cert.ThirdReferenceIdeal.nD Cert.ThirdReferenceIdeal.τ).loc Cert.ThirdReferenceIdeal.main_arg3) = m ((c.tc : Thread Cert.ThirdReferenceIdeal.nD Cert.ThirdReferenceIdeal.τ).loc Cert.ThirdReferenceIdeal.main_arg3)
      ∧ r.2.mem ((c.tc : Thread Cert.ThirdReferenceIdeal.nD Cert.ThirdReferenceIdeal.τ).loc Cert.ThirdReferenceIdeal.main_arg4) = m ((c.tc : Thread Cert.ThirdReferenceIdeal.nD Cert.ThirdReferenceIdeal.τ).loc Cert.ThirdReferenceIdeal.main_arg4)
      ∧ r.2.mem ((c.tc : Thread Cert.ThirdReferenceIdeal.nD Cert.ThirdReferenceIdeal.τ).loc Cert.ThirdReferenceIdeal.main_arg5) = m ((c.tc : Thread Cert.ThirdReferenceIdeal.nD Cert.ThirdReferenceIdeal.τ).loc Cert.ThirdReferenceIdeal.main_arg5)
      ∧ r.2.mem ((c.tc : Thread Cert.ThirdReferenceIdeal.nD Cert.ThirdReferenceIdeal.τ).loc Cert.ThirdReferenceIdeal.main_arg6) = m ((c.tc : Thread Cert.ThirdReferenceIdeal.nD Cert.ThirdReferenceIdeal.τ).loc Cert.ThirdReferenceIdeal.main_arg6)
      ∧ r.2.mem ((c.tc : Thread Cert.ThirdReferenceIdeal.nD Cert.ThirdReferenceIdeal.τ).loc Cert.ThirdReferenceIdeal.main_arg7) = m ((c.tc : Thread Cert.ThirdReferenceIdeal.nD Cert.ThirdReferenceIdeal.τ).loc Cert.ThirdReferenceIdeal.main_arg7)
      ∧ r.2.mem ((c.tc : Thread Cert.ThirdReferenceIdeal.nD Cert.ThirdReferenceIdeal.τ).loc Cert.ThirdReferenceIdeal.main_arg8) = m ((c.tc : Thread Cert.ThirdReferenceIdeal.nD Cert.ThirdReferenceIdeal.τ).loc Cert.ThirdReferenceIdeal.main_arg8)
      ∧ r.2.mem ((c.tc : Thread Cert.ThirdReferenceIdeal.nD Cert.ThirdReferenceIdeal.τ).loc Cert.ThirdReferenceIdeal.main_arg9) = m ((c.tc : Thread Cert.ThirdReferenceIdeal.nD Cert.ThirdReferenceIdeal.τ).loc Cert.ThirdReferenceIdeal.main_arg9)
      ∧ r.2.mem ((c.tc : Thread Cert.ThirdReferenceIdeal.nD Cert.ThirdReferenceIdeal.τ).loc Cert.ThirdReferenceIdeal.main_arg10) = m ((c.tc : Thread Cert.ThirdReferenceIdeal.nD Cert.ThirdReferenceIdeal.τ).loc Cert.ThirdReferenceIdeal.main_arg10))
      ∧ r.2.sem = fun _ => 0)

def quiescent_ThirdPlainIdeal [hThirdPlainIdeal : Cert.ThirdPlainIdeal.Facts] : Prop :=
  ∀ (m : (ℓ : Loc Cert.ThirdPlainIdeal.nD Cert.ThirdPlainIdeal.τ Cert.ThirdPlainIdeal.sig) → Buf (Elt Ideal) ℓ) (g : Dev Cert.ThirdPlainIdeal.nD → PrngReg), Pre_ThirdPlainIdeal m →
    θ_run (Cert.ThirdPlainIdeal.defs (F := Ideal)) (onTc (τ := Cert.ThirdPlainIdeal.τ) (Cert.ThirdPlainIdeal.main (F := Ideal))) ⟨m, fun _ => 0, g⟩ (fun r => (∀ c : Dev Cert.ThirdPlainIdeal.nD,
      r.2.mem ((c.tc : Thread Cert.ThirdPlainIdeal.nD Cert.ThirdPlainIdeal.τ).loc Cert.ThirdPlainIdeal.main_arg0) = m ((c.tc : Thread Cert.ThirdPlainIdeal.nD Cert.ThirdPlainIdeal.τ).loc Cert.ThirdPlainIdeal.main_arg0)
      ∧ r.2.mem ((c.tc : Thread Cert.ThirdPlainIdeal.nD Cert.ThirdPlainIdeal.τ).loc Cert.ThirdPlainIdeal.main_arg1) = m ((c.tc : Thread Cert.ThirdPlainIdeal.nD Cert.ThirdPlainIdeal.τ).loc Cert.ThirdPlainIdeal.main_arg1)
      ∧ r.2.mem ((c.tc : Thread Cert.ThirdPlainIdeal.nD Cert.ThirdPlainIdeal.τ).loc Cert.ThirdPlainIdeal.main_arg2) = m ((c.tc : Thread Cert.ThirdPlainIdeal.nD Cert.ThirdPlainIdeal.τ).loc Cert.ThirdPlainIdeal.main_arg2)
      ∧ r.2.mem ((c.tc : Thread Cert.ThirdPlainIdeal.nD Cert.ThirdPlainIdeal.τ).loc Cert.ThirdPlainIdeal.main_arg3) = m ((c.tc : Thread Cert.ThirdPlainIdeal.nD Cert.ThirdPlainIdeal.τ).loc Cert.ThirdPlainIdeal.main_arg3)
      ∧ r.2.mem ((c.tc : Thread Cert.ThirdPlainIdeal.nD Cert.ThirdPlainIdeal.τ).loc Cert.ThirdPlainIdeal.main_arg4) = m ((c.tc : Thread Cert.ThirdPlainIdeal.nD Cert.ThirdPlainIdeal.τ).loc Cert.ThirdPlainIdeal.main_arg4)
      ∧ r.2.mem ((c.tc : Thread Cert.ThirdPlainIdeal.nD Cert.ThirdPlainIdeal.τ).loc Cert.ThirdPlainIdeal.main_arg5) = m ((c.tc : Thread Cert.ThirdPlainIdeal.nD Cert.ThirdPlainIdeal.τ).loc Cert.ThirdPlainIdeal.main_arg5)
      ∧ r.2.mem ((c.tc : Thread Cert.ThirdPlainIdeal.nD Cert.ThirdPlainIdeal.τ).loc Cert.ThirdPlainIdeal.main_arg6) = m ((c.tc : Thread Cert.ThirdPlainIdeal.nD Cert.ThirdPlainIdeal.τ).loc Cert.ThirdPlainIdeal.main_arg6)
      ∧ r.2.mem ((c.tc : Thread Cert.ThirdPlainIdeal.nD Cert.ThirdPlainIdeal.τ).loc Cert.ThirdPlainIdeal.main_arg7) = m ((c.tc : Thread Cert.ThirdPlainIdeal.nD Cert.ThirdPlainIdeal.τ).loc Cert.ThirdPlainIdeal.main_arg7)
      ∧ r.2.mem ((c.tc : Thread Cert.ThirdPlainIdeal.nD Cert.ThirdPlainIdeal.τ).loc Cert.ThirdPlainIdeal.main_arg8) = m ((c.tc : Thread Cert.ThirdPlainIdeal.nD Cert.ThirdPlainIdeal.τ).loc Cert.ThirdPlainIdeal.main_arg8)
      ∧ r.2.mem ((c.tc : Thread Cert.ThirdPlainIdeal.nD Cert.ThirdPlainIdeal.τ).loc Cert.ThirdPlainIdeal.main_arg9) = m ((c.tc : Thread Cert.ThirdPlainIdeal.nD Cert.ThirdPlainIdeal.τ).loc Cert.ThirdPlainIdeal.main_arg9)
      ∧ r.2.mem ((c.tc : Thread Cert.ThirdPlainIdeal.nD Cert.ThirdPlainIdeal.τ).loc Cert.ThirdPlainIdeal.main_arg10) = m ((c.tc : Thread Cert.ThirdPlainIdeal.nD Cert.ThirdPlainIdeal.τ).loc Cert.ThirdPlainIdeal.main_arg10))
      ∧ r.2.sem = fun _ => 0)

def preserves_First_FirstIdeal : Prop :=
  IdealRules.named_const.Statement Cert.FirstIdeal.κ "neg_log2_e" .f32 0xBFB8AA3B#32 ((-((Real.log 2)⁻¹) : ℝ) : EReal)

def algebraic_FirstIdeal_FirstReferenceIdeal_on_first_rows [hFirstIdeal : Cert.FirstIdeal.Facts] [hFirstReferenceIdeal : Cert.FirstReferenceIdeal.Facts] [hOn_first_rows : Cert.On_first_rows.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)
      ∧ m' ((c.tc : Thread Cert.FirstReferenceIdeal.nD Cert.FirstReferenceIdeal.τ).loc Cert.FirstReferenceIdeal.main_arg7) = m ((c.tc : Thread Cert.FirstIdeal.nD Cert.FirstIdeal.τ).loc Cert.FirstIdeal.main_arg7)
      ∧ m' ((c.tc : Thread Cert.FirstReferenceIdeal.nD Cert.FirstReferenceIdeal.τ).loc Cert.FirstReferenceIdeal.main_arg8) = m ((c.tc : Thread Cert.FirstIdeal.nD Cert.FirstIdeal.τ).loc Cert.FirstIdeal.main_arg8)) →
    ∃ (v0 : (c : Dev Cert.FirstIdeal.nD) → Buf (Elt Ideal) ((c.tc : Thread Cert.FirstIdeal.nD Cert.FirstIdeal.τ).loc Cert.FirstIdeal.main_v6_0)) (v1 : (c : Dev Cert.FirstIdeal.nD) → Buf (Elt Ideal) ((c.tc : Thread Cert.FirstIdeal.nD Cert.FirstIdeal.τ).loc Cert.FirstIdeal.main_v6_1)) (v2 : (c : Dev Cert.FirstIdeal.nD) → Buf (Elt Ideal) ((c.tc : Thread Cert.FirstIdeal.nD Cert.FirstIdeal.τ).loc Cert.FirstIdeal.main_v6_2)) (v3 : (c : Dev Cert.FirstIdeal.nD) → Buf (Elt Ideal) ((c.tc : Thread Cert.FirstIdeal.nD Cert.FirstIdeal.τ).loc Cert.FirstIdeal.main_v6_3)) (v4 : (c : Dev Cert.FirstIdeal.nD) → Buf (Elt Ideal) ((c.tc : Thread Cert.FirstIdeal.nD Cert.FirstIdeal.τ).loc Cert.FirstIdeal.main_v6_4)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          (∀ i : (⟨3, ![2, 4096, 7168]⟩ : Shape).Idx, (Cert.On_first_rows.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7)) (m ((c.tc : Thread Cert.FirstIdeal.nD Cert.FirstIdeal.τ).loc Cert.FirstIdeal.main_arg8))).1 i = 1#1 → r.2.mem ((c.tc : Thread Cert.FirstIdeal.nD Cert.FirstIdeal.τ).loc Cert.FirstIdeal.main_v6_0) i = v0 c i)
          ∧ (∀ i : (⟨4, ![2, 28, 4096, 768]⟩ : Shape).Idx, (Cert.On_first_rows.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7)) (m ((c.tc : Thread Cert.FirstIdeal.nD Cert.FirstIdeal.τ).loc Cert.FirstIdeal.main_arg8))).2.1 i = 1#1 → r.2.mem ((c.tc : Thread Cert.FirstIdeal.nD Cert.FirstIdeal.τ).loc Cert.FirstIdeal.main_v6_1) i = v1 c i)
          ∧ (∀ i : (⟨4, ![2, 28, 256, 768]⟩ : Shape).Idx, (Cert.On_first_rows.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7)) (m ((c.tc : Thread Cert.FirstIdeal.nD Cert.FirstIdeal.τ).loc Cert.FirstIdeal.main_arg8))).2.2.1 i = 1#1 → r.2.mem ((c.tc : Thread Cert.FirstIdeal.nD Cert.FirstIdeal.τ).loc Cert.FirstIdeal.main_v6_2) i = v2 c i)
          ∧ (∀ i : (⟨4, ![2, 28, 256, 768]⟩ : Shape).Idx, (Cert.On_first_rows.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7)) (m ((c.tc : Thread Cert.FirstIdeal.nD Cert.FirstIdeal.τ).loc Cert.FirstIdeal.main_arg8))).2.2.2.1 i = 1#1 → r.2.mem ((c.tc : Thread Cert.FirstIdeal.nD Cert.FirstIdeal.τ).loc Cert.FirstIdeal.main_v6_3) i = v3 c i)
          ∧ (∀ i : (⟨4, ![2, 28, 256, 768]⟩ : Shape).Idx, (Cert.On_first_rows.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7)) (m ((c.tc : Thread Cert.FirstIdeal.nD Cert.FirstIdeal.τ).loc Cert.FirstIdeal.main_arg8))).2.2.2.2 i = 1#1 → r.2.mem ((c.tc : Thread Cert.FirstIdeal.nD Cert.FirstIdeal.τ).loc Cert.FirstIdeal.main_v6_4) i = v4 c i)
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          (∀ i : (⟨3, ![2, 4096, 7168]⟩ : Shape).Idx, (Cert.On_first_rows.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7)) (m ((c.tc : Thread Cert.FirstIdeal.nD Cert.FirstIdeal.τ).loc Cert.FirstIdeal.main_arg8))).1 i = 1#1 → r.2.mem ((c.tc : Thread Cert.FirstReferenceIdeal.nD Cert.FirstReferenceIdeal.τ).loc Cert.FirstReferenceIdeal.main_v83) i = v0 c i)
          ∧ (∀ i : (⟨4, ![2, 28, 4096, 768]⟩ : Shape).Idx, (Cert.On_first_rows.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7)) (m ((c.tc : Thread Cert.FirstIdeal.nD Cert.FirstIdeal.τ).loc Cert.FirstIdeal.main_arg8))).2.1 i = 1#1 → r.2.mem ((c.tc : Thread Cert.FirstReferenceIdeal.nD Cert.FirstReferenceIdeal.τ).loc Cert.FirstReferenceIdeal.main_v86) i = v1 c i)
          ∧ (∀ i : (⟨4, ![2, 28, 256, 768]⟩ : Shape).Idx, (Cert.On_first_rows.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7)) (m ((c.tc : Thread Cert.FirstIdeal.nD Cert.FirstIdeal.τ).loc Cert.FirstIdeal.main_arg8))).2.2.1 i = 1#1 → r.2.mem ((c.tc : Thread Cert.FirstReferenceIdeal.nD Cert.FirstReferenceIdeal.τ).loc Cert.FirstReferenceIdeal.main_v87) i = v2 c i)
          ∧ (∀ i : (⟨4, ![2, 28, 256, 768]⟩ : Shape).Idx, (Cert.On_first_rows.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7)) (m ((c.tc : Thread Cert.FirstIdeal.nD Cert.FirstIdeal.τ).loc Cert.FirstIdeal.main_arg8))).2.2.2.1 i = 1#1 → r.2.mem ((c.tc : Thread Cert.FirstReferenceIdeal.nD Cert.FirstReferenceIdeal.τ).loc Cert.FirstReferenceIdeal.main_v88) i = v3 c i)
          ∧ (∀ i : (⟨4, ![2, 28, 256, 768]⟩ : Shape).Idx, (Cert.On_first_rows.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7)) (m ((c.tc : Thread Cert.FirstIdeal.nD Cert.FirstIdeal.τ).loc Cert.FirstIdeal.main_arg8))).2.2.2.2 i = 1#1 → r.2.mem ((c.tc : Thread Cert.FirstReferenceIdeal.nD Cert.FirstReferenceIdeal.τ).loc Cert.FirstReferenceIdeal.main_v75) i = v4 c i)
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6)
          ∧ r.2.mem ((c.tc : Thread Cert.FirstReferenceIdeal.nD Cert.FirstReferenceIdeal.τ).loc Cert.FirstReferenceIdeal.main_arg7) = m' ((c.tc : Thread Cert.FirstReferenceIdeal.nD Cert.FirstReferenceIdeal.τ).loc Cert.FirstReferenceIdeal.main_arg7)
          ∧ r.2.mem ((c.tc : Thread Cert.FirstReferenceIdeal.nD Cert.FirstReferenceIdeal.τ).loc Cert.FirstReferenceIdeal.main_arg8) = m' ((c.tc : Thread Cert.FirstReferenceIdeal.nD Cert.FirstReferenceIdeal.τ).loc Cert.FirstReferenceIdeal.main_arg8))

def preserves_Second_SecondIdeal : Prop :=
  IdealRules.named_const.Statement Cert.SecondIdeal.κ "neg_log2_e" .f32 0xBFB8AA3B#32 ((-((Real.log 2)⁻¹) : ℝ) : EReal)

def algebraic_SecondIdeal_SecondReferenceIdeal_on_second_rows [hSecondIdeal : Cert.SecondIdeal.Facts] [hSecondReferenceIdeal : Cert.SecondReferenceIdeal.Facts] [hOn_second_rows : Cert.On_second_rows.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondReferenceIdeal.nD Cert.SecondReferenceIdeal.τ Cert.SecondReferenceIdeal.sig) → Buf (Elt Ideal) ℓ) (g' : Dev Cert.SecondReferenceIdeal.nD → PrngReg), Pre_SecondIdeal m →
    (∀ c : Dev Cert.SecondIdeal.nD,
      m' ((c.tc : Thread Cert.SecondReferenceIdeal.nD Cert.SecondReferenceIdeal.τ).loc Cert.SecondReferenceIdeal.main_arg0) = m ((c.tc : Thread Cert.SecondIdeal.nD Cert.SecondIdeal.τ).loc Cert.SecondIdeal.main_arg0)
      ∧ m' ((c.tc : Thread Cert.SecondReferenceIdeal.nD Cert.SecondReferenceIdeal.τ).loc Cert.SecondReferenceIdeal.main_arg1) = m ((c.tc : Thread Cert.SecondIdeal.nD Cert.SecondIdeal.τ).loc Cert.SecondIdeal.main_arg1)
      ∧ m' ((c.tc : Thread Cert.SecondReferenceIdeal.nD Cert.SecondReferenceIdeal.τ).loc Cert.SecondReferenceIdeal.main_arg2) = m ((c.tc : Thread Cert.SecondIdeal.nD Cert.SecondIdeal.τ).loc Cert.SecondIdeal.main_arg2)
      ∧ m' ((c.tc : Thread Cert.SecondReferenceIdeal.nD Cert.SecondReferenceIdeal.τ).loc Cert.SecondReferenceIdeal.main_arg3) = m ((c.tc : Thread Cert.SecondIdeal.nD Cert.SecondIdeal.τ).loc Cert.SecondIdeal.main_arg3)
      ∧ m' ((c.tc : Thread Cert.SecondReferenceIdeal.nD Cert.SecondReferenceIdeal.τ).loc Cert.SecondReferenceIdeal.main_arg4) = m ((c.tc : Thread Cert.SecondIdeal.nD Cert.SecondIdeal.τ).loc Cert.SecondIdeal.main_arg4)
      ∧ m' ((c.tc : Thread Cert.SecondReferenceIdeal.nD Cert.SecondReferenceIdeal.τ).loc Cert.SecondReferenceIdeal.main_arg5) = m ((c.tc : Thread Cert.SecondIdeal.nD Cert.SecondIdeal.τ).loc Cert.SecondIdeal.main_arg5)
      ∧ m' ((c.tc : Thread Cert.SecondReferenceIdeal.nD Cert.SecondReferenceIdeal.τ).loc Cert.SecondReferenceIdeal.main_arg6) = m ((c.tc : Thread Cert.SecondIdeal.nD Cert.SecondIdeal.τ).loc Cert.SecondIdeal.main_arg6)
      ∧ m' ((c.tc : Thread Cert.SecondReferenceIdeal.nD Cert.SecondReferenceIdeal.τ).loc Cert.SecondReferenceIdeal.main_arg7) = m ((c.tc : Thread Cert.SecondIdeal.nD Cert.SecondIdeal.τ).loc Cert.SecondIdeal.main_arg7)
      ∧ m' ((c.tc : Thread Cert.SecondReferenceIdeal.nD Cert.SecondReferenceIdeal.τ).loc Cert.SecondReferenceIdeal.main_arg8) = m ((c.tc : Thread Cert.SecondIdeal.nD Cert.SecondIdeal.τ).loc Cert.SecondIdeal.main_arg8)
      ∧ m' ((c.tc : Thread Cert.SecondReferenceIdeal.nD Cert.SecondReferenceIdeal.τ).loc Cert.SecondReferenceIdeal.main_arg9) = m ((c.tc : Thread Cert.SecondIdeal.nD Cert.SecondIdeal.τ).loc Cert.SecondIdeal.main_arg9)
      ∧ m' ((c.tc : Thread Cert.SecondReferenceIdeal.nD Cert.SecondReferenceIdeal.τ).loc Cert.SecondReferenceIdeal.main_arg10) = m ((c.tc : Thread Cert.SecondIdeal.nD Cert.SecondIdeal.τ).loc Cert.SecondIdeal.main_arg10)) →
    ∃ (v0 : (c : Dev Cert.SecondIdeal.nD) → Buf (Elt Ideal) ((c.tc : Thread Cert.SecondIdeal.nD Cert.SecondIdeal.τ).loc Cert.SecondIdeal.main_v3_0)) (v1 : (c : Dev Cert.SecondIdeal.nD) → Buf (Elt Ideal) ((c.tc : Thread Cert.SecondIdeal.nD Cert.SecondIdeal.τ).loc Cert.SecondIdeal.main_v3_1)) (v2 : (c : Dev Cert.SecondIdeal.nD) → Buf (Elt Ideal) ((c.tc : Thread Cert.SecondIdeal.nD Cert.SecondIdeal.τ).loc Cert.SecondIdeal.main_v3_2)) (v3 : (c : Dev Cert.SecondIdeal.nD) → Buf (Elt Ideal) ((c.tc : Thread Cert.SecondIdeal.nD Cert.SecondIdeal.τ).loc Cert.SecondIdeal.main_v3_3)) (v4 : (c : Dev Cert.SecondIdeal.nD) → Buf (Elt Ideal) ((c.tc : Thread Cert.SecondIdeal.nD Cert.SecondIdeal.τ).loc Cert.SecondIdeal.main_v3_4)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          (∀ i : (⟨3, ![2, 4096, 7168]⟩ : Shape).Idx, (Cert.On_second_rows.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8)) (m ((c.tc : Thread Cert.SecondIdeal.nD Cert.SecondIdeal.τ).loc Cert.SecondIdeal.main_arg9)) (m ((c.tc : Thread Cert.SecondIdeal.nD Cert.SecondIdeal.τ).loc Cert.SecondIdeal.main_arg10))).1 i = 1#1 → r.2.mem ((c.tc : Thread Cert.SecondIdeal.nD Cert.SecondIdeal.τ).loc Cert.SecondIdeal.main_v3_0) i = v0 c i)
          ∧ (∀ i : (⟨4, ![2, 28, 4096, 768]⟩ : Shape).Idx, (Cert.On_second_rows.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8)) (m ((c.tc : Thread Cert.SecondIdeal.nD Cert.SecondIdeal.τ).loc Cert.SecondIdeal.main_arg9)) (m ((c.tc : Thread Cert.SecondIdeal.nD Cert.SecondIdeal.τ).loc Cert.SecondIdeal.main_arg10))).2.1 i = 1#1 → r.2.mem ((c.tc : Thread Cert.SecondIdeal.nD Cert.SecondIdeal.τ).loc Cert.SecondIdeal.main_v3_1) i = v1 c i)
          ∧ (∀ i : (⟨4, ![2, 28, 256, 768]⟩ : Shape).Idx, (Cert.On_second_rows.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8)) (m ((c.tc : Thread Cert.SecondIdeal.nD Cert.SecondIdeal.τ).loc Cert.SecondIdeal.main_arg9)) (m ((c.tc : Thread Cert.SecondIdeal.nD Cert.SecondIdeal.τ).loc Cert.SecondIdeal.main_arg10))).2.2.1 i = 1#1 → r.2.mem ((c.tc : Thread Cert.SecondIdeal.nD Cert.SecondIdeal.τ).loc Cert.SecondIdeal.main_v3_2) i = v2 c i)
          ∧ (∀ i : (⟨4, ![2, 28, 256, 768]⟩ : Shape).Idx, (Cert.On_second_rows.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8)) (m ((c.tc : Thread Cert.SecondIdeal.nD Cert.SecondIdeal.τ).loc Cert.SecondIdeal.main_arg9)) (m ((c.tc : Thread Cert.SecondIdeal.nD Cert.SecondIdeal.τ).loc Cert.SecondIdeal.main_arg10))).2.2.2.1 i = 1#1 → r.2.mem ((c.tc : Thread Cert.SecondIdeal.nD Cert.SecondIdeal.τ).loc Cert.SecondIdeal.main_v3_3) i = v3 c i)
          ∧ (∀ i : (⟨4, ![2, 28, 256, 768]⟩ : Shape).Idx, (Cert.On_second_rows.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8)) (m ((c.tc : Thread Cert.SecondIdeal.nD Cert.SecondIdeal.τ).loc Cert.SecondIdeal.main_arg9)) (m ((c.tc : Thread Cert.SecondIdeal.nD Cert.SecondIdeal.τ).loc Cert.SecondIdeal.main_arg10))).2.2.2.2 i = 1#1 → r.2.mem ((c.tc : Thread Cert.SecondIdeal.nD Cert.SecondIdeal.τ).loc Cert.SecondIdeal.main_v3_4) i = v4 c i)
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
          ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
          ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8)
          ∧ r.2.mem ((c.tc : Thread Cert.SecondIdeal.nD Cert.SecondIdeal.τ).loc Cert.SecondIdeal.main_arg9) = m ((c.tc : Thread Cert.SecondIdeal.nD Cert.SecondIdeal.τ).loc Cert.SecondIdeal.main_arg9)
          ∧ r.2.mem ((c.tc : Thread Cert.SecondIdeal.nD Cert.SecondIdeal.τ).loc Cert.SecondIdeal.main_arg10) = m ((c.tc : Thread Cert.SecondIdeal.nD Cert.SecondIdeal.τ).loc Cert.SecondIdeal.main_arg10))
      ∧ θ_run (Cert.SecondReferenceIdeal.defs (F := Ideal)) (onTc (τ := Cert.SecondReferenceIdeal.τ) (Cert.SecondReferenceIdeal.main (F := Ideal))) ⟨m', fun _ => 0, g'⟩ (fun r => ∀ c : Dev Cert.SecondReferenceIdeal.nD,
          (∀ i : (⟨3, ![2, 4096, 7168]⟩ : Shape).Idx, (Cert.On_second_rows.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8)) (m ((c.tc : Thread Cert.SecondIdeal.nD Cert.SecondIdeal.τ).loc Cert.SecondIdeal.main_arg9)) (m ((c.tc : Thread Cert.SecondIdeal.nD Cert.SecondIdeal.τ).loc Cert.SecondIdeal.main_arg10))).1 i = 1#1 → r.2.mem ((c.tc : Thread Cert.SecondReferenceIdeal.nD Cert.SecondReferenceIdeal.τ).loc Cert.SecondReferenceIdeal.main_v84) i = v0 c i)
          ∧ (∀ i : (⟨4, ![2, 28, 4096, 768]⟩ : Shape).Idx, (Cert.On_second_rows.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8)) (m ((c.tc : Thread Cert.SecondIdeal.nD Cert.SecondIdeal.τ).loc Cert.SecondIdeal.main_arg9)) (m ((c.tc : Thread Cert.SecondIdeal.nD Cert.SecondIdeal.τ).loc Cert.SecondIdeal.main_arg10))).2.1 i = 1#1 → r.2.mem ((c.tc : Thread Cert.SecondReferenceIdeal.nD Cert.SecondReferenceIdeal.τ).loc Cert.SecondReferenceIdeal.main_v89) i = v1 c i)
          ∧ (∀ i : (⟨4, ![2, 28, 256, 768]⟩ : Shape).Idx, (Cert.On_second_rows.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8)) (m ((c.tc : Thread Cert.SecondIdeal.nD Cert.SecondIdeal.τ).loc Cert.SecondIdeal.main_arg9)) (m ((c.tc : Thread Cert.SecondIdeal.nD Cert.SecondIdeal.τ).loc Cert.SecondIdeal.main_arg10))).2.2.1 i = 1#1 → r.2.mem ((c.tc : Thread Cert.SecondReferenceIdeal.nD Cert.SecondReferenceIdeal.τ).loc Cert.SecondReferenceIdeal.main_v90) i = v2 c i)
          ∧ (∀ i : (⟨4, ![2, 28, 256, 768]⟩ : Shape).Idx, (Cert.On_second_rows.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8)) (m ((c.tc : Thread Cert.SecondIdeal.nD Cert.SecondIdeal.τ).loc Cert.SecondIdeal.main_arg9)) (m ((c.tc : Thread Cert.SecondIdeal.nD Cert.SecondIdeal.τ).loc Cert.SecondIdeal.main_arg10))).2.2.2.1 i = 1#1 → r.2.mem ((c.tc : Thread Cert.SecondReferenceIdeal.nD Cert.SecondReferenceIdeal.τ).loc Cert.SecondReferenceIdeal.main_v91) i = v3 c i)
          ∧ (∀ i : (⟨4, ![2, 28, 256, 768]⟩ : Shape).Idx, (Cert.On_second_rows.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8)) (m ((c.tc : Thread Cert.SecondIdeal.nD Cert.SecondIdeal.τ).loc Cert.SecondIdeal.main_arg9)) (m ((c.tc : Thread Cert.SecondIdeal.nD Cert.SecondIdeal.τ).loc Cert.SecondIdeal.main_arg10))).2.2.2.2 i = 1#1 → r.2.mem ((c.tc : Thread Cert.SecondReferenceIdeal.nD Cert.SecondReferenceIdeal.τ).loc Cert.SecondReferenceIdeal.main_v74) i = v4 c i)
          ∧ r.2.mem ((c.tc : Thread Cert.SecondReferenceIdeal.nD Cert.SecondReferenceIdeal.τ).loc Cert.SecondReferenceIdeal.main_arg0) = m' ((c.tc : Thread Cert.SecondReferenceIdeal.nD Cert.SecondReferenceIdeal.τ).loc Cert.SecondReferenceIdeal.main_arg0)
          ∧ r.2.mem ((c.tc : Thread Cert.SecondReferenceIdeal.nD Cert.SecondReferenceIdeal.τ).loc Cert.SecondReferenceIdeal.main_arg1) = m' ((c.tc : Thread Cert.SecondReferenceIdeal.nD Cert.SecondReferenceIdeal.τ).loc Cert.SecondReferenceIdeal.main_arg1)
          ∧ r.2.mem ((c.tc : Thread Cert.SecondReferenceIdeal.nD Cert.SecondReferenceIdeal.τ).loc Cert.SecondReferenceIdeal.main_arg2) = m' ((c.tc : Thread Cert.SecondReferenceIdeal.nD Cert.SecondReferenceIdeal.τ).loc Cert.SecondReferenceIdeal.main_arg2)
          ∧ r.2.mem ((c.tc : Thread Cert.SecondReferenceIdeal.nD Cert.SecondReferenceIdeal.τ).loc Cert.SecondReferenceIdeal.main_arg3) = m' ((c.tc : Thread Cert.SecondReferenceIdeal.nD Cert.SecondReferenceIdeal.τ).loc Cert.SecondReferenceIdeal.main_arg3)
          ∧ r.2.mem ((c.tc : Thread Cert.SecondReferenceIdeal.nD Cert.SecondReferenceIdeal.τ).loc Cert.SecondReferenceIdeal.main_arg4) = m' ((c.tc : Thread Cert.SecondReferenceIdeal.nD Cert.SecondReferenceIdeal.τ).loc Cert.SecondReferenceIdeal.main_arg4)
          ∧ r.2.mem ((c.tc : Thread Cert.SecondReferenceIdeal.nD Cert.SecondReferenceIdeal.τ).loc Cert.SecondReferenceIdeal.main_arg5) = m' ((c.tc : Thread Cert.SecondReferenceIdeal.nD Cert.SecondReferenceIdeal.τ).loc Cert.SecondReferenceIdeal.main_arg5)
          ∧ r.2.mem ((c.tc : Thread Cert.SecondReferenceIdeal.nD Cert.SecondReferenceIdeal.τ).loc Cert.SecondReferenceIdeal.main_arg6) = m' ((c.tc : Thread Cert.SecondReferenceIdeal.nD Cert.SecondReferenceIdeal.τ).loc Cert.SecondReferenceIdeal.main_arg6)
          ∧ r.2.mem ((c.tc : Thread Cert.SecondReferenceIdeal.nD Cert.SecondReferenceIdeal.τ).loc Cert.SecondReferenceIdeal.main_arg7) = m' ((c.tc : Thread Cert.SecondReferenceIdeal.nD Cert.SecondReferenceIdeal.τ).loc Cert.SecondReferenceIdeal.main_arg7)
          ∧ r.2.mem ((c.tc : Thread Cert.SecondReferenceIdeal.nD Cert.SecondReferenceIdeal.τ).loc Cert.SecondReferenceIdeal.main_arg8) = m' ((c.tc : Thread Cert.SecondReferenceIdeal.nD Cert.SecondReferenceIdeal.τ).loc Cert.SecondReferenceIdeal.main_arg8)
          ∧ r.2.mem ((c.tc : Thread Cert.SecondReferenceIdeal.nD Cert.SecondReferenceIdeal.τ).loc Cert.SecondReferenceIdeal.main_arg9) = m' ((c.tc : Thread Cert.SecondReferenceIdeal.nD Cert.SecondReferenceIdeal.τ).loc Cert.SecondReferenceIdeal.main_arg9)
          ∧ r.2.mem ((c.tc : Thread Cert.SecondReferenceIdeal.nD Cert.SecondReferenceIdeal.τ).loc Cert.SecondReferenceIdeal.main_arg10) = m' ((c.tc : Thread Cert.SecondReferenceIdeal.nD Cert.SecondReferenceIdeal.τ).loc Cert.SecondReferenceIdeal.main_arg10))

def preserves_Third_ThirdIdeal : Prop :=
  IdealRules.named_const.Statement Cert.ThirdIdeal.κ "neg_log2_e" .f32 0xBFB8AA3B#32 ((-((Real.log 2)⁻¹) : ℝ) : EReal)

def algebraic_ThirdIdeal_ThirdReferenceIdeal_on_third_rows [hThirdIdeal : Cert.ThirdIdeal.Facts] [hThirdReferenceIdeal : Cert.ThirdReferenceIdeal.Facts] [hOn_third_rows : Cert.On_third_rows.Facts] : Prop :=
  ∀ (m : (ℓ : Loc Cert.ThirdIdeal.nD Cert.ThirdIdeal.τ Cert.ThirdIdeal.sig) → Buf (Elt Ideal) ℓ) (g : Dev Cert.ThirdIdeal.nD → PrngReg)
    (m' : (ℓ : Loc Cert.ThirdReferenceIdeal.nD Cert.ThirdReferenceIdeal.τ Cert.ThirdReferenceIdeal.sig) → Buf (Elt Ideal) ℓ) (g' : Dev Cert.ThirdReferenceIdeal.nD → PrngReg), Pre_ThirdIdeal m →
    (∀ c : Dev Cert.ThirdIdeal.nD,
      m' ((c.tc : Thread Cert.ThirdReferenceIdeal.nD Cert.ThirdReferenceIdeal.τ).loc Cert.ThirdReferenceIdeal.main_arg0) = m ((c.tc : Thread Cert.ThirdIdeal.nD Cert.ThirdIdeal.τ).loc Cert.ThirdIdeal.main_arg0)
      ∧ m' ((c.tc : Thread Cert.ThirdReferenceIdeal.nD Cert.ThirdReferenceIdeal.τ).loc Cert.ThirdReferenceIdeal.main_arg1) = m ((c.tc : Thread Cert.ThirdIdeal.nD Cert.ThirdIdeal.τ).loc Cert.ThirdIdeal.main_arg1)
      ∧ m' ((c.tc : Thread Cert.ThirdReferenceIdeal.nD Cert.ThirdReferenceIdeal.τ).loc Cert.ThirdReferenceIdeal.main_arg2) = m ((c.tc : Thread Cert.ThirdIdeal.nD Cert.ThirdIdeal.τ).loc Cert.ThirdIdeal.main_arg2)
      ∧ m' ((c.tc : Thread Cert.ThirdReferenceIdeal.nD Cert.ThirdReferenceIdeal.τ).loc Cert.ThirdReferenceIdeal.main_arg3) = m ((c.tc : Thread Cert.ThirdIdeal.nD Cert.ThirdIdeal.τ).loc Cert.ThirdIdeal.main_arg3)
      ∧ m' ((c.tc : Thread Cert.ThirdReferenceIdeal.nD Cert.ThirdReferenceIdeal.τ).loc Cert.ThirdReferenceIdeal.main_arg4) = m ((c.tc : Thread Cert.ThirdIdeal.nD Cert.ThirdIdeal.τ).loc Cert.ThirdIdeal.main_arg4)
      ∧ m' ((c.tc : Thread Cert.ThirdReferenceIdeal.nD Cert.ThirdReferenceIdeal.τ).loc Cert.ThirdReferenceIdeal.main_arg5) = m ((c.tc : Thread Cert.ThirdIdeal.nD Cert.ThirdIdeal.τ).loc Cert.ThirdIdeal.main_arg5)
      ∧ m' ((c.tc : Thread Cert.ThirdReferenceIdeal.nD Cert.ThirdReferenceIdeal.τ).loc Cert.ThirdReferenceIdeal.main_arg6) = m ((c.tc : Thread Cert.ThirdIdeal.nD Cert.ThirdIdeal.τ).loc Cert.ThirdIdeal.main_arg6)
      ∧ m' ((c.tc : Thread Cert.ThirdReferenceIdeal.nD Cert.ThirdReferenceIdeal.τ).loc Cert.ThirdReferenceIdeal.main_arg7) = m ((c.tc : Thread Cert.ThirdIdeal.nD Cert.ThirdIdeal.τ).loc Cert.ThirdIdeal.main_arg7)
      ∧ m' ((c.tc : Thread Cert.ThirdReferenceIdeal.nD Cert.ThirdReferenceIdeal.τ).loc Cert.ThirdReferenceIdeal.main_arg8) = m ((c.tc : Thread Cert.ThirdIdeal.nD Cert.ThirdIdeal.τ).loc Cert.ThirdIdeal.main_arg8)
      ∧ m' ((c.tc : Thread Cert.ThirdReferenceIdeal.nD Cert.ThirdReferenceIdeal.τ).loc Cert.ThirdReferenceIdeal.main_arg9) = m ((c.tc : Thread Cert.ThirdIdeal.nD Cert.ThirdIdeal.τ).loc Cert.ThirdIdeal.main_arg9)
      ∧ m' ((c.tc : Thread Cert.ThirdReferenceIdeal.nD Cert.ThirdReferenceIdeal.τ).loc Cert.ThirdReferenceIdeal.main_arg10) = m ((c.tc : Thread Cert.ThirdIdeal.nD Cert.ThirdIdeal.τ).loc Cert.ThirdIdeal.main_arg10)) →
    ∃ (v0 : (c : Dev Cert.ThirdIdeal.nD) → Buf (Elt Ideal) ((c.tc : Thread Cert.ThirdIdeal.nD Cert.ThirdIdeal.τ).loc Cert.ThirdIdeal.main_v3_0)) (v1 : (c : Dev Cert.ThirdIdeal.nD) → Buf (Elt Ideal) ((c.tc : Thread Cert.ThirdIdeal.nD Cert.ThirdIdeal.τ).loc Cert.ThirdIdeal.main_v3_1)) (v2 : (c : Dev Cert.ThirdIdeal.nD) → Buf (Elt Ideal) ((c.tc : Thread Cert.ThirdIdeal.nD Cert.ThirdIdeal.τ).loc Cert.ThirdIdeal.main_v3_2)) (v3 : (c : Dev Cert.ThirdIdeal.nD) → Buf (Elt Ideal) ((c.tc : Thread Cert.ThirdIdeal.nD Cert.ThirdIdeal.τ).loc Cert.ThirdIdeal.main_v3_3)) (v4 : (c : Dev Cert.ThirdIdeal.nD) → Buf (Elt Ideal) ((c.tc : Thread Cert.ThirdIdeal.nD Cert.ThirdIdeal.τ).loc Cert.ThirdIdeal.main_v3_4)),
      θ_run (Cert.ThirdIdeal.defs (F := Ideal)) (onTc (τ := Cert.ThirdIdeal.τ) (Cert.ThirdIdeal.main (F := Ideal))) ⟨m, fun _ => 0, g⟩ (fun r => ∀ c : Dev Cert.ThirdIdeal.nD,
          (∀ i : (⟨3, ![2, 4096, 7168]⟩ : Shape).Idx, (Cert.On_third_rows.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8)) (m ((c.tc : Thread Cert.ThirdIdeal.nD Cert.ThirdIdeal.τ).loc Cert.ThirdIdeal.main_arg9)) (m ((c.tc : Thread Cert.ThirdIdeal.nD Cert.ThirdIdeal.τ).loc Cert.ThirdIdeal.main_arg10))).1 i = 1#1 → r.2.mem ((c.tc : Thread Cert.ThirdIdeal.nD Cert.ThirdIdeal.τ).loc Cert.ThirdIdeal.main_v3_0) i = v0 c i)
          ∧ (∀ i : (⟨4, ![2, 28, 4096, 768]⟩ : Shape).Idx, (Cert.On_third_rows.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8)) (m ((c.tc : Thread Cert.ThirdIdeal.nD Cert.ThirdIdeal.τ).loc Cert.ThirdIdeal.main_arg9)) (m ((c.tc : Thread Cert.ThirdIdeal.nD Cert.ThirdIdeal.τ).loc Cert.ThirdIdeal.main_arg10))).2.1 i = 1#1 → r.2.mem ((c.tc : Thread Cert.ThirdIdeal.nD Cert.ThirdIdeal.τ).loc Cert.ThirdIdeal.main_v3_1) i = v1 c i)
          ∧ (∀ i : (⟨4, ![2, 28, 256, 768]⟩ : Shape).Idx, (Cert.On_third_rows.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8)) (m ((c.tc : Thread Cert.ThirdIdeal.nD Cert.ThirdIdeal.τ).loc Cert.ThirdIdeal.main_arg9)) (m ((c.tc : Thread Cert.ThirdIdeal.nD Cert.ThirdIdeal.τ).loc Cert.ThirdIdeal.main_arg10))).2.2.1 i = 1#1 → r.2.mem ((c.tc : Thread Cert.ThirdIdeal.nD Cert.ThirdIdeal.τ).loc Cert.ThirdIdeal.main_v3_2) i = v2 c i)
          ∧ (∀ i : (⟨4, ![2, 28, 256, 768]⟩ : Shape).Idx, (Cert.On_third_rows.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8)) (m ((c.tc : Thread Cert.ThirdIdeal.nD Cert.ThirdIdeal.τ).loc Cert.ThirdIdeal.main_arg9)) (m ((c.tc : Thread Cert.ThirdIdeal.nD Cert.ThirdIdeal.τ).loc Cert.ThirdIdeal.main_arg10))).2.2.2.1 i = 1#1 → r.2.mem ((c.tc : Thread Cert.ThirdIdeal.nD Cert.ThirdIdeal.τ).loc Cert.ThirdIdeal.main_v3_3) i = v3 c i)
          ∧ (∀ i : (⟨4, ![2, 28, 256, 768]⟩ : Shape).Idx, (Cert.On_third_rows.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8)) (m ((c.tc : Thread Cert.ThirdIdeal.nD Cert.ThirdIdeal.τ).loc Cert.ThirdIdeal.main_arg9)) (m ((c.tc : Thread Cert.ThirdIdeal.nD Cert.ThirdIdeal.τ).loc Cert.ThirdIdeal.main_arg10))).2.2.2.2 i = 1#1 → r.2.mem ((c.tc : Thread Cert.ThirdIdeal.nD Cert.ThirdIdeal.τ).loc Cert.ThirdIdeal.main_v3_4) i = v4 c i)
          ∧ r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
          ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
          ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
          ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
          ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
          ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
          ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6)
          ∧ r.2.mem ((c.tc : Thread Cert.ThirdIdeal.nD Cert.ThirdIdeal.τ).loc Cert.ThirdIdeal.main_arg7) = m ((c.tc : Thread Cert.ThirdIdeal.nD Cert.ThirdIdeal.τ).loc Cert.ThirdIdeal.main_arg7)
          ∧ r.2.mem ((c.tc : Thread Cert.ThirdIdeal.nD Cert.ThirdIdeal.τ).loc Cert.ThirdIdeal.main_arg8) = m ((c.tc : Thread Cert.ThirdIdeal.nD Cert.ThirdIdeal.τ).loc Cert.ThirdIdeal.main_arg8)
          ∧ r.2.mem ((c.tc : Thread Cert.ThirdIdeal.nD Cert.ThirdIdeal.τ).loc Cert.ThirdIdeal.main_arg9) = m ((c.tc : Thread Cert.ThirdIdeal.nD Cert.ThirdIdeal.τ).loc Cert.ThirdIdeal.main_arg9)
          ∧ r.2.mem ((c.tc : Thread Cert.ThirdIdeal.nD Cert.ThirdIdeal.τ).loc Cert.ThirdIdeal.main_arg10) = m ((c.tc : Thread Cert.ThirdIdeal.nD Cert.ThirdIdeal.τ).loc Cert.ThirdIdeal.main_arg10))
      ∧ θ_run (Cert.ThirdReferenceIdeal.defs (F := Ideal)) (onTc (τ := Cert.ThirdReferenceIdeal.τ) (Cert.ThirdReferenceIdeal.main (F := Ideal))) ⟨m', fun _ => 0, g'⟩ (fun r => ∀ c : Dev Cert.ThirdReferenceIdeal.nD,
          (∀ i : (⟨3, ![2, 4096, 7168]⟩ : Shape).Idx, (Cert.On_third_rows.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8)) (m ((c.tc : Thread Cert.ThirdIdeal.nD Cert.ThirdIdeal.τ).loc Cert.ThirdIdeal.main_arg9)) (m ((c.tc : Thread Cert.ThirdIdeal.nD Cert.ThirdIdeal.τ).loc Cert.ThirdIdeal.main_arg10))).1 i = 1#1 → r.2.mem ((c.tc : Thread Cert.ThirdReferenceIdeal.nD Cert.ThirdReferenceIdeal.τ).loc Cert.ThirdReferenceIdeal.main_v82) i = v0 c i)
          ∧ (∀ i : (⟨4, ![2, 28, 4096, 768]⟩ : Shape).Idx, (Cert.On_third_rows.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8)) (m ((c.tc : Thread Cert.ThirdIdeal.nD Cert.ThirdIdeal.τ).loc Cert.ThirdIdeal.main_arg9)) (m ((c.tc : Thread Cert.ThirdIdeal.nD Cert.ThirdIdeal.τ).loc Cert.ThirdIdeal.main_arg10))).2.1 i = 1#1 → r.2.mem ((c.tc : Thread Cert.ThirdReferenceIdeal.nD Cert.ThirdReferenceIdeal.τ).loc Cert.ThirdReferenceIdeal.main_v85) i = v1 c i)
          ∧ (∀ i : (⟨4, ![2, 28, 256, 768]⟩ : Shape).Idx, (Cert.On_third_rows.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8)) (m ((c.tc : Thread Cert.ThirdIdeal.nD Cert.ThirdIdeal.τ).loc Cert.ThirdIdeal.main_arg9)) (m ((c.tc : Thread Cert.ThirdIdeal.nD Cert.ThirdIdeal.τ).loc Cert.ThirdIdeal.main_arg10))).2.2.1 i = 1#1 → r.2.mem ((c.tc : Thread Cert.ThirdReferenceIdeal.nD Cert.ThirdReferenceIdeal.τ).loc Cert.ThirdReferenceIdeal.main_v86) i = v2 c i)
          ∧ (∀ i : (⟨4, ![2, 28, 256, 768]⟩ : Shape).Idx, (Cert.On_third_rows.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8)) (m ((c.tc : Thread Cert.ThirdIdeal.nD Cert.ThirdIdeal.τ).loc Cert.ThirdIdeal.main_arg9)) (m ((c.tc : Thread Cert.ThirdIdeal.nD Cert.ThirdIdeal.τ).loc Cert.ThirdIdeal.main_arg10))).2.2.2.1 i = 1#1 → r.2.mem ((c.tc : Thread Cert.ThirdReferenceIdeal.nD Cert.ThirdReferenceIdeal.τ).loc Cert.ThirdReferenceIdeal.main_v87) i = v3 c i)
          ∧ (∀ i : (⟨4, ![2, 28, 256, 768]⟩ : Shape).Idx, (Cert.On_third_rows.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8)) (m ((c.tc : Thread Cert.ThirdIdeal.nD Cert.ThirdIdeal.τ).loc Cert.ThirdIdeal.main_arg9)) (m ((c.tc : Thread Cert.ThirdIdeal.nD Cert.ThirdIdeal.τ).loc Cert.ThirdIdeal.main_arg10))).2.2.2.2 i = 1#1 → r.2.mem ((c.tc : Thread Cert.ThirdReferenceIdeal.nD Cert.ThirdReferenceIdeal.τ).loc Cert.ThirdReferenceIdeal.main_v74) i = v4 c i)
          ∧ r.2.mem ((c.tc : Thread Cert.ThirdReferenceIdeal.nD Cert.ThirdReferenceIdeal.τ).loc Cert.ThirdReferenceIdeal.main_arg0) = m' ((c.tc : Thread Cert.ThirdReferenceIdeal.nD Cert.ThirdReferenceIdeal.τ).loc Cert.ThirdReferenceIdeal.main_arg0)
          ∧ r.2.mem ((c.tc : Thread Cert.ThirdReferenceIdeal.nD Cert.ThirdReferenceIdeal.τ).loc Cert.ThirdReferenceIdeal.main_arg1) = m' ((c.tc : Thread Cert.ThirdReferenceIdeal.nD Cert.ThirdReferenceIdeal.τ).loc Cert.ThirdReferenceIdeal.main_arg1)
          ∧ r.2.mem ((c.tc : Thread Cert.ThirdReferenceIdeal.nD Cert.ThirdReferenceIdeal.τ).loc Cert.ThirdReferenceIdeal.main_arg2) = m' ((c.tc : Thread Cert.ThirdReferenceIdeal.nD Cert.ThirdReferenceIdeal.τ).loc Cert.ThirdReferenceIdeal.main_arg2)
          ∧ r.2.mem ((c.tc : Thread Cert.ThirdReferenceIdeal.nD Cert.ThirdReferenceIdeal.τ).loc Cert.ThirdReferenceIdeal.main_arg3) = m' ((c.tc : Thread Cert.ThirdReferenceIdeal.nD Cert.ThirdReferenceIdeal.τ).loc Cert.ThirdReferenceIdeal.main_arg3)
          ∧ r.2.mem ((c.tc : Thread Cert.ThirdReferenceIdeal.nD Cert.ThirdReferenceIdeal.τ).loc Cert.ThirdReferenceIdeal.main_arg4) = m' ((c.tc : Thread Cert.ThirdReferenceIdeal.nD Cert.ThirdReferenceIdeal.τ).loc Cert.ThirdReferenceIdeal.main_arg4)
          ∧ r.2.mem ((c.tc : Thread Cert.ThirdReferenceIdeal.nD Cert.ThirdReferenceIdeal.τ).loc Cert.ThirdReferenceIdeal.main_arg5) = m' ((c.tc : Thread Cert.ThirdReferenceIdeal.nD Cert.ThirdReferenceIdeal.τ).loc Cert.ThirdReferenceIdeal.main_arg5)
          ∧ r.2.mem ((c.tc : Thread Cert.ThirdReferenceIdeal.nD Cert.ThirdReferenceIdeal.τ).loc Cert.ThirdReferenceIdeal.main_arg6) = m' ((c.tc : Thread Cert.ThirdReferenceIdeal.nD Cert.ThirdReferenceIdeal.τ).loc Cert.ThirdReferenceIdeal.main_arg6)
          ∧ r.2.mem ((c.tc : Thread Cert.ThirdReferenceIdeal.nD Cert.ThirdReferenceIdeal.τ).loc Cert.ThirdReferenceIdeal.main_arg7) = m' ((c.tc : Thread Cert.ThirdReferenceIdeal.nD Cert.ThirdReferenceIdeal.τ).loc Cert.ThirdReferenceIdeal.main_arg7)
          ∧ r.2.mem ((c.tc : Thread Cert.ThirdReferenceIdeal.nD Cert.ThirdReferenceIdeal.τ).loc Cert.ThirdReferenceIdeal.main_arg8) = m' ((c.tc : Thread Cert.ThirdReferenceIdeal.nD Cert.ThirdReferenceIdeal.τ).loc Cert.ThirdReferenceIdeal.main_arg8)
          ∧ r.2.mem ((c.tc : Thread Cert.ThirdReferenceIdeal.nD Cert.ThirdReferenceIdeal.τ).loc Cert.ThirdReferenceIdeal.main_arg9) = m' ((c.tc : Thread Cert.ThirdReferenceIdeal.nD Cert.ThirdReferenceIdeal.τ).loc Cert.ThirdReferenceIdeal.main_arg9)
          ∧ r.2.mem ((c.tc : Thread Cert.ThirdReferenceIdeal.nD Cert.ThirdReferenceIdeal.τ).loc Cert.ThirdReferenceIdeal.main_arg10) = m' ((c.tc : Thread Cert.ThirdReferenceIdeal.nD Cert.ThirdReferenceIdeal.τ).loc Cert.ThirdReferenceIdeal.main_arg10))

def Claim : Prop :=
  ∃ (hFirst : Cert.First.Facts) (hFirstIdeal : Cert.FirstIdeal.Facts) (hFirstReferenceIdeal : Cert.FirstReferenceIdeal.Facts) (hFirstPlainIdeal : Cert.FirstPlainIdeal.Facts) (hSecond : Cert.Second.Facts) (hSecondIdeal : Cert.SecondIdeal.Facts) (hSecondReferenceIdeal : Cert.SecondReferenceIdeal.Facts) (hSecondPlainIdeal : Cert.SecondPlainIdeal.Facts) (hThird : Cert.Third.Facts) (hThirdIdeal : Cert.ThirdIdeal.Facts) (hThirdReferenceIdeal : Cert.ThirdReferenceIdeal.Facts) (hThirdPlainIdeal : Cert.ThirdPlainIdeal.Facts) (hOn_first_rows : Cert.On_first_rows.Facts) (hOn_second_rows : Cert.On_second_rows.Facts) (hOn_third_rows : Cert.On_third_rows.Facts),
    quiescent_First (hFirst := hFirst)
    ∧ quiescent_FirstIdeal (hFirstIdeal := hFirstIdeal)
    ∧ quiescent_FirstReferenceIdeal (hFirstReferenceIdeal := hFirstReferenceIdeal)
    ∧ quiescent_FirstPlainIdeal (hFirstPlainIdeal := hFirstPlainIdeal)
    ∧ quiescent_Second (hSecond := hSecond)
    ∧ quiescent_SecondIdeal (hSecondIdeal := hSecondIdeal)
    ∧ quiescent_SecondReferenceIdeal (hSecondReferenceIdeal := hSecondReferenceIdeal)
    ∧ quiescent_SecondPlainIdeal (hSecondPlainIdeal := hSecondPlainIdeal)
    ∧ quiescent_Third (hThird := hThird)
    ∧ quiescent_ThirdIdeal (hThirdIdeal := hThirdIdeal)
    ∧ quiescent_ThirdReferenceIdeal (hThirdReferenceIdeal := hThirdReferenceIdeal)
    ∧ quiescent_ThirdPlainIdeal (hThirdPlainIdeal := hThirdPlainIdeal)
    ∧ preserves_First_FirstIdeal
    ∧ algebraic_FirstIdeal_FirstReferenceIdeal_on_first_rows (hFirstIdeal := hFirstIdeal) (hFirstReferenceIdeal := hFirstReferenceIdeal) (hOn_first_rows := hOn_first_rows)
    ∧ preserves_Second_SecondIdeal
    ∧ algebraic_SecondIdeal_SecondReferenceIdeal_on_second_rows (hSecondIdeal := hSecondIdeal) (hSecondReferenceIdeal := hSecondReferenceIdeal) (hOn_second_rows := hOn_second_rows)
    ∧ preserves_Third_ThirdIdeal
    ∧ algebraic_ThirdIdeal_ThirdReferenceIdeal_on_third_rows (hThirdIdeal := hThirdIdeal) (hThirdReferenceIdeal := hThirdReferenceIdeal) (hOn_third_rows := hOn_third_rows)
-- ==== On_first_rows.lean ====
abbrev S2x4096x7168 : Shape := ⟨3, ![2, 4096, 7168]⟩
abbrev S2x4096x28 : Shape := ⟨3, ![2, 4096, 28]⟩
abbrev S28x768x256 : Shape := ⟨3, ![28, 768, 256]⟩
abbrev S28x256x768 : Shape := ⟨3, ![28, 256, 768]⟩
abbrev S_ : Shape := ⟨0, ![]⟩
abbrev S2x28x256x768 : Shape := ⟨4, ![2, 28, 256, 768]⟩
abbrev S2x28x4096x768 : Shape := ⟨4, ![2, 28, 4096, 768]⟩

class Facts : Prop where
  bcast_S_S2x28x256x768 : S_.BroadcastsInDim S2x28x256x768 (![] : Fin 0 → Fin S2x28x256x768.rank)
  bcast_S_S2x4096x7168 : S_.BroadcastsInDim S2x4096x7168 (![] : Fin 0 → Fin S2x4096x7168.rank)
  bcast_S_S2x28x4096x768 : S_.BroadcastsInDim S2x28x4096x768 (![] : Fin 0 → Fin S2x28x4096x768.rank)

variable [Facts]

def fn {F : FTy → Type} [FloatOps F] (main_arg0 : FVec F S2x4096x7168 .fp8e4m3) (main_arg1 : FVec F S2x4096x28 .f32) (main_arg2 : FVec F S2x4096x7168 .fp8e4m3) (main_arg3 : FVec F S2x4096x28 .f32) (main_arg4 : FVec F S2x4096x7168 .bf16) (main_arg5 : FVec F S2x4096x28 .f32) (main_arg6 : FVec F S28x768x256 .f32) (main_arg7 : FVec F S28x768x256 .f32) (main_arg8 : FVec F S28x256x768 .f32) : IVec S2x4096x7168 1 × IVec S2x28x4096x768 1 × IVec S2x28x256x768 1 × IVec S2x28x256x768 1 × IVec S2x28x256x768 1 :=
  let main_c : IVec S_ 1 := constantI S_ 1 1#1
  let main_v0 : IVec S2x28x256x768 1 := broadcastInDim S2x28x256x768 ![] bcast_S_S2x28x256x768 main_c
  let main_v1 : IVec S2x4096x7168 32 := iotaInDim S2x4096x7168 32 1
  let main_c_0 : IVec S_ 32 := constantI S_ 32 1536#32
  let main_v2 : IVec S2x4096x7168 32 := broadcastInDim S2x4096x7168 ![] bcast_S_S2x4096x7168 main_c_0
  let main_v3 : IVec S2x4096x7168 1 := cmpi .slt main_v1 main_v2
  let main_v4 : IVec S2x28x4096x768 32 := iotaInDim S2x28x4096x768 32 2
  let main_c_1 : IVec S_ 32 := constantI S_ 32 1536#32
  let main_v5 : IVec S2x28x4096x768 32 := broadcastInDim S2x28x4096x768 ![] bcast_S_S2x28x4096x768 main_c_1
  let main_v6 : IVec S2x28x4096x768 1 := cmpi .slt main_v4 main_v5
  (main_v3, main_v6, main_v0, main_v0, main_v0)
-- ==== On_second_rows.lean ====
abbrev S2x4096x7168 : Shape := ⟨3, ![2, 4096, 7168]⟩
abbrev S2x4096x28 : Shape := ⟨3, ![2, 4096, 28]⟩
abbrev S2x28x256x768 : Shape := ⟨4, ![2, 28, 256, 768]⟩
abbrev S2x28x4096x768 : Shape := ⟨4, ![2, 28, 4096, 768]⟩
abbrev S_ : Shape := ⟨0, ![]⟩

class Facts : Prop where
  bcast_S_S2x28x256x768 : S_.BroadcastsInDim S2x28x256x768 (![] : Fin 0 → Fin S2x28x256x768.rank)
  bcast_S_S2x4096x7168 : S_.BroadcastsInDim S2x4096x7168 (![] : Fin 0 → Fin S2x4096x7168.rank)
  bcast_S_S2x28x4096x768 : S_.BroadcastsInDim S2x28x4096x768 (![] : Fin 0 → Fin S2x28x4096x768.rank)

variable [Facts]

def fn {F : FTy → Type} [FloatOps F] (main_arg0 : FVec F S2x4096x7168 .fp8e4m3) (main_arg1 : FVec F S2x4096x28 .f32) (main_arg2 : FVec F S2x4096x7168 .fp8e4m3) (main_arg3 : FVec F S2x4096x28 .f32) (main_arg4 : FVec F S2x4096x7168 .bf16) (main_arg5 : FVec F S2x4096x28 .f32) (main_arg6 : FVec F S2x28x256x768 .f32) (main_arg7 : FVec F S2x28x256x768 .f32) (main_arg8 : FVec F S2x28x256x768 .f32) (main_arg9 : FVec F S2x4096x7168 .bf16) (main_arg10 : FVec F S2x28x4096x768 .bf16) : IVec S2x4096x7168 1 × IVec S2x28x4096x768 1 × IVec S2x28x256x768 1 × IVec S2x28x256x768 1 × IVec S2x28x256x768 1 :=
  let main_v0 : IVec S2x4096x7168 32 := iotaInDim S2x4096x7168 32 1
  let main_v1 : IVec S2x28x4096x768 32 := iotaInDim S2x28x4096x768 32 2
  let main_c : IVec S_ 1 := constantI S_ 1 1#1
  let main_v2 : IVec S2x28x256x768 1 := broadcastInDim S2x28x256x768 ![] bcast_S_S2x28x256x768 main_c
  let main_c_0 : IVec S_ 32 := constantI S_ 32 1536#32
  let main_v3 : IVec S2x4096x7168 32 := broadcastInDim S2x4096x7168 ![] bcast_S_S2x4096x7168 main_c_0
  let main_v4 : IVec S2x4096x7168 1 := cmpi .sge main_v0 main_v3
  let main_c_1 : IVec S_ 32 := constantI S_ 32 3072#32
  let main_v5 : IVec S2x4096x7168 32 := broadcastInDim S2x4096x7168 ![] bcast_S_S2x4096x7168 main_c_1
  let main_v6 : IVec S2x4096x7168 1 := cmpi .slt main_v0 main_v5
  let main_v7 : IVec S2x4096x7168 1 := andi main_v4 main_v6
  let main_c_2 : IVec S_ 32 := constantI S_ 32 1536#32
  let main_v8 : IVec S2x28x4096x768 32 := broadcastInDim S2x28x4096x768 ![] bcast_S_S2x28x4096x768 main_c_2
  let main_v9 : IVec S2x28x4096x768 1 := cmpi .sge main_v1 main_v8
  let main_c_3 : IVec S_ 32 := constantI S_ 32 3072#32
  let main_v10 : IVec S2x28x4096x768 32 := broadcastInDim S2x28x4096x768 ![] bcast_S_S2x28x4096x768 main_c_3
  let main_v11 : IVec S2x28x4096x768 1 := cmpi .slt main_v1 main_v10
  let main_v12 : IVec S2x28x4096x768 1 := andi main_v9 main_v11
  (main_v7, main_v12, main_v2, main_v2, main_v2)
-- ==== On_third_rows.lean ====
abbrev S2x4096x7168 : Shape := ⟨3, ![2, 4096, 7168]⟩
abbrev S2x4096x28 : Shape := ⟨3, ![2, 4096, 28]⟩
abbrev S2x28x256x768 : Shape := ⟨4, ![2, 28, 256, 768]⟩
abbrev S2x28x4096x768 : Shape := ⟨4, ![2, 28, 4096, 768]⟩
abbrev S_ : Shape := ⟨0, ![]⟩

class Facts : Prop where
  bcast_S_S2x28x256x768 : S_.BroadcastsInDim S2x28x256x768 (![] : Fin 0 → Fin S2x28x256x768.rank)
  bcast_S_S2x4096x7168 : S_.BroadcastsInDim S2x4096x7168 (![] : Fin 0 → Fin S2x4096x7168.rank)
  bcast_S_S2x28x4096x768 : S_.BroadcastsInDim S2x28x4096x768 (![] : Fin 0 → Fin S2x28x4096x768.rank)

variable [Facts]

def fn {F : FTy → Type} [FloatOps F] (main_arg0 : FVec F S2x4096x7168 .fp8e4m3) (main_arg1 : FVec F S2x4096x28 .f32) (main_arg2 : FVec F S2x4096x7168 .fp8e4m3) (main_arg3 : FVec F S2x4096x28 .f32) (main_arg4 : FVec F S2x4096x7168 .bf16) (main_arg5 : FVec F S2x4096x28 .f32) (main_arg6 : FVec F S2x28x256x768 .f32) (main_arg7 : FVec F S2x28x256x768 .f32) (main_arg8 : FVec F S2x28x256x768 .f32) (main_arg9 : FVec F S2x4096x7168 .bf16) (main_arg10 : FVec F S2x28x4096x768 .bf16) : IVec S2x4096x7168 1 × IVec S2x28x4096x768 1 × IVec S2x28x256x768 1 × IVec S2x28x256x768 1 × IVec S2x28x256x768 1 :=
  let main_v0 : IVec S2x4096x7168 32 := iotaInDim S2x4096x7168 32 1
  let main_v1 : IVec S2x28x4096x768 32 := iotaInDim S2x28x4096x768 32 2
  let main_c : IVec S_ 1 := constantI S_ 1 1#1
  let main_v2 : IVec S2x28x256x768 1 := broadcastInDim S2x28x256x768 ![] bcast_S_S2x28x256x768 main_c
  let main_c_0 : IVec S_ 32 := constantI S_ 32 3072#32
  let main_v3 : IVec S2x4096x7168 32 := broadcastInDim S2x4096x7168 ![] bcast_S_S2x4096x7168 main_c_0
  let main_v4 : IVec S2x4096x7168 1 := cmpi .sge main_v0 main_v3
  let main_c_1 : IVec S_ 32 := constantI S_ 32 3072#32
  let main_v5 : IVec S2x28x4096x768 32 := broadcastInDim S2x28x4096x768 ![] bcast_S_S2x28x4096x768 main_c_1
  let main_v6 : IVec S2x28x4096x768 1 := cmpi .sge main_v1 main_v5
  (main_v4, main_v6, main_v2, main_v2, main_v2)
-- ==== First.lean ====
abbrev S2x4096x7168 : Shape := ⟨3, ![2, 4096, 7168]⟩
abbrev S2x4096x28 : Shape := ⟨3, ![2, 4096, 28]⟩
abbrev S28x768x256 : Shape := ⟨3, ![28, 768, 256]⟩
abbrev S28x256x768 : Shape := ⟨3, ![28, 256, 768]⟩
abbrev S28x2x4096 : Shape := ⟨3, ![28, 2, 4096]⟩
abbrev S1x28x768x256 : Shape := ⟨4, ![1, 28, 768, 256]⟩
abbrev S1x28x256x768 : Shape := ⟨4, ![1, 28, 256, 768]⟩
abbrev S2x28x4096x768 : Shape := ⟨4, ![2, 28, 4096, 768]⟩
abbrev S2x28x256x768 : Shape := ⟨4, ![2, 28, 256, 768]⟩
abbrev S1x512x512 : Shape := ⟨3, ![1, 512, 512]⟩
abbrev S2x2x512 : Shape := ⟨3, ![2, 2, 512]⟩
abbrev S1x2x768x256 : Shape := ⟨4, ![1, 2, 768, 256]⟩
abbrev S1x2x256x768 : Shape := ⟨4, ![1, 2, 256, 768]⟩
abbrev S1x2x512x768 : Shape := ⟨4, ![1, 2, 512, 768]⟩
abbrev S2x256x768 : Shape := ⟨3, ![2, 256, 768]⟩
abbrev S1x1x768x256 : Shape := ⟨4, ![1, 1, 768, 256]⟩
abbrev S768x256 : Shape := ⟨2, ![768, 256]⟩
abbrev S256x768 : Shape := ⟨2, ![256, 768]⟩
abbrev S1x256x768 : Shape := ⟨3, ![1, 256, 768]⟩
abbrev S1x1x256x768 : Shape := ⟨4, ![1, 1, 256, 768]⟩
abbrev S1x1x256 : Shape := ⟨3, ![1, 1, 256]⟩
abbrev S1x256 : Shape := ⟨2, ![1, 256]⟩
abbrev S1x128 : Shape := ⟨2, ![1, 128]⟩
abbrev S128x128 : Shape := ⟨2, ![128, 128]⟩
abbrev S256x128 : Shape := ⟨2, ![256, 128]⟩
abbrev S1x256x256 : Shape := ⟨3, ![1, 256, 256]⟩
abbrev S256x256 : Shape := ⟨2, ![256, 256]⟩

abbrev nBuf : Space → Nat
  | .hbm => 20
  | .vmem => 31
  | .smem => 0
  | _ => 0

abbrev bufTy : (tb : Table) → Fin (tcTables nBuf tb) → BufTy
  | .hbm, ⟨0, _⟩ => ⟨S2x4096x7168, .fp8e4m3⟩
  | .hbm, ⟨1, _⟩ => ⟨S2x4096x28, .f32⟩
  | .hbm, ⟨2, _⟩ => ⟨S2x4096x7168, .fp8e4m3⟩
  | .hbm, ⟨3, _⟩ => ⟨S2x4096x28, .f32⟩
  | .hbm, ⟨4, _⟩ => ⟨S2x4096x7168, .bf16⟩
  | .hbm, ⟨5, _⟩ => ⟨S2x4096x28, .f32⟩
  | .hbm, ⟨6, _⟩ => ⟨S28x768x256, .f32⟩
  | .hbm, ⟨7, _⟩ => ⟨S28x768x256, .f32⟩
  | .hbm, ⟨8, _⟩ => ⟨S28x256x768, .f32⟩
  | .hbm, ⟨9, _⟩ => ⟨S28x2x4096, .f32⟩
  | .hbm, ⟨10, _⟩ => ⟨S28x2x4096, .f32⟩
  | .hbm, ⟨11, _⟩ => ⟨S28x2x4096, .f32⟩
  | .hbm, ⟨12, _⟩ => ⟨S1x28x768x256, .f32⟩
  | .hbm, ⟨13, _⟩ => ⟨S1x28x768x256, .f32⟩
  | .hbm, ⟨14, _⟩ => ⟨S1x28x256x768, .f32⟩
  | .hbm, ⟨15, _⟩ => ⟨S2x4096x7168, .bf16⟩
  | .hbm, ⟨16, _⟩ => ⟨S2x28x4096x768, .bf16⟩
  | .hbm, ⟨17, _⟩ => ⟨S2x28x256x768, .f32⟩
  | .hbm, ⟨18, _⟩ => ⟨S2x28x256x768, .f32⟩
  | .hbm, ⟨19, _⟩ => ⟨S2x28x256x768, .f32⟩
  | .local _ .vmem, ⟨0, _⟩ => ⟨S1x512x512, .fp8e4m3⟩
  | .local _ .vmem, ⟨1, _⟩ => ⟨S1x512x512, .fp8e4m3⟩
  | .local _ .vmem, ⟨2, _⟩ => ⟨S1x512x512, .fp8e4m3⟩
  | .local _ .vmem, ⟨3, _⟩ => ⟨S1x512x512, .fp8e4m3⟩
  | .local _ .vmem, ⟨4, _⟩ => ⟨S1x512x512, .bf16⟩
  | .local _ .vmem, ⟨5, _⟩ => ⟨S1x512x512, .bf16⟩
  | .local _ .vmem, ⟨6, _⟩ => ⟨S2x2x512, .f32⟩
  | .local _ .vmem, ⟨7, _⟩ => ⟨S2x2x512, .f32⟩
  | .local _ .vmem, ⟨8, _⟩ => ⟨S2x2x512, .f32⟩
  | .local _ .vmem, ⟨9, _⟩ => ⟨S2x2x512, .f32⟩
  | .local _ .vmem, ⟨10, _⟩ => ⟨S2x2x512, .f32⟩
  | .local _ .vmem, ⟨11, _⟩ => ⟨S2x2x512, .f32⟩
  | .local _ .vmem, ⟨12, _⟩ => ⟨S1x2x768x256, .f32⟩
  | .local _ .vmem, ⟨13, _⟩ => ⟨S1x2x768x256, .f32⟩
  | .local _ .vmem, ⟨14, _⟩ => ⟨S1x2x768x256, .f32⟩
  | .local _ .vmem, ⟨15, _⟩ => ⟨S1x2x768x256, .f32⟩
  | .local _ .vmem, ⟨16, _⟩ => ⟨S1x2x256x768, .f32⟩
  | .local _ .vmem, ⟨17, _⟩ => ⟨S1x2x256x768, .f32⟩
  | .local _ .vmem, ⟨18, _⟩ => ⟨S1x512x512, .bf16⟩
  | .local _ .vmem, ⟨19, _⟩ => ⟨S1x512x512, .bf16⟩
  | .local _ .vmem, ⟨20, _⟩ => ⟨S1x2x512x768, .bf16⟩
  | .local _ .vmem, ⟨21, _⟩ => ⟨S1x2x512x768, .bf16⟩
  | .local _ .vmem, ⟨22, _⟩ => ⟨S1x2x256x768, .f32⟩
  | .local _ .vmem, ⟨23, _⟩ => ⟨S1x2x256x768, .f32⟩
  | .local _ .vmem, ⟨24, _⟩ => ⟨S1x2x256x768, .f32⟩
  | .local _ .vmem, ⟨25, _⟩ => ⟨S1x2x256x768, .f32⟩
  | .local _ .vmem, ⟨26, _⟩ => ⟨S1x2x256x768, .f32⟩
  | .local _ .vmem, ⟨27, _⟩ => ⟨S1x2x256x768, .f32⟩
  | .local _ .vmem, ⟨28, _⟩ => ⟨S2x256x768, .bf16⟩
  | .local _ .vmem, ⟨29, _⟩ => ⟨S2x256x768, .bf16⟩
  | .local _ .vmem, ⟨30, _⟩ => ⟨S2x256x768, .bf16⟩
  | _, _ => ⟨S2x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![2, 14, 3], ![false, false, false]⟩

def k0_off1 (i : grid0.Coords) : Fin 3 → Nat :=
  let c0 : Index := 0#32
  let arg0 : BitVec 32 := BitVec.ofNat 32 (i 0).val
  let v3 : Index := Scalar.indexCast arg0
  let c0_1 : Index := 0#32
  ![0, v3.toNat, 0]
def k0_off2 (i : grid0.Coords) : Fin 3 → Nat :=
  let c1 : Index := 1#32
  let arg0 : BitVec 32 := BitVec.ofNat 32 (i 0).val
  let v143 : Index := Scalar.indexCast arg0
  let c0_81 : Index := 0#32
  ![1, v143.toNat, 0]
def k0_off3 (i : grid0.Coords) : Fin 3 → Nat :=
  let c0_161 : Index := 0#32
  let arg0 : BitVec 32 := BitVec.ofNat 32 (i 0).val
  let v283 : Index := Scalar.indexCast arg0
  let c256_162 : Index := 256#32
  ![0, v283.toNat, 256]
def k0_off4 (i : grid0.Coords) : Fin 3 → Nat :=
  let c1_243 : Index := 1#32
  let arg0 : BitVec 32 := BitVec.ofNat 32 (i 0).val
  let v423 : Index := Scalar.indexCast arg0
  let c256_244 : Index := 256#32
  ![1, v423.toNat, 256]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg1.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg1.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg1.toNat, c0_i32_0.toNat, v0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, arg1.toNat, v0.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S2x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x2x768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x2x768x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x2x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2x512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2x256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x2x256x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x2x256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== FirstIdeal.lean ====
variable {F : FTy → Type} [FloatOps F] [Named F]
def κ : String → Option EReal := fun
  | "neg_log2_e" => some ((-((Real.log 2)⁻¹) : ℝ) : EReal)
  | _ => none
-- ==== FirstReferenceIdeal.lean ====
abbrev S2x4096x7168 : Shape := ⟨3, ![2, 4096, 7168]⟩
abbrev S2x4096x28 : Shape := ⟨3, ![2, 4096, 28]⟩
abbrev S28x768x256 : Shape := ⟨3, ![28, 768, 256]⟩
abbrev S28x256x768 : Shape := ⟨3, ![28, 256, 768]⟩
abbrev S2x1536x7168 : Shape := ⟨3, ![2, 1536, 7168]⟩
abbrev S2x1536x28x256 : Shape := ⟨4, ![2, 1536, 28, 256]⟩
abbrev S2x1536x28 : Shape := ⟨3, ![2, 1536, 28]⟩
abbrev S2x28x768x256 : Shape := ⟨4, ![2, 28, 768, 256]⟩
abbrev S2x28x256x768 : Shape := ⟨4, ![2, 28, 256, 768]⟩
abbrev S2x28x768x1536 : Shape := ⟨4, ![2, 28, 768, 1536]⟩
abbrev S2x1536x28x768 : Shape := ⟨4, ![2, 1536, 28, 768]⟩
abbrev S2x1536x28x1 : Shape := ⟨4, ![2, 1536, 28, 1]⟩
abbrev S_ : Shape := ⟨0, ![]⟩
abbrev S2x28x256x1536 : Shape := ⟨4, ![2, 28, 256, 1536]⟩
abbrev S2x2560x7168 : Shape := ⟨3, ![2, 2560, 7168]⟩
abbrev S2x28x1536x768 : Shape := ⟨4, ![2, 28, 1536, 768]⟩
abbrev S2x28x2560x768 : Shape := ⟨4, ![2, 28, 2560, 768]⟩
abbrev S2x28x4096x768 : Shape := ⟨4, ![2, 28, 4096, 768]⟩

abbrev nBuf : Space → Nat
  | .hbm => 113
  | .vmem => 4
  | .smem => 0
  | _ => 0

abbrev bufTy : (tb : Table) → Fin (tcTables nBuf tb) → BufTy
  | .hbm, ⟨0, _⟩ => ⟨S2x4096x7168, .fp8e4m3⟩
  | .hbm, ⟨1, _⟩ => ⟨S2x4096x28, .f32⟩
  | .hbm, ⟨2, _⟩ => ⟨S2x4096x7168, .fp8e4m3⟩
  | .hbm, ⟨3, _⟩ => ⟨S2x4096x28, .f32⟩
  | .hbm, ⟨4, _⟩ => ⟨S2x4096x7168, .bf16⟩
  | .hbm, ⟨5, _⟩ => ⟨S2x4096x28, .f32⟩
  | .hbm, ⟨6, _⟩ => ⟨S28x768x256, .f32⟩
  | .hbm, ⟨7, _⟩ => ⟨S28x768x256, .f32⟩
  | .hbm, ⟨8, _⟩ => ⟨S28x256x768, .f32⟩
  | .hbm, ⟨9, _⟩ => ⟨S2x4096x7168, .bf16⟩
  | .hbm, ⟨10, _⟩ => ⟨S2x4096x7168, .bf16⟩
  | .hbm, ⟨11, _⟩ => ⟨S2x1536x7168, .bf16⟩
  | .hbm, ⟨12, _⟩ => ⟨S2x1536x28x256, .bf16⟩
  | .hbm, ⟨13, _⟩ => ⟨S2x1536x7168, .bf16⟩
  | .hbm, ⟨14, _⟩ => ⟨S2x1536x28x256, .bf16⟩
  | .hbm, ⟨15, _⟩ => ⟨S2x1536x7168, .bf16⟩
  | .hbm, ⟨16, _⟩ => ⟨S2x1536x28x256, .bf16⟩
  | .hbm, ⟨17, _⟩ => ⟨S2x1536x28, .f32⟩
  | .hbm, ⟨18, _⟩ => ⟨S2x1536x28, .f32⟩
  | .hbm, ⟨19, _⟩ => ⟨S2x1536x28, .f32⟩
  | .hbm, ⟨20, _⟩ => ⟨S2x28x768x256, .f32⟩
  | .hbm, ⟨21, _⟩ => ⟨S2x28x768x256, .f32⟩
  | .hbm, ⟨22, _⟩ => ⟨S2x28x256x768, .f32⟩
  | .hbm, ⟨23, _⟩ => ⟨S2x28x768x256, .bf16⟩
  | .hbm, ⟨24, _⟩ => ⟨S2x28x768x256, .bf16⟩
  | .hbm, ⟨25, _⟩ => ⟨S2x28x256x768, .bf16⟩
  | .hbm, ⟨26, _⟩ => ⟨S2x28x768x1536, .f32⟩
  | .hbm, ⟨27, _⟩ => ⟨S2x1536x28x768, .f32⟩
  | .hbm, ⟨28, _⟩ => ⟨S2x1536x28x1, .f32⟩
  | .hbm, ⟨29, _⟩ => ⟨S2x1536x28x768, .f32⟩
  | .hbm, ⟨30, _⟩ => ⟨S2x1536x28x768, .f32⟩
  | .hbm, ⟨31, _⟩ => ⟨S2x28x768x1536, .f32⟩
  | .hbm, ⟨32, _⟩ => ⟨S2x1536x28x768, .f32⟩
  | .hbm, ⟨33, _⟩ => ⟨S2x1536x28x1, .f32⟩
  | .hbm, ⟨34, _⟩ => ⟨S2x1536x28x768, .f32⟩
  | .hbm, ⟨35, _⟩ => ⟨S2x1536x28x768, .f32⟩
  | .hbm, ⟨36, _⟩ => ⟨S2x1536x28x768, .f32⟩
  | .hbm, ⟨37, _⟩ => ⟨S2x1536x28x768, .f32⟩
  | .hbm, ⟨38, _⟩ => ⟨S_, .f32⟩
  | .hbm, ⟨39, _⟩ => ⟨S2x1536x28x768, .f32⟩
  | .hbm, ⟨40, _⟩ => ⟨S2x1536x28x768, .f32⟩
  | .hbm, ⟨41, _⟩ => ⟨S_, .f32⟩
  | .hbm, ⟨42, _⟩ => ⟨S2x1536x28x768, .f32⟩
  | .hbm, ⟨43, _⟩ => ⟨S2x1536x28x768, .f32⟩
  | .hbm, ⟨44, _⟩ => ⟨S2x1536x28x768, .f32⟩
  | .hbm, ⟨45, _⟩ => ⟨S2x1536x28x768, .f32⟩
  | .hbm, ⟨46, _⟩ => ⟨S2x1536x28x768, .bf16⟩
  | .hbm, ⟨47, _⟩ => ⟨S2x28x256x1536, .f32⟩
  | .hbm, ⟨48, _⟩ => ⟨S2x1536x28x256, .f32⟩
  | .hbm, ⟨49, _⟩ => ⟨S2x28x768x1536, .f32⟩
  | .hbm, ⟨50, _⟩ => ⟨S2x1536x28x768, .f32⟩
  | .hbm, ⟨51, _⟩ => ⟨S2x1536x28x1, .f32⟩
  | .hbm, ⟨52, _⟩ => ⟨S2x1536x28x768, .f32⟩
  | .hbm, ⟨53, _⟩ => ⟨S2x1536x28x768, .f32⟩
  | .hbm, ⟨54, _⟩ => ⟨S2x28x768x1536, .f32⟩
  | .hbm, ⟨55, _⟩ => ⟨S2x1536x28x768, .f32⟩
  | .hbm, ⟨56, _⟩ => ⟨S2x1536x28x1, .f32⟩
  | .hbm, ⟨57, _⟩ => ⟨S2x1536x28x768, .f32⟩
  | .hbm, ⟨58, _⟩ => ⟨S2x1536x28x768, .f32⟩
  | .hbm, ⟨59, _⟩ => ⟨S2x1536x28x768, .f32⟩
  | .hbm, ⟨60, _⟩ => ⟨S2x1536x28x768, .f32⟩
  | .hbm, ⟨61, _⟩ => ⟨S_, .f32⟩
  | .hbm, ⟨62, _⟩ => ⟨S2x1536x28x768, .f32⟩
  | .hbm, ⟨63, _⟩ => ⟨S2x1536x28x768, .f32⟩
  | .hbm, ⟨64, _⟩ => ⟨S_, .f32⟩
  | .hbm, ⟨65, _⟩ => ⟨S2x1536x28x768, .f32⟩
  | .hbm, ⟨66, _⟩ => ⟨S2x1536x28x768, .f32⟩
  | .hbm, ⟨67, _⟩ => ⟨S2x1536x28x768, .f32⟩
  | .hbm, ⟨68, _⟩ => ⟨S2x1536x28x768, .f32⟩
  | .hbm, ⟨69, _⟩ => ⟨S2x1536x28x768, .bf16⟩
  | .hbm, ⟨70, _⟩ => ⟨S2x1536x28x1, .f32⟩
  | .hbm, ⟨71, _⟩ => ⟨S2x1536x28x1, .f32⟩
  | .hbm, ⟨72, _⟩ => ⟨S2x1536x28x256, .f32⟩
  | .hbm, ⟨73, _⟩ => ⟨S2x1536x28x256, .f32⟩
  | .hbm, ⟨74, _⟩ => ⟨S2x1536x28x256, .f32⟩
  | .hbm, ⟨75, _⟩ => ⟨S2x1536x28x1, .f32⟩
  | .hbm, ⟨76, _⟩ => ⟨S2x1536x28x1, .f32⟩
  | .hbm, ⟨77, _⟩ => ⟨S2x28x768x1536, .f32⟩
  | .hbm, ⟨78, _⟩ => ⟨S2x1536x28x768, .f32⟩
  | .hbm, ⟨79, _⟩ => ⟨S2x1536x28x768, .f32⟩
  | .hbm, ⟨80, _⟩ => ⟨S2x1536x28x768, .f32⟩
  | .hbm, ⟨81, _⟩ => ⟨S2x1536x28x768, .f32⟩
  | .hbm, ⟨82, _⟩ => ⟨S2x1536x28x768, .f32⟩
  | .hbm, ⟨83, _⟩ => ⟨S2x1536x28x768, .f32⟩
  | .hbm, ⟨84, _⟩ => ⟨S_, .f32⟩
  | .hbm, ⟨85, _⟩ => ⟨S2x1536x28x768, .f32⟩
  | .hbm, ⟨86, _⟩ => ⟨S2x1536x28x768, .f32⟩
  | .hbm, ⟨87, _⟩ => ⟨S2x1536x28x768, .f32⟩
  | .hbm, ⟨88, _⟩ => ⟨S_, .f32⟩
  | .hbm, ⟨89, _⟩ => ⟨S2x1536x28x768, .f32⟩
  | .hbm, ⟨90, _⟩ => ⟨S2x1536x28x768, .f32⟩
  | .hbm, ⟨91, _⟩ => ⟨S2x1536x28x768, .f32⟩
  | .hbm, ⟨92, _⟩ => ⟨S2x1536x28x1, .f32⟩
  | .hbm, ⟨93, _⟩ => ⟨S2x1536x28x1, .bf16⟩
  | .hbm, ⟨94, _⟩ => ⟨S2x1536x28x256, .bf16⟩
  | .hbm, ⟨95, _⟩ => ⟨S2x1536x28x256, .bf16⟩
  | .hbm, ⟨96, _⟩ => ⟨S2x1536x28x256, .bf16⟩
  | .hbm, ⟨97, _⟩ => ⟨S2x28x256x768, .f32⟩
  | .hbm, ⟨98, _⟩ => ⟨S2x1536x28x768, .bf16⟩
  | .hbm, ⟨99, _⟩ => ⟨S2x28x768x256, .f32⟩
  | .hbm, ⟨100, _⟩ => ⟨S2x1536x28x768, .bf16⟩
  | .hbm, ⟨101, _⟩ => ⟨S2x28x768x256, .f32⟩
  | .hbm, ⟨102, _⟩ => ⟨S2x1536x28x256, .bf16⟩
  | .hbm, ⟨103, _⟩ => ⟨S2x1536x7168, .bf16⟩
  | .hbm, ⟨104, _⟩ => ⟨S_, .bf16⟩
  | .hbm, ⟨105, _⟩ => ⟨S2x2560x7168, .bf16⟩
  | .hbm, ⟨106, _⟩ => ⟨S2x4096x7168, .bf16⟩
  | .hbm, ⟨107, _⟩ => ⟨S2x28x1536x768, .bf16⟩
  | .hbm, ⟨108, _⟩ => ⟨S_, .bf16⟩
  | .hbm, ⟨109, _⟩ => ⟨S2x28x2560x768, .bf16⟩
  | .hbm, ⟨110, _⟩ => ⟨S2x28x4096x768, .bf16⟩
  | .hbm, ⟨111, _⟩ => ⟨S2x28x256x768, .f32⟩
  | .hbm, ⟨112, _⟩ => ⟨S2x28x256x768, .f32⟩
  | .local _ .vmem, ⟨0, _⟩ => ⟨S2x4096x7168, .fp8e4m3⟩
  | .local _ .vmem, ⟨1, _⟩ => ⟨S2x4096x7168, .fp8e4m3⟩
  | .local _ .vmem, ⟨2, _⟩ => ⟨S2x4096x7168, .bf16⟩
  | .local _ .vmem, ⟨3, _⟩ => ⟨S2x4096x7168, .bf16⟩
  | _, _ => ⟨S2x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst : Ref sig .tc := ⟨.hbm, 61, rfl⟩
abbrev main_v43 : Ref sig .tc := ⟨.hbm, 62, rfl⟩
abbrev main_v44 : Ref sig .tc := ⟨.hbm, 63, rfl⟩
abbrev main_cst_0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_1 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_2 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_3 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_4 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== FirstPlainIdeal.lean ====
abbrev S2x4096x7168 : Shape := ⟨3, ![2, 4096, 7168]⟩
abbrev S2x4096x28 : Shape := ⟨3, ![2, 4096, 28]⟩
abbrev S28x768x256 : Shape := ⟨3, ![28, 768, 256]⟩
abbrev S28x256x768 : Shape := ⟨3, ![28, 256, 768]⟩
abbrev S2x1536x7168 : Shape := ⟨3, ![2, 1536, 7168]⟩
abbrev S2x1536x28x256 : Shape := ⟨4, ![2, 1536, 28, 256]⟩
abbrev S2x1536x28 : Shape := ⟨3, ![2, 1536, 28]⟩
abbrev S2x28x768x256 : Shape := ⟨4, ![2, 28, 768, 256]⟩
abbrev S2x28x256x768 : Shape := ⟨4, ![2, 28, 256, 768]⟩
abbrev S2x28x768x1536 : Shape := ⟨4, ![2, 28, 768, 1536]⟩
abbrev S2x1536x28x768 : Shape := ⟨4, ![2, 1536, 28, 768]⟩
abbrev S2x1536x28x1 : Shape := ⟨4, ![2, 1536, 28, 1]⟩
abbrev S_ : Shape := ⟨0, ![]⟩
abbrev S2x28x256x1536 : Shape := ⟨4, ![2, 28, 256, 1536]⟩
abbrev S2x2560x7168 : Shape := ⟨3, ![2, 2560, 7168]⟩
abbrev S2x28x1536x768 : Shape := ⟨4, ![2, 28, 1536, 768]⟩
abbrev S2x28x2560x768 : Shape := ⟨4, ![2, 28, 2560, 768]⟩
abbrev S2x28x4096x768 : Shape := ⟨4, ![2, 28, 4096, 768]⟩

abbrev nBuf : Space → Nat
  | .hbm => 111
  | .vmem => 0
  | .smem => 0
  | _ => 0

abbrev bufTy : (tb : Table) → Fin (tcTables nBuf tb) → BufTy
  | .hbm, ⟨0, _⟩ => ⟨S2x4096x7168, .bf16⟩
  | .hbm, ⟨1, _⟩ => ⟨S2x4096x28, .f32⟩
  | .hbm, ⟨2, _⟩ => ⟨S2x4096x7168, .bf16⟩
  | .hbm, ⟨3, _⟩ => ⟨S2x4096x28, .f32⟩
  | .hbm, ⟨4, _⟩ => ⟨S2x4096x7168, .bf16⟩
  | .hbm, ⟨5, _⟩ => ⟨S2x4096x28, .f32⟩
  | .hbm, ⟨6, _⟩ => ⟨S28x768x256, .f32⟩
  | .hbm, ⟨7, _⟩ => ⟨S28x768x256, .f32⟩
  | .hbm, ⟨8, _⟩ => ⟨S28x256x768, .f32⟩
  | .hbm, ⟨9, _⟩ => ⟨S2x1536x7168, .bf16⟩
  | .hbm, ⟨10, _⟩ => ⟨S2x1536x28x256, .bf16⟩
  | .hbm, ⟨11, _⟩ => ⟨S2x1536x7168, .bf16⟩
  | .hbm, ⟨12, _⟩ => ⟨S2x1536x28x256, .bf16⟩
  | .hbm, ⟨13, _⟩ => ⟨S2x1536x7168, .bf16⟩
  | .hbm, ⟨14, _⟩ => ⟨S2x1536x28x256, .bf16⟩
  | .hbm, ⟨15, _⟩ => ⟨S2x1536x28, .f32⟩
  | .hbm, ⟨16, _⟩ => ⟨S2x1536x28, .f32⟩
  | .hbm, ⟨17, _⟩ => ⟨S2x1536x28, .f32⟩
  | .hbm, ⟨18, _⟩ => ⟨S2x28x768x256, .f32⟩
  | .hbm, ⟨19, _⟩ => ⟨S2x28x768x256, .f32⟩
  | .hbm, ⟨20, _⟩ => ⟨S2x28x256x768, .f32⟩
  | .hbm, ⟨21, _⟩ => ⟨S2x28x768x256, .bf16⟩
  | .hbm, ⟨22, _⟩ => ⟨S2x28x768x256, .bf16⟩
  | .hbm, ⟨23, _⟩ => ⟨S2x28x256x768, .bf16⟩
  | .hbm, ⟨24, _⟩ => ⟨S2x28x768x1536, .f32⟩
  | .hbm, ⟨25, _⟩ => ⟨S2x1536x28x768, .f32⟩
  | .hbm, ⟨26, _⟩ => ⟨S2x1536x28x1, .f32⟩
  | .hbm, ⟨27, _⟩ => ⟨S2x1536x28x768, .f32⟩
  | .hbm, ⟨28, _⟩ => ⟨S2x1536x28x768, .f32⟩
  | .hbm, ⟨29, _⟩ => ⟨S2x28x768x1536, .f32⟩
  | .hbm, ⟨30, _⟩ => ⟨S2x1536x28x768, .f32⟩
  | .hbm, ⟨31, _⟩ => ⟨S2x1536x28x1, .f32⟩
  | .hbm, ⟨32, _⟩ => ⟨S2x1536x28x768, .f32⟩
  | .hbm, ⟨33, _⟩ => ⟨S2x1536x28x768, .f32⟩
  | .hbm, ⟨34, _⟩ => ⟨S2x1536x28x768, .f32⟩
  | .hbm, ⟨35, _⟩ => ⟨S2x1536x28x768, .f32⟩
  | .hbm, ⟨36, _⟩ => ⟨S_, .f32⟩
  | .hbm, ⟨37, _⟩ => ⟨S2x1536x28x768, .f32⟩
  | .hbm, ⟨38, _⟩ => ⟨S2x1536x28x768, .f32⟩
  | .hbm, ⟨39, _⟩ => ⟨S_, .f32⟩
  | .hbm, ⟨40, _⟩ => ⟨S2x1536x28x768, .f32⟩
  | .hbm, ⟨41, _⟩ => ⟨S2x1536x28x768, .f32⟩
  | .hbm, ⟨42, _⟩ => ⟨S2x1536x28x768, .f32⟩
  | .hbm, ⟨43, _⟩ => ⟨S2x1536x28x768, .f32⟩
  | .hbm, ⟨44, _⟩ => ⟨S2x1536x28x768, .bf16⟩
  | .hbm, ⟨45, _⟩ => ⟨S2x28x256x1536, .f32⟩
  | .hbm, ⟨46, _⟩ => ⟨S2x1536x28x256, .f32⟩
  | .hbm, ⟨47, _⟩ => ⟨S2x28x768x1536, .f32⟩
  | .hbm, ⟨48, _⟩ => ⟨S2x1536x28x768, .f32⟩
  | .hbm, ⟨49, _⟩ => ⟨S2x1536x28x1, .f32⟩
  | .hbm, ⟨50, _⟩ => ⟨S2x1536x28x768, .f32⟩
  | .hbm, ⟨51, _⟩ => ⟨S2x1536x28x768, .f32⟩
  | .hbm, ⟨52, _⟩ => ⟨S2x28x768x1536, .f32⟩
  | .hbm, ⟨53, _⟩ => ⟨S2x1536x28x768, .f32⟩
  | .hbm, ⟨54, _⟩ => ⟨S2x1536x28x1, .f32⟩
  | .hbm, ⟨55, _⟩ => ⟨S2x1536x28x768, .f32⟩
  | .hbm, ⟨56, _⟩ => ⟨S2x1536x28x768, .f32⟩
  | .hbm, ⟨57, _⟩ => ⟨S2x1536x28x768, .f32⟩
  | .hbm, ⟨58, _⟩ => ⟨S2x1536x28x768, .f32⟩
  | .hbm, ⟨59, _⟩ => ⟨S_, .f32⟩
  | .hbm, ⟨60, _⟩ => ⟨S2x1536x28x768, .f32⟩
  | .hbm, ⟨61, _⟩ => ⟨S2x1536x28x768, .f32⟩
  | .hbm, ⟨62, _⟩ => ⟨S_, .f32⟩
  | .hbm, ⟨63, _⟩ => ⟨S2x1536x28x768, .f32⟩
  | .hbm, ⟨64, _⟩ => ⟨S2x1536x28x768, .f32⟩
  | .hbm, ⟨65, _⟩ => ⟨S2x1536x28x768, .f32⟩
  | .hbm, ⟨66, _⟩ => ⟨S2x1536x28x768, .f32⟩
  | .hbm, ⟨67, _⟩ => ⟨S2x1536x28x768, .bf16⟩
  | .hbm, ⟨68, _⟩ => ⟨S2x1536x28x1, .f32⟩
  | .hbm, ⟨69, _⟩ => ⟨S2x1536x28x1, .f32⟩
  | .hbm, ⟨70, _⟩ => ⟨S2x1536x28x256, .f32⟩
  | .hbm, ⟨71, _⟩ => ⟨S2x1536x28x256, .f32⟩
  | .hbm, ⟨72, _⟩ => ⟨S2x1536x28x256, .f32⟩
  | .hbm, ⟨73, _⟩ => ⟨S2x1536x28x1, .f32⟩
  | .hbm, ⟨74, _⟩ => ⟨S2x1536x28x1, .f32⟩
  | .hbm, ⟨75, _⟩ => ⟨S2x28x768x1536, .f32⟩
  | .hbm, ⟨76, _⟩ => ⟨S2x1536x28x768, .f32⟩
  | .hbm, ⟨77, _⟩ => ⟨S2x1536x28x768, .f32⟩
  | .hbm, ⟨78, _⟩ => ⟨S2x1536x28x768, .f32⟩
  | .hbm, ⟨79, _⟩ => ⟨S2x1536x28x768, .f32⟩
  | .hbm, ⟨80, _⟩ => ⟨S2x1536x28x768, .f32⟩
  | .hbm, ⟨81, _⟩ => ⟨S2x1536x28x768, .f32⟩
  | .hbm, ⟨82, _⟩ => ⟨S_, .f32⟩
  | .hbm, ⟨83, _⟩ => ⟨S2x1536x28x768, .f32⟩
  | .hbm, ⟨84, _⟩ => ⟨S2x1536x28x768, .f32⟩
  | .hbm, ⟨85, _⟩ => ⟨S2x1536x28x768, .f32⟩
  | .hbm, ⟨86, _⟩ => ⟨S_, .f32⟩
  | .hbm, ⟨87, _⟩ => ⟨S2x1536x28x768, .f32⟩
  | .hbm, ⟨88, _⟩ => ⟨S2x1536x28x768, .f32⟩
  | .hbm, ⟨89, _⟩ => ⟨S2x1536x28x768, .f32⟩
  | .hbm, ⟨90, _⟩ => ⟨S2x1536x28x1, .f32⟩
  | .hbm, ⟨91, _⟩ => ⟨S2x1536x28x1, .bf16⟩
  | .hbm, ⟨92, _⟩ => ⟨S2x1536x28x256, .bf16⟩
  | .hbm, ⟨93, _⟩ => ⟨S2x1536x28x256, .bf16⟩
  | .hbm, ⟨94, _⟩ => ⟨S2x1536x28x256, .bf16⟩
  | .hbm, ⟨95, _⟩ => ⟨S2x28x256x768, .f32⟩
  | .hbm, ⟨96, _⟩ => ⟨S2x1536x28x768, .bf16⟩
  | .hbm, ⟨97, _⟩ => ⟨S2x28x768x256, .f32⟩
  | .hbm, ⟨98, _⟩ => ⟨S2x1536x28x768, .bf16⟩
  | .hbm, ⟨99, _⟩ => ⟨S2x28x768x256, .f32⟩
  | .hbm, ⟨100, _⟩ => ⟨S2x1536x28x256, .bf16⟩
  | .hbm, ⟨101, _⟩ => ⟨S2x1536x7168, .bf16⟩
  | .hbm, ⟨102, _⟩ => ⟨S_, .bf16⟩
  | .hbm, ⟨103, _⟩ => ⟨S2x2560x7168, .bf16⟩
  | .hbm, ⟨104, _⟩ => ⟨S2x4096x7168, .bf16⟩
  | .hbm, ⟨105, _⟩ => ⟨S2x28x1536x768, .bf16⟩
  | .hbm, ⟨106, _⟩ => ⟨S_, .bf16⟩
  | .hbm, ⟨107, _⟩ => ⟨S2x28x2560x768, .bf16⟩
  | .hbm, ⟨108, _⟩ => ⟨S2x28x4096x768, .bf16⟩
  | .hbm, ⟨109, _⟩ => ⟨S2x28x256x768, .f32⟩
  | .hbm, ⟨110, _⟩ => ⟨S2x28x256x768, .f32⟩
  | _, _ => ⟨S2x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst : Ref sig .tc := ⟨.hbm, 59, rfl⟩
abbrev main_v42 : Ref sig .tc := ⟨.hbm, 60, rfl⟩
abbrev main_v43 : Ref sig .tc := ⟨.hbm, 61, rfl⟩
abbrev main_cst_0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_1 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_2 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_3 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_4 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩

abbrev nD : Nat := 1
abbrev τ : Topo := Topo.v7x

variable {F : FTy → Type} [FloatOps F]
-- ==== Second.lean ====
abbrev S2x4096x7168 : Shape := ⟨3, ![2, 4096, 7168]⟩
abbrev S2x4096x28 : Shape := ⟨3, ![2, 4096, 28]⟩
abbrev S2x28x256x768 : Shape := ⟨4, ![2, 28, 256, 768]⟩
abbrev S2x28x4096x768 : Shape := ⟨4, ![2, 28, 4096, 768]⟩
abbrev S28x2x4096 : Shape := ⟨3, ![28, 2, 4096]⟩
abbrev S1x512x512 : Shape := ⟨3, ![1, 512, 512]⟩
abbrev S2x2x512 : Shape := ⟨3, ![2, 2, 512]⟩
abbrev S1x2x256x768 : Shape := ⟨4, ![1, 2, 256, 768]⟩
abbrev S1x2x512x768 : Shape := ⟨4, ![1, 2, 512, 768]⟩
abbrev S2x256x768 : Shape := ⟨3, ![2, 256, 768]⟩
abbrev S1x1x256x768 : Shape := ⟨4, ![1, 1, 256, 768]⟩
abbrev S256x768 : Shape := ⟨2, ![256, 768]⟩
abbrev S1x256x768 : Shape := ⟨3, ![1, 256, 768]⟩
abbrev S1x1x256 : Shape := ⟨3, ![1, 1, 256]⟩
abbrev S1x256 : Shape := ⟨2, ![1, 256]⟩
abbrev S1x128 : Shape := ⟨2, ![1, 128]⟩
abbrev S128x128 : Shape := ⟨2, ![128, 128]⟩
abbrev S256x128 : Shape := ⟨2, ![256, 128]⟩
abbrev S1x256x256 : Shape := ⟨3, ![1, 256, 256]⟩
abbrev S256x256 : Shape := ⟨2, ![256, 256]⟩

abbrev nBuf : Space → Nat
  | .hbm => 19
  | .vmem => 31
  | .smem => 0
  | _ => 0

abbrev bufTy : (tb : Table) → Fin (tcTables nBuf tb) → BufTy
  | .hbm, ⟨0, _⟩ => ⟨S2x4096x7168, .fp8e4m3⟩
  | .hbm, ⟨1, _⟩ => ⟨S2x4096x28, .f32⟩
  | .hbm, ⟨2, _⟩ => ⟨S2x4096x7168, .fp8e4m3⟩
  | .hbm, ⟨3, _⟩ => ⟨S2x4096x28, .f32⟩
  | .hbm, ⟨4, _⟩ => ⟨S2x4096x7168, .bf16⟩
  | .hbm, ⟨5, _⟩ => ⟨S2x4096x28, .f32⟩
  | .hbm, ⟨6, _⟩ => ⟨S2x28x256x768, .f32⟩
  | .hbm, ⟨7, _⟩ => ⟨S2x28x256x768, .f32⟩
  | .hbm, ⟨8, _⟩ => ⟨S2x28x256x768, .f32⟩
  | .hbm, ⟨9, _⟩ => ⟨S2x4096x7168, .bf16⟩
  | .hbm, ⟨10, _⟩ => ⟨S2x28x4096x768, .bf16⟩
  | .hbm, ⟨11, _⟩ => ⟨S28x2x4096, .f32⟩
  | .hbm, ⟨12, _⟩ => ⟨S28x2x4096, .f32⟩
  | .hbm, ⟨13, _⟩ => ⟨S28x2x4096, .f32⟩
  | .hbm, ⟨14, _⟩ => ⟨S2x4096x7168, .bf16⟩
  | .hbm, ⟨15, _⟩ => ⟨S2x28x4096x768, .bf16⟩
  | .hbm, ⟨16, _⟩ => ⟨S2x28x256x768, .f32⟩
  | .hbm, ⟨17, _⟩ => ⟨S2x28x256x768, .f32⟩
  | .hbm, ⟨18, _⟩ => ⟨S2x28x256x768, .f32⟩
  | .local _ .vmem, ⟨0, _⟩ => ⟨S1x512x512, .fp8e4m3⟩
  | .local _ .vmem, ⟨1, _⟩ => ⟨S1x512x512, .fp8e4m3⟩
  | .local _ .vmem, ⟨2, _⟩ => ⟨S1x512x512, .fp8e4m3⟩
  | .local _ .vmem, ⟨3, _⟩ => ⟨S1x512x512, .fp8e4m3⟩
  | .local _ .vmem, ⟨4, _⟩ => ⟨S1x512x512, .bf16⟩
  | .local _ .vmem, ⟨5, _⟩ => ⟨S1x512x512, .bf16⟩
  | .local _ .vmem, ⟨6, _⟩ => ⟨S2x2x512, .f32⟩
  | .local _ .vmem, ⟨7, _⟩ => ⟨S2x2x512, .f32⟩
  | .local _ .vmem, ⟨8, _⟩ => ⟨S2x2x512, .f32⟩
  | .local _ .vmem, ⟨9, _⟩ => ⟨S2x2x512, .f32⟩
  | .local _ .vmem, ⟨10, _⟩ => ⟨S2x2x512, .f32⟩
  | .local _ .vmem, ⟨11, _⟩ => ⟨S2x2x512, .f32⟩
  | .local _ .vmem, ⟨12, _⟩ => ⟨S1x2x256x768, .f32⟩
  | .local _ .vmem, ⟨13, _⟩ => ⟨S1x2x256x768, .f32⟩
  | .local _ .vmem, ⟨14, _⟩ => ⟨S1x2x256x768, .f32⟩
  | .local _ .vmem, ⟨15, _⟩ => ⟨S1x2x256x768, .f32⟩
  | .local _ .vmem, ⟨16, _⟩ => ⟨S1x2x256x768, .f32⟩
  | .local _ .vmem, ⟨17, _⟩ => ⟨S1x2x256x768, .f32⟩
  | .local _ .vmem, ⟨18, _⟩ => ⟨S1x512x512, .bf16⟩
  | .local _ .vmem, ⟨19, _⟩ => ⟨S1x512x512, .bf16⟩
  | .local _ .vmem, ⟨20, _⟩ => ⟨S1x2x512x768, .bf16⟩
  | .local _ .vmem, ⟨21, _⟩ => ⟨S1x2x512x768, .bf16⟩
  | .local _ .vmem, ⟨22, _⟩ => ⟨S1x2x256x768, .f32⟩
  | .local _ .vmem, ⟨23, _⟩ => ⟨S1x2x256x768, .f32⟩
  | .local _ .vmem, ⟨24, _⟩ => ⟨S1x2x256x768, .f32⟩
  | .local _ .vmem, ⟨25, _⟩ => ⟨S1x2x256x768, .f32⟩
  | .local _ .vmem, ⟨26, _⟩ => ⟨S1x2x256x768, .f32⟩
  | .local _ .vmem, ⟨27, _⟩ => ⟨S1x2x256x768, .f32⟩
  | .local _ .vmem, ⟨28, _⟩ => ⟨S2x256x768, .bf16⟩
  | .local _ .vmem, ⟨29, _⟩ => ⟨S2x256x768, .bf16⟩
  | .local _ .vmem, ⟨30, _⟩ => ⟨S2x256x768, .bf16⟩
  | _, _ => ⟨S2x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![2, 14, 3], ![false, false, false]⟩

def k0_off1 (i : grid0.Coords) : Fin 3 → Nat :=
  let c0 : Index := 0#32
  let arg0 : BitVec 32 := BitVec.ofNat 32 (i 0).val
  let v3 : Index := Scalar.indexCast arg0
  let c0_1 : Index := 0#32
  ![0, v3.toNat, 0]
def k0_off2 (i : grid0.Coords) : Fin 3 → Nat :=
  let c1 : Index := 1#32
  let arg0 : BitVec 32 := BitVec.ofNat 32 (i 0).val
  let v143 : Index := Scalar.indexCast arg0
  let c0_81 : Index := 0#32
  ![1, v143.toNat, 0]
def k0_off3 (i : grid0.Coords) : Fin 3 → Nat :=
  let c0_161 : Index := 0#32
  let arg0 : BitVec 32 := BitVec.ofNat 32 (i 0).val
  let v283 : Index := Scalar.indexCast arg0
  let c256_162 : Index := 256#32
  ![0, v283.toNat, 256]
def k0_off4 (i : grid0.Coords) : Fin 3 → Nat :=
  let c1_243 : Index := 1#32
  let arg0 : BitVec 32 := BitVec.ofNat 32 (i 0).val
  let v423 : Index := Scalar.indexCast arg0
  let c256_244 : Index := 256#32
  ![1, v423.toNat, 256]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  ![arg0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  let c0_i32_0 : BitVec 32 := 0#32
  ![arg1.toNat, c0_i32.toNat, v0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  ![arg0.toNat, v0.toNat, arg1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  let c0_i32_0 : BitVec 32 := 0#32
  ![arg0.toNat, arg1.toNat, v0.toNat, c0_i32.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S2x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x2x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2x512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2x256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x2x256x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x2x256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== SecondIdeal.lean ====
variable {F : FTy → Type} [FloatOps F] [Named F]
def κ : String → Option EReal := fun
  | "neg_log2_e" => some ((-((Real.log 2)⁻¹) : ℝ) : EReal)
  | _ => none
-- ==== SecondReferenceIdeal.lean ====
abbrev S2x4096x7168 : Shape := ⟨3, ![2, 4096, 7168]⟩
abbrev S2x4096x28 : Shape := ⟨3, ![2, 4096, 28]⟩
abbrev S2x28x256x768 : Shape := ⟨4, ![2, 28, 256, 768]⟩
abbrev S2x28x4096x768 : Shape := ⟨4, ![2, 28, 4096, 768]⟩
abbrev S2x1536x7168 : Shape := ⟨3, ![2, 1536, 7168]⟩
abbrev S2x1536x28x256 : Shape := ⟨4, ![2, 1536, 28, 256]⟩
abbrev S2x1536x28 : Shape := ⟨3, ![2, 1536, 28]⟩
abbrev S2x28x768x256 : Shape := ⟨4, ![2, 28, 768, 256]⟩
abbrev S2x28x768x1536 : Shape := ⟨4, ![2, 28, 768, 1536]⟩
abbrev S2x1536x28x768 : Shape := ⟨4, ![2, 1536, 28, 768]⟩
abbrev S2x1536x28x1 : Shape := ⟨4, ![2, 1536, 28, 1]⟩
abbrev S_ : Shape := ⟨0, ![]⟩
abbrev S2x28x256x1536 : Shape := ⟨4, ![2, 28, 256, 1536]⟩
abbrev S2x3072x7168 : Shape := ⟨3, ![2, 3072, 7168]⟩
abbrev S2x1024x7168 : Shape := ⟨3, ![2, 1024, 7168]⟩
abbrev S2x28x1536x768 : Shape := ⟨4, ![2, 28, 1536, 768]⟩
abbrev S2x28x3072x768 : Shape := ⟨4, ![2, 28, 3072, 768]⟩
abbrev S2x28x1024x768 : Shape := ⟨4, ![2, 28, 1024, 768]⟩

abbrev nBuf : Space → Nat
  | .hbm => 116
  | .vmem => 4
  | .smem => 0
  | _ => 0

abbrev bufTy : (tb : Table) → Fin (tcTables nBuf tb) → BufTy
  | .hbm, ⟨0, _⟩ => ⟨S2x4096x7168, .fp8e4m3⟩
  | .hbm, ⟨1, _⟩ => ⟨S2x4096x28, .f32⟩
  | .hbm, ⟨2, _⟩ => ⟨S2x4096x7168, .fp8e4m3⟩
  | .hbm, ⟨3, _⟩ => ⟨S2x4096x28, .f32⟩
  | .hbm, ⟨4, _⟩ => ⟨S2x4096x7168, .bf16⟩
  | .hbm, ⟨5, _⟩ => ⟨S2x4096x28, .f32⟩
  | .hbm, ⟨6, _⟩ => ⟨S2x28x256x768, .f32⟩
  | .hbm, ⟨7, _⟩ => ⟨S2x28x256x768, .f32⟩
  | .hbm, ⟨8, _⟩ => ⟨S2x28x256x768, .f32⟩
  | .hbm, ⟨9, _⟩ => ⟨S2x4096x7168, .bf16⟩
  | .hbm, ⟨10, _⟩ => ⟨S2x28x4096x768, .bf16⟩
  | .hbm, ⟨11, _⟩ => ⟨S2x4096x7168, .bf16⟩
  | .hbm, ⟨12, _⟩ => ⟨S2x4096x7168, .bf16⟩
  | .hbm, ⟨13, _⟩ => ⟨S2x1536x7168, .bf16⟩
  | .hbm, ⟨14, _⟩ => ⟨S2x1536x28x256, .bf16⟩
  | .hbm, ⟨15, _⟩ => ⟨S2x1536x7168, .bf16⟩
  | .hbm, ⟨16, _⟩ => ⟨S2x1536x28x256, .bf16⟩
  | .hbm, ⟨17, _⟩ => ⟨S2x1536x7168, .bf16⟩
  | .hbm, ⟨18, _⟩ => ⟨S2x1536x28x256, .bf16⟩
  | .hbm, ⟨19, _⟩ => ⟨S2x1536x28, .f32⟩
  | .hbm, ⟨20, _⟩ => ⟨S2x1536x28, .f32⟩
  | .hbm, ⟨21, _⟩ => ⟨S2x1536x28, .f32⟩
  | .hbm, ⟨22, _⟩ => ⟨S2x28x768x256, .f32⟩
  | .hbm, ⟨23, _⟩ => ⟨S2x28x768x256, .f32⟩
  | .hbm, ⟨24, _⟩ => ⟨S2x28x768x256, .bf16⟩
  | .hbm, ⟨25, _⟩ => ⟨S2x28x768x256, .bf16⟩
  | .hbm, ⟨26, _⟩ => ⟨S2x28x256x768, .bf16⟩
  | .hbm, ⟨27, _⟩ => ⟨S2x28x768x1536, .f32⟩
  | .hbm, ⟨28, _⟩ => ⟨S2x1536x28x768, .f32⟩
  | .hbm, ⟨29, _⟩ => ⟨S2x1536x28x1, .f32⟩
  | .hbm, ⟨30, _⟩ => ⟨S2x1536x28x768, .f32⟩
  | .hbm, ⟨31, _⟩ => ⟨S2x1536x28x768, .f32⟩
  | .hbm, ⟨32, _⟩ => ⟨S2x28x768x1536, .f32⟩
  | .hbm, ⟨33, _⟩ => ⟨S2x1536x28x768, .f32⟩
  | .hbm, ⟨34, _⟩ => ⟨S2x1536x28x1, .f32⟩
  | .hbm, ⟨35, _⟩ => ⟨S2x1536x28x768, .f32⟩
  | .hbm, ⟨36, _⟩ => ⟨S2x1536x28x768, .f32⟩
  | .hbm, ⟨37, _⟩ => ⟨S2x1536x28x768, .f32⟩
  | .hbm, ⟨38, _⟩ => ⟨S2x1536x28x768, .f32⟩
  | .hbm, ⟨39, _⟩ => ⟨S_, .f32⟩
  | .hbm, ⟨40, _⟩ => ⟨S2x1536x28x768, .f32⟩
  | .hbm, ⟨41, _⟩ => ⟨S2x1536x28x768, .f32⟩
  | .hbm, ⟨42, _⟩ => ⟨S_, .f32⟩
  | .hbm, ⟨43, _⟩ => ⟨S2x1536x28x768, .f32⟩
  | .hbm, ⟨44, _⟩ => ⟨S2x1536x28x768, .f32⟩
  | .hbm, ⟨45, _⟩ => ⟨S2x1536x28x768, .f32⟩
  | .hbm, ⟨46, _⟩ => ⟨S2x1536x28x768, .f32⟩
  | .hbm, ⟨47, _⟩ => ⟨S2x1536x28x768, .bf16⟩
  | .hbm, ⟨48, _⟩ => ⟨S2x28x256x1536, .f32⟩
  | .hbm, ⟨49, _⟩ => ⟨S2x1536x28x256, .f32⟩
  | .hbm, ⟨50, _⟩ => ⟨S2x28x768x1536, .f32⟩
  | .hbm, ⟨51, _⟩ => ⟨S2x1536x28x768, .f32⟩
  | .hbm, ⟨52, _⟩ => ⟨S2x1536x28x1, .f32⟩
  | .hbm, ⟨53, _⟩ => ⟨S2x1536x28x768, .f32⟩
  | .hbm, ⟨54, _⟩ => ⟨S2x1536x28x768, .f32⟩
  | .hbm, ⟨55, _⟩ => ⟨S2x28x768x1536, .f32⟩
  | .hbm, ⟨56, _⟩ => ⟨S2x1536x28x768, .f32⟩
  | .hbm, ⟨57, _⟩ => ⟨S2x1536x28x1, .f32⟩
  | .hbm, ⟨58, _⟩ => ⟨S2x1536x28x768, .f32⟩
  | .hbm, ⟨59, _⟩ => ⟨S2x1536x28x768, .f32⟩
  | .hbm, ⟨60, _⟩ => ⟨S2x1536x28x768, .f32⟩
  | .hbm, ⟨61, _⟩ => ⟨S2x1536x28x768, .f32⟩
  | .hbm, ⟨62, _⟩ => ⟨S_, .f32⟩
  | .hbm, ⟨63, _⟩ => ⟨S2x1536x28x768, .f32⟩
  | .hbm, ⟨64, _⟩ => ⟨S2x1536x28x768, .f32⟩
  | .hbm, ⟨65, _⟩ => ⟨S_, .f32⟩
  | .hbm, ⟨66, _⟩ => ⟨S2x1536x28x768, .f32⟩
  | .hbm, ⟨67, _⟩ => ⟨S2x1536x28x768, .f32⟩
  | .hbm, ⟨68, _⟩ => ⟨S2x1536x28x768, .f32⟩
  | .hbm, ⟨69, _⟩ => ⟨S2x1536x28x768, .f32⟩
  | .hbm, ⟨70, _⟩ => ⟨S2x1536x28x768, .bf16⟩
  | .hbm, ⟨71, _⟩ => ⟨S2x1536x28x1, .f32⟩
  | .hbm, ⟨72, _⟩ => ⟨S2x1536x28x1, .f32⟩
  | .hbm, ⟨73, _⟩ => ⟨S2x1536x28x256, .f32⟩
  | .hbm, ⟨74, _⟩ => ⟨S2x1536x28x256, .f32⟩
  | .hbm, ⟨75, _⟩ => ⟨S2x1536x28x256, .f32⟩
  | .hbm, ⟨76, _⟩ => ⟨S2x1536x28x1, .f32⟩
  | .hbm, ⟨77, _⟩ => ⟨S2x1536x28x1, .f32⟩
  | .hbm, ⟨78, _⟩ => ⟨S2x28x768x1536, .f32⟩
  | .hbm, ⟨79, _⟩ => ⟨S2x1536x28x768, .f32⟩
  | .hbm, ⟨80, _⟩ => ⟨S2x1536x28x768, .f32⟩
  | .hbm, ⟨81, _⟩ => ⟨S2x1536x28x768, .f32⟩
  | .hbm, ⟨82, _⟩ => ⟨S2x1536x28x768, .f32⟩
  | .hbm, ⟨83, _⟩ => ⟨S2x1536x28x768, .f32⟩
  | .hbm, ⟨84, _⟩ => ⟨S2x1536x28x768, .f32⟩
  | .hbm, ⟨85, _⟩ => ⟨S_, .f32⟩
  | .hbm, ⟨86, _⟩ => ⟨S2x1536x28x768, .f32⟩
  | .hbm, ⟨87, _⟩ => ⟨S2x1536x28x768, .f32⟩
  | .hbm, ⟨88, _⟩ => ⟨S2x1536x28x768, .f32⟩
  | .hbm, ⟨89, _⟩ => ⟨S_, .f32⟩
  | .hbm, ⟨90, _⟩ => ⟨S2x1536x28x768, .f32⟩
  | .hbm, ⟨91, _⟩ => ⟨S2x1536x28x768, .f32⟩
  | .hbm, ⟨92, _⟩ => ⟨S2x1536x28x768, .f32⟩
  | .hbm, ⟨93, _⟩ => ⟨S2x1536x28x1, .f32⟩
  | .hbm, ⟨94, _⟩ => ⟨S2x1536x28x1, .bf16⟩
  | .hbm, ⟨95, _⟩ => ⟨S2x1536x28x256, .bf16⟩
  | .hbm, ⟨96, _⟩ => ⟨S2x1536x28x256, .bf16⟩
  | .hbm, ⟨97, _⟩ => ⟨S2x1536x28x256, .bf16⟩
  | .hbm, ⟨98, _⟩ => ⟨S2x28x256x768, .f32⟩
  | .hbm, ⟨99, _⟩ => ⟨S2x1536x28x768, .bf16⟩
  | .hbm, ⟨100, _⟩ => ⟨S2x28x768x256, .f32⟩
  | .hbm, ⟨101, _⟩ => ⟨S2x1536x28x768, .bf16⟩
  | .hbm, ⟨102, _⟩ => ⟨S2x28x768x256, .f32⟩
  | .hbm, ⟨103, _⟩ => ⟨S2x1536x28x256, .bf16⟩
  | .hbm, ⟨104, _⟩ => ⟨S2x1536x7168, .bf16⟩
  | .hbm, ⟨105, _⟩ => ⟨S2x1536x7168, .bf16⟩
  | .hbm, ⟨106, _⟩ => ⟨S2x3072x7168, .bf16⟩
  | .hbm, ⟨107, _⟩ => ⟨S2x1024x7168, .bf16⟩
  | .hbm, ⟨108, _⟩ => ⟨S2x4096x7168, .bf16⟩
  | .hbm, ⟨109, _⟩ => ⟨S2x28x1536x768, .bf16⟩
  | .hbm, ⟨110, _⟩ => ⟨S2x28x1536x768, .bf16⟩
  | .hbm, ⟨111, _⟩ => ⟨S2x28x3072x768, .bf16⟩
  | .hbm, ⟨112, _⟩ => ⟨S2x28x1024x768, .bf16⟩
  | .hbm, ⟨113, _⟩ => ⟨S2x28x4096x768, .bf16⟩
  | .hbm, ⟨114, _⟩ => ⟨S2x28x256x768, .f32⟩
  | .hbm, ⟨115, _⟩ => ⟨S2x28x256x768, .f32⟩
  | .local _ .vmem, ⟨0, _⟩ => ⟨S2x4096x7168, .fp8e4m3⟩
  | .local _ .vmem, ⟨1, _⟩ => ⟨S2x4096x7168, .fp8e4m3⟩
  | .local _ .vmem, ⟨2, _⟩ => ⟨S2x4096x7168, .bf16⟩
  | .local _ .vmem, ⟨3, _⟩ => ⟨S2x4096x7168, .bf16⟩
  | _, _ => ⟨S2x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst : Ref sig .tc := ⟨.hbm, 62, rfl⟩
abbrev main_v42 : Ref sig .tc := ⟨.hbm, 63, rfl⟩
abbrev main_v43 : Ref sig .tc := ⟨.hbm, 64, rfl⟩
abbrev main_cst_0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_1 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_2 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== SecondPlainIdeal.lean ====
abbrev S2x4096x7168 : Shape := ⟨3, ![2, 4096, 7168]⟩
abbrev S2x4096x28 : Shape := ⟨3, ![2, 4096, 28]⟩
abbrev S2x28x256x768 : Shape := ⟨4, ![2, 28, 256, 768]⟩
abbrev S2x28x4096x768 : Shape := ⟨4, ![2, 28, 4096, 768]⟩
abbrev S2x1536x7168 : Shape := ⟨3, ![2, 1536, 7168]⟩
abbrev S2x1536x28x256 : Shape := ⟨4, ![2, 1536, 28, 256]⟩
abbrev S2x1536x28 : Shape := ⟨3, ![2, 1536, 28]⟩
abbrev S2x28x768x256 : Shape := ⟨4, ![2, 28, 768, 256]⟩
abbrev S2x28x768x1536 : Shape := ⟨4, ![2, 28, 768, 1536]⟩
abbrev S2x1536x28x768 : Shape := ⟨4, ![2, 1536, 28, 768]⟩
abbrev S2x1536x28x1 : Shape := ⟨4, ![2, 1536, 28, 1]⟩
abbrev S_ : Shape := ⟨0, ![]⟩
abbrev S2x28x256x1536 : Shape := ⟨4, ![2, 28, 256, 1536]⟩
abbrev S2x3072x7168 : Shape := ⟨3, ![2, 3072, 7168]⟩
abbrev S2x1024x7168 : Shape := ⟨3, ![2, 1024, 7168]⟩
abbrev S2x28x1536x768 : Shape := ⟨4, ![2, 28, 1536, 768]⟩
abbrev S2x28x3072x768 : Shape := ⟨4, ![2, 28, 3072, 768]⟩
abbrev S2x28x1024x768 : Shape := ⟨4, ![2, 28, 1024, 768]⟩

abbrev nBuf : Space → Nat
  | .hbm => 114
  | .vmem => 0
  | .smem => 0
  | _ => 0

abbrev bufTy : (tb : Table) → Fin (tcTables nBuf tb) → BufTy
  | .hbm, ⟨0, _⟩ => ⟨S2x4096x7168, .bf16⟩
  | .hbm, ⟨1, _⟩ => ⟨S2x4096x28, .f32⟩
  | .hbm, ⟨2, _⟩ => ⟨S2x4096x7168, .bf16⟩
  | .hbm, ⟨3, _⟩ => ⟨S2x4096x28, .f32⟩
  | .hbm, ⟨4, _⟩ => ⟨S2x4096x7168, .bf16⟩
  | .hbm, ⟨5, _⟩ => ⟨S2x4096x28, .f32⟩
  | .hbm, ⟨6, _⟩ => ⟨S2x28x256x768, .f32⟩
  | .hbm, ⟨7, _⟩ => ⟨S2x28x256x768, .f32⟩
  | .hbm, ⟨8, _⟩ => ⟨S2x28x256x768, .f32⟩
  | .hbm, ⟨9, _⟩ => ⟨S2x4096x7168, .bf16⟩
  | .hbm, ⟨10, _⟩ => ⟨S2x28x4096x768, .bf16⟩
  | .hbm, ⟨11, _⟩ => ⟨S2x1536x7168, .bf16⟩
  | .hbm, ⟨12, _⟩ => ⟨S2x1536x28x256, .bf16⟩
  | .hbm, ⟨13, _⟩ => ⟨S2x1536x7168, .bf16⟩
  | .hbm, ⟨14, _⟩ => ⟨S2x1536x28x256, .bf16⟩
  | .hbm, ⟨15, _⟩ => ⟨S2x1536x7168, .bf16⟩
  | .hbm, ⟨16, _⟩ => ⟨S2x1536x28x256, .bf16⟩
  | .hbm, ⟨17, _⟩ => ⟨S2x1536x28, .f32⟩
  | .hbm, ⟨18, _⟩ => ⟨S2x1536x28, .f32⟩
  | .hbm, ⟨19, _⟩ => ⟨S2x1536x28, .f32⟩
  | .hbm, ⟨20, _⟩ => ⟨S2x28x768x256, .f32⟩
  | .hbm, ⟨21, _⟩ => ⟨S2x28x768x256, .f32⟩
  | .hbm, ⟨22, _⟩ => ⟨S2x28x768x256, .bf16⟩
  | .hbm, ⟨23, _⟩ => ⟨S2x28x768x256, .bf16⟩
  | .hbm, ⟨24, _⟩ => ⟨S2x28x256x768, .bf16⟩
  | .hbm, ⟨25, _⟩ => ⟨S2x28x768x1536, .f32⟩
  | .hbm, ⟨26, _⟩ => ⟨S2x1536x28x768, .f32⟩
  | .hbm, ⟨27, _⟩ => ⟨S2x1536x28x1, .f32⟩
  | .hbm, ⟨28, _⟩ => ⟨S2x1536x28x768, .f32⟩
  | .hbm, ⟨29, _⟩ => ⟨S2x1536x28x768, .f32⟩
  | .hbm, ⟨30, _⟩ => ⟨S2x28x768x1536, .f32⟩
  | .hbm, ⟨31, _⟩ => ⟨S2x1536x28x768, .f32⟩
  | .hbm, ⟨32, _⟩ => ⟨S2x1536x28x1, .f32⟩
  | .hbm, ⟨33, _⟩ => ⟨S2x1536x28x768, .f32⟩
  | .hbm, ⟨34, _⟩ => ⟨S2x1536x28x768, .f32⟩
  | .hbm, ⟨35, _⟩ => ⟨S2x1536x28x768, .f32⟩
  | .hbm, ⟨36, _⟩ => ⟨S2x1536x28x768, .f32⟩
  | .hbm, ⟨37, _⟩ => ⟨S_, .f32⟩
  | .hbm, ⟨38, _⟩ => ⟨S2x1536x28x768, .f32⟩
  | .hbm, ⟨39, _⟩ => ⟨S2x1536x28x768, .f32⟩
  | .hbm, ⟨40, _⟩ => ⟨S_, .f32⟩
  | .hbm, ⟨41, _⟩ => ⟨S2x1536x28x768, .f32⟩
  | .hbm, ⟨42, _⟩ => ⟨S2x1536x28x768, .f32⟩
  | .hbm, ⟨43, _⟩ => ⟨S2x1536x28x768, .f32⟩
  | .hbm, ⟨44, _⟩ => ⟨S2x1536x28x768, .f32⟩
  | .hbm, ⟨45, _⟩ => ⟨S2x1536x28x768, .bf16⟩
  | .hbm, ⟨46, _⟩ => ⟨S2x28x256x1536, .f32⟩
  | .hbm, ⟨47, _⟩ => ⟨S2x1536x28x256, .f32⟩
  | .hbm, ⟨48, _⟩ => ⟨S2x28x768x1536, .f32⟩
  | .hbm, ⟨49, _⟩ => ⟨S2x1536x28x768, .f32⟩
  | .hbm, ⟨50, _⟩ => ⟨S2x1536x28x1, .f32⟩
  | .hbm, ⟨51, _⟩ => ⟨S2x1536x28x768, .f32⟩
  | .hbm, ⟨52, _⟩ => ⟨S2x1536x28x768, .f32⟩
  | .hbm, ⟨53, _⟩ => ⟨S2x28x768x1536, .f32⟩
  | .hbm, ⟨54, _⟩ => ⟨S2x1536x28x768, .f32⟩
  | .hbm, ⟨55, _⟩ => ⟨S2x1536x28x1, .f32⟩
  | .hbm, ⟨56, _⟩ => ⟨S2x1536x28x768, .f32⟩
  | .hbm, ⟨57, _⟩ => ⟨S2x1536x28x768, .f32⟩
  | .hbm, ⟨58, _⟩ => ⟨S2x1536x28x768, .f32⟩
  | .hbm, ⟨59, _⟩ => ⟨S2x1536x28x768, .f32⟩
  | .hbm, ⟨60, _⟩ => ⟨S_, .f32⟩
  | .hbm, ⟨61, _⟩ => ⟨S2x1536x28x768, .f32⟩
  | .hbm, ⟨62, _⟩ => ⟨S2x1536x28x768, .f32⟩
  | .hbm, ⟨63, _⟩ => ⟨S_, .f32⟩
  | .hbm, ⟨64, _⟩ => ⟨S2x1536x28x768, .f32⟩
  | .hbm, ⟨65, _⟩ => ⟨S2x1536x28x768, .f32⟩
  | .hbm, ⟨66, _⟩ => ⟨S2x1536x28x768, .f32⟩
  | .hbm, ⟨67, _⟩ => ⟨S2x1536x28x768, .f32⟩
  | .hbm, ⟨68, _⟩ => ⟨S2x1536x28x768, .bf16⟩
  | .hbm, ⟨69, _⟩ => ⟨S2x1536x28x1, .f32⟩
  | .hbm, ⟨70, _⟩ => ⟨S2x1536x28x1, .f32⟩
  | .hbm, ⟨71, _⟩ => ⟨S2x1536x28x256, .f32⟩
  | .hbm, ⟨72, _⟩ => ⟨S2x1536x28x256, .f32⟩
  | .hbm, ⟨73, _⟩ => ⟨S2x1536x28x256, .f32⟩
  | .hbm, ⟨74, _⟩ => ⟨S2x1536x28x1, .f32⟩
  | .hbm, ⟨75, _⟩ => ⟨S2x1536x28x1, .f32⟩
  | .hbm, ⟨76, _⟩ => ⟨S2x28x768x1536, .f32⟩
  | .hbm, ⟨77, _⟩ => ⟨S2x1536x28x768, .f32⟩
  | .hbm, ⟨78, _⟩ => ⟨S2x1536x28x768, .f32⟩
  | .hbm, ⟨79, _⟩ => ⟨S2x1536x28x768, .f32⟩
  | .hbm, ⟨80, _⟩ => ⟨S2x1536x28x768, .f32⟩
  | .hbm, ⟨81, _⟩ => ⟨S2x1536x28x768, .f32⟩
  | .hbm, ⟨82, _⟩ => ⟨S2x1536x28x768, .f32⟩
  | .hbm, ⟨83, _⟩ => ⟨S_, .f32⟩
  | .hbm, ⟨84, _⟩ => ⟨S2x1536x28x768, .f32⟩
  | .hbm, ⟨85, _⟩ => ⟨S2x1536x28x768, .f32⟩
  | .hbm, ⟨86, _⟩ => ⟨S2x1536x28x768, .f32⟩
  | .hbm, ⟨87, _⟩ => ⟨S_, .f32⟩
  | .hbm, ⟨88, _⟩ => ⟨S2x1536x28x768, .f32⟩
  | .hbm, ⟨89, _⟩ => ⟨S2x1536x28x768, .f32⟩
  | .hbm, ⟨90, _⟩ => ⟨S2x1536x28x768, .f32⟩
  | .hbm, ⟨91, _⟩ => ⟨S2x1536x28x1, .f32⟩
  | .hbm, ⟨92, _⟩ => ⟨S2x1536x28x1, .bf16⟩
  | .hbm, ⟨93, _⟩ => ⟨S2x1536x28x256, .bf16⟩
  | .hbm, ⟨94, _⟩ => ⟨S2x1536x28x256, .bf16⟩
  | .hbm, ⟨95, _⟩ => ⟨S2x1536x28x256, .bf16⟩
  | .hbm, ⟨96, _⟩ => ⟨S2x28x256x768, .f32⟩
  | .hbm, ⟨97, _⟩ => ⟨S2x1536x28x768, .bf16⟩
  | .hbm, ⟨98, _⟩ => ⟨S2x28x768x256, .f32⟩
  | .hbm, ⟨99, _⟩ => ⟨S2x1536x28x768, .bf16⟩
  | .hbm, ⟨100, _⟩ => ⟨S2x28x768x256, .f32⟩
  | .hbm, ⟨101, _⟩ => ⟨S2x1536x28x256, .bf16⟩
  | .hbm, ⟨102, _⟩ => ⟨S2x1536x7168, .bf16⟩
  | .hbm, ⟨103, _⟩ => ⟨S2x1536x7168, .bf16⟩
  | .hbm, ⟨104, _⟩ => ⟨S2x3072x7168, .bf16⟩
  | .hbm, ⟨105, _⟩ => ⟨S2x1024x7168, .bf16⟩
  | .hbm, ⟨106, _⟩ => ⟨S2x4096x7168, .bf16⟩
  | .hbm, ⟨107, _⟩ => ⟨S2x28x1536x768, .bf16⟩
  | .hbm, ⟨108, _⟩ => ⟨S2x28x1536x768, .bf16⟩
  | .hbm, ⟨109, _⟩ => ⟨S2x28x3072x768, .bf16⟩
  | .hbm, ⟨110, _⟩ => ⟨S2x28x1024x768, .bf16⟩
  | .hbm, ⟨111, _⟩ => ⟨S2x28x4096x768, .bf16⟩
  | .hbm, ⟨112, _⟩ => ⟨S2x28x256x768, .f32⟩
  | .hbm, ⟨113, _⟩ => ⟨S2x28x256x768, .f32⟩
  | _, _ => ⟨S2x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_v42 : Ref sig .tc := ⟨.hbm, 62, rfl⟩
abbrev main_cst_0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_1 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_2 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩

abbrev nD : Nat := 1
abbrev τ : Topo := Topo.v7x

variable {F : FTy → Type} [FloatOps F]
-- ==== Third.lean ====
abbrev S2x4096x7168 : Shape := ⟨3, ![2, 4096, 7168]⟩
abbrev S2x4096x28 : Shape := ⟨3, ![2, 4096, 28]⟩
abbrev S2x28x256x768 : Shape := ⟨4, ![2, 28, 256, 768]⟩
abbrev S2x28x4096x768 : Shape := ⟨4, ![2, 28, 4096, 768]⟩
abbrev S28x2x4096 : Shape := ⟨3, ![28, 2, 4096]⟩
abbrev S1x512x512 : Shape := ⟨3, ![1, 512, 512]⟩
abbrev S2x2x512 : Shape := ⟨3, ![2, 2, 512]⟩
abbrev S1x2x256x768 : Shape := ⟨4, ![1, 2, 256, 768]⟩
abbrev S1x2x512x768 : Shape := ⟨4, ![1, 2, 512, 768]⟩
abbrev S2x256x768 : Shape := ⟨3, ![2, 256, 768]⟩
abbrev S1x1x256x768 : Shape := ⟨4, ![1, 1, 256, 768]⟩
abbrev S256x768 : Shape := ⟨2, ![256, 768]⟩
abbrev S1x256x768 : Shape := ⟨3, ![1, 256, 768]⟩
abbrev S1x1x256 : Shape := ⟨3, ![1, 1, 256]⟩
abbrev S1x256 : Shape := ⟨2, ![1, 256]⟩
abbrev S1x128 : Shape := ⟨2, ![1, 128]⟩
abbrev S128x128 : Shape := ⟨2, ![128, 128]⟩
abbrev S256x128 : Shape := ⟨2, ![256, 128]⟩
abbrev S1x256x256 : Shape := ⟨3, ![1, 256, 256]⟩
abbrev S256x256 : Shape := ⟨2, ![256, 256]⟩

abbrev nBuf : Space → Nat
  | .hbm => 19
  | .vmem => 31
  | .smem => 0
  | _ => 0

abbrev bufTy : (tb : Table) → Fin (tcTables nBuf tb) → BufTy
  | .hbm, ⟨0, _⟩ => ⟨S2x4096x7168, .fp8e4m3⟩
  | .hbm, ⟨1, _⟩ => ⟨S2x4096x28, .f32⟩
  | .hbm, ⟨2, _⟩ => ⟨S2x4096x7168, .fp8e4m3⟩
  | .hbm, ⟨3, _⟩ => ⟨S2x4096x28, .f32⟩
  | .hbm, ⟨4, _⟩ => ⟨S2x4096x7168, .bf16⟩
  | .hbm, ⟨5, _⟩ => ⟨S2x4096x28, .f32⟩
  | .hbm, ⟨6, _⟩ => ⟨S2x28x256x768, .f32⟩
  | .hbm, ⟨7, _⟩ => ⟨S2x28x256x768, .f32⟩
  | .hbm, ⟨8, _⟩ => ⟨S2x28x256x768, .f32⟩
  | .hbm, ⟨9, _⟩ => ⟨S2x4096x7168, .bf16⟩
  | .hbm, ⟨10, _⟩ => ⟨S2x28x4096x768, .bf16⟩
  | .hbm, ⟨11, _⟩ => ⟨S28x2x4096, .f32⟩
  | .hbm, ⟨12, _⟩ => ⟨S28x2x4096, .f32⟩
  | .hbm, ⟨13, _⟩ => ⟨S28x2x4096, .f32⟩
  | .hbm, ⟨14, _⟩ => ⟨S2x4096x7168, .bf16⟩
  | .hbm, ⟨15, _⟩ => ⟨S2x28x4096x768, .bf16⟩
  | .hbm, ⟨16, _⟩ => ⟨S2x28x256x768, .f32⟩
  | .hbm, ⟨17, _⟩ => ⟨S2x28x256x768, .f32⟩
  | .hbm, ⟨18, _⟩ => ⟨S2x28x256x768, .f32⟩
  | .local _ .vmem, ⟨0, _⟩ => ⟨S1x512x512, .fp8e4m3⟩
  | .local _ .vmem, ⟨1, _⟩ => ⟨S1x512x512, .fp8e4m3⟩
  | .local _ .vmem, ⟨2, _⟩ => ⟨S1x512x512, .fp8e4m3⟩
  | .local _ .vmem, ⟨3, _⟩ => ⟨S1x512x512, .fp8e4m3⟩
  | .local _ .vmem, ⟨4, _⟩ => ⟨S1x512x512, .bf16⟩
  | .local _ .vmem, ⟨5, _⟩ => ⟨S1x512x512, .bf16⟩
  | .local _ .vmem, ⟨6, _⟩ => ⟨S2x2x512, .f32⟩
  | .local _ .vmem, ⟨7, _⟩ => ⟨S2x2x512, .f32⟩
  | .local _ .vmem, ⟨8, _⟩ => ⟨S2x2x512, .f32⟩
  | .local _ .vmem, ⟨9, _⟩ => ⟨S2x2x512, .f32⟩
  | .local _ .vmem, ⟨10, _⟩ => ⟨S2x2x512, .f32⟩
  | .local _ .vmem, ⟨11, _⟩ => ⟨S2x2x512, .f32⟩
  | .local _ .vmem, ⟨12, _⟩ => ⟨S1x2x256x768, .f32⟩
  | .local _ .vmem, ⟨13, _⟩ => ⟨S1x2x256x768, .f32⟩
  | .local _ .vmem, ⟨14, _⟩ => ⟨S1x2x256x768, .f32⟩
  | .local _ .vmem, ⟨15, _⟩ => ⟨S1x2x256x768, .f32⟩
  | .local _ .vmem, ⟨16, _⟩ => ⟨S1x2x256x768, .f32⟩
  | .local _ .vmem, ⟨17, _⟩ => ⟨S1x2x256x768, .f32⟩
  | .local _ .vmem, ⟨18, _⟩ => ⟨S1x512x512, .bf16⟩
  | .local _ .vmem, ⟨19, _⟩ => ⟨S1x512x512, .bf16⟩
  | .local _ .vmem, ⟨20, _⟩ => ⟨S1x2x512x768, .bf16⟩
  | .local _ .vmem, ⟨21, _⟩ => ⟨S1x2x512x768, .bf16⟩
  | .local _ .vmem, ⟨22, _⟩ => ⟨S1x2x256x768, .f32⟩
  | .local _ .vmem, ⟨23, _⟩ => ⟨S1x2x256x768, .f32⟩
  | .local _ .vmem, ⟨24, _⟩ => ⟨S1x2x256x768, .f32⟩
  | .local _ .vmem, ⟨25, _⟩ => ⟨S1x2x256x768, .f32⟩
  | .local _ .vmem, ⟨26, _⟩ => ⟨S1x2x256x768, .f32⟩
  | .local _ .vmem, ⟨27, _⟩ => ⟨S1x2x256x768, .f32⟩
  | .local _ .vmem, ⟨28, _⟩ => ⟨S2x256x768, .bf16⟩
  | .local _ .vmem, ⟨29, _⟩ => ⟨S2x256x768, .bf16⟩
  | .local _ .vmem, ⟨30, _⟩ => ⟨S2x256x768, .bf16⟩
  | _, _ => ⟨S2x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![2, 14, 2], ![false, false, false]⟩

def k0_off1 (i : grid0.Coords) : Fin 3 → Nat :=
  let c0 : Index := 0#32
  let arg0 : BitVec 32 := BitVec.ofNat 32 (i 0).val
  let v3 : Index := Scalar.indexCast arg0
  let c0_1 : Index := 0#32
  ![0, v3.toNat, 0]
def k0_off2 (i : grid0.Coords) : Fin 3 → Nat :=
  let c1 : Index := 1#32
  let arg0 : BitVec 32 := BitVec.ofNat 32 (i 0).val
  let v143 : Index := Scalar.indexCast arg0
  let c0_81 : Index := 0#32
  ![1, v143.toNat, 0]
def k0_off3 (i : grid0.Coords) : Fin 3 → Nat :=
  let c0_161 : Index := 0#32
  let arg0 : BitVec 32 := BitVec.ofNat 32 (i 0).val
  let v283 : Index := Scalar.indexCast arg0
  let c256_162 : Index := 256#32
  ![0, v283.toNat, 256]
def k0_off4 (i : grid0.Coords) : Fin 3 → Nat :=
  let c1_243 : Index := 1#32
  let arg0 : BitVec 32 := BitVec.ofNat 32 (i 0).val
  let v423 : Index := Scalar.indexCast arg0
  let c256_244 : Index := 256#32
  ![1, v423.toNat, 256]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  ![arg0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  let c0_i32_0 : BitVec 32 := 0#32
  ![arg1.toNat, c0_i32.toNat, v0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  ![arg0.toNat, v0.toNat, arg1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  let c0_i32_0 : BitVec 32 := 0#32
  ![arg0.toNat, arg1.toNat, v0.toNat, c0_i32.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S2x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x2x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2x512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2x256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x2x256x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x2x256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== ThirdIdeal.lean ====
variable {F : FTy → Type} [FloatOps F] [Named F]
def κ : String → Option EReal := fun
  | "neg_log2_e" => some ((-((Real.log 2)⁻¹) : ℝ) : EReal)
  | _ => none
-- ==== ThirdReferenceIdeal.lean ====
abbrev S2x4096x7168 : Shape := ⟨3, ![2, 4096, 7168]⟩
abbrev S2x4096x28 : Shape := ⟨3, ![2, 4096, 28]⟩
abbrev S2x28x256x768 : Shape := ⟨4, ![2, 28, 256, 768]⟩
abbrev S2x28x4096x768 : Shape := ⟨4, ![2, 28, 4096, 768]⟩
abbrev S2x1024x7168 : Shape := ⟨3, ![2, 1024, 7168]⟩
abbrev S2x1024x28x256 : Shape := ⟨4, ![2, 1024, 28, 256]⟩
abbrev S2x1024x28 : Shape := ⟨3, ![2, 1024, 28]⟩
abbrev S2x28x768x256 : Shape := ⟨4, ![2, 28, 768, 256]⟩
abbrev S2x28x768x1024 : Shape := ⟨4, ![2, 28, 768, 1024]⟩
abbrev S2x1024x28x768 : Shape := ⟨4, ![2, 1024, 28, 768]⟩
abbrev S2x1024x28x1 : Shape := ⟨4, ![2, 1024, 28, 1]⟩
abbrev S_ : Shape := ⟨0, ![]⟩
abbrev S2x28x256x1024 : Shape := ⟨4, ![2, 28, 256, 1024]⟩
abbrev S2x3072x7168 : Shape := ⟨3, ![2, 3072, 7168]⟩
abbrev S2x28x1024x768 : Shape := ⟨4, ![2, 28, 1024, 768]⟩
abbrev S2x28x3072x768 : Shape := ⟨4, ![2, 28, 3072, 768]⟩

abbrev nBuf : Space → Nat
  | .hbm => 112
  | .vmem => 4
  | .smem => 0
  | _ => 0

abbrev bufTy : (tb : Table) → Fin (tcTables nBuf tb) → BufTy
  | .hbm, ⟨0, _⟩ => ⟨S2x4096x7168, .fp8e4m3⟩
  | .hbm, ⟨1, _⟩ => ⟨S2x4096x28, .f32⟩
  | .hbm, ⟨2, _⟩ => ⟨S2x4096x7168, .fp8e4m3⟩
  | .hbm, ⟨3, _⟩ => ⟨S2x4096x28, .f32⟩
  | .hbm, ⟨4, _⟩ => ⟨S2x4096x7168, .bf16⟩
  | .hbm, ⟨5, _⟩ => ⟨S2x4096x28, .f32⟩
  | .hbm, ⟨6, _⟩ => ⟨S2x28x256x768, .f32⟩
  | .hbm, ⟨7, _⟩ => ⟨S2x28x256x768, .f32⟩
  | .hbm, ⟨8, _⟩ => ⟨S2x28x256x768, .f32⟩
  | .hbm, ⟨9, _⟩ => ⟨S2x4096x7168, .bf16⟩
  | .hbm, ⟨10, _⟩ => ⟨S2x28x4096x768, .bf16⟩
  | .hbm, ⟨11, _⟩ => ⟨S2x4096x7168, .bf16⟩
  | .hbm, ⟨12, _⟩ => ⟨S2x4096x7168, .bf16⟩
  | .hbm, ⟨13, _⟩ => ⟨S2x1024x7168, .bf16⟩
  | .hbm, ⟨14, _⟩ => ⟨S2x1024x28x256, .bf16⟩
  | .hbm, ⟨15, _⟩ => ⟨S2x1024x7168, .bf16⟩
  | .hbm, ⟨16, _⟩ => ⟨S2x1024x28x256, .bf16⟩
  | .hbm, ⟨17, _⟩ => ⟨S2x1024x7168, .bf16⟩
  | .hbm, ⟨18, _⟩ => ⟨S2x1024x28x256, .bf16⟩
  | .hbm, ⟨19, _⟩ => ⟨S2x1024x28, .f32⟩
  | .hbm, ⟨20, _⟩ => ⟨S2x1024x28, .f32⟩
  | .hbm, ⟨21, _⟩ => ⟨S2x1024x28, .f32⟩
  | .hbm, ⟨22, _⟩ => ⟨S2x28x768x256, .f32⟩
  | .hbm, ⟨23, _⟩ => ⟨S2x28x768x256, .f32⟩
  | .hbm, ⟨24, _⟩ => ⟨S2x28x768x256, .bf16⟩
  | .hbm, ⟨25, _⟩ => ⟨S2x28x768x256, .bf16⟩
  | .hbm, ⟨26, _⟩ => ⟨S2x28x256x768, .bf16⟩
  | .hbm, ⟨27, _⟩ => ⟨S2x28x768x1024, .f32⟩
  | .hbm, ⟨28, _⟩ => ⟨S2x1024x28x768, .f32⟩
  | .hbm, ⟨29, _⟩ => ⟨S2x1024x28x1, .f32⟩
  | .hbm, ⟨30, _⟩ => ⟨S2x1024x28x768, .f32⟩
  | .hbm, ⟨31, _⟩ => ⟨S2x1024x28x768, .f32⟩
  | .hbm, ⟨32, _⟩ => ⟨S2x28x768x1024, .f32⟩
  | .hbm, ⟨33, _⟩ => ⟨S2x1024x28x768, .f32⟩
  | .hbm, ⟨34, _⟩ => ⟨S2x1024x28x1, .f32⟩
  | .hbm, ⟨35, _⟩ => ⟨S2x1024x28x768, .f32⟩
  | .hbm, ⟨36, _⟩ => ⟨S2x1024x28x768, .f32⟩
  | .hbm, ⟨37, _⟩ => ⟨S2x1024x28x768, .f32⟩
  | .hbm, ⟨38, _⟩ => ⟨S2x1024x28x768, .f32⟩
  | .hbm, ⟨39, _⟩ => ⟨S_, .f32⟩
  | .hbm, ⟨40, _⟩ => ⟨S2x1024x28x768, .f32⟩
  | .hbm, ⟨41, _⟩ => ⟨S2x1024x28x768, .f32⟩
  | .hbm, ⟨42, _⟩ => ⟨S_, .f32⟩
  | .hbm, ⟨43, _⟩ => ⟨S2x1024x28x768, .f32⟩
  | .hbm, ⟨44, _⟩ => ⟨S2x1024x28x768, .f32⟩
  | .hbm, ⟨45, _⟩ => ⟨S2x1024x28x768, .f32⟩
  | .hbm, ⟨46, _⟩ => ⟨S2x1024x28x768, .f32⟩
  | .hbm, ⟨47, _⟩ => ⟨S2x1024x28x768, .bf16⟩
  | .hbm, ⟨48, _⟩ => ⟨S2x28x256x1024, .f32⟩
  | .hbm, ⟨49, _⟩ => ⟨S2x1024x28x256, .f32⟩
  | .hbm, ⟨50, _⟩ => ⟨S2x28x768x1024, .f32⟩
  | .hbm, ⟨51, _⟩ => ⟨S2x1024x28x768, .f32⟩
  | .hbm, ⟨52, _⟩ => ⟨S2x1024x28x1, .f32⟩
  | .hbm, ⟨53, _⟩ => ⟨S2x1024x28x768, .f32⟩
  | .hbm, ⟨54, _⟩ => ⟨S2x1024x28x768, .f32⟩
  | .hbm, ⟨55, _⟩ => ⟨S2x28x768x1024, .f32⟩
  | .hbm, ⟨56, _⟩ => ⟨S2x1024x28x768, .f32⟩
  | .hbm, ⟨57, _⟩ => ⟨S2x1024x28x1, .f32⟩
  | .hbm, ⟨58, _⟩ => ⟨S2x1024x28x768, .f32⟩
  | .hbm, ⟨59, _⟩ => ⟨S2x1024x28x768, .f32⟩
  | .hbm, ⟨60, _⟩ => ⟨S2x1024x28x768, .f32⟩
  | .hbm, ⟨61, _⟩ => ⟨S2x1024x28x768, .f32⟩
  | .hbm, ⟨62, _⟩ => ⟨S_, .f32⟩
  | .hbm, ⟨63, _⟩ => ⟨S2x1024x28x768, .f32⟩
  | .hbm, ⟨64, _⟩ => ⟨S2x1024x28x768, .f32⟩
  | .hbm, ⟨65, _⟩ => ⟨S_, .f32⟩
  | .hbm, ⟨66, _⟩ => ⟨S2x1024x28x768, .f32⟩
  | .hbm, ⟨67, _⟩ => ⟨S2x1024x28x768, .f32⟩
  | .hbm, ⟨68, _⟩ => ⟨S2x1024x28x768, .f32⟩
  | .hbm, ⟨69, _⟩ => ⟨S2x1024x28x768, .f32⟩
  | .hbm, ⟨70, _⟩ => ⟨S2x1024x28x768, .bf16⟩
  | .hbm, ⟨71, _⟩ => ⟨S2x1024x28x1, .f32⟩
  | .hbm, ⟨72, _⟩ => ⟨S2x1024x28x1, .f32⟩
  | .hbm, ⟨73, _⟩ => ⟨S2x1024x28x256, .f32⟩
  | .hbm, ⟨74, _⟩ => ⟨S2x1024x28x256, .f32⟩
  | .hbm, ⟨75, _⟩ => ⟨S2x1024x28x256, .f32⟩
  | .hbm, ⟨76, _⟩ => ⟨S2x1024x28x1, .f32⟩
  | .hbm, ⟨77, _⟩ => ⟨S2x1024x28x1, .f32⟩
  | .hbm, ⟨78, _⟩ => ⟨S2x28x768x1024, .f32⟩
  | .hbm, ⟨79, _⟩ => ⟨S2x1024x28x768, .f32⟩
  | .hbm, ⟨80, _⟩ => ⟨S2x1024x28x768, .f32⟩
  | .hbm, ⟨81, _⟩ => ⟨S2x1024x28x768, .f32⟩
  | .hbm, ⟨82, _⟩ => ⟨S2x1024x28x768, .f32⟩
  | .hbm, ⟨83, _⟩ => ⟨S2x1024x28x768, .f32⟩
  | .hbm, ⟨84, _⟩ => ⟨S2x1024x28x768, .f32⟩
  | .hbm, ⟨85, _⟩ => ⟨S_, .f32⟩
  | .hbm, ⟨86, _⟩ => ⟨S2x1024x28x768, .f32⟩
  | .hbm, ⟨87, _⟩ => ⟨S2x1024x28x768, .f32⟩
  | .hbm, ⟨88, _⟩ => ⟨S2x1024x28x768, .f32⟩
  | .hbm, ⟨89, _⟩ => ⟨S_, .f32⟩
  | .hbm, ⟨90, _⟩ => ⟨S2x1024x28x768, .f32⟩
  | .hbm, ⟨91, _⟩ => ⟨S2x1024x28x768, .f32⟩
  | .hbm, ⟨92, _⟩ => ⟨S2x1024x28x768, .f32⟩
  | .hbm, ⟨93, _⟩ => ⟨S2x1024x28x1, .f32⟩
  | .hbm, ⟨94, _⟩ => ⟨S2x1024x28x1, .bf16⟩
  | .hbm, ⟨95, _⟩ => ⟨S2x1024x28x256, .bf16⟩
  | .hbm, ⟨96, _⟩ => ⟨S2x1024x28x256, .bf16⟩
  | .hbm, ⟨97, _⟩ => ⟨S2x1024x28x256, .bf16⟩
  | .hbm, ⟨98, _⟩ => ⟨S2x28x256x768, .f32⟩
  | .hbm, ⟨99, _⟩ => ⟨S2x1024x28x768, .bf16⟩
  | .hbm, ⟨100, _⟩ => ⟨S2x28x768x256, .f32⟩
  | .hbm, ⟨101, _⟩ => ⟨S2x1024x28x768, .bf16⟩
  | .hbm, ⟨102, _⟩ => ⟨S2x28x768x256, .f32⟩
  | .hbm, ⟨103, _⟩ => ⟨S2x1024x28x256, .bf16⟩
  | .hbm, ⟨104, _⟩ => ⟨S2x1024x7168, .bf16⟩
  | .hbm, ⟨105, _⟩ => ⟨S2x3072x7168, .bf16⟩
  | .hbm, ⟨106, _⟩ => ⟨S2x4096x7168, .bf16⟩
  | .hbm, ⟨107, _⟩ => ⟨S2x28x1024x768, .bf16⟩
  | .hbm, ⟨108, _⟩ => ⟨S2x28x3072x768, .bf16⟩
  | .hbm, ⟨109, _⟩ => ⟨S2x28x4096x768, .bf16⟩
  | .hbm, ⟨110, _⟩ => ⟨S2x28x256x768, .f32⟩
  | .hbm, ⟨111, _⟩ => ⟨S2x28x256x768, .f32⟩
  | .local _ .vmem, ⟨0, _⟩ => ⟨S2x4096x7168, .fp8e4m3⟩
  | .local _ .vmem, ⟨1, _⟩ => ⟨S2x4096x7168, .fp8e4m3⟩
  | .local _ .vmem, ⟨2, _⟩ => ⟨S2x4096x7168, .bf16⟩
  | .local _ .vmem, ⟨3, _⟩ => ⟨S2x4096x7168, .bf16⟩
  | _, _ => ⟨S2x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst : Ref sig .tc := ⟨.hbm, 62, rfl⟩
abbrev main_v42 : Ref sig .tc := ⟨.hbm, 63, rfl⟩
abbrev main_v43 : Ref sig .tc := ⟨.hbm, 64, rfl⟩
abbrev main_cst_0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_1 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_2 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ThirdPlainIdeal.lean ====
abbrev S2x4096x7168 : Shape := ⟨3, ![2, 4096, 7168]⟩
abbrev S2x4096x28 : Shape := ⟨3, ![2, 4096, 28]⟩
abbrev S2x28x256x768 : Shape := ⟨4, ![2, 28, 256, 768]⟩
abbrev S2x28x4096x768 : Shape := ⟨4, ![2, 28, 4096, 768]⟩
abbrev S2x1024x7168 : Shape := ⟨3, ![2, 1024, 7168]⟩
abbrev S2x1024x28x256 : Shape := ⟨4, ![2, 1024, 28, 256]⟩
abbrev S2x1024x28 : Shape := ⟨3, ![2, 1024, 28]⟩
abbrev S2x28x768x256 : Shape := ⟨4, ![2, 28, 768, 256]⟩
abbrev S2x28x768x1024 : Shape := ⟨4, ![2, 28, 768, 1024]⟩
abbrev S2x1024x28x768 : Shape := ⟨4, ![2, 1024, 28, 768]⟩
abbrev S2x1024x28x1 : Shape := ⟨4, ![2, 1024, 28, 1]⟩
abbrev S_ : Shape := ⟨0, ![]⟩
abbrev S2x28x256x1024 : Shape := ⟨4, ![2, 28, 256, 1024]⟩
abbrev S2x3072x7168 : Shape := ⟨3, ![2, 3072, 7168]⟩
abbrev S2x28x1024x768 : Shape := ⟨4, ![2, 28, 1024, 768]⟩
abbrev S2x28x3072x768 : Shape := ⟨4, ![2, 28, 3072, 768]⟩

abbrev nBuf : Space → Nat
  | .hbm => 110
  | .vmem => 0
  | .smem => 0
  | _ => 0

abbrev bufTy : (tb : Table) → Fin (tcTables nBuf tb) → BufTy
  | .hbm, ⟨0, _⟩ => ⟨S2x4096x7168, .bf16⟩
  | .hbm, ⟨1, _⟩ => ⟨S2x4096x28, .f32⟩
  | .hbm, ⟨2, _⟩ => ⟨S2x4096x7168, .bf16⟩
  | .hbm, ⟨3, _⟩ => ⟨S2x4096x28, .f32⟩
  | .hbm, ⟨4, _⟩ => ⟨S2x4096x7168, .bf16⟩
  | .hbm, ⟨5, _⟩ => ⟨S2x4096x28, .f32⟩
  | .hbm, ⟨6, _⟩ => ⟨S2x28x256x768, .f32⟩
  | .hbm, ⟨7, _⟩ => ⟨S2x28x256x768, .f32⟩
  | .hbm, ⟨8, _⟩ => ⟨S2x28x256x768, .f32⟩
  | .hbm, ⟨9, _⟩ => ⟨S2x4096x7168, .bf16⟩
  | .hbm, ⟨10, _⟩ => ⟨S2x28x4096x768, .bf16⟩
  | .hbm, ⟨11, _⟩ => ⟨S2x1024x7168, .bf16⟩
  | .hbm, ⟨12, _⟩ => ⟨S2x1024x28x256, .bf16⟩
  | .hbm, ⟨13, _⟩ => ⟨S2x1024x7168, .bf16⟩
  | .hbm, ⟨14, _⟩ => ⟨S2x1024x28x256, .bf16⟩
  | .hbm, ⟨15, _⟩ => ⟨S2x1024x7168, .bf16⟩
  | .hbm, ⟨16, _⟩ => ⟨S2x1024x28x256, .bf16⟩
  | .hbm, ⟨17, _⟩ => ⟨S2x1024x28, .f32⟩
  | .hbm, ⟨18, _⟩ => ⟨S2x1024x28, .f32⟩
  | .hbm, ⟨19, _⟩ => ⟨S2x1024x28, .f32⟩
  | .hbm, ⟨20, _⟩ => ⟨S2x28x768x256, .f32⟩
  | .hbm, ⟨21, _⟩ => ⟨S2x28x768x256, .f32⟩
  | .hbm, ⟨22, _⟩ => ⟨S2x28x768x256, .bf16⟩
  | .hbm, ⟨23, _⟩ => ⟨S2x28x768x256, .bf16⟩
  | .hbm, ⟨24, _⟩ => ⟨S2x28x256x768, .bf16⟩
  | .hbm, ⟨25, _⟩ => ⟨S2x28x768x1024, .f32⟩
  | .hbm, ⟨26, _⟩ => ⟨S2x1024x28x768, .f32⟩
  | .hbm, ⟨27, _⟩ => ⟨S2x1024x28x1, .f32⟩
  | .hbm, ⟨28, _⟩ => ⟨S2x1024x28x768, .f32⟩
  | .hbm, ⟨29, _⟩ => ⟨S2x1024x28x768, .f32⟩
  | .hbm, ⟨30, _⟩ => ⟨S2x28x768x1024, .f32⟩
  | .hbm, ⟨31, _⟩ => ⟨S2x1024x28x768, .f32⟩
  | .hbm, ⟨32, _⟩ => ⟨S2x1024x28x1, .f32⟩
  | .hbm, ⟨33, _⟩ => ⟨S2x1024x28x768, .f32⟩
  | .hbm, ⟨34, _⟩ => ⟨S2x1024x28x768, .f32⟩
  | .hbm, ⟨35, _⟩ => ⟨S2x1024x28x768, .f32⟩
  | .hbm, ⟨36, _⟩ => ⟨S2x1024x28x768, .f32⟩
  | .hbm, ⟨37, _⟩ => ⟨S_, .f32⟩
  | .hbm, ⟨38, _⟩ => ⟨S2x1024x28x768, .f32⟩
  | .hbm, ⟨39, _⟩ => ⟨S2x1024x28x768, .f32⟩
  | .hbm, ⟨40, _⟩ => ⟨S_, .f32⟩
  | .hbm, ⟨41, _⟩ => ⟨S2x1024x28x768, .f32⟩
  | .hbm, ⟨42, _⟩ => ⟨S2x1024x28x768, .f32⟩
  | .hbm, ⟨43, _⟩ => ⟨S2x1024x28x768, .f32⟩
  | .hbm, ⟨44, _⟩ => ⟨S2x1024x28x768, .f32⟩
  | .hbm, ⟨45, _⟩ => ⟨S2x1024x28x768, .bf16⟩
  | .hbm, ⟨46, _⟩ => ⟨S2x28x256x1024, .f32⟩
  | .hbm, ⟨47, _⟩ => ⟨S2x1024x28x256, .f32⟩
  | .hbm, ⟨48, _⟩ => ⟨S2x28x768x1024, .f32⟩
  | .hbm, ⟨49, _⟩ => ⟨S2x1024x28x768, .f32⟩
  | .hbm, ⟨50, _⟩ => ⟨S2x1024x28x1, .f32⟩
  | .hbm, ⟨51, _⟩ => ⟨S2x1024x28x768, .f32⟩
  | .hbm, ⟨52, _⟩ => ⟨S2x1024x28x768, .f32⟩
  | .hbm, ⟨53, _⟩ => ⟨S2x28x768x1024, .f32⟩
  | .hbm, ⟨54, _⟩ => ⟨S2x1024x28x768, .f32⟩
  | .hbm, ⟨55, _⟩ => ⟨S2x1024x28x1, .f32⟩
  | .hbm, ⟨56, _⟩ => ⟨S2x1024x28x768, .f32⟩
  | .hbm, ⟨57, _⟩ => ⟨S2x1024x28x768, .f32⟩
  | .hbm, ⟨58, _⟩ => ⟨S2x1024x28x768, .f32⟩
  | .hbm, ⟨59, _⟩ => ⟨S2x1024x28x768, .f32⟩
  | .hbm, ⟨60, _⟩ => ⟨S_, .f32⟩
  | .hbm, ⟨61, _⟩ => ⟨S2x1024x28x768, .f32⟩
  | .hbm, ⟨62, _⟩ => ⟨S2x1024x28x768, .f32⟩
  | .hbm, ⟨63, _⟩ => ⟨S_, .f32⟩
  | .hbm, ⟨64, _⟩ => ⟨S2x1024x28x768, .f32⟩
  | .hbm, ⟨65, _⟩ => ⟨S2x1024x28x768, .f32⟩
  | .hbm, ⟨66, _⟩ => ⟨S2x1024x28x768, .f32⟩
  | .hbm, ⟨67, _⟩ => ⟨S2x1024x28x768, .f32⟩
  | .hbm, ⟨68, _⟩ => ⟨S2x1024x28x768, .bf16⟩
  | .hbm, ⟨69, _⟩ => ⟨S2x1024x28x1, .f32⟩
  | .hbm, ⟨70, _⟩ => ⟨S2x1024x28x1, .f32⟩
  | .hbm, ⟨71, _⟩ => ⟨S2x1024x28x256, .f32⟩
  | .hbm, ⟨72, _⟩ => ⟨S2x1024x28x256, .f32⟩
  | .hbm, ⟨73, _⟩ => ⟨S2x1024x28x256, .f32⟩
  | .hbm, ⟨74, _⟩ => ⟨S2x1024x28x1, .f32⟩
  | .hbm, ⟨75, _⟩ => ⟨S2x1024x28x1, .f32⟩
  | .hbm, ⟨76, _⟩ => ⟨S2x28x768x1024, .f32⟩
  | .hbm, ⟨77, _⟩ => ⟨S2x1024x28x768, .f32⟩
  | .hbm, ⟨78, _⟩ => ⟨S2x1024x28x768, .f32⟩
  | .hbm, ⟨79, _⟩ => ⟨S2x1024x28x768, .f32⟩
  | .hbm, ⟨80, _⟩ => ⟨S2x1024x28x768, .f32⟩
  | .hbm, ⟨81, _⟩ => ⟨S2x1024x28x768, .f32⟩
  | .hbm, ⟨82, _⟩ => ⟨S2x1024x28x768, .f32⟩
  | .hbm, ⟨83, _⟩ => ⟨S_, .f32⟩
  | .hbm, ⟨84, _⟩ => ⟨S2x1024x28x768, .f32⟩
  | .hbm, ⟨85, _⟩ => ⟨S2x1024x28x768, .f32⟩
  | .hbm, ⟨86, _⟩ => ⟨S2x1024x28x768, .f32⟩
  | .hbm, ⟨87, _⟩ => ⟨S_, .f32⟩
  | .hbm, ⟨88, _⟩ => ⟨S2x1024x28x768, .f32⟩
  | .hbm, ⟨89, _⟩ => ⟨S2x1024x28x768, .f32⟩
  | .hbm, ⟨90, _⟩ => ⟨S2x1024x28x768, .f32⟩
  | .hbm, ⟨91, _⟩ => ⟨S2x1024x28x1, .f32⟩
  | .hbm, ⟨92, _⟩ => ⟨S2x1024x28x1, .bf16⟩
  | .hbm, ⟨93, _⟩ => ⟨S2x1024x28x256, .bf16⟩
  | .hbm, ⟨94, _⟩ => ⟨S2x1024x28x256, .bf16⟩
  | .hbm, ⟨95, _⟩ => ⟨S2x1024x28x256, .bf16⟩
  | .hbm, ⟨96, _⟩ => ⟨S2x28x256x768, .f32⟩
  | .hbm, ⟨97, _⟩ => ⟨S2x1024x28x768, .bf16⟩
  | .hbm, ⟨98, _⟩ => ⟨S2x28x768x256, .f32⟩
  | .hbm, ⟨99, _⟩ => ⟨S2x1024x28x768, .bf16⟩
  | .hbm, ⟨100, _⟩ => ⟨S2x28x768x256, .f32⟩
  | .hbm, ⟨101, _⟩ => ⟨S2x1024x28x256, .bf16⟩
  | .hbm, ⟨102, _⟩ => ⟨S2x1024x7168, .bf16⟩
  | .hbm, ⟨103, _⟩ => ⟨S2x3072x7168, .bf16⟩
  | .hbm, ⟨104, _⟩ => ⟨S2x4096x7168, .bf16⟩
  | .hbm, ⟨105, _⟩ => ⟨S2x28x1024x768, .bf16⟩
  | .hbm, ⟨106, _⟩ => ⟨S2x28x3072x768, .bf16⟩
  | .hbm, ⟨107, _⟩ => ⟨S2x28x4096x768, .bf16⟩
  | .hbm, ⟨108, _⟩ => ⟨S2x28x256x768, .f32⟩
  | .hbm, ⟨109, _⟩ => ⟨S2x28x256x768, .f32⟩
  | _, _ => ⟨S2x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_v42 : Ref sig .tc := ⟨.hbm, 62, rfl⟩
abbrev main_cst_0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_1 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_2 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩

abbrev nD : Nat := 1
abbrev τ : Topo := Topo.v7x

variable {F : FTy → Type} [FloatOps F]
-- ==== Proof.Spec.lean ====
/-
  The mathematics of one chunk, on the extended reals: one token's hidden activations, its output row and the three
  rows its gradient contributions are made of, for one head with weights `W1`, `W3`, `W2` (all indexed by the head
  dimension first, the hidden dimension second).
-/
module

public import Idealize.ShloMosaic.PureOps.Ideal.Laws
public import Idealize.ShloMosaic.Lib.IdealHost
public import Mathlib.Analysis.SpecialFunctions.Pow.Real

@[expose] public section

noncomputable section

namespace Cert.Spec

open Idealize.ShloMosaic

/-- A weight matrix of one head: head dimension, then hidden dimension. -/
abbrev Mat : Type := Fin 256 → Fin 768 → EReal

/-- A token's row `x` through a weight, times the token's scale. -/
def hidden (W : Mat) (x : Fin 256 → EReal) (s : EReal) (f : Fin 768) : EReal := (∑ d, x d * W d f) * s

/-- The gate `h · σ(h)`. -/
def gate (h : EReal) : EReal := h * Ideal.logistic h

/-- The gated activations. -/
def act (W1 W3 : Mat) (x : Fin 256 → EReal) (s : EReal) (f : Fin 768) : EReal :=
  gate (hidden W1 x s f) * hidden W3 x s f

/-- A token's output row. -/
def out (W1 W3 W2 : Mat) (x : Fin 256 → EReal) (s : EReal) (d : Fin 256) : EReal := ∑ f, act W1 W3 x s f * W2 d f

/-- The gradient that reaches the gated activations: minus the learning rate times the value through `W2`. -/
def back (W2 : Mat) (v : Fin 256 → EReal) (eta : EReal) (f : Fin 768) : EReal := -eta * ∑ d, v d * W2 d f

/-- The gradient at the ungated branch. -/
def dh3 (W1 W2 : Mat) (x : Fin 256 → EReal) (s : EReal) (v : Fin 256 → EReal) (eta : EReal) (f : Fin 768) : EReal :=
  back W2 v eta f * gate (hidden W1 x s f)

/-- The gradient at the gated branch. -/
def dh1 (W1 W3 W2 : Mat) (x : Fin 256 → EReal) (s : EReal) (v : Fin 256 → EReal) (eta : EReal) (f : Fin 768) : EReal :=
  back W2 v eta f * hidden W3 x s f * Ideal.logistic (hidden W1 x s f)
    * (1 + hidden W1 x s f * (1 - Ideal.logistic (hidden W1 x s f)))

/-- Two to the power of `x` over minus the logarithm of two is `e` to the power `-x`, infinities included. -/
theorem exp2_neg_inv_log (x : EReal) : Ideal.exp2 (x * ((-((Real.log 2)⁻¹) : ℝ) : EReal)) = Ideal.exp (-x) := by
  have hl : 0 < Real.log 2 := Real.log_pos (by norm_num)
  have hneg : -((Real.log 2)⁻¹) < 0 := neg_neg_of_pos (inv_pos.mpr hl)
  induction x with
  | bot => rw [EReal.bot_mul_coe_of_neg hneg, EReal.neg_bot, Ideal.exp2_top, Ideal.exp_top]
  | top => rw [EReal.top_mul_coe_of_neg hneg, EReal.neg_top, Ideal.exp2_bot, Ideal.exp_bot]
  | coe r =>
    rw [← EReal.coe_mul, ← EReal.coe_neg, Ideal.exp2_coe, Ideal.exp_coe]
    congr 1
    show (2 : ℝ) ^ (r * -(Real.log 2)⁻¹) = _
    rw [Real.rpow_def_of_pos (by norm_num)]
    congr 1
    field_simp

end Cert.Spec

end
-- ==== Proof.Step.lean ====
/-
  One step of the kernel's body: 256 tokens of one head. The functions below are the body's own vector operations on the
  blocks it loads, written once (the body repeats them for two heads and two groups of tokens); the theorems read them
  at an index, at the ideal values, in terms of Proof/Spec.lean.
-/
module

public import proofs.«01_k».proof.Proof.Spec
public import Idealize.ShloMosaic.PureOps
public import Idealize.ShloMosaic.Lib.ValueIdx
public import Idealize.ShloMosaic.Lib.Pipeline.Value
public import Idealize.ShloMosaic.Lib.MatmulPlain

@[expose] public section

noncomputable section

namespace Cert.Step

open Idealize.ShloMosaic Idealize.ShloMosaic.ValueIdx Cert.Spec

abbrev Tok : Shape := ⟨2, ![256, 256]⟩
abbrev Hid : Shape := ⟨2, ![256, 768]⟩
abbrev Row : Shape := ⟨2, ![1, 256]⟩
abbrev Row1 : Shape := ⟨3, ![1, 1, 256]⟩
abbrev Tok1 : Shape := ⟨3, ![1, 256, 256]⟩
abbrev Hid1 : Shape := ⟨3, ![1, 256, 768]⟩
abbrev Hid2 : Shape := ⟨4, ![1, 1, 256, 768]⟩
abbrev HidT2 : Shape := ⟨4, ![1, 1, 768, 256]⟩
abbrev Half : Shape := ⟨2, ![1, 128]⟩
abbrev Sq : Shape := ⟨2, ![128, 128]⟩
abbrev Col : Shape := ⟨2, ![256, 128]⟩

/-! ## The operations -/

theorem pair_concatenates : Shape.Concatenates [Sq, Sq] Col 0 := by decide
theorem six_concatenate : Shape.Concatenates [Col, Col, Col, Col, Col, Col] Hid 1 := by decide

/-- The tokens' codes as numbers. -/
def tok (x : Vec Ideal Tok1 .fp8e4m3) : FVec Ideal Tok .bf16 :=
  have y : FVec Ideal Tok .fp8e4m3 := shapeCast Tok x (by decide)
  extf .bf16 y (by decide)

/-- The tokens' values. -/
def vtok (x : Vec Ideal Tok1 .bf16) : FVec Ideal Tok .bf16 := shapeCast Tok x (by decide)

/-- A row of per-token numbers. -/
def row (s : Vec Ideal Row1 .f32) : FVec Ideal Row .f32 := shapeCast Row s (by decide)

/-- A row of per-token numbers, negated. -/
def nrow (s : Vec Ideal Row1 .f32) : FVec Ideal Row .f32 :=
  subf (broadcast Row (Scalar.ofBits .f32 0x00000000#32)) (row s)

/-- 128 per-token numbers, each down a row of a square. -/
def square (s : FVec Ideal Half .f32) : FVec Ideal Sq .f32 :=
  transpose Sq [1, 0] (broadcastTo Sq (shapeCast Half s (by decide)) (by decide)) (by decide)

/-- The per-token numbers as 128 equal columns. -/
def columns128 (s : FVec Ideal Row .f32) : FVec Ideal Col .f32 :=
  concatenate Col 0
    [⟨Sq, square (extractStridedSlice Half ![0, 0] s (by decide))⟩, ⟨Sq, square (extractStridedSlice Half ![0, 128] s (by decide))⟩]
    pair_concatenates

/-- The per-token numbers as a column, repeated along the hidden dimension. -/
def column (s : FVec Ideal Row .f32) : FVec Ideal Hid .f32 :=
  concatenate Hid 1 [⟨Col, columns128 s⟩, ⟨Col, columns128 s⟩, ⟨Col, columns128 s⟩, ⟨Col, columns128 s⟩, ⟨Col, columns128 s⟩,
    ⟨Col, columns128 s⟩] six_concatenate

/-- A product of tokens with a weight. -/
def prod (x : FVec Ideal Tok .bf16) (w : Vec Ideal Hid1 .bf16) : FVec Ideal Hid .f32 :=
  have y : FVec Ideal Hid .bf16 := shapeCast Hid w (by decide)
  matmul (DotDims.plain 256 256 768) none x y (constant Hid .f32 0x00000000#32)

/-- The tokens through a weight, times their scales. -/
def proj (x : FVec Ideal Tok .bf16) (w : Vec Ideal Hid1 .bf16) (s : FVec Ideal Hid .f32) : FVec Ideal Hid .f32 :=
  mulf (prod x w) s

/-- The logistic function by powers of two, `c` minus the binary logarithm of `e`. -/
def sig (c : Ideal .f32) (h : FVec Ideal Hid .f32) : FVec Ideal Hid .f32 :=
  divf (broadcast Hid (Scalar.ofBits .f32 0x3F800000#32))
    (addf (broadcast Hid (Scalar.ofBits .f32 0x3F800000#32)) (exp2 (mulf h (broadcast Hid c))))

/-- The gate. -/
def gated (c : Ideal .f32) (h : FVec Ideal Hid .f32) : FVec Ideal Hid .f32 := mulf h (sig c h)

/-- The gated activations. -/
def acts (c : Ideal .f32) (h1 h3 : FVec Ideal Hid .f32) : FVec Ideal Hid .bf16 :=
  truncf .bf16 (mulf (gated c h1) h3) (by decide)

/-- The output rows. -/
def outs (z : FVec Ideal Hid .bf16) (w2 : Vec Ideal Hid1 .bf16) : FVec Ideal Tok1 .bf16 :=
  have w : FVec Ideal Hid .bf16 := shapeCast Hid w2 (by decide)
  have o : FVec Ideal Tok .f32 := matmul (DotDims.transposedRhs 256 768 256) none z w (constant Tok .f32 0x00000000#32)
  shapeCast Tok1 (truncf .bf16 o (by decide)) (by decide)

/-- The activations as they are stored. -/
def actsOut (g : FVec Ideal Hid .bf16) : FVec Ideal Hid2 .bf16 := shapeCast Hid2 g (by decide)

/-- The gradient that reaches the gated activations. -/
def backs (eta : FVec Ideal Hid .f32) (v : FVec Ideal Tok .bf16) (w2 : Vec Ideal Hid1 .bf16) : FVec Ideal Hid .f32 :=
  mulf eta (prod v w2)

/-- The gradient at the ungated branch. -/
def dh3s (c : Ideal .f32) (dg h1 : FVec Ideal Hid .f32) : FVec Ideal Hid .bf16 :=
  truncf .bf16 (mulf dg (gated c h1)) (by decide)

/-- The gradient at the gated branch. -/
def dh1s (c : Ideal .f32) (dg h1 h3 : FVec Ideal Hid .f32) : FVec Ideal Hid .bf16 :=
  truncf .bf16 (mulf (mulf (mulf dg h3) (sig c h1))
    (addf (broadcast Hid (Scalar.ofBits .f32 0x3F800000#32))
      (mulf h1 (subf (broadcast Hid (Scalar.ofBits .f32 0x3F800000#32)) (sig c h1))))) (by decide)

/-- The keys, head dimension first, times their scales. -/
def keysT (x : FVec Ideal Tok .bf16) (s : FVec Ideal Row .f32) : FVec Ideal Tok .bf16 :=
  mulf (transpose Tok [1, 0] x (by decide)) (broadcastTo Tok (truncf .bf16 s (by decide)) (by decide))

/-- The values, head dimension first, times the negated learning rates. -/
def errsT (v : FVec Ideal Tok .bf16) (eta : FVec Ideal Row .f32) : FVec Ideal Tok .bf16 :=
  have w : FVec Ideal Tok .bf16 := transpose Tok [1, 0] v (by decide)
  truncf .bf16 (mulf (broadcastTo Tok eta (by decide)) (extf .f32 w (by decide))) (by decide)

/-- A gradient with these tokens' products added. -/
def accum (l : FVec Ideal Tok .bf16) (r : FVec Ideal Hid .bf16) (acc : Vec Ideal Hid2 .f32) : FVec Ideal Hid2 .f32 :=
  have a : FVec Ideal Hid .f32 := shapeCast Hid acc (by decide)
  shapeCast Hid2 (addf a (matmul (DotDims.plain 256 256 768) none l r (constant Hid .f32 0x00000000#32))) (by decide)

/-- A gradient before its first tokens. -/
def zeros : FVec Ideal Hid2 .f32 :=
  have z : FVec Ideal Hid .f32 := broadcast Hid (Scalar.ofBits .f32 0x00000000#32)
  shapeCast Hid2 z (by decide)

/-- A weight stored hidden dimension first, as the kernel keeps it. -/
def keepT (w : Vec Ideal HidT2 .f32) : FVec Ideal Hid1 .bf16 :=
  have x : FVec Ideal ⟨2, ![768, 256]⟩ .f32 := shapeCast ⟨2, ![768, 256]⟩ w (by decide)
  shapeCast Hid1 (truncf .bf16 (transpose Hid [1, 0] x (by decide)) (by decide)) (by decide)

/-- A weight stored head dimension first, as the kernel keeps it. -/
def keep (w : Vec Ideal Hid2 .f32) : FVec Ideal Hid1 .bf16 :=
  have x : FVec Ideal Hid .f32 := shapeCast Hid w (by decide)
  shapeCast Hid1 (truncf .bf16 x (by decide)) (by decide)

/-! ## One step's results -/

/-- A group's output rows. -/
def yStep (c : Ideal .f32) (q : Vec Ideal Tok1 .fp8e4m3) (qs : Vec Ideal Row1 .f32) (w1 w3 w2 : Vec Ideal Hid1 .bf16) :
    FVec Ideal Tok1 .bf16 :=
  outs (acts c (proj (tok q) w1 (column (row qs))) (proj (tok q) w3 (column (row qs)))) w2

/-- A group's activations for its keys. -/
def gKeys (c : Ideal .f32) (k : Vec Ideal Tok1 .fp8e4m3) (ks : Vec Ideal Row1 .f32) (w1 w3 : Vec Ideal Hid1 .bf16) :
    FVec Ideal Hid .bf16 :=
  acts c (proj (tok k) w1 (column (row ks))) (proj (tok k) w3 (column (row ks)))

/-- The same, as stored. -/
def gStep (c : Ideal .f32) (k : Vec Ideal Tok1 .fp8e4m3) (ks : Vec Ideal Row1 .f32) (w1 w3 : Vec Ideal Hid1 .bf16) :
    FVec Ideal Hid2 .bf16 :=
  actsOut (gKeys c k ks w1 w3)

/-- The first gradient with a group's products added. -/
def g1Step (c : Ideal .f32) (k : Vec Ideal Tok1 .fp8e4m3) (ks : Vec Ideal Row1 .f32) (v : Vec Ideal Tok1 .bf16)
    (eta : Vec Ideal Row1 .f32) (w1 w3 w2 : Vec Ideal Hid1 .bf16) (acc : Vec Ideal Hid2 .f32) : FVec Ideal Hid2 .f32 :=
  accum (keysT (tok k) (row ks)) (dh1s c (backs (column (nrow eta)) (vtok v) w2) (proj (tok k) w1 (column (row ks)))
    (proj (tok k) w3 (column (row ks)))) acc

/-- The third gradient with a group's products added. -/
def g3Step (c : Ideal .f32) (k : Vec Ideal Tok1 .fp8e4m3) (ks : Vec Ideal Row1 .f32) (v : Vec Ideal Tok1 .bf16)
    (eta : Vec Ideal Row1 .f32) (w1 w2 : Vec Ideal Hid1 .bf16) (acc : Vec Ideal Hid2 .f32) : FVec Ideal Hid2 .f32 :=
  accum (keysT (tok k) (row ks)) (dh3s c (backs (column (nrow eta)) (vtok v) w2) (proj (tok k) w1 (column (row ks)))) acc

/-- The second gradient with a group's products added. -/
def g2Step (c : Ideal .f32) (k : Vec Ideal Tok1 .fp8e4m3) (ks : Vec Ideal Row1 .f32) (v : Vec Ideal Tok1 .bf16)
    (eta : Vec Ideal Row1 .f32) (w1 w3 : Vec Ideal Hid1 .bf16) (acc : Vec Ideal Hid2 .f32) : FVec Ideal Hid2 .f32 :=
  accum (errsT (vtok v) (nrow eta)) (gKeys c k ks w1 w3) acc

/-! ## The operations at an index -/

theorem tok_apply (x : Vec Ideal Tok1 .fp8e4m3) (t d : Fin 256) : tok x (ix2 t d) = x (ix3 0 t d) := by
  unfold tok
  rw [extf_apply]
  exact shapeCast_apply x _ _ _ (by rw [Shape.rowMajor_val_two, Shape.rowMajor_val_three]; simp [ix2, ix3])

theorem vtok_apply (x : Vec Ideal Tok1 .bf16) (t d : Fin 256) : vtok x (ix2 t d) = x (ix3 0 t d) :=
  shapeCast_apply x _ _ _ (by rw [Shape.rowMajor_val_two, Shape.rowMajor_val_three]; simp [ix2, ix3])

theorem row_apply (s : Vec Ideal Row1 .f32) (t : Fin 256) : row s (ix2 0 t) = s (ix3 0 0 t) :=
  shapeCast_apply s _ _ _ (by rw [Shape.rowMajor_val_two, Shape.rowMajor_val_three]; simp [ix2, ix3])

theorem nrow_apply (s : Vec Ideal Row1 .f32) (t : Fin 256) : nrow s (ix2 0 t) = -(s (ix3 0 0 t)) := by
  unfold nrow
  rw [subf_apply, broadcast_apply, row_apply]
  show Ideal.ofBits .f32 0x00000000#32 - _ = _
  rw [Ideal.ofBits_zero_f32, sub_eq_add_neg, zero_add]

theorem square_apply (s : FVec Ideal Half .f32) (i j : Fin 128) : square s (ix2 i j) = s (ix2 0 i) := by
  unfold square
  rw [transpose_apply [1, 0] _ _ (ix2 i j) (ix2 j i) (fun b => by match b with | ⟨0, _⟩ => rfl | ⟨1, _⟩ => rfl),
    broadcastTo_apply _ _ (ix2 j i) (ix2 0 i) (fun a => by match a with | ⟨0, _⟩ => rfl | ⟨1, _⟩ => rfl), shapeCast_self]

theorem columns128_apply (s : FVec Ideal Row .f32) (t : Fin 256) (f : Fin 128) : columns128 s (ix2 t f) = s (ix2 0 t) := by
  unfold columns128
  by_cases ht : t.val < 128
  · rw [concatenate_pair_apply_left (t := Col) (s₁ := Sq) (s₂ := Sq) 0 _ _ _ _ rfl (ix2 ⟨t.val, ht⟩ f)
      (fun b => by match b with | ⟨0, _⟩ => rfl | ⟨1, _⟩ => rfl), square_apply]
    exact extractStridedSlice_apply _ s _ _ _ (fun a => by match a with | ⟨0, _⟩ => rfl | ⟨1, _⟩ => exact (Nat.zero_add _).symm)
  · have hlt : t.val - 128 < 128 := by omega
    rw [concatenate_pair_apply_right (t := Col) (s₁ := Sq) (s₂ := Sq) 0 _ _ _ _ rfl rfl (ix2 ⟨t.val - 128, hlt⟩ f)
      (fun b hb => by match b with | ⟨0, _⟩ => exact absurd rfl hb | ⟨1, _⟩ => rfl)
      (by show t.val - 128 + 128 = t.val; omega), square_apply]
    exact extractStridedSlice_apply _ s _ _ _ (fun a => by
      match a with
      | ⟨0, _⟩ => rfl
      | ⟨1, _⟩ => show t.val = 128 + (t.val - 128); omega)

theorem column_apply (s : FVec Ideal Row .f32) (t : Fin 256) (f : Fin 768) : column s (ix2 t f) = s (ix2 0 t) :=
  (concatenate_replicate_apply (t := Hid) (s₁ := Col) 1 6 (columns128 s) six_concatenate rfl (ix2 t f)
    (ix2 t ⟨f.val % 128, Nat.mod_lt _ (by decide)⟩) rfl
    (fun b hb => by match b with | ⟨0, _⟩ => rfl | ⟨1, _⟩ => exact absurd rfl hb)).trans (columns128_apply s t _)

/-- A product from a zero accumulator, at an index. -/
theorem matmul_zero_apply {M K N : ℕ} {φ₁ φ₂ : FTy} (l : FVec Ideal ⟨2, ![M, K]⟩ φ₁) (r : FVec Ideal ⟨2, ![K, N]⟩ φ₂)
    (i : Fin M) (j : Fin N) :
    matmul (DotDims.plain M K N) none l r (constant ⟨2, ![M, N]⟩ .f32 0x00000000#32) (ix2 i j) = ∑ k : Fin K, l (ix2 i k) * r (ix2 k j) := by
  show FloatOps.matmul _ _ _ _ _ _ = _
  rw [Ideal.matmul_plain_apply, constant_apply, Ideal.ofBits_zero_f32, zero_add]

/-- A product with a transposed right operand from a zero accumulator, at an index. -/
theorem matmul_transposed_zero_apply {M K N : ℕ} {φ₁ φ₂ : FTy} (l : FVec Ideal ⟨2, ![M, K]⟩ φ₁)
    (r : FVec Ideal ⟨2, ![N, K]⟩ φ₂) (i : Fin M) (j : Fin N) :
    matmul (DotDims.transposedRhs M K N) none l r (constant ⟨2, ![M, N]⟩ .f32 0x00000000#32) (ix2 i j)
      = ∑ k : Fin K, l (ix2 i k) * r (ix2 j k) := by
  show FloatOps.matmul _ _ _ _ _ _ = _
  rw [Ideal.matmul_transposedRhs_apply, constant_apply, Ideal.ofBits_zero_f32, zero_add]

theorem prod_apply (x : FVec Ideal Tok .bf16) (w : Vec Ideal Hid1 .bf16) (t : Fin 256) (f : Fin 768) :
    prod x w (ix2 t f) = ∑ d : Fin 256, x (ix2 t d) * w (ix3 0 d f) := by
  unfold prod
  rw [matmul_zero_apply]
  exact Finset.sum_congr rfl fun d _ => congrArg _
    (shapeCast_apply w _ _ _ (by rw [Shape.rowMajor_val_two, Shape.rowMajor_val_three]; simp [ix2, ix3]))

/-- A stored weight block as a matrix. -/
def mat (w : Vec Ideal Hid1 .bf16) : Mat := fun d f => w (ix3 0 d f)

theorem proj_apply (x : Vec Ideal Tok1 .fp8e4m3) (s : Vec Ideal Row1 .f32) (w : Vec Ideal Hid1 .bf16) (t : Fin 256)
    (f : Fin 768) : proj (tok x) w (column (row s)) (ix2 t f) = hidden (mat w) (fun d => x (ix3 0 t d)) (s (ix3 0 0 t)) f := by
  unfold proj
  rw [mulf_apply, prod_apply, column_apply, row_apply]
  simp only [tok_apply]
  rfl

/-- The named constant: minus the binary logarithm of `e`. -/
abbrev negLog2E : Ideal .f32 := ((-((Real.log 2)⁻¹) : ℝ) : EReal)

theorem one_apply (i : Hid.Idx) : broadcast Hid (Scalar.ofBits (F := Ideal) .f32 0x3F800000#32) i = (1 : EReal) :=
  Ideal.ofBits_one_f32

theorem sig_apply (h : FVec Ideal Hid .f32) (i : Hid.Idx) : sig negLog2E h i = Ideal.logistic (h i) := by
  unfold sig
  rw [divf_apply, addf_apply, one_apply]
  show Ideal.div 1 (1 + Ideal.exp2 (h i * negLog2E)) = _
  rw [exp2_neg_inv_log]
  rfl

theorem gated_apply (h : FVec Ideal Hid .f32) (i : Hid.Idx) : gated negLog2E h i = gate (h i) := by
  unfold gated
  rw [mulf_apply, sig_apply]
  rfl

theorem acts_apply (h1 h3 : FVec Ideal Hid .f32) (i : Hid.Idx) : acts negLog2E h1 h3 i = gate (h1 i) * h3 i := by
  unfold acts
  rw [truncf_apply, mulf_apply, gated_apply]

theorem gKeys_apply (k : Vec Ideal Tok1 .fp8e4m3) (ks : Vec Ideal Row1 .f32) (w1 w3 : Vec Ideal Hid1 .bf16) (t : Fin 256)
    (f : Fin 768) : gKeys negLog2E k ks w1 w3 (ix2 t f)
      = act (mat w1) (mat w3) (fun d => k (ix3 0 t d)) (ks (ix3 0 0 t)) f := by
  unfold gKeys
  rw [acts_apply, proj_apply, proj_apply]
  rfl

theorem gStep_apply (k : Vec Ideal Tok1 .fp8e4m3) (ks : Vec Ideal Row1 .f32) (w1 w3 : Vec Ideal Hid1 .bf16) (t : Fin 256)
    (f : Fin 768) : gStep negLog2E k ks w1 w3 (ix4 0 0 t f)
      = act (mat w1) (mat w3) (fun d => k (ix3 0 t d)) (ks (ix3 0 0 t)) f := by
  rw [← gKeys_apply]
  exact shapeCast_apply _ _ _ _ (by rw [Shape.rowMajor_val_two, Shape.rowMajor_val_four]; simp [ix2, ix4])

theorem yStep_apply (q : Vec Ideal Tok1 .fp8e4m3) (qs : Vec Ideal Row1 .f32) (w1 w3 w2 : Vec Ideal Hid1 .bf16) (t d : Fin 256) :
    yStep negLog2E q qs w1 w3 w2 (ix3 0 t d)
      = out (mat w1) (mat w3) (mat w2) (fun d => q (ix3 0 t d)) (qs (ix3 0 0 t)) d := by
  unfold yStep outs
  rw [shapeCast_apply _ _ (ix3 0 t d) (ix2 t d) (by rw [Shape.rowMajor_val_two, Shape.rowMajor_val_three]; simp [ix2, ix3]),
    truncf_apply, matmul_transposed_zero_apply]
  refine Finset.sum_congr rfl fun f _ => ?_
  rw [acts_apply, proj_apply, proj_apply]
  exact congrArg _ (shapeCast_apply w2 _ _ _ (by rw [Shape.rowMajor_val_two, Shape.rowMajor_val_three]; simp [ix2, ix3]))

theorem backs_apply (v : Vec Ideal Tok1 .bf16) (eta : Vec Ideal Row1 .f32) (w2 : Vec Ideal Hid1 .bf16) (t : Fin 256)
    (f : Fin 768) : backs (column (nrow eta)) (vtok v) w2 (ix2 t f)
      = back (mat w2) (fun d => v (ix3 0 t d)) (eta (ix3 0 0 t)) f := by
  unfold backs
  rw [mulf_apply, prod_apply, column_apply, nrow_apply]
  simp only [vtok_apply]
  rfl

theorem keysT_apply (k : Vec Ideal Tok1 .fp8e4m3) (ks : Vec Ideal Row1 .f32) (d t : Fin 256) :
    keysT (tok k) (row ks) (ix2 d t) = k (ix3 0 t d) * ks (ix3 0 0 t) := by
  unfold keysT
  rw [mulf_apply, transpose_apply [1, 0] _ _ (ix2 d t) (ix2 t d) (fun b => by match b with | ⟨0, _⟩ => rfl | ⟨1, _⟩ => rfl),
    broadcastTo_apply _ _ (ix2 d t) (ix2 0 t) (fun a => by match a with | ⟨0, _⟩ => rfl | ⟨1, _⟩ => rfl), truncf_apply,
    tok_apply, row_apply]

theorem errsT_apply (v : Vec Ideal Tok1 .bf16) (eta : Vec Ideal Row1 .f32) (d t : Fin 256) :
    errsT (vtok v) (nrow eta) (ix2 d t) = -(eta (ix3 0 0 t)) * v (ix3 0 t d) := by
  unfold errsT
  rw [truncf_apply, mulf_apply, broadcastTo_apply _ _ (ix2 d t) (ix2 0 t) (fun a => by match a with | ⟨0, _⟩ => rfl | ⟨1, _⟩ => rfl),
    extf_apply, transpose_apply [1, 0] _ _ (ix2 d t) (ix2 t d) (fun b => by match b with | ⟨0, _⟩ => rfl | ⟨1, _⟩ => rfl),
    vtok_apply, nrow_apply]

theorem accum_apply (l : FVec Ideal Tok .bf16) (r : FVec Ideal Hid .bf16) (acc : Vec Ideal Hid2 .f32) (d : Fin 256)
    (f : Fin 768) : accum l r acc (ix4 0 0 d f) = acc (ix4 0 0 d f) + ∑ t : Fin 256, l (ix2 d t) * r (ix2 t f) := by
  unfold accum
  rw [shapeCast_apply _ _ (ix4 0 0 d f) (ix2 d f) (by rw [Shape.rowMajor_val_two, Shape.rowMajor_val_four]; simp [ix2, ix4]),
    addf_apply, matmul_zero_apply,
    shapeCast_apply acc _ (ix2 d f) (ix4 0 0 d f) (by rw [Shape.rowMajor_val_two, Shape.rowMajor_val_four]; simp [ix2, ix4])]

theorem g1Step_apply (k : Vec Ideal Tok1 .fp8e4m3) (ks : Vec Ideal Row1 .f32) (v : Vec Ideal Tok1 .bf16)
    (eta : Vec Ideal Row1 .f32) (w1 w3 w2 : Vec Ideal Hid1 .bf16) (acc : Vec Ideal Hid2 .f32) (d : Fin 256) (f : Fin 768) :
    g1Step negLog2E k ks v eta w1 w3 w2 acc (ix4 0 0 d f) = acc (ix4 0 0 d f)
      + ∑ t : Fin 256, k (ix3 0 t d) * ks (ix3 0 0 t)
          * dh1 (mat w1) (mat w3) (mat w2) (fun d => k (ix3 0 t d)) (ks (ix3 0 0 t)) (fun d => v (ix3 0 t d)) (eta (ix3 0 0 t)) f := by
  unfold g1Step dh1s
  rw [accum_apply]
  simp only [keysT_apply, truncf_apply, mulf_apply, addf_apply, subf_apply, sig_apply, proj_apply, backs_apply, one_apply]
  rfl

theorem g3Step_apply (k : Vec Ideal Tok1 .fp8e4m3) (ks : Vec Ideal Row1 .f32) (v : Vec Ideal Tok1 .bf16)
    (eta : Vec Ideal Row1 .f32) (w1 w2 : Vec Ideal Hid1 .bf16) (acc : Vec Ideal Hid2 .f32) (d : Fin 256) (f : Fin 768) :
    g3Step negLog2E k ks v eta w1 w2 acc (ix4 0 0 d f) = acc (ix4 0 0 d f)
      + ∑ t : Fin 256, k (ix3 0 t d) * ks (ix3 0 0 t)
          * dh3 (mat w1) (mat w2) (fun d => k (ix3 0 t d)) (ks (ix3 0 0 t)) (fun d => v (ix3 0 t d)) (eta (ix3 0 0 t)) f := by
  unfold g3Step dh3s
  rw [accum_apply]
  simp only [keysT_apply, truncf_apply, mulf_apply, gated_apply, proj_apply, backs_apply]
  rfl

theorem g2Step_apply (k : Vec Ideal Tok1 .fp8e4m3) (ks : Vec Ideal Row1 .f32) (v : Vec Ideal Tok1 .bf16)
    (eta : Vec Ideal Row1 .f32) (w1 w3 : Vec Ideal Hid1 .bf16) (acc : Vec Ideal Hid2 .f32) (d : Fin 256) (f : Fin 768) :
    g2Step negLog2E k ks v eta w1 w3 acc (ix4 0 0 d f) = acc (ix4 0 0 d f)
      + ∑ t : Fin 256, -(eta (ix3 0 0 t)) * v (ix3 0 t d)
          * act (mat w1) (mat w3) (fun d => k (ix3 0 t d)) (ks (ix3 0 0 t)) f := by
  unfold g2Step
  rw [accum_apply]
  simp only [errsT_apply, gKeys_apply]

theorem zeros_apply (i : Hid2.Idx) : zeros i = (0 : EReal) := Ideal.ofBits_zero_f32

theorem keepT_apply (w : Vec Ideal HidT2 .f32) (d : Fin 256) (f : Fin 768) : mat (keepT w) d f = w (ix4 0 0 f d) := by
  unfold mat keepT
  rw [shapeCast_apply _ _ (ix3 0 d f) (ix2 d f) (by rw [Shape.rowMajor_val_two, Shape.rowMajor_val_three]; simp [ix2, ix3]),
    truncf_apply, transpose_apply [1, 0] _ _ (ix2 d f) (ix2 f d) (fun b => by match b with | ⟨0, _⟩ => rfl | ⟨1, _⟩ => rfl),
    shapeCast_apply w _ (ix2 f d) (ix4 0 0 f d) (by rw [Shape.rowMajor_val_two, Shape.rowMajor_val_four]; simp [ix2, ix4])]

theorem keep_apply (w : Vec Ideal Hid2 .f32) (d : Fin 256) (f : Fin 768) : mat (keep w) d f = w (ix4 0 0 d f) := by
  unfold mat keep
  rw [shapeCast_apply _ _ (ix3 0 d f) (ix2 d f) (by rw [Shape.rowMajor_val_two, Shape.rowMajor_val_three]; simp [ix2, ix3]),
    truncf_apply,
    shapeCast_apply w _ (ix2 d f) (ix4 0 0 d f) (by rw [Shape.rowMajor_val_two, Shape.rowMajor_val_four]; simp [ix2, ix4])]

end Cert.Step

end
-- ==== Proof.Blocks.lean ====
/-
  One grid point of the kernel: two groups of 256 tokens by two heads. The four steps' results (Proof/Step.lean) as the
  pieces the body stores, and what the stored blocks hold at an index, in terms of Proof/Spec.lean.
-/
module

public import proofs.«01_k».proof.Proof.Step
public import Idealize.ShloMosaic.Lib.Pipeline.ValueKit.Tiles
public import Idealize.ShloMosaic.Lib.Pipeline.CanonAppend

@[expose] public section

noncomputable section

namespace Cert.Blocks

open Idealize.ShloMosaic Idealize.ShloMosaic.ValueIdx Cert.Spec Cert.Step

/-- A block of 512 tokens, two heads side by side. -/
abbrev TokB : Shape := ⟨3, ![1, 512, 512]⟩
/-- The per-token numbers of two heads, two batch entries, 512 tokens. -/
abbrev ScB : Shape := ⟨3, ![2, 2, 512]⟩
/-- The hidden activations of two heads, 512 tokens. -/
abbrev HidB : Shape := ⟨4, ![1, 2, 512, 768]⟩
/-- Two heads' gradients, or weights. -/
abbrev MatB : Shape := ⟨4, ![1, 2, 256, 768]⟩
/-- Two heads' weights, hidden dimension first. -/
abbrev MatTB : Shape := ⟨4, ![1, 2, 768, 256]⟩
/-- Two heads' kept weights. -/
abbrev KeptB : Shape := ⟨3, ![2, 256, 768]⟩

/-! ## The rectangles: group `s` of tokens, head `h` -/

def tokRect (s h : Fin 2) : Rect TokB := Rect.unit ![0, 256 * s.val, 256 * h.val] ![1, 256, 256] (fun a => by
  have := s.isLt; have := h.isLt
  match a with
  | ⟨0, _⟩ => show 0 + 1 ≤ 1; omega
  | ⟨1, _⟩ => show 256 * s.val + 256 ≤ 512; omega
  | ⟨2, _⟩ => show 256 * h.val + 256 ≤ 512; omega)

def scRect (b : Nat) (hb : b < 2) (s h : Fin 2) : Rect ScB := Rect.unit ![h.val, b, 256 * s.val] ![1, 1, 256] (fun a => by
  have := s.isLt; have := h.isLt
  match a with
  | ⟨0, _⟩ => show h.val + 1 ≤ 2; omega
  | ⟨1, _⟩ => show b + 1 ≤ 2; omega
  | ⟨2, _⟩ => show 256 * s.val + 256 ≤ 512; omega)

def hidRect (s h : Fin 2) : Rect HidB := Rect.unit ![0, h.val, 256 * s.val, 0] ![1, 1, 256, 768] (fun a => by
  have := s.isLt; have := h.isLt
  match a with
  | ⟨0, _⟩ => show 0 + 1 ≤ 1; omega
  | ⟨1, _⟩ => show h.val + 1 ≤ 2; omega
  | ⟨2, _⟩ => show 256 * s.val + 256 ≤ 512; omega
  | ⟨3, _⟩ => show 0 + 768 ≤ 768; omega)

def matRect (h : Fin 2) : Rect MatB := Rect.unit ![0, h.val, 0, 0] ![1, 1, 256, 768] (fun a => by
  have := h.isLt
  match a with
  | ⟨0, _⟩ => show 0 + 1 ≤ 1; omega
  | ⟨1, _⟩ => show h.val + 1 ≤ 2; omega
  | ⟨2, _⟩ => show 0 + 256 ≤ 256; omega
  | ⟨3, _⟩ => show 0 + 768 ≤ 768; omega)

def matTRect (h : Fin 2) : Rect MatTB := Rect.unit ![0, h.val, 0, 0] ![1, 1, 768, 256] (fun a => by
  have := h.isLt
  match a with
  | ⟨0, _⟩ => show 0 + 1 ≤ 1; omega
  | ⟨1, _⟩ => show h.val + 1 ≤ 2; omega
  | ⟨2, _⟩ => show 0 + 768 ≤ 768; omega
  | ⟨3, _⟩ => show 0 + 256 ≤ 256; omega)

def keptRect (h : Fin 2) : Rect KeptB := Rect.unit ![h.val, 0, 0] ![1, 256, 768] (fun a => by
  have := h.isLt
  match a with
  | ⟨0, _⟩ => show h.val + 1 ≤ 2; omega
  | ⟨1, _⟩ => show 0 + 256 ≤ 256; omega
  | ⟨2, _⟩ => show 0 + 768 ≤ 768; omega)

/-! ## What a load of each finds -/

section Loads

variable {e : EltTy}

def ldTok (x : Vec Ideal TokB e) (s h : Fin 2) : Vec Ideal Tok1 e := View.ld x (tokRect s h)
def ldSc (x : Vec Ideal ScB e) (b : Nat) (hb : b < 2) (s h : Fin 2) : Vec Ideal Row1 e := View.ld x (scRect b hb s h)
def ldMat (x : Vec Ideal MatB e) (h : Fin 2) : Vec Ideal Hid2 e := View.ld x (matRect h)
def ldMatT (x : Vec Ideal MatTB e) (h : Fin 2) : Vec Ideal HidT2 e := View.ld x (matTRect h)
def ldKept (x : Vec Ideal KeptB e) (h : Fin 2) : Vec Ideal Hid1 e := View.ld x (keptRect h)

end Loads

/-! ## The four steps -/

section Steps

variable (c : Ideal .f32) (x : Vec Ideal TokB .fp8e4m3) (v : Vec Ideal TokB .bf16) (sc eta : Vec Ideal ScB .f32) (b : Nat)
  (hb : b < 2) (w1 w3 w2 : Fin 2 → Vec Ideal Hid1 .bf16) (acc : Fin 2 → Vec Ideal Hid2 .f32)

/-- The output rows of group `s`, head `h`. -/
def yAt (s h : Fin 2) : FVec Ideal Tok1 .bf16 :=
  yStep c (ldTok x s h) (ldSc sc b hb s h) (w1 h) (w3 h) (w2 h)

/-- The activations of group `s`, head `h`. -/
def gAt (s h : Fin 2) : FVec Ideal Hid2 .bf16 :=
  gStep c (ldTok x s h) (ldSc sc b hb s h) (w1 h) (w3 h)

/-- Head `h`'s first gradient after both groups. -/
def g1At (h : Fin 2) : FVec Ideal Hid2 .f32 :=
  g1Step c (ldTok x 1 h) (ldSc sc b hb 1 h) (ldTok v 1 h) (ldSc eta b hb 1 h)
    (w1 h) (w3 h) (w2 h)
    (g1Step c (ldTok x 0 h) (ldSc sc b hb 0 h) (ldTok v 0 h) (ldSc eta b hb 0 h)
      (w1 h) (w3 h) (w2 h) (acc h))

/-- Head `h`'s third gradient after both groups. -/
def g3At (h : Fin 2) : FVec Ideal Hid2 .f32 :=
  g3Step c (ldTok x 1 h) (ldSc sc b hb 1 h) (ldTok v 1 h) (ldSc eta b hb 1 h)
    (w1 h) (w2 h)
    (g3Step c (ldTok x 0 h) (ldSc sc b hb 0 h) (ldTok v 0 h) (ldSc eta b hb 0 h)
      (w1 h) (w2 h) (acc h))

/-- Head `h`'s second gradient after both groups. -/
def g2At (h : Fin 2) : FVec Ideal Hid2 .f32 :=
  g2Step c (ldTok x 1 h) (ldSc sc b hb 1 h) (ldTok v 1 h) (ldSc eta b hb 1 h)
    (w1 h) (w3 h)
    (g2Step c (ldTok x 0 h) (ldSc sc b hb 0 h) (ldTok v 0 h) (ldSc eta b hb 0 h)
      (w1 h) (w3 h) (acc h))

end Steps

/-! ## The pieces the body stores, last first -/

/-- The outputs' pieces. -/
def yPieces (P : Fin 2 → Fin 2 → FVec Ideal Tok1 .bf16) : List (View.Piece (Elt Ideal) TokB .bf16) :=
  [⟨tokRect 1 1, P 1 1⟩, ⟨tokRect 1 0, P 1 0⟩, ⟨tokRect 0 1, P 0 1⟩, ⟨tokRect 0 0, P 0 0⟩]

/-- The activations' pieces. -/
def gPieces (P : Fin 2 → Fin 2 → FVec Ideal Hid2 .bf16) : List (View.Piece (Elt Ideal) HidB .bf16) :=
  [⟨hidRect 1 1, P 1 1⟩, ⟨hidRect 1 0, P 1 0⟩, ⟨hidRect 0 1, P 0 1⟩, ⟨hidRect 0 0, P 0 0⟩]

/-- A gradient's last pieces. -/
def accPieces (P : Fin 2 → FVec Ideal Hid2 .f32) : List (View.Piece (Elt Ideal) MatB .f32) :=
  [⟨matRect 1, P 1⟩, ⟨matRect 0, P 0⟩]

/-- The kept weights' pieces. -/
def keptPieces (P : Fin 2 → FVec Ideal Hid1 .bf16) : List (View.Piece (Elt Ideal) KeptB .bf16) :=
  [⟨keptRect 1, P 1⟩, ⟨keptRect 0, P 0⟩]

/-! ## A position in a block: which of its two halves, and where in it -/

/-- Position `t` of half `s`. -/
def cat (s : Fin 2) (t : Fin 256) : Fin 512 := ⟨256 * s.val + t.val, by have := s.isLt; have := t.isLt; omega⟩
/-- A position's half. -/
def hi (r : Fin 512) : Fin 2 := ⟨r.val / 256, by have := r.isLt; omega⟩
/-- A position in its half. -/
def lo (r : Fin 512) : Fin 256 := ⟨r.val % 256, Nat.mod_lt _ (by decide)⟩

theorem cat_hi_lo (r : Fin 512) : cat (hi r) (lo r) = r := Fin.ext (Nat.div_add_mod r.val 256)

theorem ld_tok {e : EltTy} (x : Vec Ideal TokB e) (s h : Fin 2) (t d : Fin 256) :
    ldTok x s h (ix3 (0 : Fin 1) t d) = x (ix3 (0 : Fin 1) (cat s t) (cat h d)) :=
  View.ld_unit_apply_of x _ _ _ _ _ fun a => by match a with | ⟨0, _⟩ => rfl | ⟨1, _⟩ => rfl | ⟨2, _⟩ => rfl

theorem ld_sc {e : EltTy} (x : Vec Ideal ScB e) (b : Nat) (hb : b < 2) (s h : Fin 2) (t : Fin 256) :
    ldSc x b hb s h (ix3 (0 : Fin 1) (0 : Fin 1) t) = x (ix3 h (⟨b, hb⟩ : Fin 2) (cat s t)) :=
  View.ld_unit_apply_of x _ _ _ _ _ fun a => by match a with | ⟨0, _⟩ => rfl | ⟨1, _⟩ => rfl | ⟨2, _⟩ => rfl

theorem ld_mat {e : EltTy} (x : Vec Ideal MatB e) (h : Fin 2) (d : Fin 256) (f : Fin 768) :
    ldMat x h (ix4 (0 : Fin 1) (0 : Fin 1) d f) = x (ix4 (0 : Fin 1) h d f) :=
  View.ld_unit_apply_of x _ _ _ _ _ fun a => by
    match a with | ⟨0, _⟩ => rfl | ⟨1, _⟩ => rfl | ⟨2, _⟩ => exact (Nat.zero_add _).symm | ⟨3, _⟩ => exact (Nat.zero_add _).symm

theorem ld_matT {e : EltTy} (x : Vec Ideal MatTB e) (h : Fin 2) (f : Fin 768) (d : Fin 256) :
    ldMatT x h (ix4 (0 : Fin 1) (0 : Fin 1) f d) = x (ix4 (0 : Fin 1) h f d) :=
  View.ld_unit_apply_of x _ _ _ _ _ fun a => by
    match a with | ⟨0, _⟩ => rfl | ⟨1, _⟩ => rfl | ⟨2, _⟩ => exact (Nat.zero_add _).symm | ⟨3, _⟩ => exact (Nat.zero_add _).symm

theorem ld_kept {e : EltTy} (x : Vec Ideal KeptB e) (h : Fin 2) (d : Fin 256) (f : Fin 768) :
    ldKept x h (ix3 (0 : Fin 1) d f) = x (ix3 h d f) :=
  View.ld_unit_apply_of x _ _ _ _ _ fun a => by
    match a with | ⟨0, _⟩ => rfl | ⟨1, _⟩ => exact (Nat.zero_add _).symm | ⟨2, _⟩ => exact (Nat.zero_add _).symm

/-! ## What a stored block holds -/

theorem emb_unit_of {S : Shape} (off size : Fin S.rank → Nat) (inb) (x : (Rect.unit off size inb).shape.Idx) (i : S.Idx)
    (hi : ∀ a, (i a : Nat) = off a + x a) : i = (Rect.unit off size inb).emb x :=
  funext fun a => Fin.ext ((hi a).trans (Rect.idx_unit_val off size inb x a).symm)

theorem two (h : Fin 2) : h = 1 ∨ h = 0 := by omega

/-- At an index of the last piece's rectangle, what that piece stored. -/
theorem canon_here {S : Shape} {e : EltTy} (r : Rect S) (w : r.shape.Idx → Elt Ideal e) (L : List (View.Piece (Elt Ideal) S e))
    (x : r.shape.Idx) {y : S.Idx} (h : y = r.emb x) : View.canon (⟨r, w⟩ :: L) y = w x := by
  subst h; exact View.canon_cons_emb r w L x

/-- At an index of an earlier piece's rectangle, apart from the last one's, what the earlier pieces stored. -/
theorem canon_skip {S : Shape} {e : EltTy} (r : Rect S) (w : r.shape.Idx → Elt Ideal e) (L : List (View.Piece (Elt Ideal) S e))
    (r' : Rect S) (x : r'.shape.Idx) {y : S.Idx} {z : Elt Ideal e} (hd : Disjoint r.set r'.set) (h : y = r'.emb x)
    (hL : View.canon L y = z) : View.canon (⟨r, w⟩ :: L) y = z :=
  (View.canon_cons_of_not_mem _ L fun hm => (Finset.disjoint_left.mp hd hm (by
    rw [h, ← Rect.map_emb_univ]; exact Finset.mem_map_of_mem _ (Finset.mem_univ x)))).trans hL

theorem canon_yPieces (P : Fin 2 → Fin 2 → FVec Ideal Tok1 .bf16) (s h : Fin 2) (t d : Fin 256) :
    View.canon (yPieces P) (ix3 (0 : Fin 1) (cat s t) (cat h d)) = P s h (ix3 (0 : Fin 1) t d) := by
  have e : (ix3 (0 : Fin 1) (cat s t) (cat h d) : TokB.Idx) = (tokRect s h).emb (ix3 (0 : Fin 1) t d) :=
    emb_unit_of _ _ _ _ _ fun a => by
      match a with | ⟨0, _⟩ => rfl | ⟨1, _⟩ => rfl | ⟨2, _⟩ => rfl
  unfold yPieces
  rcases two s with rfl | rfl <;> rcases two h with rfl | rfl
  · exact canon_here (tokRect 1 1) _ _ _ e
  · refine canon_skip (tokRect 1 1) _ _ (tokRect 1 0) _ (Rect.unit_disjoint 2 (by decide)) e ?_
    exact canon_here (tokRect 1 0) _ _ _ e
  · refine canon_skip (tokRect 1 1) _ _ (tokRect 0 1) _ (Rect.unit_disjoint 1 (by decide)) e ?_
    refine canon_skip (tokRect 1 0) _ _ (tokRect 0 1) _ (Rect.unit_disjoint 1 (by decide)) e ?_
    exact canon_here (tokRect 0 1) _ _ _ e
  · refine canon_skip (tokRect 1 1) _ _ (tokRect 0 0) _ (Rect.unit_disjoint 1 (by decide)) e ?_
    refine canon_skip (tokRect 1 0) _ _ (tokRect 0 0) _ (Rect.unit_disjoint 1 (by decide)) e ?_
    refine canon_skip (tokRect 0 1) _ _ (tokRect 0 0) _ (Rect.unit_disjoint 2 (by decide)) e ?_
    exact canon_here (tokRect 0 0) _ _ _ e

theorem canon_gPieces (P : Fin 2 → Fin 2 → FVec Ideal Hid2 .bf16) (s h : Fin 2) (t : Fin 256) (f : Fin 768) :
    View.canon (gPieces P) (ix4 (0 : Fin 1) h (cat s t) f) = P s h (ix4 (0 : Fin 1) (0 : Fin 1) t f) := by
  have e : (ix4 (0 : Fin 1) h (cat s t) f : HidB.Idx) = (hidRect s h).emb (ix4 (0 : Fin 1) (0 : Fin 1) t f) :=
    emb_unit_of _ _ _ _ _ fun a => by
      match a with | ⟨0, _⟩ => rfl | ⟨1, _⟩ => rfl | ⟨2, _⟩ => rfl | ⟨3, _⟩ => exact (Nat.zero_add _).symm
  unfold gPieces
  rcases two s with rfl | rfl <;> rcases two h with rfl | rfl
  · exact canon_here (hidRect 1 1) _ _ _ e
  · refine canon_skip (hidRect 1 1) _ _ (hidRect 1 0) _ (Rect.unit_disjoint 1 (by decide)) e ?_
    exact canon_here (hidRect 1 0) _ _ _ e
  · refine canon_skip (hidRect 1 1) _ _ (hidRect 0 1) _ (Rect.unit_disjoint 2 (by decide)) e ?_
    refine canon_skip (hidRect 1 0) _ _ (hidRect 0 1) _ (Rect.unit_disjoint 2 (by decide)) e ?_
    exact canon_here (hidRect 0 1) _ _ _ e
  · refine canon_skip (hidRect 1 1) _ _ (hidRect 0 0) _ (Rect.unit_disjoint 2 (by decide)) e ?_
    refine canon_skip (hidRect 1 0) _ _ (hidRect 0 0) _ (Rect.unit_disjoint 2 (by decide)) e ?_
    refine canon_skip (hidRect 0 1) _ _ (hidRect 0 0) _ (Rect.unit_disjoint 1 (by decide)) e ?_
    exact canon_here (hidRect 0 0) _ _ _ e

theorem canon_accPieces (P : Fin 2 → FVec Ideal Hid2 .f32) (L : List (View.Piece (Elt Ideal) MatB .f32)) (h : Fin 2)
    (d : Fin 256) (f : Fin 768) :
    View.canon (accPieces P ++ L) (ix4 (0 : Fin 1) h d f) = P h (ix4 (0 : Fin 1) (0 : Fin 1) d f) := by
  have e : (ix4 (0 : Fin 1) h d f : MatB.Idx) = (matRect h).emb (ix4 (0 : Fin 1) (0 : Fin 1) d f) :=
    emb_unit_of _ _ _ _ _ fun a => by
      match a with | ⟨0, _⟩ => rfl | ⟨1, _⟩ => rfl | ⟨2, _⟩ => exact (Nat.zero_add _).symm | ⟨3, _⟩ => exact (Nat.zero_add _).symm
  show View.canon (⟨matRect 1, P 1⟩ :: ⟨matRect 0, P 0⟩ :: L) _ = _
  rcases two h with rfl | rfl
  · exact canon_here (matRect 1) _ _ _ e
  · refine canon_skip (matRect 1) _ _ (matRect 0) _ (Rect.unit_disjoint 1 (by decide)) e ?_
    exact canon_here (matRect 0) _ _ _ e

theorem canon_keptPieces (P : Fin 2 → FVec Ideal Hid1 .bf16) (h : Fin 2) (d : Fin 256) (f : Fin 768) :
    View.canon (keptPieces P) (ix3 h d f) = mat (P h) d f := by
  have e : (ix3 h d f : KeptB.Idx) = (keptRect h).emb (ix3 (0 : Fin 1) d f) :=
    emb_unit_of _ _ _ _ _ fun a => by
      match a with | ⟨0, _⟩ => rfl | ⟨1, _⟩ => exact (Nat.zero_add _).symm | ⟨2, _⟩ => exact (Nat.zero_add _).symm
  unfold keptPieces
  rcases two h with rfl | rfl
  · exact canon_here (keptRect 1) _ _ _ e
  · refine canon_skip (keptRect 1) _ _ (keptRect 0) _ (Rect.unit_disjoint 0 (by decide)) e ?_
    exact canon_here (keptRect 0) _ _ _ e

theorem kept_of_pieces (K : Vec Ideal KeptB .bf16) (w : Fin 2 → Vec Ideal Hid1 .bf16) (hK : K = View.canon (keptPieces w))
    (h : Fin 2) (d : Fin 256) (f : Fin 768) : K (ix3 h d f) = mat (w h) d f := by
  rw [hK]; exact canon_keptPieces w h d f

/-! ## The steps' results -/

section Values

variable (x : Vec Ideal TokB .fp8e4m3) (v : Vec Ideal TokB .bf16) (sc eta : Vec Ideal ScB .f32) (b : Nat)
  (hb : b < 2) (w1 w3 w2 : Fin 2 → Vec Ideal Hid1 .bf16) (acc : Fin 2 → Vec Ideal Hid2 .f32)

theorem yAt_apply (s h : Fin 2) (t d : Fin 256) :
    yAt negLog2E x sc b hb w1 w3 w2 s h (ix3 (0 : Fin 1) t d)
      = out (mat (w1 h)) (mat (w3 h)) (mat (w2 h)) (fun d => x (ix3 (0 : Fin 1) (cat s t) (cat h d)))
          (sc (ix3 h (⟨b, hb⟩ : Fin 2) (cat s t))) d := by
  unfold yAt
  rw [yStep_apply]
  simp only [ld_tok, ld_sc]

theorem gAt_apply (s h : Fin 2) (t : Fin 256) (f : Fin 768) :
    gAt negLog2E x sc b hb w1 w3 s h (ix4 (0 : Fin 1) (0 : Fin 1) t f)
      = act (mat (w1 h)) (mat (w3 h)) (fun d => x (ix3 (0 : Fin 1) (cat s t) (cat h d))) (sc (ix3 h (⟨b, hb⟩ : Fin 2) (cat s t))) f := by
  unfold gAt
  rw [gStep_apply]
  simp only [ld_tok, ld_sc]

/-- Two groups of tokens added one after the other are the block's 512 tokens added. -/
theorem add_groups (a : EReal) (T : Fin 512 → EReal) :
    a + (∑ t : Fin 256, T (cat 0 t)) + (∑ t : Fin 256, T (cat 1 t)) = a + ∑ r : Fin 512, T r := by
  rw [add_assoc, show (∑ r : Fin 512, T r) = ∑ r : Fin (256 + 256), T r from rfl, Fin.sum_univ_add]
  refine congrArg (a + ·) (congrArg₂ (· + ·) (Finset.sum_congr rfl fun t _ => congrArg T (Fin.ext ?_))
    (Finset.sum_congr rfl fun t _ => congrArg T (Fin.ext ?_)))
  · show 256 * 0 + t.val = t.val; omega
  · show 256 * 1 + t.val = 256 + t.val; omega

theorem g1At_apply (h : Fin 2) (d : Fin 256) (f : Fin 768) :
    g1At negLog2E x v sc eta b hb w1 w3 w2 acc h (ix4 (0 : Fin 1) (0 : Fin 1) d f)
      = acc h (ix4 (0 : Fin 1) (0 : Fin 1) d f) + ∑ r : Fin 512, x (ix3 (0 : Fin 1) r (cat h d)) * sc (ix3 h (⟨b, hb⟩ : Fin 2) r)
          * dh1 (mat (w1 h)) (mat (w3 h)) (mat (w2 h)) (fun d => x (ix3 (0 : Fin 1) r (cat h d))) (sc (ix3 h (⟨b, hb⟩ : Fin 2) r))
              (fun d => v (ix3 (0 : Fin 1) r (cat h d))) (eta (ix3 h (⟨b, hb⟩ : Fin 2) r)) f := by
  unfold g1At
  rw [← add_groups, g1Step_apply, g1Step_apply]
  simp only [ld_tok, ld_sc]

theorem g3At_apply (h : Fin 2) (d : Fin 256) (f : Fin 768) :
    g3At negLog2E x v sc eta b hb w1 w2 acc h (ix4 (0 : Fin 1) (0 : Fin 1) d f)
      = acc h (ix4 (0 : Fin 1) (0 : Fin 1) d f) + ∑ r : Fin 512, x (ix3 (0 : Fin 1) r (cat h d)) * sc (ix3 h (⟨b, hb⟩ : Fin 2) r)
          * dh3 (mat (w1 h)) (mat (w2 h)) (fun d => x (ix3 (0 : Fin 1) r (cat h d))) (sc (ix3 h (⟨b, hb⟩ : Fin 2) r))
              (fun d => v (ix3 (0 : Fin 1) r (cat h d))) (eta (ix3 h (⟨b, hb⟩ : Fin 2) r)) f := by
  unfold g3At
  rw [← add_groups, g3Step_apply, g3Step_apply]
  simp only [ld_tok, ld_sc]

theorem g2At_apply (h : Fin 2) (d : Fin 256) (f : Fin 768) :
    g2At negLog2E x v sc eta b hb w1 w3 acc h (ix4 (0 : Fin 1) (0 : Fin 1) d f)
      = acc h (ix4 (0 : Fin 1) (0 : Fin 1) d f) + ∑ r : Fin 512, -(eta (ix3 h (⟨b, hb⟩ : Fin 2) r)) * v (ix3 (0 : Fin 1) r (cat h d))
          * act (mat (w1 h)) (mat (w3 h)) (fun d => x (ix3 (0 : Fin 1) r (cat h d))) (sc (ix3 h (⟨b, hb⟩ : Fin 2) r)) f := by
  unfold g2At
  rw [← add_groups, g2Step_apply, g2Step_apply]
  simp only [ld_tok, ld_sc]

end Values

theorem mat_ld_kept (x : Vec Ideal KeptB .bf16) (h : Fin 2) : mat (ldKept x h) = fun d f => x (ix3 h d f) :=
  funext fun d => funext fun f => ld_kept x h d f

theorem mat_keepT_ld (x : Vec Ideal MatTB .f32) (h : Fin 2) :
    mat (keepT (ldMatT x h)) = fun d f => x (ix4 (0 : Fin 1) h f d) :=
  funext fun d => funext fun f => (keepT_apply _ d f).trans (ld_matT x h f d)

theorem mat_keep_ld (x : Vec Ideal MatB .f32) (h : Fin 2) :
    mat (keep (ldMat x h)) = fun d f => x (ix4 (0 : Fin 1) h d f) :=
  funext fun d => funext fun f => (keep_apply _ d f).trans (ld_mat x h d f)

/-! ## One point -/

/-- The blocks a point reads. -/
structure Reads where
  (q k : Vec Ideal TokB .fp8e4m3) (v : Vec Ideal TokB .bf16) (qs ks eta : Vec Ideal ScB .f32)

/-- The blocks a point leaves: its outputs, then the kept weights. -/
structure Leaves where
  (y : Vec Ideal TokB .bf16) (g : Vec Ideal HidB .bf16) (g1 g3 g2 : Vec Ideal MatB .f32) (k1 k3 k2 : Vec Ideal KeptB .bf16)

/-- What a point leaves, from what it reads, its batch entry, its two heads' weights and the gradients so far. -/
structure Does (I : Reads) (b : Fin 2) (W1 W3 W2 A1 A3 A2 : Fin 2 → Mat) (O : Leaves) : Prop where
  y : ∀ (s h : Fin 2) (t d : Fin 256), O.y (ix3 (0 : Fin 1) (cat s t) (cat h d))
    = out (W1 h) (W3 h) (W2 h) (fun d => I.q (ix3 (0 : Fin 1) (cat s t) (cat h d))) (I.qs (ix3 h b (cat s t))) d
  g : ∀ (s h : Fin 2) (t : Fin 256) (f : Fin 768), O.g (ix4 (0 : Fin 1) h (cat s t) f)
    = act (W1 h) (W3 h) (fun d => I.k (ix3 (0 : Fin 1) (cat s t) (cat h d))) (I.ks (ix3 h b (cat s t))) f
  g1 : ∀ (h : Fin 2) (d : Fin 256) (f : Fin 768), O.g1 (ix4 (0 : Fin 1) h d f) = A1 h d f
    + ∑ r : Fin 512, I.k (ix3 (0 : Fin 1) r (cat h d)) * I.ks (ix3 h b r)
        * dh1 (W1 h) (W3 h) (W2 h) (fun d => I.k (ix3 (0 : Fin 1) r (cat h d))) (I.ks (ix3 h b r))
            (fun d => I.v (ix3 (0 : Fin 1) r (cat h d))) (I.eta (ix3 h b r)) f
  g3 : ∀ (h : Fin 2) (d : Fin 256) (f : Fin 768), O.g3 (ix4 (0 : Fin 1) h d f) = A3 h d f
    + ∑ r : Fin 512, I.k (ix3 (0 : Fin 1) r (cat h d)) * I.ks (ix3 h b r)
        * dh3 (W1 h) (W2 h) (fun d => I.k (ix3 (0 : Fin 1) r (cat h d))) (I.ks (ix3 h b r))
            (fun d => I.v (ix3 (0 : Fin 1) r (cat h d))) (I.eta (ix3 h b r)) f
  g2 : ∀ (h : Fin 2) (d : Fin 256) (f : Fin 768), O.g2 (ix4 (0 : Fin 1) h d f) = A2 h d f
    + ∑ r : Fin 512, -(I.eta (ix3 h b r)) * I.v (ix3 (0 : Fin 1) r (cat h d))
        * act (W1 h) (W3 h) (fun d => I.k (ix3 (0 : Fin 1) r (cat h d))) (I.ks (ix3 h b r)) f
  k1 : ∀ (h : Fin 2) (d : Fin 256) (f : Fin 768), O.k1 (ix3 h d f) = W1 h d f
  k3 : ∀ (h : Fin 2) (d : Fin 256) (f : Fin 768), O.k3 (ix3 h d f) = W3 h d f
  k2 : ∀ (h : Fin 2) (d : Fin 256) (f : Fin 768), O.k2 (ix3 h d f) = W2 h d f

/-- A point whose outputs are the pieces of the four steps does what it should. -/
theorem does_of_pieces (c : Ideal .f32) (hc : c = negLog2E) (I : Reads) (b : Nat) (hb : b < 2) (w1 w3 w2 : Fin 2 → Vec Ideal Hid1 .bf16)
    (a1 a3 a2 : Fin 2 → Vec Ideal Hid2 .f32) (O : Leaves) (L1 L3 L2 : List (View.Piece (Elt Ideal) MatB .f32))
    (hy : O.y = View.canon (yPieces (yAt c I.q I.qs b hb w1 w3 w2)))
    (hg : O.g = View.canon (gPieces (gAt c I.k I.ks b hb w1 w3)))
    (h1 : O.g1 = View.canon (accPieces (g1At c I.k I.v I.ks I.eta b hb w1 w3 w2 a1) ++ L1))
    (h3 : O.g3 = View.canon (accPieces (g3At c I.k I.v I.ks I.eta b hb w1 w2 a3) ++ L3))
    (h2 : O.g2 = View.canon (accPieces (g2At c I.k I.v I.ks I.eta b hb w1 w3 a2) ++ L2))
    (k1 : ∀ (h : Fin 2) (d : Fin 256) (f : Fin 768), O.k1 (ix3 h d f) = mat (w1 h) d f)
    (k3 : ∀ (h : Fin 2) (d : Fin 256) (f : Fin 768), O.k3 (ix3 h d f) = mat (w3 h) d f)
    (k2 : ∀ (h : Fin 2) (d : Fin 256) (f : Fin 768), O.k2 (ix3 h d f) = mat (w2 h) d f) :
    Does I ⟨b, hb⟩ (fun h => mat (w1 h)) (fun h => mat (w3 h)) (fun h => mat (w2 h))
      (fun h d f => a1 h (ix4 (0 : Fin 1) (0 : Fin 1) d f)) (fun h d f => a3 h (ix4 (0 : Fin 1) (0 : Fin 1) d f))
      (fun h d f => a2 h (ix4 (0 : Fin 1) (0 : Fin 1) d f)) O where
  y s h t d := by subst hc; rw [hy, canon_yPieces]; exact yAt_apply I.q I.qs b hb w1 w3 w2 s h t d
  g s h t f := by subst hc; rw [hg, canon_gPieces]; exact gAt_apply I.k I.ks b hb w1 w3 s h t f
  g1 h d f := by subst hc; rw [h1, canon_accPieces]; exact g1At_apply I.k I.v I.ks I.eta b hb w1 w3 w2 a1 h d f
  g3 h d f := by subst hc; rw [h3, canon_accPieces]; exact g3At_apply I.k I.v I.ks I.eta b hb w1 w2 a3 h d f
  g2 h d f := by subst hc; rw [h2, canon_accPieces]; exact g2At_apply I.k I.v I.ks I.eta b hb w1 w3 a2 h d f
  k1 := k1
  k3 := k3
  k2 := k2

/-- The same, where the kept weights are pieces as well. -/
theorem does_of_pieces_kept (c : Ideal .f32) (hc : c = negLog2E) (I : Reads) (b : Nat) (hb : b < 2) (w1 w3 w2 : Fin 2 → Vec Ideal Hid1 .bf16)
    (a1 a3 a2 : Fin 2 → Vec Ideal Hid2 .f32) (O : Leaves) (L1 L3 L2 : List (View.Piece (Elt Ideal) MatB .f32))
    (hy : O.y = View.canon (yPieces (yAt c I.q I.qs b hb w1 w3 w2)))
    (hg : O.g = View.canon (gPieces (gAt c I.k I.ks b hb w1 w3)))
    (h1 : O.g1 = View.canon (accPieces (g1At c I.k I.v I.ks I.eta b hb w1 w3 w2 a1) ++ L1))
    (h3 : O.g3 = View.canon (accPieces (g3At c I.k I.v I.ks I.eta b hb w1 w2 a3) ++ L3))
    (h2 : O.g2 = View.canon (accPieces (g2At c I.k I.v I.ks I.eta b hb w1 w3 a2) ++ L2))
    (k1 : O.k1 = View.canon (keptPieces w1)) (k3 : O.k3 = View.canon (keptPieces w3))
    (k2 : O.k2 = View.canon (keptPieces w2)) :
    Does I ⟨b, hb⟩ (fun h => mat (w1 h)) (fun h => mat (w3 h)) (fun h => mat (w2 h))
      (fun h d f => a1 h (ix4 (0 : Fin 1) (0 : Fin 1) d f)) (fun h d f => a3 h (ix4 (0 : Fin 1) (0 : Fin 1) d f))
      (fun h d f => a2 h (ix4 (0 : Fin 1) (0 : Fin 1) d f)) O :=
  does_of_pieces c hc I b hb w1 w3 w2 a1 a3 a2 O L1 L3 L2 hy hg h1 h3 h2 (kept_of_pieces _ _ k1) (kept_of_pieces _ _ k3)
    (kept_of_pieces _ _ k2)

end Cert.Blocks

end
-- ==== Proof.Chunk.lean ====
/-
  A chunk, for every batch entry, head and token: the arrays the kernel reads as functions, what the chunk's results are
  in terms of them, and the induction along the grid: the kept weights stay, and the gradients are the sums over the
  tokens met so far.
-/
module

public import proofs.«01_k».proof.Proof.Blocks

@[expose] public section

noncomputable section

namespace Cert.Chunk

open Idealize.ShloMosaic Idealize.ShloMosaic.ValueIdx Cert.Spec Cert.Step Cert.Blocks

/-- What a chunk is computed from, by batch entry, token, head (and head dimension). -/
structure Data where
  (q k v : Fin 2 → Fin 4096 → Fin 28 → Fin 256 → EReal) (qs ks eta : Fin 2 → Fin 4096 → Fin 28 → EReal)
  (W1 W3 W2 : Fin 2 → Fin 28 → Mat)

namespace Data

variable (D : Data) (b : Fin 2) (n : Fin 4096) (hd : Fin 28)

/-- The output. -/
def y (d : Fin 256) : EReal := out (D.W1 b hd) (D.W3 b hd) (D.W2 b hd) (D.q b n hd) (D.qs b n hd) d

/-- The activations for the keys. -/
def g (f : Fin 768) : EReal := act (D.W1 b hd) (D.W3 b hd) (D.k b n hd) (D.ks b n hd) f

/-- A token's part of the first gradient. -/
def t1 (d : Fin 256) (f : Fin 768) : EReal := D.k b n hd d * D.ks b n hd
  * dh1 (D.W1 b hd) (D.W3 b hd) (D.W2 b hd) (D.k b n hd) (D.ks b n hd) (D.v b n hd) (D.eta b n hd) f

/-- A token's part of the third gradient. -/
def t3 (d : Fin 256) (f : Fin 768) : EReal := D.k b n hd d * D.ks b n hd
  * dh3 (D.W1 b hd) (D.W2 b hd) (D.k b n hd) (D.ks b n hd) (D.v b n hd) (D.eta b n hd) f

/-- A token's part of the second gradient. -/
def t2 (d : Fin 256) (f : Fin 768) : EReal := -(D.eta b n hd) * D.v b n hd d * D.g b n hd f

end Data

/-- Token number `n`. -/
def tokenAt (n : Nat) : Fin 4096 := ⟨n % 4096, Nat.mod_lt _ (by decide)⟩

/-- The sum of a term over the `count` tokens from `base` on. -/
def total (T : Fin 4096 → EReal) (base count : Nat) : EReal := ∑ i ∈ Finset.range count, T (tokenAt (base + i))

theorem total_add (T : Fin 4096 → EReal) (base count : Nat) :
    total T base count + ∑ r : Fin 512, T (tokenAt (base + count + r.val)) = total T base (count + 512) := by
  unfold total
  rw [Finset.sum_range_add, ← Fin.sum_univ_eq_sum_range (fun i => T (tokenAt (base + (count + i))))]
  simp only [Nat.add_assoc]

/-- A pair's head. -/
def head (p : Fin 14) (h : Fin 2) : Fin 28 := ⟨2 * p.val + h.val, by have := p.isLt; have := h.isLt; omega⟩

/-- A point's blocks are its part of the arrays: batch entry `b`, pair `p`, the 512 tokens from `base` on. -/
structure Part (D : Data) (b : Fin 2) (p : Fin 14) (base : Nat) (I : Reads) : Prop where
  q : ∀ (r : Fin 512) (h : Fin 2) (d : Fin 256), I.q (ix3 (0 : Fin 1) r (cat h d)) = D.q b (tokenAt (base + r.val)) (head p h) d
  k : ∀ (r : Fin 512) (h : Fin 2) (d : Fin 256), I.k (ix3 (0 : Fin 1) r (cat h d)) = D.k b (tokenAt (base + r.val)) (head p h) d
  v : ∀ (r : Fin 512) (h : Fin 2) (d : Fin 256), I.v (ix3 (0 : Fin 1) r (cat h d)) = D.v b (tokenAt (base + r.val)) (head p h) d
  qs : ∀ (r : Fin 512) (h : Fin 2), I.qs (ix3 h b r) = D.qs b (tokenAt (base + r.val)) (head p h)
  ks : ∀ (r : Fin 512) (h : Fin 2), I.ks (ix3 h b r) = D.ks b (tokenAt (base + r.val)) (head p h)
  eta : ∀ (r : Fin 512) (h : Fin 2), I.eta (ix3 h b r) = D.eta b (tokenAt (base + r.val)) (head p h)

/-- What a point leaves after `done` tokens from `base` on, of which it met the last 512. -/
structure Left (D : Data) (b : Fin 2) (p : Fin 14) (base done : Nat) (O : Leaves) : Prop where
  y : ∀ (r : Fin 512) (h : Fin 2) (d : Fin 256), O.y (ix3 (0 : Fin 1) r (cat h d)) = D.y b (tokenAt (base + done + r.val)) (head p h) d
  g : ∀ (r : Fin 512) (h : Fin 2) (f : Fin 768), O.g (ix4 (0 : Fin 1) h r f) = D.g b (tokenAt (base + done + r.val)) (head p h) f
  g1 : ∀ (h : Fin 2) (d : Fin 256) (f : Fin 768), O.g1 (ix4 (0 : Fin 1) h d f)
    = total (fun n => D.t1 b n (head p h) d f) base (done + 512)
  g3 : ∀ (h : Fin 2) (d : Fin 256) (f : Fin 768), O.g3 (ix4 (0 : Fin 1) h d f)
    = total (fun n => D.t3 b n (head p h) d f) base (done + 512)
  g2 : ∀ (h : Fin 2) (d : Fin 256) (f : Fin 768), O.g2 (ix4 (0 : Fin 1) h d f)
    = total (fun n => D.t2 b n (head p h) d f) base (done + 512)
  k1 : ∀ (h : Fin 2) (d : Fin 256) (f : Fin 768), O.k1 (ix3 h d f) = D.W1 b (head p h) d f
  k3 : ∀ (h : Fin 2) (d : Fin 256) (f : Fin 768), O.k3 (ix3 h d f) = D.W3 b (head p h) d f
  k2 : ∀ (h : Fin 2) (d : Fin 256) (f : Fin 768), O.k2 (ix3 h d f) = D.W2 b (head p h) d f

/-- One point. -/
theorem left_of_does (D : Data) (b : Fin 2) (p : Fin 14) (base done : Nat) (I : Reads) (O : Leaves)
    (W1 W3 W2 A1 A3 A2 : Fin 2 → Mat) (hd : Does I b W1 W3 W2 A1 A3 A2 O) (hp : Part D b p (base + done) I)
    (h1 : ∀ h, W1 h = D.W1 b (head p h)) (h3 : ∀ h, W3 h = D.W3 b (head p h)) (h2 : ∀ h, W2 h = D.W2 b (head p h))
    (a1 : ∀ h d f, A1 h d f = total (fun n => D.t1 b n (head p h) d f) base done)
    (a3 : ∀ h d f, A3 h d f = total (fun n => D.t3 b n (head p h) d f) base done)
    (a2 : ∀ h d f, A2 h d f = total (fun n => D.t2 b n (head p h) d f) base done) : Left D b p base done O where
  y r h d := by
    have e := hd.y (hi r) h (lo r) d
    rw [cat_hi_lo] at e
    rw [e, h1, h3, h2, hp.qs, funext (hp.q r h)]
    rfl
  g r h f := by
    have e := hd.g (hi r) h (lo r) f
    rw [cat_hi_lo] at e
    rw [e, h1, h3, hp.ks, funext (hp.k r h)]
    rfl
  g1 h d f := by
    rw [hd.g1, a1, ← total_add, h1, h3, h2]
    simp only [hp.k, hp.ks, hp.v, hp.eta]
    rfl
  g3 h d f := by
    rw [hd.g3, a3, ← total_add, h1, h2]
    simp only [hp.k, hp.ks, hp.v, hp.eta]
    rfl
  g2 h d f := by
    rw [hd.g2, a2, ← total_add, h1, h3]
    simp only [hp.k, hp.ks, hp.v, hp.eta]
    rfl
  k1 h d f := by rw [hd.k1, h1]
  k3 h d f := by rw [hd.k3, h3]
  k2 h d f := by rw [hd.k2, h2]

/-- A chunk's first point: the weights are the arrays', the gradients begin at zero. -/
theorem left_first (D : Data) (b : Fin 2) (p : Fin 14) (base : Nat) (I : Reads) (O : Leaves) (W1 W3 W2 A1 A3 A2 : Fin 2 → Mat)
    (hd : Does I b W1 W3 W2 A1 A3 A2 O) (hp : Part D b p base I)
    (h1 : ∀ h, W1 h = D.W1 b (head p h)) (h3 : ∀ h, W3 h = D.W3 b (head p h)) (h2 : ∀ h, W2 h = D.W2 b (head p h))
    (a1 : ∀ h d f, A1 h d f = 0) (a3 : ∀ h d f, A3 h d f = 0) (a2 : ∀ h d f, A2 h d f = 0) : Left D b p base 0 O :=
  left_of_does D b p base 0 I O W1 W3 W2 A1 A3 A2 hd hp h1 h3 h2 a1 a3 a2

/-- A later point: the weights are those kept, the gradients go on. -/
theorem left_next (D : Data) (b : Fin 2) (p : Fin 14) (base done : Nat) (I : Reads) (O' O : Leaves) (hl : Left D b p base done O')
    (hd : Does I b (fun h d f => O'.k1 (ix3 h d f)) (fun h d f => O'.k3 (ix3 h d f)) (fun h d f => O'.k2 (ix3 h d f))
      (fun h d f => O'.g1 (ix4 (0 : Fin 1) h d f)) (fun h d f => O'.g3 (ix4 (0 : Fin 1) h d f))
      (fun h d f => O'.g2 (ix4 (0 : Fin 1) h d f)) O)
    (hp : Part D b p (base + (done + 512)) I) : Left D b p base (done + 512) O :=
  left_of_does D b p base (done + 512) I O _ _ _ _ _ _ hd hp (fun h => funext fun d => funext fun f => hl.k1 h d f)
    (fun h => funext fun d => funext fun f => hl.k3 h d f) (fun h => funext fun d => funext fun f => hl.k2 h d f)
    (fun h d f => hl.g1 h d f) (fun h d f => hl.g3 h d f) (fun h d f => hl.g2 h d f)

end Cert.Chunk

end
-- ==== Proof.FirstPoint.lean ====
/-
  The first chunk's kernel at one grid point: the pieces its body stores are the four steps' results (Proof/Blocks.lean),
  at a pair's first point (weights read and kept, gradients begun) and at a later one.
-/
module

public import proofs.«01_k».proof.Proof.Gen.FirstIdeal.Frame
public import proofs.«01_k».proof.Proof.Chunk
public import Idealize.ShloMosaic.Lib.Pipeline.ReadBack

@[expose] public section

set_option maxRecDepth 16384

noncomputable section

namespace Cert.FirstIdeal.Point

open Idealize.ShloMosaic Idealize.ShloMosaic.TcCoe Idealize.SL Idealize.SL.Sem Idealize.ShloMosaic.ValueIdx
open Cert.FirstIdeal Cert.FirstIdeal.Gen Cert.Blocks Cert.Step Cert.Spec

/-- The named constant. -/
abbrev cst : Ideal .f32 := Named.named κ "neg_log2_e" 0xBFB8AA3B#32

theorem cst_eq : cst = negLog2E := IdealRules.named_const.ideal_named_scalar _ _ _ _ rfl

/-- The batch entry, as the body computes it from the grid coordinate. -/
abbrev batchAt (i : grid0.Coords) : Nat := BitVec.toNat (Scalar.indexCast (BitVec.ofNat 32 (i 0).val))

theorem batchAt_eq (i : grid0.Coords) : batchAt i = (i 0).val := by
  have h : (i 0).val < 2 := (i 0).isLt
  show BitVec.toNat (Scalar.indexCast (BitVec.ofNat 32 (i 0).val)) = _
  generalize (i 0).val = n at h
  interval_cases n <;> rfl

theorem batchAt_lt (i : grid0.Coords) : batchAt i < 2 := by rw [batchAt_eq]; exact (i 0).isLt

/-- The batch entry of a grid point. -/
def batch (i : grid0.Coords) : Fin 2 := ⟨(i 0).val, (i 0).isLt⟩

theorem batch_eq (i : grid0.Coords) : (⟨batchAt i, batchAt_lt i⟩ : Fin 2) = batch i := Fin.ext (batchAt_eq i)

/-- The pieces a pair's first point stores. -/
theorem pieces_A (c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 x1 x2 x3 x4 x5 x6 x7 x8) (hb) :
    (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).1 = yPieces (yAt cst x0 x3 (batchAt i) hb (fun h => keepT (ldMatT x6 h)) (fun h => keepT (ldMatT x7 h)) (fun h => keep (ldMat x8 h)))
    ∧ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.1 = gPieces (gAt cst x1 x4 (batchAt i) hb (fun h => keepT (ldMatT x6 h)) (fun h => keepT (ldMatT x7 h)))
    ∧ (∃ L, (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.1 = accPieces (g1At cst x1 x2 x4 x5 (batchAt i) hb (fun h => keepT (ldMatT x6 h)) (fun h => keepT (ldMatT x7 h)) (fun h => keep (ldMat x8 h)) (fun _ => zeros)) ++ L)
    ∧ (∃ L, (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.1 = accPieces (g3At cst x1 x2 x4 x5 (batchAt i) hb (fun h => keepT (ldMatT x6 h)) (fun h => keep (ldMat x8 h)) (fun _ => zeros)) ++ L)
    ∧ (∃ L, (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.1 = accPieces (g2At cst x1 x2 x4 x5 (batchAt i) hb (fun h => keepT (ldMatT x6 h)) (fun h => keepT (ldMatT x7 h)) (fun _ => zeros)) ++ L)
    ∧ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.2.1 = keptPieces (fun h => keepT (ldMatT x6 h))
    ∧ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.2.2.1 = keptPieces (fun h => keepT (ldMatT x7 h))
    ∧ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.2.2.2.1 = keptPieces (fun h => keep (ldMat x8 h)) := by
  unfold kernelRun0_A
  dsimp only
  sl_unfold_words
  simp (disch := decide) only [↓ View.readCov_skip, ↓ View.readCov_cons_toLoadRect, View.readAt_eq_ld, Memref.IsWhole.read_unread]
  exact ⟨rfl, rfl, ⟨_, rfl⟩, ⟨_, rfl⟩, ⟨_, rfl⟩, rfl, rfl, rfl⟩

/-- The pieces a later point stores. -/
theorem pieces_B (c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 x1 x2 x3 x4 x5 x6 x7 x8 xo11 xo12 xo13 xs0 xs1 xs2) (hb) :
    (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2).1 = yPieces (yAt cst x0 x3 (batchAt i) hb (fun h => ldKept xs0 h) (fun h => ldKept xs1 h) (fun h => ldKept xs2 h))
    ∧ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2).2.1 = gPieces (gAt cst x1 x4 (batchAt i) hb (fun h => ldKept xs0 h) (fun h => ldKept xs1 h))
    ∧ (∃ L, (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2).2.2.1 = accPieces (g1At cst x1 x2 x4 x5 (batchAt i) hb (fun h => ldKept xs0 h) (fun h => ldKept xs1 h) (fun h => ldKept xs2 h) (fun h => ldMat xo11 h)) ++ L)
    ∧ (∃ L, (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2).2.2.2.1 = accPieces (g3At cst x1 x2 x4 x5 (batchAt i) hb (fun h => ldKept xs0 h) (fun h => ldKept xs2 h) (fun h => ldMat xo12 h)) ++ L)
    ∧ (∃ L, (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2).2.2.2.2.1 = accPieces (g2At cst x1 x2 x4 x5 (batchAt i) hb (fun h => ldKept xs0 h) (fun h => ldKept xs1 h) (fun h => ldMat xo13 h)) ++ L) := by
  unfold kernelRun0_B
  dsimp only
  sl_unfold_words
  simp (disch := decide) only [↓ View.readCov_skip, ↓ View.readCov_cons_toLoadRect, View.readAt_eq_ld, Memref.IsWhole.read_unread]
  exact ⟨rfl, rfl, ⟨_, rfl⟩, ⟨_, rfl⟩, ⟨_, rfl⟩⟩

/-- What a pair's first point does. -/
theorem does_A (c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 x1 x2 x3 x4 x5 x6 x7 x8) :
    Does ⟨x0, x1, x2, x3, x4, x5⟩ (batch i) (fun h d f => x6 (ix4 (0 : Fin 1) h f d)) (fun h d f => x7 (ix4 (0 : Fin 1) h f d))
      (fun h d f => x8 (ix4 (0 : Fin 1) h d f)) (fun _ _ _ => 0) (fun _ _ _ => 0) (fun _ _ _ => 0)
      ⟨out0_A_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      out0_A_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      out0_A_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      out0_A_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      out0_A_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      sout0_A_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      sout0_A_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8⟩ := by
  obtain ⟨py, pg, ⟨L1, p1⟩, ⟨L3, p3⟩, ⟨L2, p2⟩, pk1, pk3, pk2⟩ := pieces_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 (batchAt_lt i)
  have e := does_of_pieces_kept cst cst_eq ⟨x0, x1, x2, x3, x4, x5⟩ (batchAt i) (batchAt_lt i) (fun h => keepT (ldMatT x6 h)) (fun h => keepT (ldMatT x7 h))
    (fun h => keep (ldMat x8 h)) (fun _ => zeros) (fun _ => zeros) (fun _ => zeros)
    ⟨out0_A_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      out0_A_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      out0_A_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      out0_A_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      out0_A_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      sout0_A_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8,
      sout0_A_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8⟩ L1 L3 L2
    (by unfold out0_A_9; rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8), py])
    (by unfold out0_A_10; rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8), pg])
    (by unfold out0_A_11; rw [View.read_writes_eq_canon _ _ _ (cover0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8), p1])
    (by unfold out0_A_12; rw [View.read_writes_eq_canon _ _ _ (cover0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8), p3])
    (by unfold out0_A_13; rw [View.read_writes_eq_canon _ _ _ (cover0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8), p2])
    (by unfold sout0_A_0; rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8), pk1])
    (by unfold sout0_A_1; rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8), pk3])
    (by unfold sout0_A_2; rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8), pk2])
  simp only [mat_keepT_ld, mat_keep_ld, zeros_apply, batch_eq] at e
  exact e

/-- What a later point does. -/
theorem does_B (c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 x1 x2 x3 x4 x5 x6 x7 x8 xo11 xo12 xo13 xs0 xs1 xs2) :
    Does ⟨x0, x1, x2, x3, x4, x5⟩ (batch i) (fun h d f => xs0 (ix3 h d f)) (fun h d f => xs1 (ix3 h d f))
      (fun h d f => xs2 (ix3 h d f)) (fun h d f => xo11 (ix4 (0 : Fin 1) h d f)) (fun h d f => xo12 (ix4 (0 : Fin 1) h d f))
      (fun h d f => xo13 (ix4 (0 : Fin 1) h d f))
      ⟨out0_B_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      out0_B_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      out0_B_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      out0_B_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      out0_B_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      sout0_B_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      sout0_B_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2⟩ := by
  obtain ⟨py, pg, ⟨L1, p1⟩, ⟨L3, p3⟩, ⟨L2, p2⟩⟩ := pieces_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2 (batchAt_lt i)
  have e := does_of_pieces cst cst_eq ⟨x0, x1, x2, x3, x4, x5⟩ (batchAt i) (batchAt_lt i) (fun h => ldKept xs0 h) (fun h => ldKept xs1 h)
    (fun h => ldKept xs2 h) (fun h => ldMat xo11 h) (fun h => ldMat xo12 h) (fun h => ldMat xo13 h)
    ⟨out0_B_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      out0_B_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      out0_B_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      out0_B_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      out0_B_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      sout0_B_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2,
      sout0_B_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2⟩ L1 L3 L2
    (by unfold out0_B_9; rw [View.read_writes_eq_canon _ _ _ (cover0_B_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2), py])
    (by unfold out0_B_10; rw [View.read_writes_eq_canon _ _ _ (cover0_B_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2), pg])
    (by unfold out0_B_11; rw [View.read_writes_eq_canon _ _ _ (cover0_B_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2), p1])
    (by unfold out0_B_12; rw [View.read_writes_eq_canon _ _ _ (cover0_B_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2), p3])
    (by unfold out0_B_13; rw [View.read_writes_eq_canon _ _ _ (cover0_B_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo11 xo12 xo13 xs0 xs1 xs2), p2])
    (fun h d f => (congrFun (congrFun (mat_ld_kept xs0 h) d) f).symm)
    (fun h d f => (congrFun (congrFun (mat_ld_kept xs1 h) d) f).symm)
    (fun h d f => (congrFun (congrFun (mat_ld_kept xs2 h) d) f).symm)
  simp only [mat_ld_kept, ld_mat, batch_eq] at e
  exact e

end Cert.FirstIdeal.Point

end
-- ==== Proof.Coord.lean ====
/-
  Small facts on the numbers index maps compute, on positions in a row of 28 heads of 256, and on the host's transposed
  scales and broadcast weights.
-/
module

public import proofs.«01_k».proof.Proof.Chunk

@[expose] public section

noncomputable section

namespace Cert.Coord

open Idealize.ShloMosaic Idealize.ShloMosaic.ValueIdx Cert.Blocks Cert.Chunk

theorem toNat_word (n : Nat) (h : n < 2 ^ 32) : (BitVec.ofNat 32 n).toNat = n := by
  rw [BitVec.toNat_ofNat]; exact Nat.mod_eq_of_lt h

theorem toNat_add (k n : Nat) (h : k + n < 2 ^ 32) : (Scalar.addi (BitVec.ofNat 32 k) (BitVec.ofNat 32 n)).toNat = k + n := by
  show (BitVec.ofNat 32 k + BitVec.ofNat 32 n).toNat = _
  rw [BitVec.toNat_add, BitVec.toNat_ofNat, BitVec.toNat_ofNat, Nat.mod_eq_of_lt (by omega : k < 2 ^ 32),
    Nat.mod_eq_of_lt (by omega : n < 2 ^ 32), Nat.mod_eq_of_lt h]

/-- Element `d` of head `hd` in a row of all heads. -/
def col (hd : Fin 28) (d : Fin 256) : Fin 7168 := ⟨256 * hd.val + d.val, by have := hd.isLt; have := d.isLt; omega⟩

theorem tokenAt_val (n : Nat) (h : n < 4096) : (tokenAt n).val = n := Nat.mod_eq_of_lt h

theorem ext3 {A : Fin 3 → Nat} {i j : (⟨3, A⟩ : Shape).Idx} (h0 : i 0 = j 0) (h1 : i 1 = j 1) (h2 : i 2 = j 2) : i = j :=
  funext fun a => match a with | ⟨0, _⟩ => h0 | ⟨1, _⟩ => h1 | ⟨2, _⟩ => h2

theorem ext4 {A : Fin 4 → Nat} {i j : (⟨4, A⟩ : Shape).Idx} (h0 : i 0 = j 0) (h1 : i 1 = j 1) (h2 : i 2 = j 2) (h3 : i 3 = j 3) : i = j :=
  funext fun a => match a with | ⟨0, _⟩ => h0 | ⟨1, _⟩ => h1 | ⟨2, _⟩ => h2 | ⟨3, _⟩ => h3

/-- A head's pair and its place in it. -/
def pairOf (hd : Fin 28) : Fin 14 := ⟨hd.val / 2, by have := hd.isLt; omega⟩
def halfOf (hd : Fin 28) : Fin 2 := ⟨hd.val % 2, Nat.mod_lt _ (by decide)⟩

theorem head_pairOf (hd : Fin 28) : head (pairOf hd) (halfOf hd) = hd := Fin.ext (Nat.div_add_mod hd.val 2)

theorem scales_apply {α : Type} (x : (⟨3, ![2, 4096, 28]⟩ : Shape).Idx → α)
    (h : (⟨3, ![2, 4096, 28]⟩ : Shape).Transposes [2, 0, 1] ⟨3, ![28, 2, 4096]⟩) (hd : Fin 28) (b : Fin 2) (n : Fin 4096) :
    transpose ⟨3, ![28, 2, 4096]⟩ [2, 0, 1] x h (ix3 hd b n) = x (ix3 b n hd) :=
  transpose_apply [2, 0, 1] x h (ix3 hd b n) (ix3 b n hd) (fun a => by match a with | ⟨0, _⟩ => rfl | ⟨1, _⟩ => rfl | ⟨2, _⟩ => rfl)

theorem lead_apply {α : Type} {A B C : Nat} (x : (⟨3, ![A, B, C]⟩ : Shape).Idx → α)
    (h : (⟨3, ![A, B, C]⟩ : Shape).BroadcastsInDim ⟨4, ![1, A, B, C]⟩ ![1, 2, 3]) (i : Fin A) (j : Fin B) (k : Fin C) :
    broadcastInDim ⟨4, ![1, A, B, C]⟩ ![1, 2, 3] h x (ix4 (0 : Fin 1) i j k) = x (ix3 i j k) :=
  broadcastInDim_apply ![1, 2, 3] h x (ix4 (0 : Fin 1) i j k) (ix3 i j k) (fun a => by
    have hi := i.isLt; have hj := j.isLt; have hk := k.isLt
    match a with
    | ⟨0, _⟩ => show i.val = if A = 1 then 0 else i.val; split <;> omega
    | ⟨1, _⟩ => show j.val = if B = 1 then 0 else j.val; split <;> omega
    | ⟨2, _⟩ => show k.val = if C = 1 then 0 else k.val; split <;> omega)

end Cert.Coord

end
-- ==== Proof.FirstArrays.lean ====
/-
  The first chunk's kernel on whole arrays: what every grid point's blocks are in the arguments, what every point leaves,
  and what the five result arrays hold in the end.
-/
module

public import proofs.«01_k».proof.Proof.FirstPoint
public import proofs.«01_k».proof.Proof.Coord
public import proofs.«01_k».proof.Proof.Gen.FirstIdeal.Value

@[expose] public section

set_option maxRecDepth 16384

noncomputable section

namespace Cert.FirstIdeal.Arrays

open Idealize.ShloMosaic Idealize.ShloMosaic.TcCoe Idealize.SL Idealize.SL.Sem Idealize.ShloMosaic.ValueIdx
open Cert.FirstIdeal Cert.FirstIdeal.Gen Cert.FirstIdeal.Value Cert.FirstIdeal.Point Cert.Blocks Cert.Chunk Cert.Coord Cert.Spec Cert.Step

variable (m : (ℓ : Loc nD τ sig) → Buf (Elt Ideal) ℓ) (c : Dev nD)

/-- The chunk's data: the arguments. -/
def data : Data where
  q b n hd d := m ((c : Thread nD τ).loc main_arg0) (ix3 b n (col hd d))
  qs b n hd := m ((c : Thread nD τ).loc main_arg1) (ix3 b n hd)
  k b n hd d := m ((c : Thread nD τ).loc main_arg2) (ix3 b n (col hd d))
  ks b n hd := m ((c : Thread nD τ).loc main_arg3) (ix3 b n hd)
  v b n hd d := m ((c : Thread nD τ).loc main_arg4) (ix3 b n (col hd d))
  eta b n hd := m ((c : Thread nD τ).loc main_arg5) (ix3 b n hd)
  W1 _ hd d f := m ((c : Thread nD τ).loc main_arg6) (ix3 hd f d)
  W3 _ hd d f := m ((c : Thread nD τ).loc main_arg7) (ix3 hd f d)
  W2 _ hd d f := m ((c : Thread nD τ).loc main_arg8) (ix3 hd d f)

/-! ## The grid -/

theorem coord0 (t : Fin cfg0.N) : (grid0.coords t 0).val = t.val / 42 := by
  have h := Pipeline.Grid.coords_val (G := grid0) t 0 (S := 42) (B := 2) (by decide) rfl
  have hN : t.val < 84 := lt_of_lt_of_eq t.isLt N_0
  rw [h]; omega

theorem coord1 (t : Fin cfg0.N) : (grid0.coords t 1).val = t.val / 3 % 14 :=
  Pipeline.Grid.coords_val (G := grid0) t 1 (S := 3) (B := 14) (by decide) rfl

theorem coord2 (t : Fin cfg0.N) : (grid0.coords t 2).val = t.val % 3 := by
  have h := Pipeline.Grid.coords_val (G := grid0) t 2 (S := 1) (B := 3) (by decide) rfl
  rw [h, Nat.div_one]

/-- A point's pair of heads. -/
def pair (t : Fin cfg0.N) : Fin 14 := ⟨(grid0.coords t 1).val, (grid0.coords t 1).isLt⟩

theorem tok_index (i : grid0.Coords) : cc0_transform_0 i = ![(i 0).val, (i 2).val, (i 1).val] := by
  have h0 : (i 0).val < 2 := (i 0).isLt
  have h1 : (i 1).val < 14 := (i 1).isLt
  have h2 : (i 2).val < 3 := (i 2).isLt
  funext a
  match a with
  | ⟨0, _⟩ => exact toNat_word _ (by omega)
  | ⟨1, _⟩ => exact (toNat_add 0 _ (by omega)).trans (Nat.zero_add _)
  | ⟨2, _⟩ => exact toNat_word _ (by omega)

theorem sc_index (i : grid0.Coords) : cc0_transform_3 i = ![(i 1).val, 0, (i 2).val] := by
  have h1 : (i 1).val < 14 := (i 1).isLt
  have h2 : (i 2).val < 3 := (i 2).isLt
  funext a
  match a with
  | ⟨0, _⟩ => exact toNat_word _ (by omega)
  | ⟨1, _⟩ => rfl
  | ⟨2, _⟩ => exact (toNat_add 0 _ (by omega)).trans (Nat.zero_add _)

theorem w_index (i : grid0.Coords) : cc0_transform_6 i = ![0, (i 1).val, 0, 0] := by
  have h1 : (i 1).val < 14 := (i 1).isLt
  funext a
  match a with
  | ⟨0, _⟩ => rfl
  | ⟨1, _⟩ => exact toNat_word _ (by omega)
  | ⟨2, _⟩ => rfl
  | ⟨3, _⟩ => rfl

theorem hid_index (i : grid0.Coords) : cc0_transform_10 i = ![(i 0).val, (i 1).val, (i 2).val, 0] := by
  have h0 : (i 0).val < 2 := (i 0).isLt
  have h1 : (i 1).val < 14 := (i 1).isLt
  have h2 : (i 2).val < 3 := (i 2).isLt
  funext a
  match a with
  | ⟨0, _⟩ => exact toNat_word _ (by omega)
  | ⟨1, _⟩ => exact toNat_word _ (by omega)
  | ⟨2, _⟩ => exact (toNat_add 0 _ (by omega)).trans (Nat.zero_add _)
  | ⟨3, _⟩ => rfl

theorem mat_index (i : grid0.Coords) : cc0_transform_11 i = ![(i 0).val, (i 1).val, 0, 0] := by
  have h0 : (i 0).val < 2 := (i 0).isLt
  have h1 : (i 1).val < 14 := (i 1).isLt
  funext a
  match a with
  | ⟨0, _⟩ => exact toNat_word _ (by omega)
  | ⟨1, _⟩ => exact toNat_word _ (by omega)
  | ⟨2, _⟩ => rfl
  | ⟨3, _⟩ => rfl

/-! ## Where a block's element lies in its array -/

theorem tok_emb (t : Fin cfg0.N) (r : Fin 512) (h : Fin 2) (d : Fin 256) :
    (win0_0.rect t).emb (ix3 (0 : Fin 1) r (cat h d))
      = ix3 (batch (grid0.coords t)) (tokenAt (512 * (t.val % 3) + r.val)) (col (head (pair t) h) d) := by
  funext a
  apply Fin.ext
  refine (win0_0.rect_emb_val t _ a).trans ?_
  have hr := r.isLt
  have e := congrFun (tok_index (grid0.coords t)) a
  have h2 := coord2 t
  match a with
  | ⟨0, _⟩ =>
    show cc0_transform_0 (grid0.coords t) 0 * 1 + 0 = (grid0.coords t 0).val
    rw [show cc0_transform_0 (grid0.coords t) 0 = (grid0.coords t 0).val from e]; omega
  | ⟨1, _⟩ =>
    show cc0_transform_0 (grid0.coords t) 1 * 512 + r.val = (tokenAt (512 * (t.val % 3) + r.val)).val
    rw [show cc0_transform_0 (grid0.coords t) 1 = (grid0.coords t 2).val from e, tokenAt_val _ (by omega)]; omega
  | ⟨2, _⟩ =>
    show cc0_transform_0 (grid0.coords t) 2 * 512 + (256 * h.val + d.val) = 256 * (2 * (grid0.coords t 1).val + h.val) + d.val
    rw [show cc0_transform_0 (grid0.coords t) 2 = (grid0.coords t 1).val from e]; omega

theorem sc_emb (t : Fin cfg0.N) (r : Fin 512) (h : Fin 2) (b : Fin 2) :
    (win0_3.rect t).emb (ix3 h b r) = ix3 (head (pair t) h) b (tokenAt (512 * (t.val % 3) + r.val)) := by
  funext a
  apply Fin.ext
  refine (win0_3.rect_emb_val t _ a).trans ?_
  have hr := r.isLt
  have e := congrFun (sc_index (grid0.coords t)) a
  have h2 := coord2 t
  match a with
  | ⟨0, _⟩ =>
    show cc0_transform_3 (grid0.coords t) 0 * 2 + h.val = 2 * (grid0.coords t 1).val + h.val
    rw [show cc0_transform_3 (grid0.coords t) 0 = (grid0.coords t 1).val from e]; omega
  | ⟨1, _⟩ =>
    show cc0_transform_3 (grid0.coords t) 1 * 2 + b.val = b.val
    rw [show cc0_transform_3 (grid0.coords t) 1 = 0 from e]; omega
  | ⟨2, _⟩ =>
    show cc0_transform_3 (grid0.coords t) 2 * 512 + r.val = (tokenAt (512 * (t.val % 3) + r.val)).val
    rw [show cc0_transform_3 (grid0.coords t) 2 = (grid0.coords t 2).val from e, tokenAt_val _ (by omega)]; omega

theorem wT_emb (t : Fin cfg0.N) (h : Fin 2) (f : Fin 768) (d : Fin 256) :
    (win0_6.rect t).emb (ix4 (0 : Fin 1) h f d) = ix4 (0 : Fin 1) (head (pair t) h) f d := by
  funext a
  apply Fin.ext
  refine (win0_6.rect_emb_val t _ a).trans ?_
  have e := congrFun (w_index (grid0.coords t)) a
  match a with
  | ⟨0, _⟩ =>
    show cc0_transform_6 (grid0.coords t) 0 * 1 + 0 = 0
    rw [show cc0_transform_6 (grid0.coords t) 0 = 0 from e]
  | ⟨1, _⟩ =>
    show cc0_transform_6 (grid0.coords t) 1 * 2 + h.val = 2 * (grid0.coords t 1).val + h.val
    rw [show cc0_transform_6 (grid0.coords t) 1 = (grid0.coords t 1).val from e]; omega
  | ⟨2, _⟩ =>
    show cc0_transform_6 (grid0.coords t) 2 * 768 + f.val = f.val
    rw [show cc0_transform_6 (grid0.coords t) 2 = 0 from e]; omega
  | ⟨3, _⟩ =>
    show cc0_transform_6 (grid0.coords t) 3 * 256 + d.val = d.val
    rw [show cc0_transform_6 (grid0.coords t) 3 = 0 from e]; omega

theorem w_emb (t : Fin cfg0.N) (h : Fin 2) (d : Fin 256) (f : Fin 768) :
    (win0_8.rect t).emb (ix4 (0 : Fin 1) h d f) = ix4 (0 : Fin 1) (head (pair t) h) d f := by
  funext a
  apply Fin.ext
  refine (win0_8.rect_emb_val t _ a).trans ?_
  have e := congrFun (w_index (grid0.coords t)) a
  match a with
  | ⟨0, _⟩ =>
    show cc0_transform_6 (grid0.coords t) 0 * 1 + 0 = 0
    rw [show cc0_transform_6 (grid0.coords t) 0 = 0 from e]
  | ⟨1, _⟩ =>
    show cc0_transform_6 (grid0.coords t) 1 * 2 + h.val = 2 * (grid0.coords t 1).val + h.val
    rw [show cc0_transform_6 (grid0.coords t) 1 = (grid0.coords t 1).val from e]; omega
  | ⟨2, _⟩ =>
    show cc0_transform_6 (grid0.coords t) 2 * 256 + d.val = d.val
    rw [show cc0_transform_6 (grid0.coords t) 2 = 0 from e]; omega
  | ⟨3, _⟩ =>
    show cc0_transform_6 (grid0.coords t) 3 * 768 + f.val = f.val
    rw [show cc0_transform_6 (grid0.coords t) 3 = 0 from e]; omega

theorem hid_emb (t : Fin cfg0.N) (h : Fin 2) (r : Fin 512) (f : Fin 768) :
    (win0_10.rect t).emb (ix4 (0 : Fin 1) h r f)
      = ix4 (batch (grid0.coords t)) (head (pair t) h) (tokenAt (512 * (t.val % 3) + r.val)) f := by
  funext a
  apply Fin.ext
  refine (win0_10.rect_emb_val t _ a).trans ?_
  have hr := r.isLt
  have e := congrFun (hid_index (grid0.coords t)) a
  have h2 := coord2 t
  match a with
  | ⟨0, _⟩ =>
    show cc0_transform_10 (grid0.coords t) 0 * 1 + 0 = (grid0.coords t 0).val
    rw [show cc0_transform_10 (grid0.coords t) 0 = (grid0.coords t 0).val from e]; omega
  | ⟨1, _⟩ =>
    show cc0_transform_10 (grid0.coords t) 1 * 2 + h.val = 2 * (grid0.coords t 1).val + h.val
    rw [show cc0_transform_10 (grid0.coords t) 1 = (grid0.coords t 1).val from e]; omega
  | ⟨2, _⟩ =>
    show cc0_transform_10 (grid0.coords t) 2 * 512 + r.val = (tokenAt (512 * (t.val % 3) + r.val)).val
    rw [show cc0_transform_10 (grid0.coords t) 2 = (grid0.coords t 2).val from e, tokenAt_val _ (by omega)]; omega
  | ⟨3, _⟩ =>
    show cc0_transform_10 (grid0.coords t) 3 * 768 + f.val = f.val
    rw [show cc0_transform_10 (grid0.coords t) 3 = 0 from e]; omega

theorem mat_emb (t : Fin cfg0.N) (h : Fin 2) (d : Fin 256) (f : Fin 768) :
    (win0_11.rect t).emb (ix4 (0 : Fin 1) h d f) = ix4 (batch (grid0.coords t)) (head (pair t) h) d f := by
  funext a
  apply Fin.ext
  refine (win0_11.rect_emb_val t _ a).trans ?_
  have e := congrFun (mat_index (grid0.coords t)) a
  match a with
  | ⟨0, _⟩ =>
    show cc0_transform_11 (grid0.coords t) 0 * 1 + 0 = (grid0.coords t 0).val
    rw [show cc0_transform_11 (grid0.coords t) 0 = (grid0.coords t 0).val from e]; omega
  | ⟨1, _⟩ =>
    show cc0_transform_11 (grid0.coords t) 1 * 2 + h.val = 2 * (grid0.coords t 1).val + h.val
    rw [show cc0_transform_11 (grid0.coords t) 1 = (grid0.coords t 1).val from e]; omega
  | ⟨2, _⟩ =>
    show cc0_transform_11 (grid0.coords t) 2 * 256 + d.val = d.val
    rw [show cc0_transform_11 (grid0.coords t) 2 = 0 from e]; omega
  | ⟨3, _⟩ =>
    show cc0_transform_11 (grid0.coords t) 3 * 768 + f.val = f.val
    rw [show cc0_transform_11 (grid0.coords t) 3 = 0 from e]; omega

/-! ## What the region finds in the arrays the host prepared -/

theorem V_v0 (hd : Fin 28) (b : Fin 2) (n : Fin 4096) : V m c main_v0 (ix3 hd b n) = (data m c).qs b n hd := by
  have e : V m c main_v0 = transpose S28x2x4096 [2, 0, 1] (m ((c : Thread nD τ).loc main_arg1)) transposes_S2x4096x28_S28x2x4096_2_0_1 := by
    show StableHlo.after hostOps0 _ _ = _
    simp only [hostOps0]
    after_results_simp <;> rfl
  rw [e]; exact scales_apply _ _ hd b n

theorem V_v1 (hd : Fin 28) (b : Fin 2) (n : Fin 4096) : V m c main_v1 (ix3 hd b n) = (data m c).ks b n hd := by
  have e : V m c main_v1 = transpose S28x2x4096 [2, 0, 1] (m ((c : Thread nD τ).loc main_arg3)) transposes_S2x4096x28_S28x2x4096_2_0_1 := by
    show StableHlo.after hostOps0 _ _ = _
    simp only [hostOps0]
    after_results_simp <;> rfl
  rw [e]; exact scales_apply _ _ hd b n

theorem V_v2 (hd : Fin 28) (b : Fin 2) (n : Fin 4096) : V m c main_v2 (ix3 hd b n) = (data m c).eta b n hd := by
  have e : V m c main_v2 = transpose S28x2x4096 [2, 0, 1] (m ((c : Thread nD τ).loc main_arg5)) transposes_S2x4096x28_S28x2x4096_2_0_1 := by
    show StableHlo.after hostOps0 _ _ = _
    simp only [hostOps0]
    after_results_simp <;> rfl
  rw [e]; exact scales_apply _ _ hd b n

theorem V_v3 (b : Fin 2) (hd : Fin 28) (d : Fin 256) (f : Fin 768) : V m c main_v3 (ix4 (0 : Fin 1) hd f d) = (data m c).W1 b hd d f := by
  have e : V m c main_v3 = broadcastInDim S1x28x768x256 ![1, 2, 3] bcast_S28x768x256_S1x28x768x256_1_2_3 (m ((c : Thread nD τ).loc main_arg6)) := by
    show StableHlo.after hostOps0 _ _ = _
    simp only [hostOps0]
    after_results_simp <;> rfl
  rw [e]; exact lead_apply _ _ hd f d

theorem V_v4 (b : Fin 2) (hd : Fin 28) (d : Fin 256) (f : Fin 768) : V m c main_v4 (ix4 (0 : Fin 1) hd f d) = (data m c).W3 b hd d f := by
  have e : V m c main_v4 = broadcastInDim S1x28x768x256 ![1, 2, 3] bcast_S28x768x256_S1x28x768x256_1_2_3 (m ((c : Thread nD τ).loc main_arg7)) := by
    show StableHlo.after hostOps0 _ _ = _
    simp only [hostOps0]
    after_results_simp <;> rfl
  rw [e]; exact lead_apply _ _ hd f d

theorem V_v5 (b : Fin 2) (hd : Fin 28) (d : Fin 256) (f : Fin 768) : V m c main_v5 (ix4 (0 : Fin 1) hd d f) = (data m c).W2 b hd d f := by
  have e : V m c main_v5 = broadcastInDim S1x28x256x768 ![1, 2, 3] bcast_S28x256x768_S1x28x256x768_1_2_3 (m ((c : Thread nD τ).loc main_arg8)) := by
    show StableHlo.after hostOps0 _ _ = _
    simp only [hostOps0]
    after_results_simp <;> rfl
  rw [e]; exact lead_apply _ _ hd d f

/-! ## The points -/

/-- The blocks a point reads. -/
def reads (t : Fin cfg0.N) : Reads := ⟨iblk m c 0 t, iblk m c 1 t, iblk m c 2 t, iblk m c 3 t, iblk m c 4 t, iblk m c 5 t⟩

/-- The blocks a point leaves. -/
def leaves (n : Nat) (hn : n < cfg0.N) : Leaves :=
  ⟨(outsAt0 m c n hn).1, (outsAt0 m c n hn).2.1, (outsAt0 m c n hn).2.2.1, (outsAt0 m c n hn).2.2.2.1,
    (outsAt0 m c n hn).2.2.2.2.1, (outsAt0 m c n hn).2.2.2.2.2.1, (outsAt0 m c n hn).2.2.2.2.2.2.1, (outsAt0 m c n hn).2.2.2.2.2.2.2⟩

theorem part (t : Fin cfg0.N) : Part (data m c) (batch (grid0.coords t)) (pair t) (512 * (t.val % 3)) (reads m c t) where
  q r h d := by
    show V m c main_arg0 ((win0_0.rect t).emb _) = _
    rw [V_main_arg0, tok_emb]; rfl
  k r h d := by
    show V m c main_arg2 ((win0_0.rect t).emb _) = _
    rw [V_main_arg2, tok_emb]; rfl
  v r h d := by
    show V m c main_arg4 ((win0_0.rect t).emb _) = _
    rw [V_main_arg4, tok_emb]; rfl
  qs r h := by
    show V m c main_v0 ((win0_3.rect t).emb _) = _
    rw [sc_emb]; exact V_v0 m c _ _ _
  ks r h := by
    show V m c main_v1 ((win0_3.rect t).emb _) = _
    rw [sc_emb]; exact V_v1 m c _ _ _
  eta r h := by
    show V m c main_v2 ((win0_3.rect t).emb _) = _
    rw [sc_emb]; exact V_v2 m c _ _ _

theorem weights1 (t : Fin cfg0.N) (b : Fin 2) (h : Fin 2) (d : Fin 256) (f : Fin 768) :
    iblk m c 6 t (ix4 (0 : Fin 1) h f d) = (data m c).W1 b (head (pair t) h) d f := by
  show V m c main_v3 ((win0_6.rect t).emb _) = _
  rw [wT_emb]; exact V_v3 m c b _ _ _

theorem weights3 (t : Fin cfg0.N) (b : Fin 2) (h : Fin 2) (d : Fin 256) (f : Fin 768) :
    iblk m c 7 t (ix4 (0 : Fin 1) h f d) = (data m c).W3 b (head (pair t) h) d f := by
  show V m c main_v4 ((win0_6.rect t).emb _) = _
  rw [wT_emb]; exact V_v4 m c b _ _ _

theorem weights2 (t : Fin cfg0.N) (b : Fin 2) (h : Fin 2) (d : Fin 256) (f : Fin 768) :
    iblk m c 8 t (ix4 (0 : Fin 1) h d f) = (data m c).W2 b (head (pair t) h) d f := by
  show V m c main_v5 ((win0_8.rect t).emb _) = _
  rw [w_emb]; exact V_v5 m c b _ _ _

theorem left_A (t : Fin cfg0.N) (h0 : t.val % 3 = 0) :
    Left (data m c) (batch (grid0.coords t)) (pair t) 0 0 (leaves m c t.val t.isLt) := by
  have p := part m c t
  rw [h0] at p
  have d := does_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _)
    ((hcond0_0 t).mpr h0) (iblk m c 0 t) (iblk m c 1 t) (iblk m c 2 t) (iblk m c 3 t) (iblk m c 4 t) (iblk m c 5 t) (iblk m c 6 t) (iblk m c 7 t) (iblk m c 8 t)
  unfold leaves
  rw [outsAt0_A m c t h0]
  dsimp only
  exact left_first (data m c) (batch (grid0.coords t)) (pair t) 0 (reads m c t) _ _ _ _ _ _ _ d p
    (fun h => funext fun d => funext fun f => weights1 m c t _ h d f) (fun h => funext fun d => funext fun f => weights3 m c t _ h d f)
    (fun h => funext fun d => funext fun f => weights2 m c t _ h d f) (fun _ _ _ => rfl) (fun _ _ _ => rfl) (fun _ _ _ => rfl)

theorem left_B (t : Fin cfg0.N) (h0 : ¬t.val % 3 = 0) (done : Nat) (hdone : 512 * (t.val % 3) = done + 512)
    (ih : Left (data m c) (batch (grid0.coords t)) (pair t) 0 done (leaves m c (t.val - 1) (Nat.lt_of_le_of_lt (Nat.sub_le _ _) t.isLt))) :
    Left (data m c) (batch (grid0.coords t)) (pair t) 0 (done + 512) (leaves m c t.val t.isLt) := by
  have p := part m c t
  rw [hdone, ← Nat.zero_add (done + 512)] at p
  have d := does_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _)
    (fun h => h0 ((hcond0_0 t).mp h)) (iblk m c 0 t) (iblk m c 1 t) (iblk m c 2 t) (iblk m c 3 t) (iblk m c 4 t) (iblk m c 5 t) (iblk m c 6 t) (iblk m c 7 t) (iblk m c 8 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  unfold leaves
  rw [outsAt0_B m c t h0]
  dsimp only
  exact left_next (data m c) (batch (grid0.coords t)) (pair t) 0 done (reads m c t) _ _ ih d p

theorem left (n : Nat) (hn : n < cfg0.N) :
    Left (data m c) (batch (grid0.coords ⟨n, hn⟩)) (pair ⟨n, hn⟩) 0 (512 * (n % 3)) (leaves m c n hn) := by
  induction n with
  | zero => exact left_A m c ⟨0, hn⟩ rfl
  | succ n ih =>
    by_cases h0 : (n + 1) % 3 = 0
    · rw [h0]; exact left_A m c ⟨n + 1, hn⟩ h0
    · have hb : batch (grid0.coords ⟨n, Nat.lt_of_succ_lt hn⟩) = batch (grid0.coords ⟨n + 1, hn⟩) := Fin.ext (by
        show (grid0.coords ⟨n, Nat.lt_of_succ_lt hn⟩ 0).val = (grid0.coords ⟨n + 1, hn⟩ 0).val
        rw [coord0, coord0]; show n / 42 = (n + 1) / 42; omega)
      have hp : pair ⟨n, Nat.lt_of_succ_lt hn⟩ = pair ⟨n + 1, hn⟩ := Fin.ext (by
        show (grid0.coords ⟨n, Nat.lt_of_succ_lt hn⟩ 1).val = (grid0.coords ⟨n + 1, hn⟩ 1).val
        rw [coord1, coord1]; show n / 3 % 14 = (n + 1) / 3 % 14; omega)
      have l := ih (Nat.lt_of_succ_lt hn)
      rw [hb, hp] at l
      have hd : 512 * ((n + 1) % 3) = 512 * (n % 3) + 512 := by omega
      rw [hd]
      exact left_B m c ⟨n + 1, hn⟩ h0 _ hd l

/-! ## The result arrays -/

/-- The grid point of a batch entry, a pair of heads and a block of tokens. -/
def point (b : Fin 2) (p : Fin 14) (k : Fin 3) : Fin cfg0.N :=
  ⟨42 * b.val + 3 * p.val + k.val, by
    have := b.isLt; have := p.isLt; have := k.isLt
    rw [show cfg0.N = 84 from N_0]; omega⟩

theorem point_mod (b : Fin 2) (p : Fin 14) (k : Fin 3) : (point b p k).val % 3 = k.val := by
  have := k.isLt
  show (42 * b.val + 3 * p.val + k.val) % 3 = k.val; omega

theorem batch_point (b : Fin 2) (p : Fin 14) (k : Fin 3) : batch (grid0.coords (point b p k)) = b := Fin.ext (by
  have := b.isLt; have := p.isLt; have := k.isLt
  show (grid0.coords (point b p k) 0).val = b.val
  rw [coord0]; show (42 * b.val + 3 * p.val + k.val) / 42 = b.val; omega)

theorem pair_point (b : Fin 2) (p : Fin 14) (k : Fin 3) : pair (point b p k) = p := Fin.ext (by
  have := b.isLt; have := p.isLt; have := k.isLt
  show (grid0.coords (point b p k) 1).val = p.val
  rw [coord1]; show (42 * b.val + 3 * p.val + k.val) / 3 % 14 = p.val; omega)

/-- The block of tokens a token lies in, and its row there. -/
theorem token_split (n : Nat) (h : n < 1536) : ∃ (k : Fin 3) (r : Fin 512), n = 512 * k.val + r.val :=
  ⟨⟨n / 512, by omega⟩, ⟨n % 512, Nat.mod_lt _ (by decide)⟩, (Nat.div_add_mod n 512).symm⟩

theorem head_split (hd : Fin 28) : ∃ (p : Fin 14) (h : Fin 2), hd = head p h := ⟨pairOf hd, halfOf hd, (head_pairOf hd).symm⟩

theorem y_at (b : Fin 2) (n : Fin 4096) (hn : n.val < 1536) (hd : Fin 28) (d : Fin 256) :
    (dats m 0 c).arrAt 9 cfg0.N (ix3 b n (col hd d)) = (data m c).y b n hd d := by
  obtain ⟨k, r, e⟩ := token_split n.val hn
  obtain ⟨p, h, rfl⟩ := head_split hd
  have l := (left m c _ (point b p k).isLt).y r h d
  have a := tok_emb (point b p k) r h d
  have f := (dats m 0 c).arrAt_emb_eq_flushed 9 disjoint9 (point b p k) (flush0_9 _) (ix3 (0 : Fin 1) r (cat h d))
  have en : tokenAt (512 * k.val + r.val) = n := Fin.ext ((tokenAt_val _ (by omega)).trans e.symm)
  rw [batch_point, pair_point, point_mod, en] at a
  rw [show (point b p k).val % 3 = k.val from point_mod b p k] at l
  rw [show (⟨(point b p k).val, (point b p k).isLt⟩ : Fin cfg0.N) = point b p k from rfl, batch_point, pair_point,
    Nat.zero_add, en] at l
  rw [flushed9] at f
  refine (congrArg ((dats m 0 c).arrAt 9 cfg0.N) a.symm).trans (f.trans ?_)
  exact l

theorem g_at (b : Fin 2) (n : Fin 4096) (hn : n.val < 1536) (hd : Fin 28) (f : Fin 768) :
    (dats m 0 c).arrAt 10 cfg0.N (ix4 b hd n f) = (data m c).g b n hd f := by
  obtain ⟨k, r, e⟩ := token_split n.val hn
  obtain ⟨p, h, rfl⟩ := head_split hd
  have l := (left m c _ (point b p k).isLt).g r h f
  have a := hid_emb (point b p k) h r f
  have w := (dats m 0 c).arrAt_emb_eq_flushed 10 disjoint10 (point b p k) (flush0_10 _) (ix4 (0 : Fin 1) h r f)
  have en : tokenAt (512 * k.val + r.val) = n := Fin.ext ((tokenAt_val _ (by omega)).trans e.symm)
  rw [batch_point, pair_point, point_mod, en] at a
  rw [show (point b p k).val % 3 = k.val from point_mod b p k] at l
  rw [show (⟨(point b p k).val, (point b p k).isLt⟩ : Fin cfg0.N) = point b p k from rfl, batch_point, pair_point,
    Nat.zero_add, en] at l
  rw [flushed10] at w
  refine (congrArg ((dats m 0 c).arrAt 10 cfg0.N) a.symm).trans (w.trans ?_)
  exact l

/-- Among the points that write the gradients back, no two write the same block. -/
theorem mat_inj : ∀ t t' : Fin cfg0.N, t.val % 3 = 2 → t'.val % 3 = 2 → win0_11.index t = win0_11.index t' → t = t' := by
  intro t t' h h' e
  have hN : t.val < 84 := lt_of_lt_of_eq t.isLt N_0
  have hN' : t'.val < 84 := lt_of_lt_of_eq t'.isLt N_0
  have e0 := congrFun e 0
  have e1 := congrFun e 1
  rw [show win0_11.index t 0 = t.val / 42 from (congrFun (mat_index (grid0.coords t)) 0).trans (coord0 t),
    show win0_11.index t' 0 = t'.val / 42 from (congrFun (mat_index (grid0.coords t')) 0).trans (coord0 t')] at e0
  rw [show win0_11.index t 1 = t.val / 3 % 14 from (congrFun (mat_index (grid0.coords t)) 1).trans (coord1 t),
    show win0_11.index t' 1 = t'.val / 3 % 14 from (congrFun (mat_index (grid0.coords t')) 1).trans (coord1 t')] at e1
  exact Fin.ext (by omega)

theorem disjoint11 : ∀ t t' : Fin cfg0.N, (cfg0.win 11).flush t = true → (cfg0.win 11).flush t' = true → t ≠ t' →
    Disjoint ((cfg0.win 11).blk t).view.set ((cfg0.win 11).blk t').view.set :=
  fun t t' h h' hne => (cfg0.win 11).disjoint_blk fun e => hne (mat_inj t t' ((flush0_11 t).mp h) ((flush0_11 t').mp h') e)

theorem t1_at (b : Fin 2) (hd : Fin 28) (d : Fin 256) (f : Fin 768) :
    (dats m 0 c).arrAt 11 cfg0.N (ix4 b hd d f) = total (fun n => (data m c).t1 b n hd d f) 0 1536 := by
  obtain ⟨p, h, rfl⟩ := head_split hd
  have l := (left m c _ (point b p 2).isLt).g1 h d f
  have a := mat_emb (point b p 2) h d f
  have w := (dats m 0 c).arrAt_emb_eq_flushed 11 disjoint11 (point b p 2) ((flush0_11 _).mpr (point_mod b p 2)) (ix4 (0 : Fin 1) h d f)
  rw [batch_point, pair_point] at a
  rw [show (point b p 2).val % 3 = 2 from point_mod b p 2] at l
  rw [show (⟨(point b p 2).val, (point b p 2).isLt⟩ : Fin cfg0.N) = point b p 2 from rfl, batch_point, pair_point] at l
  rw [flushed11] at w
  refine (congrArg ((dats m 0 c).arrAt 11 cfg0.N) a.symm).trans (w.trans ?_)
  exact l

theorem disjoint12 : ∀ t t' : Fin cfg0.N, (cfg0.win 12).flush t = true → (cfg0.win 12).flush t' = true → t ≠ t' →
    Disjoint ((cfg0.win 12).blk t).view.set ((cfg0.win 12).blk t').view.set :=
  fun t t' h h' hne => (cfg0.win 12).disjoint_blk fun e => hne (mat_inj t t' ((flush0_12 t).mp h) ((flush0_12 t').mp h') e)

theorem t3_at (b : Fin 2) (hd : Fin 28) (d : Fin 256) (f : Fin 768) :
    (dats m 0 c).arrAt 12 cfg0.N (ix4 b hd d f) = total (fun n => (data m c).t3 b n hd d f) 0 1536 := by
  obtain ⟨p, h, rfl⟩ := head_split hd
  have l := (left m c _ (point b p 2).isLt).g3 h d f
  have a := mat_emb (point b p 2) h d f
  have w := (dats m 0 c).arrAt_emb_eq_flushed 12 disjoint12 (point b p 2) ((flush0_12 _).mpr (point_mod b p 2)) (ix4 (0 : Fin 1) h d f)
  rw [batch_point, pair_point] at a
  rw [show (point b p 2).val % 3 = 2 from point_mod b p 2] at l
  rw [show (⟨(point b p 2).val, (point b p 2).isLt⟩ : Fin cfg0.N) = point b p 2 from rfl, batch_point, pair_point] at l
  rw [flushed12] at w
  refine (congrArg ((dats m 0 c).arrAt 12 cfg0.N) a.symm).trans (w.trans ?_)
  exact l

theorem disjoint13 : ∀ t t' : Fin cfg0.N, (cfg0.win 13).flush t = true → (cfg0.win 13).flush t' = true → t ≠ t' →
    Disjoint ((cfg0.win 13).blk t).view.set ((cfg0.win 13).blk t').view.set :=
  fun t t' h h' hne => (cfg0.win 13).disjoint_blk fun e => hne (mat_inj t t' ((flush0_13 t).mp h) ((flush0_13 t').mp h') e)

theorem t2_at (b : Fin 2) (hd : Fin 28) (d : Fin 256) (f : Fin 768) :
    (dats m 0 c).arrAt 13 cfg0.N (ix4 b hd d f) = total (fun n => (data m c).t2 b n hd d f) 0 1536 := by
  obtain ⟨p, h, rfl⟩ := head_split hd
  have l := (left m c _ (point b p 2).isLt).g2 h d f
  have a := mat_emb (point b p 2) h d f
  have w := (dats m 0 c).arrAt_emb_eq_flushed 13 disjoint13 (point b p 2) ((flush0_13 _).mpr (point_mod b p 2)) (ix4 (0 : Fin 1) h d f)
  rw [batch_point, pair_point] at a
  rw [show (point b p 2).val % 3 = 2 from point_mod b p 2] at l
  rw [show (⟨(point b p 2).val, (point b p 2).isLt⟩ : Fin cfg0.N) = point b p 2 from rfl, batch_point, pair_point] at l
  rw [flushed13] at w
  refine (congrArg ((dats m 0 c).arrAt 13 cfg0.N) a.symm).trans (w.trans ?_)
  exact l

end Cert.FirstIdeal.Arrays

end
-- ==== Proof.Host.lean ====
/-
  The logistic function, the gate and the gate's slope, as a host program spells them.
-/
module

public import proofs.«01_k».proof.Proof.Chunk
public import Idealize.ShloMosaic.Lib.IdealHost

@[expose] public section

noncomputable section

namespace Cert.Host

open Idealize.ShloMosaic Cert.Spec

/-- The constant one. -/
theorem one_bits : (FloatOps.ofBits .f32 0x3F800000#32 : Ideal .f32) = (1 : EReal) := Ideal.ofBits_one_f32

theorem logistic_of (h : Ideal .f32) :
    FloatOps.hostDivf (F := Ideal) (FloatOps.ofBits .f32 0x3F800000#32)
      (FloatOps.addf (FloatOps.ofBits .f32 0x3F800000#32) (FloatOps.hostUnary .exp (FloatOps.hostNegf h))) = Ideal.logistic h := by
  rw [one_bits]; rfl

theorem gate_of (h : Ideal .f32) :
    FloatOps.mulf h (FloatOps.hostDivf (F := Ideal) (FloatOps.ofBits .f32 0x3F800000#32)
      (FloatOps.addf (FloatOps.ofBits .f32 0x3F800000#32) (FloatOps.hostUnary .exp (FloatOps.hostNegf h)))) = gate h := by
  rw [logistic_of]; rfl

/-- A factor times the gate's slope. -/
theorem times_slope (hb : FTy.bits .bf16 < FTy.bits .f32) (a h s : Ideal .f32) :
    FloatOps.truncf (F := Ideal) .bf16 hb (FloatOps.mulf (FloatOps.mulf a s) (FloatOps.addf (FloatOps.ofBits .f32 0x3F800000#32)
      (FloatOps.mulf h (FloatOps.subf (FloatOps.ofBits .f32 0x3F800000#32) s)))) = (a * s * (1 + h * (1 - s)) : EReal) := by
  rw [one_bits]; rfl

end Cert.Host

end
-- ==== Proof.FirstReading.lean ====
/-
  The first chunk's reference, line by line at an index: every line of it is what the specification says of a token,
  a head and a column, and the results are the chunk's.
-/
module

public import proofs.«01_k».proof.Proof.Host
public import proofs.«01_k».proof.Proof.Coord
public import proofs.«01_k».proof.Proof.Gen.FirstPlainIdeal.Read

@[expose] public section

noncomputable section

namespace Cert.FirstPlainIdeal.Reading

open Idealize.ShloMosaic Idealize.ShloMosaic.TcCoe Idealize.SL.Sem Idealize.ShloMosaic.StableHlo Idealize.ShloMosaic.ValueIdx
open Cert.FirstPlainIdeal Cert.FirstPlainIdeal.Gen Cert.FirstPlainIdeal.Read Cert.Chunk Cert.Coord Cert.Spec Cert.Host

variable (x0 : (⟨S2x4096x7168, .bf16⟩ : BufTy).Contents (Elt Ideal)) (x1 : (⟨S2x4096x28, .f32⟩ : BufTy).Contents (Elt Ideal))
  (x2 : (⟨S2x4096x7168, .bf16⟩ : BufTy).Contents (Elt Ideal)) (x3 : (⟨S2x4096x28, .f32⟩ : BufTy).Contents (Elt Ideal))
  (x4 : (⟨S2x4096x7168, .bf16⟩ : BufTy).Contents (Elt Ideal)) (x5 : (⟨S2x4096x28, .f32⟩ : BufTy).Contents (Elt Ideal))
  (x6 x7 : (⟨S28x768x256, .f32⟩ : BufTy).Contents (Elt Ideal)) (x8 : (⟨S28x256x768, .f32⟩ : BufTy).Contents (Elt Ideal))

/-- The chunk's data: the arguments. -/
def data : Data where
  q b n hd d := x0 (ix3 b n (col hd d))
  qs b n hd := x1 (ix3 b n hd)
  k b n hd d := x2 (ix3 b n (col hd d))
  ks b n hd := x3 (ix3 b n hd)
  v b n hd d := x4 (ix3 b n (col hd d))
  eta b n hd := x5 (ix3 b n hd)
  W1 _ hd d f := x6 (ix3 hd f d)
  W3 _ hd d f := x7 (ix3 hd f d)
  W2 _ hd d f := x8 (ix3 hd d f)

/-- The chunk's tokens in the sequence. -/
def tk (n : Fin 1536) : Fin 4096 := ⟨n.val, by have := n.isLt; omega⟩

theorem total_fin (T : Fin 4096 → EReal) : total T 0 1536 = ∑ n : Fin 1536, T (tk n) := by
  unfold total
  rw [← Fin.sum_univ_eq_sum_range (fun i => T (tokenAt (0 + i)))]
  refine Finset.sum_congr rfl fun n _ => congrArg T (Fin.ext ?_)
  have := n.isLt
  show (0 + n.val) % 4096 = n.val
  omega

theorem q_at (b : Fin 2) (n : Fin 1536) (hd : Fin 28) (d : Fin 256) :
    val_main_v1 (F := Ideal) x0 (ix4 b n hd d) = (data x0 x1 x2 x3 x4 x5 x6 x7 x8).q b (tk n) hd d := by
  have hb := b.isLt; have hn := n.isLt; have hh := hd.isLt; have hd' := d.isLt
  rw [val_main_v1_apply, val_main_v0_apply]
  exact congrArg x0 (ext3
    (Fin.ext (by show ((((b.val * 1536) + n.val) * 28 + hd.val) * 256 + d.val) / 11010048 = b.val; omega))
    (Fin.ext (by show ((((b.val * 1536) + n.val) * 28 + hd.val) * 256 + d.val) / 7168 % 1536 = n.val; omega))
    (Fin.ext (by show ((((b.val * 1536) + n.val) * 28 + hd.val) * 256 + d.val) % 7168 = 256 * hd.val + d.val; omega)))

theorem k_at (b : Fin 2) (n : Fin 1536) (hd : Fin 28) (d : Fin 256) :
    val_main_v3 (F := Ideal) x2 (ix4 b n hd d) = (data x0 x1 x2 x3 x4 x5 x6 x7 x8).k b (tk n) hd d := by
  have hb := b.isLt; have hn := n.isLt; have hh := hd.isLt; have hd' := d.isLt
  rw [val_main_v3_apply, val_main_v2_apply]
  exact congrArg x2 (ext3
    (Fin.ext (by show ((((b.val * 1536) + n.val) * 28 + hd.val) * 256 + d.val) / 11010048 = b.val; omega))
    (Fin.ext (by show ((((b.val * 1536) + n.val) * 28 + hd.val) * 256 + d.val) / 7168 % 1536 = n.val; omega))
    (Fin.ext (by show ((((b.val * 1536) + n.val) * 28 + hd.val) * 256 + d.val) % 7168 = 256 * hd.val + d.val; omega)))

theorem v_at (b : Fin 2) (n : Fin 1536) (hd : Fin 28) (d : Fin 256) :
    val_main_v5 (F := Ideal) x4 (ix4 b n hd d) = (data x0 x1 x2 x3 x4 x5 x6 x7 x8).v b (tk n) hd d := by
  have hb := b.isLt; have hn := n.isLt; have hh := hd.isLt; have hd' := d.isLt
  rw [val_main_v5_apply, val_main_v4_apply]
  exact congrArg x4 (ext3
    (Fin.ext (by show ((((b.val * 1536) + n.val) * 28 + hd.val) * 256 + d.val) / 11010048 = b.val; omega))
    (Fin.ext (by show ((((b.val * 1536) + n.val) * 28 + hd.val) * 256 + d.val) / 7168 % 1536 = n.val; omega))
    (Fin.ext (by show ((((b.val * 1536) + n.val) * 28 + hd.val) * 256 + d.val) % 7168 = 256 * hd.val + d.val; omega)))

theorem qs_at (b : Fin 2) (n : Fin 1536) (hd : Fin 28) :
    val_main_v6 (F := Ideal) x1 (ix3 b n hd) = (data x0 x1 x2 x3 x4 x5 x6 x7 x8).qs b (tk n) hd := by
  rw [val_main_v6_apply]
  exact congrArg x1 (ext3 rfl rfl rfl)

theorem ks_at (b : Fin 2) (n : Fin 1536) (hd : Fin 28) :
    val_main_v7 (F := Ideal) x3 (ix3 b n hd) = (data x0 x1 x2 x3 x4 x5 x6 x7 x8).ks b (tk n) hd := by
  rw [val_main_v7_apply]
  exact congrArg x3 (ext3 rfl rfl rfl)

theorem eta_at (b : Fin 2) (n : Fin 1536) (hd : Fin 28) :
    val_main_v8 (F := Ideal) x5 (ix3 b n hd) = (data x0 x1 x2 x3 x4 x5 x6 x7 x8).eta b (tk n) hd := by
  rw [val_main_v8_apply]
  exact congrArg x5 (ext3 rfl rfl rfl)

theorem w1_at (b : Fin 2) (hd : Fin 28) (d : Fin 256) (f : Fin 768) :
    val_main_v12 (F := Ideal) x6 (ix4 b hd f d) = (data x0 x1 x2 x3 x4 x5 x6 x7 x8).W1 b hd d f := by
  rw [val_main_v12_apply, val_main_v9_apply]
  exact congrArg x6 (ext3 rfl rfl rfl)

theorem w3_at (b : Fin 2) (hd : Fin 28) (d : Fin 256) (f : Fin 768) :
    val_main_v13 (F := Ideal) x7 (ix4 b hd f d) = (data x0 x1 x2 x3 x4 x5 x6 x7 x8).W3 b hd d f := by
  rw [val_main_v13_apply, val_main_v10_apply]
  exact congrArg x7 (ext3 rfl rfl rfl)

theorem w2_at (b : Fin 2) (hd : Fin 28) (d : Fin 256) (f : Fin 768) :
    val_main_v14 (F := Ideal) x8 (ix4 b hd d f) = (data x0 x1 x2 x3 x4 x5 x6 x7 x8).W2 b hd d f := by
  rw [val_main_v14_apply, val_main_v11_apply]
  exact congrArg x8 (ext3 rfl rfl rfl)

theorem h1q (b : Fin 2) (n : Fin 1536) (hd : Fin 28) (f : Fin 768) :
    val_main_v19 (F := Ideal) x0 x1 x6 (ix4 b n hd f) = hidden ((data x0 x1 x2 x3 x4 x5 x6 x7 x8).W1 b hd) ((data x0 x1 x2 x3 x4 x5 x6 x7 x8).q b (tk n) hd) ((data x0 x1 x2 x3 x4 x5 x6 x7 x8).qs b (tk n) hd) f := by
  rw [val_main_v19_apply, val_main_v16_apply, val_main_v18_apply, val_main_v17_apply, show idx_main_v16 (ix4 b n hd f) = ix4 b hd f n from ext4 rfl rfl rfl rfl,
    show idx_main_v17 (idx_main_v18 (ix4 b n hd f)) = ix3 b n hd from ext3 rfl rfl rfl, qs_at x0 x1 x2 x3 x4 x5 x6 x7 x8, val_main_v15_apply]
  refine congrArg (· * _) (Finset.sum_congr rfl fun d _ => ?_)
  rw [show lidx_main_v15 (ix4 b hd f n) d = ix4 b hd f d from ext4 rfl rfl rfl rfl, show ridx_main_v15 (ix4 b hd f n) d = ix4 b n hd d from ext4 rfl rfl rfl rfl,
    w1_at x0 x1 x2 x3 x4 x5 x6 x7 x8, q_at x0 x1 x2 x3 x4 x5 x6 x7 x8]
  exact mul_comm _ _

theorem h3q (b : Fin 2) (n : Fin 1536) (hd : Fin 28) (f : Fin 768) :
    val_main_v24 (F := Ideal) x0 x1 x7 (ix4 b n hd f) = hidden ((data x0 x1 x2 x3 x4 x5 x6 x7 x8).W3 b hd) ((data x0 x1 x2 x3 x4 x5 x6 x7 x8).q b (tk n) hd) ((data x0 x1 x2 x3 x4 x5 x6 x7 x8).qs b (tk n) hd) f := by
  rw [val_main_v24_apply, val_main_v21_apply, val_main_v23_apply, val_main_v22_apply, show idx_main_v21 (ix4 b n hd f) = ix4 b hd f n from ext4 rfl rfl rfl rfl,
    show idx_main_v22 (idx_main_v23 (ix4 b n hd f)) = ix3 b n hd from ext3 rfl rfl rfl, qs_at x0 x1 x2 x3 x4 x5 x6 x7 x8, val_main_v20_apply]
  refine congrArg (· * _) (Finset.sum_congr rfl fun d _ => ?_)
  rw [show lidx_main_v20 (ix4 b hd f n) d = ix4 b hd f d from ext4 rfl rfl rfl rfl, show ridx_main_v20 (ix4 b hd f n) d = ix4 b n hd d from ext4 rfl rfl rfl rfl,
    w3_at x0 x1 x2 x3 x4 x5 x6 x7 x8, q_at x0 x1 x2 x3 x4 x5 x6 x7 x8]
  exact mul_comm _ _

theorem silu_q (b : Fin 2) (n : Fin 1536) (hd : Fin 28) (f : Fin 768) :
    val_main_v25 (F := Ideal) x0 x1 x6 (ix4 b n hd f) = gate (hidden ((data x0 x1 x2 x3 x4 x5 x6 x7 x8).W1 b hd) ((data x0 x1 x2 x3 x4 x5 x6 x7 x8).q b (tk n) hd) ((data x0 x1 x2 x3 x4 x5 x6 x7 x8).qs b (tk n) hd) f) := by
  rw [val_main_v25_apply, val_main_call0_v5_apply, val_main_call0_v4_apply, val_main_call0_cst_0_apply, val_main_call0_v3_apply, val_main_call0_v2_apply,
    val_main_call0_cst_apply, val_main_call0_v1_apply, val_main_call0_v0_apply, h1q x0 x1 x2 x3 x4 x5 x6 x7 x8]
  exact gate_of _

theorem act_q (b : Fin 2) (n : Fin 1536) (hd : Fin 28) (f : Fin 768) :
    val_main_v27 (F := Ideal) x0 x1 x6 x7 (ix4 b n hd f) = act ((data x0 x1 x2 x3 x4 x5 x6 x7 x8).W1 b hd) ((data x0 x1 x2 x3 x4 x5 x6 x7 x8).W3 b hd) ((data x0 x1 x2 x3 x4 x5 x6 x7 x8).q b (tk n) hd) ((data x0 x1 x2 x3 x4 x5 x6 x7 x8).qs b (tk n) hd) f := by
  rw [val_main_v27_apply, val_main_v26_apply, silu_q x0 x1 x2 x3 x4 x5 x6 x7 x8, h3q x0 x1 x2 x3 x4 x5 x6 x7 x8]
  rfl

theorem y_row (b : Fin 2) (n : Fin 1536) (hd : Fin 28) (d : Fin 256) :
    val_main_v29 (F := Ideal) x0 x1 x6 x7 x8 (ix4 b n hd d) = (data x0 x1 x2 x3 x4 x5 x6 x7 x8).y b (tk n) hd d := by
  rw [val_main_v29_apply, show idx_main_v29 (ix4 b n hd d) = ix4 b hd d n from ext4 rfl rfl rfl rfl, val_main_v28_apply]
  show _ = ∑ f, act ((data x0 x1 x2 x3 x4 x5 x6 x7 x8).W1 b hd) ((data x0 x1 x2 x3 x4 x5 x6 x7 x8).W3 b hd) ((data x0 x1 x2 x3 x4 x5 x6 x7 x8).q b (tk n) hd) ((data x0 x1 x2 x3 x4 x5 x6 x7 x8).qs b (tk n) hd) f * (data x0 x1 x2 x3 x4 x5 x6 x7 x8).W2 b hd d f
  refine Finset.sum_congr rfl fun f _ => ?_
  rw [show lidx_main_v28 (ix4 b hd d n) f = ix4 b hd d f from ext4 rfl rfl rfl rfl, show ridx_main_v28 (ix4 b hd d n) f = ix4 b n hd f from ext4 rfl rfl rfl rfl, w2_at x0 x1 x2 x3 x4 x5 x6 x7 x8, act_q x0 x1 x2 x3 x4 x5 x6 x7 x8]
  exact mul_comm _ _

theorem h1k (b : Fin 2) (n : Fin 1536) (hd : Fin 28) (f : Fin 768) :
    val_main_v34 (F := Ideal) x2 x3 x6 (ix4 b n hd f) = hidden ((data x0 x1 x2 x3 x4 x5 x6 x7 x8).W1 b hd) ((data x0 x1 x2 x3 x4 x5 x6 x7 x8).k b (tk n) hd) ((data x0 x1 x2 x3 x4 x5 x6 x7 x8).ks b (tk n) hd) f := by
  rw [val_main_v34_apply, val_main_v31_apply, val_main_v33_apply, val_main_v32_apply, show idx_main_v31 (ix4 b n hd f) = ix4 b hd f n from ext4 rfl rfl rfl rfl,
    show idx_main_v32 (idx_main_v33 (ix4 b n hd f)) = ix3 b n hd from ext3 rfl rfl rfl, ks_at x0 x1 x2 x3 x4 x5 x6 x7 x8, val_main_v30_apply]
  refine congrArg (· * _) (Finset.sum_congr rfl fun d _ => ?_)
  rw [show lidx_main_v30 (ix4 b hd f n) d = ix4 b hd f d from ext4 rfl rfl rfl rfl, show ridx_main_v30 (ix4 b hd f n) d = ix4 b n hd d from ext4 rfl rfl rfl rfl,
    w1_at x0 x1 x2 x3 x4 x5 x6 x7 x8, k_at x0 x1 x2 x3 x4 x5 x6 x7 x8]
  exact mul_comm _ _

theorem h3k (b : Fin 2) (n : Fin 1536) (hd : Fin 28) (f : Fin 768) :
    val_main_v39 (F := Ideal) x2 x3 x7 (ix4 b n hd f) = hidden ((data x0 x1 x2 x3 x4 x5 x6 x7 x8).W3 b hd) ((data x0 x1 x2 x3 x4 x5 x6 x7 x8).k b (tk n) hd) ((data x0 x1 x2 x3 x4 x5 x6 x7 x8).ks b (tk n) hd) f := by
  rw [val_main_v39_apply, val_main_v36_apply, val_main_v38_apply, val_main_v37_apply, show idx_main_v36 (ix4 b n hd f) = ix4 b hd f n from ext4 rfl rfl rfl rfl,
    show idx_main_v37 (idx_main_v38 (ix4 b n hd f)) = ix3 b n hd from ext3 rfl rfl rfl, ks_at x0 x1 x2 x3 x4 x5 x6 x7 x8, val_main_v35_apply]
  refine congrArg (· * _) (Finset.sum_congr rfl fun d _ => ?_)
  rw [show lidx_main_v35 (ix4 b hd f n) d = ix4 b hd f d from ext4 rfl rfl rfl rfl, show ridx_main_v35 (ix4 b hd f n) d = ix4 b n hd d from ext4 rfl rfl rfl rfl,
    w3_at x0 x1 x2 x3 x4 x5 x6 x7 x8, k_at x0 x1 x2 x3 x4 x5 x6 x7 x8]
  exact mul_comm _ _

theorem sig_k (b : Fin 2) (n : Fin 1536) (hd : Fin 28) (f : Fin 768) :
    val_main_v45 (F := Ideal) x2 x3 x6 (ix4 b n hd f) = Ideal.logistic (hidden ((data x0 x1 x2 x3 x4 x5 x6 x7 x8).W1 b hd) ((data x0 x1 x2 x3 x4 x5 x6 x7 x8).k b (tk n) hd) ((data x0 x1 x2 x3 x4 x5 x6 x7 x8).ks b (tk n) hd) f) := by
  rw [val_main_v45_apply, val_main_v44_apply, val_main_cst_0_apply, val_main_v43_apply, val_main_v42_apply, val_main_cst_apply, val_main_v41_apply, val_main_v40_apply, h1k x0 x1 x2 x3 x4 x5 x6 x7 x8]
  exact logistic_of _

theorem gate_k (b : Fin 2) (n : Fin 1536) (hd : Fin 28) (f : Fin 768) :
    val_main_v46 (F := Ideal) x2 x3 x6 (ix4 b n hd f) = gate (hidden ((data x0 x1 x2 x3 x4 x5 x6 x7 x8).W1 b hd) ((data x0 x1 x2 x3 x4 x5 x6 x7 x8).k b (tk n) hd) ((data x0 x1 x2 x3 x4 x5 x6 x7 x8).ks b (tk n) hd) f) := by
  rw [val_main_v46_apply, h1k x0 x1 x2 x3 x4 x5 x6 x7 x8, sig_k x0 x1 x2 x3 x4 x5 x6 x7 x8]
  rfl

theorem g_row (b : Fin 2) (n : Fin 1536) (hd : Fin 28) (f : Fin 768) :
    val_main_v48 (F := Ideal) x2 x3 x6 x7 (ix4 b n hd f) = (data x0 x1 x2 x3 x4 x5 x6 x7 x8).g b (tk n) hd f := by
  rw [val_main_v48_apply, val_main_v47_apply, gate_k x0 x1 x2 x3 x4 x5 x6 x7 x8, h3k x0 x1 x2 x3 x4 x5 x6 x7 x8]
  rfl

theorem e_row (b : Fin 2) (n : Fin 1536) (hd : Fin 28) (d : Fin 256) :
    val_main_v73 (F := Ideal) x4 x5 (ix4 b n hd d) = -((data x0 x1 x2 x3 x4 x5 x6 x7 x8).eta b (tk n) hd) * (data x0 x1 x2 x3 x4 x5 x6 x7 x8).v b (tk n) hd d := by
  rw [val_main_v73_apply, val_main_v53_apply, val_main_v52_apply, val_main_v50_apply, val_main_v49_apply, val_main_v51_apply, v_at x0 x1 x2 x3 x4 x5 x6 x7 x8,
    show idx_main_v49 (idx_main_v52 (ix4 b n hd d)) = ix3 b n hd from ext3 rfl rfl rfl, eta_at x0 x1 x2 x3 x4 x5 x6 x7 x8]
  rfl

theorem back_row (b : Fin 2) (n : Fin 1536) (hd : Fin 28) (f : Fin 768) :
    val_main_v59 (F := Ideal) x4 x5 x8 (ix4 b n hd f) = back ((data x0 x1 x2 x3 x4 x5 x6 x7 x8).W2 b hd) ((data x0 x1 x2 x3 x4 x5 x6 x7 x8).v b (tk n) hd) ((data x0 x1 x2 x3 x4 x5 x6 x7 x8).eta b (tk n) hd) f := by
  rw [val_main_v59_apply, val_main_v58_apply, val_main_v55_apply, val_main_v54_apply, show idx_main_v54 (idx_main_v58 (ix4 b n hd f)) = ix3 b n hd from ext3 rfl rfl rfl, eta_at x0 x1 x2 x3 x4 x5 x6 x7 x8,
    val_main_v57_apply, show idx_main_v57 (ix4 b n hd f) = ix4 b hd f n from ext4 rfl rfl rfl rfl, val_main_v56_apply]
  refine congrArg (_ * ·) (Finset.sum_congr rfl fun d _ => ?_)
  rw [show lidx_main_v56 (ix4 b hd f n) d = ix4 b hd d f from ext4 rfl rfl rfl rfl, show ridx_main_v56 (ix4 b hd f n) d = ix4 b n hd d from ext4 rfl rfl rfl rfl, w2_at x0 x1 x2 x3 x4 x5 x6 x7 x8, v_at x0 x1 x2 x3 x4 x5 x6 x7 x8]
  exact mul_comm _ _

theorem dh3_row (b : Fin 2) (n : Fin 1536) (hd : Fin 28) (f : Fin 768) :
    val_main_v77 (F := Ideal) x2 x3 x4 x5 x6 x8 (ix4 b n hd f) = dh3 ((data x0 x1 x2 x3 x4 x5 x6 x7 x8).W1 b hd) ((data x0 x1 x2 x3 x4 x5 x6 x7 x8).W2 b hd) ((data x0 x1 x2 x3 x4 x5 x6 x7 x8).k b (tk n) hd) ((data x0 x1 x2 x3 x4 x5 x6 x7 x8).ks b (tk n) hd) ((data x0 x1 x2 x3 x4 x5 x6 x7 x8).v b (tk n) hd) ((data x0 x1 x2 x3 x4 x5 x6 x7 x8).eta b (tk n) hd) f := by
  rw [val_main_v77_apply, val_main_v60_apply, back_row x0 x1 x2 x3 x4 x5 x6 x7 x8, gate_k x0 x1 x2 x3 x4 x5 x6 x7 x8]
  rfl

theorem dh1_row (b : Fin 2) (n : Fin 1536) (hd : Fin 28) (f : Fin 768) :
    val_main_v75 (F := Ideal) x2 x3 x4 x5 x6 x7 x8 (ix4 b n hd f) = dh1 ((data x0 x1 x2 x3 x4 x5 x6 x7 x8).W1 b hd) ((data x0 x1 x2 x3 x4 x5 x6 x7 x8).W3 b hd) ((data x0 x1 x2 x3 x4 x5 x6 x7 x8).W2 b hd) ((data x0 x1 x2 x3 x4 x5 x6 x7 x8).k b (tk n) hd) ((data x0 x1 x2 x3 x4 x5 x6 x7 x8).ks b (tk n) hd) ((data x0 x1 x2 x3 x4 x5 x6 x7 x8).v b (tk n) hd) ((data x0 x1 x2 x3 x4 x5 x6 x7 x8).eta b (tk n) hd) f := by
  rw [val_main_v75_apply, val_main_v68_apply, val_main_v62_apply, val_main_v61_apply, back_row x0 x1 x2 x3 x4 x5 x6 x7 x8, h3k x0 x1 x2 x3 x4 x5 x6 x7 x8, val_main_v67_apply, val_main_v66_apply, val_main_cst_2_apply, val_main_v65_apply,
    val_main_v64_apply, val_main_v63_apply, val_main_cst_1_apply, sig_k x0 x1 x2 x3 x4 x5 x6 x7 x8, h1k x0 x1 x2 x3 x4 x5 x6 x7 x8]
  exact times_slope _ _ _ _

theorem kq_row (b : Fin 2) (n : Fin 1536) (hd : Fin 28) (d : Fin 256) :
    val_main_v72 (F := Ideal) x2 x3 (ix4 b n hd d) = (data x0 x1 x2 x3 x4 x5 x6 x7 x8).k b (tk n) hd d * (data x0 x1 x2 x3 x4 x5 x6 x7 x8).ks b (tk n) hd := by
  rw [val_main_v72_apply, val_main_v71_apply, val_main_v70_apply, val_main_v69_apply, k_at x0 x1 x2 x3 x4 x5 x6 x7 x8,
    show idx_main_v69 (idx_main_v71 (ix4 b n hd d)) = ix3 b n hd from ext3 rfl rfl rfl, ks_at x0 x1 x2 x3 x4 x5 x6 x7 x8]
  rfl

theorem t2_at (b : Fin 2) (hd : Fin 28) (d : Fin 256) (f : Fin 768) :
    val_main_v74 (F := Ideal) x2 x3 x4 x5 x6 x7 (ix4 b hd d f) = total (fun n => (data x0 x1 x2 x3 x4 x5 x6 x7 x8).t2 b n hd d f) 0 1536 := by
  rw [val_main_v74_apply, total_fin]
  refine Finset.sum_congr rfl fun n _ => ?_
  rw [show lidx_main_v74 (ix4 b hd d f) n = ix4 b n hd d from ext4 rfl rfl rfl rfl, show ridx_main_v74 (ix4 b hd d f) n = ix4 b n hd f from ext4 rfl rfl rfl rfl, e_row x0 x1 x2 x3 x4 x5 x6 x7 x8, g_row x0 x1 x2 x3 x4 x5 x6 x7 x8]
  rfl

theorem t1_at (b : Fin 2) (hd : Fin 28) (d : Fin 256) (f : Fin 768) :
    val_main_v86 (F := Ideal) x2 x3 x4 x5 x6 x7 x8 (ix4 b hd d f) = total (fun n => (data x0 x1 x2 x3 x4 x5 x6 x7 x8).t1 b n hd d f) 0 1536 := by
  rw [val_main_v86_apply, show idx_main_v86 (ix4 b hd d f) = ix4 b hd f d from ext4 rfl rfl rfl rfl, val_main_v76_apply, total_fin]
  refine Finset.sum_congr rfl fun n _ => ?_
  rw [show lidx_main_v76 (ix4 b hd f d) n = ix4 b n hd f from ext4 rfl rfl rfl rfl, show ridx_main_v76 (ix4 b hd f d) n = ix4 b n hd d from ext4 rfl rfl rfl rfl, dh1_row x0 x1 x2 x3 x4 x5 x6 x7 x8, kq_row x0 x1 x2 x3 x4 x5 x6 x7 x8]
  exact mul_comm _ _

theorem t3_at (b : Fin 2) (hd : Fin 28) (d : Fin 256) (f : Fin 768) :
    val_main_v87 (F := Ideal) x2 x3 x4 x5 x6 x8 (ix4 b hd d f) = total (fun n => (data x0 x1 x2 x3 x4 x5 x6 x7 x8).t3 b n hd d f) 0 1536 := by
  rw [val_main_v87_apply, show idx_main_v87 (ix4 b hd d f) = ix4 b hd f d from ext4 rfl rfl rfl rfl, val_main_v78_apply, total_fin]
  refine Finset.sum_congr rfl fun n _ => ?_
  rw [show lidx_main_v78 (ix4 b hd f d) n = ix4 b n hd f from ext4 rfl rfl rfl rfl, show ridx_main_v78 (ix4 b hd f d) n = ix4 b n hd d from ext4 rfl rfl rfl rfl, dh3_row x0 x1 x2 x3 x4 x5 x6 x7 x8, kq_row x0 x1 x2 x3 x4 x5 x6 x7 x8]
  exact mul_comm _ _

theorem y_at (b : Fin 2) (n : Fin 1536) (hd : Fin 28) (d : Fin 256) :
    val_main_v82 (F := Ideal) x0 x1 x6 x7 x8 (ix3 b (tk n) (col hd d)) = (data x0 x1 x2 x3 x4 x5 x6 x7 x8).y b (tk n) hd d := by
  have hb := b.isLt; have hn := n.isLt; have hh := hd.isLt; have hd' := d.isLt
  refine (concatenate_pair_apply_left (t := S2x4096x7168) (s₁ := S2x1536x7168) (s₂ := S2x2560x7168) (1 : Fin 3) _ _ _ (ix3 b (tk n) (col hd d)) rfl
    (ix3 b n (col hd d)) (fun a => match a with | ⟨0, _⟩ => rfl | ⟨1, _⟩ => rfl | ⟨2, _⟩ => rfl)).trans ?_
  rw [val_main_v80_apply, show idx_main_v80 (ix3 b n (col hd d)) = ix4 b n hd d from ext4
    (Fin.ext (by show ((b.val * 1536 + n.val) * 7168 + (256 * hd.val + d.val)) / 11010048 = b.val; omega))
    (Fin.ext (by show ((b.val * 1536 + n.val) * 7168 + (256 * hd.val + d.val)) / 7168 % 1536 = n.val; omega))
    (Fin.ext (by show ((b.val * 1536 + n.val) * 7168 + (256 * hd.val + d.val)) / 256 % 28 = hd.val; omega))
    (Fin.ext (by show ((b.val * 1536 + n.val) * 7168 + (256 * hd.val + d.val)) % 256 = d.val; omega)), val_main_v79_apply, y_row x0 x1 x2 x3 x4 x5 x6 x7 x8]
  rfl

theorem g_at (b : Fin 2) (n : Fin 1536) (hd : Fin 28) (f : Fin 768) :
    val_main_v85 (F := Ideal) x2 x3 x6 x7 (ix4 b hd (tk n) f) = (data x0 x1 x2 x3 x4 x5 x6 x7 x8).g b (tk n) hd f := by
  refine (concatenate_pair_apply_left (t := S2x28x4096x768) (s₁ := S2x28x1536x768) (s₂ := S2x28x2560x768) (2 : Fin 4) _ _ _ (ix4 b hd (tk n) f) rfl
    (ix4 b hd n f) (fun a => match a with | ⟨0, _⟩ => rfl | ⟨1, _⟩ => rfl | ⟨2, _⟩ => rfl | ⟨3, _⟩ => rfl)).trans ?_
  rw [val_main_v83_apply, show idx_main_v83 (ix4 b hd n f) = ix4 b n hd f from ext4 rfl rfl rfl rfl, g_row x0 x1 x2 x3 x4 x5 x6 x7 x8]

end Cert.FirstPlainIdeal.Reading

end
-- ==== Proof.FirstRun.lean ====
/-
  The first chunk's reference on whole arrays: the program decodes the query and key codes in one launch and computes
  the rest on the host, and its results are the plain program's results of its arguments.
-/
module

public import proofs.«01_k».proof.Proof.Gen.FirstReferenceIdeal.Frame
public import proofs.«01_k».proof.Proof.Gen.FirstPlainIdeal.Read
public import proofs.«01_k».proof.Proof.Blocks

@[expose] public section

set_option maxRecDepth 16384

noncomputable section

namespace Cert.FirstReferenceIdeal.Results

open Idealize.ShloMosaic Idealize.ShloMosaic.TcCoe Idealize.SL Idealize.SL.Sem Idealize.ShloMosaic.StableHlo
open Cert.FirstReferenceIdeal Cert.FirstReferenceIdeal.Gen

/-! ## The host lines, from any contents -/

section Lines
variable {F : FTy → Type} [FloatOps F] (V : Valuation τ sig (Elt F))

theorem y_of : StableHlo.after (List.flatten [hostOps1, hostOps1_1, hostOps1_2]) V (Proc.devRef .tc main_v83)
    = Cert.FirstPlainIdeal.Read.val_main_v82 (F := F) (V (Proc.devRef .tc main_v0_0)) (V (Proc.devRef .tc main_arg1)) (V (Proc.devRef .tc main_arg6)) (V (Proc.devRef .tc main_arg7)) (V (Proc.devRef .tc main_arg8)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

theorem g_of : StableHlo.after (List.flatten [hostOps1, hostOps1_1, hostOps1_2]) V (Proc.devRef .tc main_v86)
    = Cert.FirstPlainIdeal.Read.val_main_v85 (F := F) (V (Proc.devRef .tc main_v0_1)) (V (Proc.devRef .tc main_arg3)) (V (Proc.devRef .tc main_arg6)) (V (Proc.devRef .tc main_arg7)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

theorem g1_of : StableHlo.after (List.flatten [hostOps1, hostOps1_1, hostOps1_2]) V (Proc.devRef .tc main_v87)
    = Cert.FirstPlainIdeal.Read.val_main_v86 (F := F) (V (Proc.devRef .tc main_v0_1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

theorem g3_of : StableHlo.after (List.flatten [hostOps1, hostOps1_1, hostOps1_2]) V (Proc.devRef .tc main_v88)
    = Cert.FirstPlainIdeal.Read.val_main_v87 (F := F) (V (Proc.devRef .tc main_v0_1)) (V (Proc.devRef .tc main_arg3)) (V (Proc.devRef .tc main_arg4)) (V (Proc.devRef .tc main_arg5)) (V (Proc.devRef .tc main_arg6)) (V (Proc.devRef .tc main_arg8)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

theorem g2_of : StableHlo.after (List.flatten [hostOps1, hostOps1_1, hostOps1_2]) V (Proc.devRef .tc main_v75)
    = Cert.FirstPlainIdeal.Read.val_main_v74 (F := F) (V (Proc.devRef .tc main_v0_1)) (V (Proc.devRef .tc main_arg3)) (V (Proc.devRef .tc main_arg4)) (V (Proc.devRef .tc main_arg5)) (V (Proc.devRef .tc main_arg6)) (V (Proc.devRef .tc main_arg7)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

end Lines

/-! ## The decoded codes -/

variable (m : (ℓ : Loc nD τ sig) → Buf (Elt Ideal) ℓ) (ρ : Dev nD → PrngReg) (c : Dev nD)

/-- The launch's one grid point. -/
abbrev one : Fin cfg0.N := ⟨0, by decide⟩

theorem only (t : Fin cfg0.N) : t = one := Fin.ext (by have := t.isLt; have e : cfg0.N = 1 := by decide
                                                       omega)

theorem whole_emb (i : S2x4096x7168.Idx) : r0_0.emb i = i :=
  (Cert.Blocks.emb_unit_of _ _ _ i i fun a => by
    match a with
    | ⟨0, _⟩ => exact (Nat.zero_add _).symm
    | ⟨1, _⟩ => exact (Nat.zero_add _).symm
    | ⟨2, _⟩ => exact (Nat.zero_add _).symm).symm

theorem emb2 (i : S2x4096x7168.Idx) : ((cfg0.win 2).blk one).view.emb i = i := by
  funext a
  apply Fin.ext
  refine (win0_2.rect_emb_val one _ a).trans ?_
  match a with
  | ⟨0, _⟩ => show 0 * 2 + (i 0).val = (i 0).val; omega
  | ⟨1, _⟩ => show 0 * 4096 + (i 1).val = (i 1).val; omega
  | ⟨2, _⟩ => show 0 * 7168 + (i 2).val = (i 2).val; omega

theorem emb0 (i : S2x4096x7168.Idx) : ((cfg0.win 0).blk one).view.emb i = i := by
  funext a
  apply Fin.ext
  refine (win0_0.rect_emb_val one _ a).trans ?_
  match a with
  | ⟨0, _⟩ => show 0 * 2 + (i 0).val = (i 0).val; omega
  | ⟨1, _⟩ => show 0 * 4096 + (i 1).val = (i 1).val; omega
  | ⟨2, _⟩ => show 0 * 7168 + (i 2).val = (i 2).val; omega

/-- A code's decoded value is the code's own value. -/
theorem decoded2 : (dats m 0 c).arrAt 2 cfg0.N = ((fun i => m ((c : Thread nD τ).loc main_arg0) i) : S2x4096x7168.Idx → EReal) := by
  funext i
  have f := (dats m 0 c).arrAt_emb_eq_flushed 2 (fun t t' _ _ h => absurd ((only t).trans (only t').symm) h) one (flush0_2 _) i
  rw [emb2] at f
  refine f.trans ?_
  show (dats m 0 c).after 2 one i = _
  rw [after0_2]
  unfold out0_2
  refine ((congrArg _ (whole_emb i).symm).trans (View.canon_cons_emb r0_0 _ [] i)).trans ?_
  show iblk m c 0 one (r0_0.emb i) = _
  rw [whole_emb]
  show V m c main_arg0 (((cfg0.win 0).blk one).view.emb i) = _
  rw [emb0]
  rfl

theorem emb3 (i : S2x4096x7168.Idx) : ((cfg0.win 3).blk one).view.emb i = i := by
  funext a
  apply Fin.ext
  refine (win0_3.rect_emb_val one _ a).trans ?_
  match a with
  | ⟨0, _⟩ => show 0 * 2 + (i 0).val = (i 0).val; omega
  | ⟨1, _⟩ => show 0 * 4096 + (i 1).val = (i 1).val; omega
  | ⟨2, _⟩ => show 0 * 7168 + (i 2).val = (i 2).val; omega

theorem emb1 (i : S2x4096x7168.Idx) : ((cfg0.win 1).blk one).view.emb i = i := by
  funext a
  apply Fin.ext
  refine (win0_1.rect_emb_val one _ a).trans ?_
  match a with
  | ⟨0, _⟩ => show 0 * 2 + (i 0).val = (i 0).val; omega
  | ⟨1, _⟩ => show 0 * 4096 + (i 1).val = (i 1).val; omega
  | ⟨2, _⟩ => show 0 * 7168 + (i 2).val = (i 2).val; omega

/-- A code's decoded value is the code's own value. -/
theorem decoded3 : (dats m 0 c).arrAt 3 cfg0.N = ((fun i => m ((c : Thread nD τ).loc main_arg2) i) : S2x4096x7168.Idx → EReal) := by
  funext i
  have f := (dats m 0 c).arrAt_emb_eq_flushed 3 (fun t t' _ _ h => absurd ((only t).trans (only t').symm) h) one (flush0_3 _) i
  rw [emb3] at f
  refine f.trans ?_
  show (dats m 0 c).after 3 one i = _
  rw [after0_3]
  unfold out0_3
  refine ((congrArg _ (whole_emb i).symm).trans (View.canon_cons_emb r0_0 _ [] i)).trans ?_
  show iblk m c 1 one (r0_0.emb i) = _
  rw [whole_emb]
  show V m c main_arg2 (((cfg0.win 1).blk one).view.emb i) = _
  rw [emb1]
  rfl

/-! ## The run -/

/-- The arrays as the launch leaves them, which the host lines find. -/
abbrev left : Valuation τ sig (Elt Ideal) :=
  Pipeline.withArrays (cfgs 0).spec c (V0 m c) fun w => (dats m 0 c).arrAt w (cfgs 0).N

theorem left_v0_0 : left m c (Proc.devRef .tc main_v0_0) = ((fun i => m ((c : Thread nD τ).loc main_arg0) i) : S2x4096x7168.Idx → EReal) :=
  (Pipeline.withArrays_arr _ launch0.win.arr_inj c _ _ 2).trans (decoded2 m c)

theorem left_v0_1 : left m c (Proc.devRef .tc main_v0_1) = ((fun i => m ((c : Thread nD τ).loc main_arg2) i) : S2x4096x7168.Idx → EReal) :=
  (Pipeline.withArrays_arr _ launch0.win.arr_inj c _ _ 3).trans (decoded3 m c)

theorem left_arg1 : left m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem left_arg3 : left m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

theorem left_arg4 : left m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

theorem left_arg5 : left m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem left_arg6 : left m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

theorem left_arg7 : left m c (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)

theorem left_arg8 : left m c (Proc.devRef .tc main_arg8) = m ((c : Thread nD τ).loc main_arg8) :=
  (Pipeline.withArrays_of_ne _ c (V0 m c) _ main_arg8 (by exact (by decide : ∀ w, Pipeline.arrRef spec0 w ≠ main_arg8))).trans (V_main_arg8 m c)

theorem y_end : Pipeline.afterTail₀ cfgs (dats m) 0 (V0 m) [hostOps1, hostOps1_1, hostOps1_2] c main_v83
    = Cert.FirstPlainIdeal.Read.val_main_v82 (F := Ideal) (m ((c : Thread nD τ).loc main_arg0)) (m ((c : Thread nD τ).loc main_arg1)) (m ((c : Thread nD τ).loc main_arg6)) (m ((c : Thread nD τ).loc main_arg7)) (m ((c : Thread nD τ).loc main_arg8)) := by
  unfold Pipeline.afterTail₀
  refine (y_of (left m c)).trans ?_
  rw [left_v0_0, left_arg1, left_arg6, left_arg7, left_arg8]

theorem g_end : Pipeline.afterTail₀ cfgs (dats m) 0 (V0 m) [hostOps1, hostOps1_1, hostOps1_2] c main_v86
    = Cert.FirstPlainIdeal.Read.val_main_v85 (F := Ideal) (m ((c : Thread nD τ).loc main_arg2)) (m ((c : Thread nD τ).loc main_arg3)) (m ((c : Thread nD τ).loc main_arg6)) (m ((c : Thread nD τ).loc main_arg7)) := by
  unfold Pipeline.afterTail₀
  refine (g_of (left m c)).trans ?_
  rw [left_v0_1, left_arg3, left_arg6, left_arg7]

theorem g1_end : Pipeline.afterTail₀ cfgs (dats m) 0 (V0 m) [hostOps1, hostOps1_1, hostOps1_2] c main_v87
    = Cert.FirstPlainIdeal.Read.val_main_v86 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  refine (g1_of (left m c)).trans ?_
  rw [left_v0_1, left_arg3, left_arg4, left_arg5, left_arg6, left_arg7, left_arg8]

theorem g3_end : Pipeline.afterTail₀ cfgs (dats m) 0 (V0 m) [hostOps1, hostOps1_1, hostOps1_2] c main_v88
    = Cert.FirstPlainIdeal.Read.val_main_v87 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  unfold Pipeline.afterTail₀
  refine (g3_of (left m c)).trans ?_
  rw [left_v0_1, left_arg3, left_arg4, left_arg5, left_arg6, left_arg8]

theorem g2_end : Pipeline.afterTail₀ cfgs (dats m) 0 (V0 m) [hostOps1, hostOps1_1, hostOps1_2] c main_v75
    = Cert.FirstPlainIdeal.Read.val_main_v74 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  refine (g2_of (left m c)).trans ?_
  rw [left_v0_1, left_arg3, left_arg4, left_arg5, left_arg6, left_arg7]

/-- The reference's results are the plain program's of its arguments, and its arguments end as they began. -/
theorem run : θ_run defs (onTc (τ := τ) (main (F := Ideal))) ⟨m, fun _ => 0, ρ⟩ fun r => ∀ c : Dev nD,
    r.2.mem ((c : Thread nD τ).loc main_v83) = Cert.FirstPlainIdeal.Read.val_main_v82 (F := Ideal) (m ((c : Thread nD τ).loc main_arg0)) (m ((c : Thread nD τ).loc main_arg1)) (m ((c : Thread nD τ).loc main_arg6)) (m ((c : Thread nD τ).loc main_arg7)) (m ((c : Thread nD τ).loc main_arg8))
      ∧     r.2.mem ((c : Thread nD τ).loc main_v86) = Cert.FirstPlainIdeal.Read.val_main_v85 (F := Ideal) (m ((c : Thread nD τ).loc main_arg2)) (m ((c : Thread nD τ).loc main_arg3)) (m ((c : Thread nD τ).loc main_arg6)) (m ((c : Thread nD τ).loc main_arg7))
      ∧     r.2.mem ((c : Thread nD τ).loc main_v87) = Cert.FirstPlainIdeal.Read.val_main_v86 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧     r.2.mem ((c : Thread nD τ).loc main_v88) = Cert.FirstPlainIdeal.Read.val_main_v87 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8))
      ∧     r.2.mem ((c : Thread nD τ).loc main_v75) = Cert.FirstPlainIdeal.Read.val_main_v74 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h c).2 main_v83 (Pipeline.mem_restRefs_of main_v83 (by decide) (by decide))).trans (y_end m c),
    ((h c).2 main_v86 (Pipeline.mem_restRefs_of main_v86 (by decide) (by decide))).trans (g_end m c),
    ((h c).2 main_v87 (Pipeline.mem_restRefs_of main_v87 (by decide) (by decide))).trans (g1_end m c),
    ((h c).2 main_v88 (Pipeline.mem_restRefs_of main_v88 (by decide) (by decide))).trans (g3_end m c),
    ((h c).2 main_v75 (Pipeline.mem_restRefs_of main_v75 (by decide) (by decide))).trans (g2_end m c),
    ((h c).1 0).trans (((dats m 0 c).arrAt_in 0 rfl _).trans (V_main_arg0 m c)),
    ((h c).2 main_arg1 (Pipeline.mem_restRefs_of main_arg1 (by decide) (by decide))).trans (W_main_arg1 m (dats m) c),
    ((h c).1 1).trans (((dats m 0 c).arrAt_in 1 rfl _).trans (V_main_arg2 m c)),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c)⟩)
    (run_main m ρ)

end Cert.FirstReferenceIdeal.Results

end
-- ==== Proof.FirstClaims.lean ====
/-
  The first chunk's claims: where the mask is set, the kernel's arrays and the reference's are both what the chunk's
  data (Proof/Chunk.lean) give, so they are equal.
-/
module

public import proofs.«01_k».proof.Defs
public import proofs.«01_k».proof.Proof.FirstArrays
public import proofs.«01_k».proof.Proof.FirstReading
public import proofs.«01_k».proof.Proof.FirstRun
public import proofs.«01_k».proof.Proof.Gen.First.Frame
public import proofs.«01_k».proof.Proof.Gen.FirstPlainIdeal.Run
public import proofs.«01_k».proof.Proof.Gen.On_first_rows

@[expose] public section

set_option maxRecDepth 16384

noncomputable section

/-! ## The mask -/

namespace Cert.On_first_rows

open Idealize.ShloMosaic Idealize.ShloMosaic.ValueIdx

variable {F : FTy → Type} [FloatOps F] [Facts]

/-- The mask of the first result is the first chunk's rows, -/
theorem y_iff (main_arg0 : FVec F S2x4096x7168 .fp8e4m3) (main_arg1 : FVec F S2x4096x28 .f32) (main_arg2 : FVec F S2x4096x7168 .fp8e4m3) (main_arg3 : FVec F S2x4096x28 .f32) (main_arg4 : FVec F S2x4096x7168 .bf16) (main_arg5 : FVec F S2x4096x28 .f32) (main_arg6 : FVec F S28x768x256 .f32) (main_arg7 : FVec F S28x768x256 .f32) (main_arg8 : FVec F S28x256x768 .f32) (i : S2x4096x7168.Idx) : (fn main_arg0 main_arg1 main_arg2 main_arg3 main_arg4 main_arg5 main_arg6 main_arg7 main_arg8).1 i = 1#1 ↔ (i 1).val < 1536 := by
  have key : ∀ r < 4096, IntOp.cmpi .slt (BitVec.ofNat 32 r) 1536#32 = 1#1 ↔ r < 1536 := by decide +kernel
  show IntOp.cmpi .slt (BitVec.ofNat 32 (i 1).val) 1536#32 = 1#1 ↔ _
  exact key _ (i 1).isLt

/-- and so is the second's. -/
theorem g_iff (main_arg0 : FVec F S2x4096x7168 .fp8e4m3) (main_arg1 : FVec F S2x4096x28 .f32) (main_arg2 : FVec F S2x4096x7168 .fp8e4m3) (main_arg3 : FVec F S2x4096x28 .f32) (main_arg4 : FVec F S2x4096x7168 .bf16) (main_arg5 : FVec F S2x4096x28 .f32) (main_arg6 : FVec F S28x768x256 .f32) (main_arg7 : FVec F S28x768x256 .f32) (main_arg8 : FVec F S28x256x768 .f32) (i : S2x28x4096x768.Idx) : (fn main_arg0 main_arg1 main_arg2 main_arg3 main_arg4 main_arg5 main_arg6 main_arg7 main_arg8).2.1 i = 1#1 ↔ (i 2).val < 1536 := by
  have key : ∀ r < 4096, IntOp.cmpi .slt (BitVec.ofNat 32 r) 1536#32 = 1#1 ↔ r < 1536 := by decide +kernel
  show IntOp.cmpi .slt (BitVec.ofNat 32 (i 2).val) 1536#32 = 1#1 ↔ _
  exact key _ (i 2).isLt

end Cert.On_first_rows

/-! ## Equal arrays -/

namespace Cert.FirstIdeal.Claims

open Idealize.ShloMosaic Idealize.ShloMosaic.TcCoe Idealize.SL Idealize.SL.Sem Idealize.ShloMosaic.ValueIdx
open Cert.FirstIdeal Cert.FirstIdeal.Gen Cert.FirstIdeal.Arrays Cert.FirstPlainIdeal.Read Cert.Chunk Cert.Coord
open Cert.FirstPlainIdeal.Reading (tk)

variable (m : (ℓ : Loc nD τ sig) → Buf (Elt Ideal) ℓ) (c : Dev nD)

/-- The kernel's arguments and the reference's, taken as the chunk's data, are the same data. -/
theorem same : data m c = Cert.FirstPlainIdeal.Reading.data (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := rfl

theorem token_of (n : Fin 4096) (h : n.val < 1536) : n = tk ⟨n.val, by omega⟩ := Fin.ext (by
  show n.val = n.val
  omega)

theorem column_of (k : Fin 7168) : k = col ⟨k.val / 256, by have := k.isLt; omega⟩ ⟨k.val % 256, by omega⟩ := Fin.ext (by
  show k.val = 256 * (k.val / 256) + k.val % 256
  omega)

theorem y_eq (i : S2x4096x7168.Idx) (h : (i 1).val < 1536) :
    (dats m 0 c).arrAt 9 cfg0.N i = val_main_v82 (F := Ideal) (m ((c : Thread nD τ).loc main_arg0)) (m ((c : Thread nD τ).loc main_arg1)) (m ((c : Thread nD τ).loc main_arg6)) (m ((c : Thread nD τ).loc main_arg7)) (m ((c : Thread nD τ).loc main_arg8)) i := by
  have e : i = ix3 (i 0) (tk ⟨(i 1).val, by omega⟩) (col ⟨(i 2).val / 256, by have : (i 2).val < 7168 := (i 2).isLt; omega⟩ ⟨(i 2).val % 256, by omega⟩) :=
    ext3 rfl (token_of (i 1) h) (column_of (i 2))
  rw [e]
  refine (y_at m c _ _ (by show (tk _).val < 1536; exact h) _ _).trans ?_
  rw [same]
  exact (Cert.FirstPlainIdeal.Reading.y_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _).symm

theorem g_eq (i : S2x28x4096x768.Idx) (h : (i 2).val < 1536) :
    (dats m 0 c).arrAt 10 cfg0.N i = val_main_v85 (F := Ideal) (m ((c : Thread nD τ).loc main_arg2)) (m ((c : Thread nD τ).loc main_arg3)) (m ((c : Thread nD τ).loc main_arg6)) (m ((c : Thread nD τ).loc main_arg7)) i := by
  have e : i = ix4 (i 0) (i 1) (tk ⟨(i 2).val, by omega⟩) (i 3) := ext4 rfl rfl (token_of (i 2) h) rfl
  rw [e]
  refine (g_at m c _ _ (by exact h) _ _).trans ?_
  rw [same]
  exact (Cert.FirstPlainIdeal.Reading.g_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _).symm

theorem t1_eq : (dats m 0 c).arrAt 11 cfg0.N = val_main_v86 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  rw [show i = ix4 (i 0) (i 1) (i 2) (i 3) from ext4 rfl rfl rfl rfl]
  refine (t1_at m c _ _ _ _).trans ?_
  rw [same]
  exact (Cert.FirstPlainIdeal.Reading.t1_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _).symm

theorem t3_eq : (dats m 0 c).arrAt 12 cfg0.N = val_main_v87 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  funext i
  rw [show i = ix4 (i 0) (i 1) (i 2) (i 3) from ext4 rfl rfl rfl rfl]
  refine (t3_at m c _ _ _ _).trans ?_
  rw [same]
  exact (Cert.FirstPlainIdeal.Reading.t3_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _).symm

theorem t2_eq : (dats m 0 c).arrAt 13 cfg0.N = val_main_v74 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  rw [show i = ix4 (i 0) (i 1) (i 2) (i 3) from ext4 rfl rfl rfl rfl]
  refine (t2_at m c _ _ _ _).trans ?_
  rw [same]
  exact (Cert.FirstPlainIdeal.Reading.t2_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _).symm

end Cert.FirstIdeal.Claims

/-! ## The claims -/

namespace Cert.Proof.FirstClaims

open Idealize.ShloMosaic Idealize.ShloMosaic.TcCoe Idealize.SL Idealize.SL.Sem
open Cert.FirstIdeal.Claims

theorem frame : Cert.quiescent_First := fun m ρ _ => Cert.First.Gen.frame m ρ
theorem frame_ideal : Cert.quiescent_FirstIdeal := fun m ρ _ => Cert.FirstIdeal.Gen.frame m ρ
theorem frame_reference : Cert.quiescent_FirstReferenceIdeal := fun m ρ _ => Cert.FirstReferenceIdeal.Gen.frame m ρ
theorem frame_plain : Cert.quiescent_FirstPlainIdeal := fun m ρ _ =>
  (θ_run Cert.FirstPlainIdeal.defs _ _).mono (fun r h => ⟨fun c => (h c).2.2.2.2.2, sem_eq_zero_of_no_sems (by decide) r.2⟩)
    (Cert.FirstPlainIdeal.Value.run m ρ)

/-- The one named constant is the number its bits round. -/
theorem preserves : Cert.preserves_First_FirstIdeal :=
  IdealRules.named_const.statement Cert.FirstIdeal.κ "neg_log2_e" .f32 0xBFB8AA3B#32 ((-((Real.log 2)⁻¹) : ℝ) : EReal) rfl

theorem algebraic : Cert.algebraic_FirstIdeal_FirstReferenceIdeal_on_first_rows := by
  intro m ρ m' ρ' _ hagree

  refine ⟨fun c => (Cert.FirstIdeal.Gen.dats m 0 c).arrAt 9 Cert.FirstIdeal.cfg0.N, fun c => (Cert.FirstIdeal.Gen.dats m 0 c).arrAt 10 Cert.FirstIdeal.cfg0.N, fun c => (Cert.FirstIdeal.Gen.dats m 0 c).arrAt 11 Cert.FirstIdeal.cfg0.N, fun c => (Cert.FirstIdeal.Gen.dats m 0 c).arrAt 12 Cert.FirstIdeal.cfg0.N, fun c => (Cert.FirstIdeal.Gen.dats m 0 c).arrAt 13 Cert.FirstIdeal.cfg0.N, ?_, ?_⟩
  · refine (θ_run Cert.FirstIdeal.defs _ _).mono (fun _ h c => ?_) (Cert.FirstIdeal.Value.run_blocks (F := Ideal) m ρ)
    obtain ⟨hy, hg, h1, h3, h2, rest⟩ := h c
    exact ⟨fun i _ => congrFun hy i, fun i _ => congrFun hg i, fun i _ => congrFun h1 i, fun i _ => congrFun h3 i, fun i _ => congrFun h2 i, rest⟩
  · refine (θ_run Cert.FirstReferenceIdeal.defs _ _).mono (fun _ h c => ?_) (Cert.FirstReferenceIdeal.Results.run m' ρ')
    obtain ⟨hy, hg, h1, h3, h2, rest⟩ := h c
    obtain ⟨a0, a1, a2, a3, a4, a5, a6, a7, a8⟩ := hagree c
    rw [a0, a1, a6, a7, a8] at hy
    rw [a2, a3, a6, a7] at hg
    rw [a2, a3, a4, a5, a6, a7, a8] at h1
    rw [a2, a3, a4, a5, a6, a8] at h3
    rw [a2, a3, a4, a5, a6, a7] at h2
    exact ⟨fun i hi => (congrFun hy i).trans (y_eq m c i ((Cert.On_first_rows.y_iff _ _ _ _ _ _ _ _ _ i).mp hi)).symm,
      fun i hi => (congrFun hg i).trans (g_eq m c i ((Cert.On_first_rows.g_iff _ _ _ _ _ _ _ _ _ i).mp hi)).symm,
      fun i _ => (congrFun h1 i).trans (congrFun (t1_eq m c) i).symm, fun i _ => (congrFun h3 i).trans (congrFun (t3_eq m c) i).symm,
      fun i _ => (congrFun h2 i).trans (congrFun (t2_eq m c) i).symm, rest⟩

end Cert.Proof.FirstClaims

end
-- ==== Proof.SecondPoint.lean ====
/-
  The second chunk's kernel at one grid point: the pieces its body stores are the four steps' results (Proof/Blocks.lean),
  at a pair's first point (weights read and kept, gradients begun) and at a later one.
-/
module

public import proofs.«01_k».proof.Proof.Gen.SecondIdeal.Frame
public import proofs.«01_k».proof.Proof.Chunk
public import Idealize.ShloMosaic.Lib.Pipeline.ReadBack

@[expose] public section

set_option maxRecDepth 16384

noncomputable section

namespace Cert.SecondIdeal.Point

open Idealize.ShloMosaic Idealize.ShloMosaic.TcCoe Idealize.SL Idealize.SL.Sem Idealize.ShloMosaic.ValueIdx
open Cert.SecondIdeal Cert.SecondIdeal.Gen Cert.Blocks Cert.Step Cert.Spec

/-- The named constant. -/
abbrev cst : Ideal .f32 := Named.named κ "neg_log2_e" 0xBFB8AA3B#32

theorem cst_eq : cst = negLog2E := IdealRules.named_const.ideal_named_scalar _ _ _ _ rfl

/-- The batch entry, as the body computes it from the grid coordinate. -/
abbrev batchAt (i : grid0.Coords) : Nat := BitVec.toNat (Scalar.indexCast (BitVec.ofNat 32 (i 0).val))

theorem batchAt_eq (i : grid0.Coords) : batchAt i = (i 0).val := by
  have h : (i 0).val < 2 := (i 0).isLt
  show BitVec.toNat (Scalar.indexCast (BitVec.ofNat 32 (i 0).val)) = _
  generalize (i 0).val = n at h
  interval_cases n <;> rfl

theorem batchAt_lt (i : grid0.Coords) : batchAt i < 2 := by rw [batchAt_eq]; exact (i 0).isLt

/-- The batch entry of a grid point. -/
def batch (i : grid0.Coords) : Fin 2 := ⟨(i 0).val, (i 0).isLt⟩

theorem batch_eq (i : grid0.Coords) : (⟨batchAt i, batchAt_lt i⟩ : Fin 2) = batch i := Fin.ext (batchAt_eq i)

/-- The pieces a pair's first point stores. -/
theorem pieces_A (c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0) (x0 x1 x2 x3 x4 x5 x6 x7 x8) (hb) :
    (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).1 = yPieces (yAt cst x0 x3 (batchAt i) hb (fun h => keep (ldMat x6 h)) (fun h => keep (ldMat x7 h)) (fun h => keep (ldMat x8 h)))
    ∧ (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.1 = gPieces (gAt cst x1 x4 (batchAt i) hb (fun h => keep (ldMat x6 h)) (fun h => keep (ldMat x7 h)))
    ∧ (∃ L, (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.2.1 = accPieces (g1At cst x1 x2 x4 x5 (batchAt i) hb (fun h => keep (ldMat x6 h)) (fun h => keep (ldMat x7 h)) (fun h => keep (ldMat x8 h)) (fun _ => zeros)) ++ L)
    ∧ (∃ L, (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.2.2.1 = accPieces (g3At cst x1 x2 x4 x5 (batchAt i) hb (fun h => keep (ldMat x6 h)) (fun h => keep (ldMat x8 h)) (fun _ => zeros)) ++ L)
    ∧ (∃ L, (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.2.2.2.1 = accPieces (g2At cst x1 x2 x4 x5 (batchAt i) hb (fun h => keep (ldMat x6 h)) (fun h => keep (ldMat x7 h)) (fun _ => zeros)) ++ L)
    ∧ (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.2.2.2.2.1 = keptPieces (fun h => keep (ldMat x6 h))
    ∧ (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.2.2.2.2.2.1 = keptPieces (fun h => keep (ldMat x7 h))
    ∧ (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.2.2.2.2.2.2.1 = keptPieces (fun h => keep (ldMat x8 h)) := by
  unfold kernelRun0_A
  dsimp only
  sl_unfold_words
  simp (disch := decide) only [↓ View.readCov_skip, ↓ View.readCov_cons_toLoadRect, View.readAt_eq_ld, Memref.IsWhole.read_unread]
  exact ⟨rfl, rfl, ⟨_, rfl⟩, ⟨_, rfl⟩, ⟨_, rfl⟩, rfl, rfl, rfl⟩

/-- The pieces a later point stores. -/
theorem pieces_B (c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0) (x0 x1 x2 x3 x4 x5 x6 x7 x8 xo11 xo12 xo13 xs0 xs1 xs2) (hb) :
    (kernelRun0_B (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2).1 = yPieces (yAt cst x0 x3 (batchAt i) hb (fun h => ldKept xs0 h) (fun h => ldKept xs1 h) (fun h => ldKept xs2 h))
    ∧ (kernelRun0_B (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2).2.1 = gPieces (gAt cst x1 x4 (batchAt i) hb (fun h => ldKept xs0 h) (fun h => ldKept xs1 h))
    ∧ (∃ L, (kernelRun0_B (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2).2.2.1 = accPieces (g1At cst x1 x2 x4 x5 (batchAt i) hb (fun h => ldKept xs0 h) (fun h => ldKept xs1 h) (fun h => ldKept xs2 h) (fun h => ldMat xo11 h)) ++ L)
    ∧ (∃ L, (kernelRun0_B (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2).2.2.2.1 = accPieces (g3At cst x1 x2 x4 x5 (batchAt i) hb (fun h => ldKept xs0 h) (fun h => ldKept xs2 h) (fun h => ldMat xo12 h)) ++ L)
    ∧ (∃ L, (kernelRun0_B (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2).2.2.2.2.1 = accPieces (g2At cst x1 x2 x4 x5 (batchAt i) hb (fun h => ldKept xs0 h) (fun h => ldKept xs1 h) (fun h => ldMat xo13 h)) ++ L) := by
  unfold kernelRun0_B
  dsimp only
  sl_unfold_words
  simp (disch := decide) only [↓ View.readCov_skip, ↓ View.readCov_cons_toLoadRect, View.readAt_eq_ld, Memref.IsWhole.read_unread]
  exact ⟨rfl, rfl, ⟨_, rfl⟩, ⟨_, rfl⟩, ⟨_, rfl⟩⟩

/-- What a pair's first point does. -/
theorem does_A (c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0) (x0 x1 x2 x3 x4 x5 x6 x7 x8) :
    Does ⟨x0, x1, x2, x3, x4, x5⟩ (batch i) (fun h d f => x6 (ix4 (0 : Fin 1) h d f)) (fun h d f => x7 (ix4 (0 : Fin 1) h d f))
      (fun h d f => x8 (ix4 (0 : Fin 1) h d f)) (fun _ _ _ => 0) (fun _ _ _ => 0) (fun _ _ _ => 0)
      ⟨out0_A_9 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_10 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_11 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_12 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_13 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      sout0_A_0 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      sout0_A_1 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      sout0_A_2 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8⟩ := by
  obtain ⟨py, pg, ⟨L1, p1⟩, ⟨L3, p3⟩, ⟨L2, p2⟩, pk1, pk3, pk2⟩ := pieces_A c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 (batchAt_lt i)
  have e := does_of_pieces_kept cst cst_eq ⟨x0, x1, x2, x3, x4, x5⟩ (batchAt i) (batchAt_lt i) (fun h => keep (ldMat x6 h)) (fun h => keep (ldMat x7 h))
    (fun h => keep (ldMat x8 h)) (fun _ => zeros) (fun _ => zeros) (fun _ => zeros)
    ⟨out0_A_9 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_10 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_11 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_12 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_13 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      sout0_A_0 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      sout0_A_1 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      sout0_A_2 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8⟩ L1 L3 L2
    (by unfold out0_A_9; rw [View.read_writes_eq_canon _ _ _ (cover0_A_9 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), py])
    (by unfold out0_A_10; rw [View.read_writes_eq_canon _ _ _ (cover0_A_10 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), pg])
    (by unfold out0_A_11; rw [View.read_writes_eq_canon _ _ _ (cover0_A_11 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), p1])
    (by unfold out0_A_12; rw [View.read_writes_eq_canon _ _ _ (cover0_A_12 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), p3])
    (by unfold out0_A_13; rw [View.read_writes_eq_canon _ _ _ (cover0_A_13 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), p2])
    (by unfold sout0_A_0; rw [View.read_writes_eq_canon _ _ _ (scover0_A_0 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), pk1])
    (by unfold sout0_A_1; rw [View.read_writes_eq_canon _ _ _ (scover0_A_1 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), pk3])
    (by unfold sout0_A_2; rw [View.read_writes_eq_canon _ _ _ (scover0_A_2 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), pk2])
  simp only [mat_keep_ld, zeros_apply, batch_eq] at e
  exact e

/-- What a later point does. -/
theorem does_B (c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0) (x0 x1 x2 x3 x4 x5 x6 x7 x8 xo11 xo12 xo13 xs0 xs1 xs2) :
    Does ⟨x0, x1, x2, x3, x4, x5⟩ (batch i) (fun h d f => xs0 (ix3 h d f)) (fun h d f => xs1 (ix3 h d f))
      (fun h d f => xs2 (ix3 h d f)) (fun h d f => xo11 (ix4 (0 : Fin 1) h d f)) (fun h d f => xo12 (ix4 (0 : Fin 1) h d f))
      (fun h d f => xo13 (ix4 (0 : Fin 1) h d f))
      ⟨out0_B_9 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_10 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_11 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_12 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_13 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      sout0_B_0 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      sout0_B_1 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      sout0_B_2 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2⟩ := by
  obtain ⟨py, pg, ⟨L1, p1⟩, ⟨L3, p3⟩, ⟨L2, p2⟩⟩ := pieces_B c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2 (batchAt_lt i)
  have e := does_of_pieces cst cst_eq ⟨x0, x1, x2, x3, x4, x5⟩ (batchAt i) (batchAt_lt i) (fun h => ldKept xs0 h) (fun h => ldKept xs1 h)
    (fun h => ldKept xs2 h) (fun h => ldMat xo11 h) (fun h => ldMat xo12 h) (fun h => ldMat xo13 h)
    ⟨out0_B_9 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_10 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_11 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_12 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_13 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      sout0_B_0 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      sout0_B_1 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      sout0_B_2 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2⟩ L1 L3 L2
    (by unfold out0_B_9; rw [View.read_writes_eq_canon _ _ _ (cover0_B_9 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2), py])
    (by unfold out0_B_10; rw [View.read_writes_eq_canon _ _ _ (cover0_B_10 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2), pg])
    (by unfold out0_B_11; rw [View.read_writes_eq_canon _ _ _ (cover0_B_11 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2), p1])
    (by unfold out0_B_12; rw [View.read_writes_eq_canon _ _ _ (cover0_B_12 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2), p3])
    (by unfold out0_B_13; rw [View.read_writes_eq_canon _ _ _ (cover0_B_13 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2), p2])
    (fun h d f => (congrFun (congrFun (mat_ld_kept xs0 h) d) f).symm)
    (fun h d f => (congrFun (congrFun (mat_ld_kept xs1 h) d) f).symm)
    (fun h d f => (congrFun (congrFun (mat_ld_kept xs2 h) d) f).symm)
  simp only [mat_ld_kept, ld_mat, batch_eq] at e
  exact e

end Cert.SecondIdeal.Point

end
-- ==== Proof.SecondArrays.lean ====
/-
  The second chunk's kernel on whole arrays: what every grid point's blocks are in the arguments, what every point leaves,
  and what the five result arrays hold in the end.
-/
module

public import proofs.«01_k».proof.Proof.SecondPoint
public import proofs.«01_k».proof.Proof.Coord
public import proofs.«01_k».proof.Proof.Gen.SecondIdeal.Value

@[expose] public section

set_option maxRecDepth 16384

noncomputable section

namespace Cert.SecondIdeal.Arrays

open Idealize.ShloMosaic Idealize.ShloMosaic.TcCoe Idealize.SL Idealize.SL.Sem Idealize.ShloMosaic.ValueIdx
open Cert.SecondIdeal Cert.SecondIdeal.Gen Cert.SecondIdeal.Value Cert.SecondIdeal.Point Cert.Blocks Cert.Chunk Cert.Coord Cert.Spec Cert.Step

variable (m : (ℓ : Loc nD τ sig) → Buf (Elt Ideal) ℓ) (c : Dev nD)

/-- The chunk's data: the arguments. -/
def data : Data where
  q b n hd d := m ((c : Thread nD τ).loc main_arg0) (ix3 b n (col hd d))
  qs b n hd := m ((c : Thread nD τ).loc main_arg1) (ix3 b n hd)
  k b n hd d := m ((c : Thread nD τ).loc main_arg2) (ix3 b n (col hd d))
  ks b n hd := m ((c : Thread nD τ).loc main_arg3) (ix3 b n hd)
  v b n hd d := m ((c : Thread nD τ).loc main_arg4) (ix3 b n (col hd d))
  eta b n hd := m ((c : Thread nD τ).loc main_arg5) (ix3 b n hd)
  W1 b hd d f := m ((c : Thread nD τ).loc main_arg6) (ix4 b hd d f)
  W3 b hd d f := m ((c : Thread nD τ).loc main_arg7) (ix4 b hd d f)
  W2 b hd d f := m ((c : Thread nD τ).loc main_arg8) (ix4 b hd d f)

/-! ## The grid -/

theorem coord0 (t : Fin cfg0.N) : (grid0.coords t 0).val = t.val / 42 := by
  have h := Pipeline.Grid.coords_val (G := grid0) t 0 (S := 42) (B := 2) (by decide) rfl
  have hN : t.val < 84 := lt_of_lt_of_eq t.isLt N_0
  rw [h]; omega

theorem coord1 (t : Fin cfg0.N) : (grid0.coords t 1).val = t.val / 3 % 14 :=
  Pipeline.Grid.coords_val (G := grid0) t 1 (S := 3) (B := 14) (by decide) rfl

theorem coord2 (t : Fin cfg0.N) : (grid0.coords t 2).val = t.val % 3 := by
  have h := Pipeline.Grid.coords_val (G := grid0) t 2 (S := 1) (B := 3) (by decide) rfl
  rw [h, Nat.div_one]

/-- A point's pair of heads. -/
def pair (t : Fin cfg0.N) : Fin 14 := ⟨(grid0.coords t 1).val, (grid0.coords t 1).isLt⟩

theorem tok_index (i : grid0.Coords) : cc0_transform_0 i = ![(i 0).val, 3 + (i 2).val, (i 1).val] := by
  have h0 : (i 0).val < 2 := (i 0).isLt
  have h1 : (i 1).val < 14 := (i 1).isLt
  have h2 : (i 2).val < 3 := (i 2).isLt
  funext a
  match a with
  | ⟨0, _⟩ => exact toNat_word _ (by omega)
  | ⟨1, _⟩ => exact toNat_add 3 _ (by omega)
  | ⟨2, _⟩ => exact toNat_word _ (by omega)

theorem sc_index (i : grid0.Coords) : cc0_transform_3 i = ![(i 1).val, 0, 3 + (i 2).val] := by
  have h1 : (i 1).val < 14 := (i 1).isLt
  have h2 : (i 2).val < 3 := (i 2).isLt
  funext a
  match a with
  | ⟨0, _⟩ => exact toNat_word _ (by omega)
  | ⟨1, _⟩ => rfl
  | ⟨2, _⟩ => exact toNat_add 3 _ (by omega)

theorem hid_index (i : grid0.Coords) : cc0_transform_12 i = ![(i 0).val, (i 1).val, 3 + (i 2).val, 0] := by
  have h0 : (i 0).val < 2 := (i 0).isLt
  have h1 : (i 1).val < 14 := (i 1).isLt
  have h2 : (i 2).val < 3 := (i 2).isLt
  funext a
  match a with
  | ⟨0, _⟩ => exact toNat_word _ (by omega)
  | ⟨1, _⟩ => exact toNat_word _ (by omega)
  | ⟨2, _⟩ => exact toNat_add 3 _ (by omega)
  | ⟨3, _⟩ => rfl

theorem mat_index (i : grid0.Coords) : cc0_transform_13 i = ![(i 0).val, (i 1).val, 0, 0] := by
  have h0 : (i 0).val < 2 := (i 0).isLt
  have h1 : (i 1).val < 14 := (i 1).isLt
  funext a
  match a with
  | ⟨0, _⟩ => exact toNat_word _ (by omega)
  | ⟨1, _⟩ => exact toNat_word _ (by omega)
  | ⟨2, _⟩ => rfl
  | ⟨3, _⟩ => rfl

/-! ## Where a block's element lies in its array -/

theorem tok_emb (t : Fin cfg0.N) (r : Fin 512) (h : Fin 2) (d : Fin 256) :
    (win0_0.rect t).emb (ix3 (0 : Fin 1) r (cat h d))
      = ix3 (batch (grid0.coords t)) (tokenAt (1536 + 512 * (t.val % 3) + r.val)) (col (head (pair t) h) d) := by
  funext a
  apply Fin.ext
  refine (win0_0.rect_emb_val t _ a).trans ?_
  have hr := r.isLt
  have e := congrFun (tok_index (grid0.coords t)) a
  have h2 := coord2 t
  match a with
  | ⟨0, _⟩ =>
    show cc0_transform_0 (grid0.coords t) 0 * 1 + 0 = (grid0.coords t 0).val
    rw [show cc0_transform_0 (grid0.coords t) 0 = (grid0.coords t 0).val from e]; omega
  | ⟨1, _⟩ =>
    show cc0_transform_0 (grid0.coords t) 1 * 512 + r.val = (tokenAt (1536 + 512 * (t.val % 3) + r.val)).val
    rw [show cc0_transform_0 (grid0.coords t) 1 = 3 + (grid0.coords t 2).val from e, tokenAt_val _ (by omega)]; omega
  | ⟨2, _⟩ =>
    show cc0_transform_0 (grid0.coords t) 2 * 512 + (256 * h.val + d.val) = 256 * (2 * (grid0.coords t 1).val + h.val) + d.val
    rw [show cc0_transform_0 (grid0.coords t) 2 = (grid0.coords t 1).val from e]; omega

theorem sc_emb (t : Fin cfg0.N) (r : Fin 512) (h : Fin 2) (b : Fin 2) :
    (win0_3.rect t).emb (ix3 h b r) = ix3 (head (pair t) h) b (tokenAt (1536 + 512 * (t.val % 3) + r.val)) := by
  funext a
  apply Fin.ext
  refine (win0_3.rect_emb_val t _ a).trans ?_
  have hr := r.isLt
  have e := congrFun (sc_index (grid0.coords t)) a
  have h2 := coord2 t
  match a with
  | ⟨0, _⟩ =>
    show cc0_transform_3 (grid0.coords t) 0 * 2 + h.val = 2 * (grid0.coords t 1).val + h.val
    rw [show cc0_transform_3 (grid0.coords t) 0 = (grid0.coords t 1).val from e]; omega
  | ⟨1, _⟩ =>
    show cc0_transform_3 (grid0.coords t) 1 * 2 + b.val = b.val
    rw [show cc0_transform_3 (grid0.coords t) 1 = 0 from e]; omega
  | ⟨2, _⟩ =>
    show cc0_transform_3 (grid0.coords t) 2 * 512 + r.val = (tokenAt (1536 + 512 * (t.val % 3) + r.val)).val
    rw [show cc0_transform_3 (grid0.coords t) 2 = 3 + (grid0.coords t 2).val from e, tokenAt_val _ (by omega)]; omega

theorem hid_emb (t : Fin cfg0.N) (h : Fin 2) (r : Fin 512) (f : Fin 768) :
    (win0_10.rect t).emb (ix4 (0 : Fin 1) h r f)
      = ix4 (batch (grid0.coords t)) (head (pair t) h) (tokenAt (1536 + 512 * (t.val % 3) + r.val)) f := by
  funext a
  apply Fin.ext
  refine (win0_10.rect_emb_val t _ a).trans ?_
  have hr := r.isLt
  have e := congrFun (hid_index (grid0.coords t)) a
  have h2 := coord2 t
  match a with
  | ⟨0, _⟩ =>
    show cc0_transform_12 (grid0.coords t) 0 * 1 + 0 = (grid0.coords t 0).val
    rw [show cc0_transform_12 (grid0.coords t) 0 = (grid0.coords t 0).val from e]; omega
  | ⟨1, _⟩ =>
    show cc0_transform_12 (grid0.coords t) 1 * 2 + h.val = 2 * (grid0.coords t 1).val + h.val
    rw [show cc0_transform_12 (grid0.coords t) 1 = (grid0.coords t 1).val from e]; omega
  | ⟨2, _⟩ =>
    show cc0_transform_12 (grid0.coords t) 2 * 512 + r.val = (tokenAt (1536 + 512 * (t.val % 3) + r.val)).val
    rw [show cc0_transform_12 (grid0.coords t) 2 = 3 + (grid0.coords t 2).val from e, tokenAt_val _ (by omega)]; omega
  | ⟨3, _⟩ =>
    show cc0_transform_12 (grid0.coords t) 3 * 768 + f.val = f.val
    rw [show cc0_transform_12 (grid0.coords t) 3 = 0 from e]; omega

theorem mat_emb (t : Fin cfg0.N) (h : Fin 2) (d : Fin 256) (f : Fin 768) :
    (win0_11.rect t).emb (ix4 (0 : Fin 1) h d f) = ix4 (batch (grid0.coords t)) (head (pair t) h) d f := by
  funext a
  apply Fin.ext
  refine (win0_11.rect_emb_val t _ a).trans ?_
  have e := congrFun (mat_index (grid0.coords t)) a
  match a with
  | ⟨0, _⟩ =>
    show cc0_transform_13 (grid0.coords t) 0 * 1 + 0 = (grid0.coords t 0).val
    rw [show cc0_transform_13 (grid0.coords t) 0 = (grid0.coords t 0).val from e]; omega
  | ⟨1, _⟩ =>
    show cc0_transform_13 (grid0.coords t) 1 * 2 + h.val = 2 * (grid0.coords t 1).val + h.val
    rw [show cc0_transform_13 (grid0.coords t) 1 = (grid0.coords t 1).val from e]; omega
  | ⟨2, _⟩ =>
    show cc0_transform_13 (grid0.coords t) 2 * 256 + d.val = d.val
    rw [show cc0_transform_13 (grid0.coords t) 2 = 0 from e]; omega
  | ⟨3, _⟩ =>
    show cc0_transform_13 (grid0.coords t) 3 * 768 + f.val = f.val
    rw [show cc0_transform_13 (grid0.coords t) 3 = 0 from e]; omega

/-! ## What the region finds in the arrays the host prepared -/

theorem V_v0 (hd : Fin 28) (b : Fin 2) (n : Fin 4096) : V m c main_v0 (ix3 hd b n) = (data m c).qs b n hd := by
  have e : V m c main_v0 = transpose S28x2x4096 [2, 0, 1] (m ((c : Thread nD τ).loc main_arg1)) transposes_S2x4096x28_S28x2x4096_2_0_1 := by
    show StableHlo.after hostOps0 _ _ = _
    simp only [hostOps0]
    after_results_simp <;> rfl
  rw [e]; exact scales_apply _ _ hd b n

theorem V_v1 (hd : Fin 28) (b : Fin 2) (n : Fin 4096) : V m c main_v1 (ix3 hd b n) = (data m c).ks b n hd := by
  have e : V m c main_v1 = transpose S28x2x4096 [2, 0, 1] (m ((c : Thread nD τ).loc main_arg3)) transposes_S2x4096x28_S28x2x4096_2_0_1 := by
    show StableHlo.after hostOps0 _ _ = _
    simp only [hostOps0]
    after_results_simp <;> rfl
  rw [e]; exact scales_apply _ _ hd b n

theorem V_v2 (hd : Fin 28) (b : Fin 2) (n : Fin 4096) : V m c main_v2 (ix3 hd b n) = (data m c).eta b n hd := by
  have e : V m c main_v2 = transpose S28x2x4096 [2, 0, 1] (m ((c : Thread nD τ).loc main_arg5)) transposes_S2x4096x28_S28x2x4096_2_0_1 := by
    show StableHlo.after hostOps0 _ _ = _
    simp only [hostOps0]
    after_results_simp <;> rfl
  rw [e]; exact scales_apply _ _ hd b n

/-! ## The points -/

/-- The blocks a point reads. -/
def reads (t : Fin cfg0.N) : Reads := ⟨iblk m c 0 t, iblk m c 1 t, iblk m c 2 t, iblk m c 3 t, iblk m c 4 t, iblk m c 5 t⟩

/-- The blocks a point leaves. -/
def leaves (n : Nat) (hn : n < cfg0.N) : Leaves :=
  ⟨(outsAt0 m c n hn).1, (outsAt0 m c n hn).2.1, (outsAt0 m c n hn).2.2.1, (outsAt0 m c n hn).2.2.2.1,
    (outsAt0 m c n hn).2.2.2.2.1, (outsAt0 m c n hn).2.2.2.2.2.1, (outsAt0 m c n hn).2.2.2.2.2.2.1, (outsAt0 m c n hn).2.2.2.2.2.2.2⟩

theorem part (t : Fin cfg0.N) : Part (data m c) (batch (grid0.coords t)) (pair t) (1536 + 512 * (t.val % 3)) (reads m c t) where
  q r h d := by
    show V m c main_arg0 ((win0_0.rect t).emb _) = _
    rw [V_main_arg0, tok_emb]; rfl
  k r h d := by
    show V m c main_arg2 ((win0_0.rect t).emb _) = _
    rw [V_main_arg2, tok_emb]; rfl
  v r h d := by
    show V m c main_arg4 ((win0_0.rect t).emb _) = _
    rw [V_main_arg4, tok_emb]; rfl
  qs r h := by
    show V m c main_v0 ((win0_3.rect t).emb _) = _
    rw [sc_emb]; exact V_v0 m c _ _ _
  ks r h := by
    show V m c main_v1 ((win0_3.rect t).emb _) = _
    rw [sc_emb]; exact V_v1 m c _ _ _
  eta r h := by
    show V m c main_v2 ((win0_3.rect t).emb _) = _
    rw [sc_emb]; exact V_v2 m c _ _ _

theorem weights1 (t : Fin cfg0.N) (h : Fin 2) (d : Fin 256) (f : Fin 768) :
    iblk m c 6 t (ix4 (0 : Fin 1) h d f) = (data m c).W1 (batch (grid0.coords t)) (head (pair t) h) d f := by
  show V m c main_arg6 ((win0_11.rect t).emb _) = _
  rw [V_main_arg6, mat_emb]; rfl

theorem weights3 (t : Fin cfg0.N) (h : Fin 2) (d : Fin 256) (f : Fin 768) :
    iblk m c 7 t (ix4 (0 : Fin 1) h d f) = (data m c).W3 (batch (grid0.coords t)) (head (pair t) h) d f := by
  show V m c main_arg7 ((win0_11.rect t).emb _) = _
  rw [V_main_arg7, mat_emb]; rfl

theorem weights2 (t : Fin cfg0.N) (h : Fin 2) (d : Fin 256) (f : Fin 768) :
    iblk m c 8 t (ix4 (0 : Fin 1) h d f) = (data m c).W2 (batch (grid0.coords t)) (head (pair t) h) d f := by
  show V m c main_arg8 ((win0_11.rect t).emb _) = _
  rw [V_main_arg8, mat_emb]; rfl

theorem left_A (t : Fin cfg0.N) (h0 : t.val % 3 = 0) :
    Left (data m c) (batch (grid0.coords t)) (pair t) 1536 0 (leaves m c t.val t.isLt) := by
  have p := part m c t
  rw [h0, Nat.mul_zero, Nat.add_zero] at p
  have d := does_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _)
    ((hcond0_0 t).mpr h0) (iblk m c 0 t) (iblk m c 1 t) (iblk m c 2 t) (iblk m c 3 t) (iblk m c 4 t) (iblk m c 5 t) (iblk m c 6 t) (iblk m c 7 t) (iblk m c 8 t)
  unfold leaves
  rw [outsAt0_A m c t h0]
  dsimp only
  exact left_first (data m c) (batch (grid0.coords t)) (pair t) 1536 (reads m c t) _ _ _ _ _ _ _ d p
    (fun h => funext fun d => funext fun f => weights1 m c t h d f) (fun h => funext fun d => funext fun f => weights3 m c t h d f)
    (fun h => funext fun d => funext fun f => weights2 m c t h d f) (fun _ _ _ => rfl) (fun _ _ _ => rfl) (fun _ _ _ => rfl)

theorem left_B (t : Fin cfg0.N) (h0 : ¬t.val % 3 = 0) (done : Nat) (hdone : 512 * (t.val % 3) = done + 512)
    (ih : Left (data m c) (batch (grid0.coords t)) (pair t) 1536 done (leaves m c (t.val - 1) (Nat.lt_of_le_of_lt (Nat.sub_le _ _) t.isLt))) :
    Left (data m c) (batch (grid0.coords t)) (pair t) 1536 (done + 512) (leaves m c t.val t.isLt) := by
  have p := part m c t
  rw [hdone] at p
  have d := does_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _)
    (fun h => h0 ((hcond0_0 t).mp h)) (iblk m c 0 t) (iblk m c 1 t) (iblk m c 2 t) (iblk m c 3 t) (iblk m c 4 t) (iblk m c 5 t) (iblk m c 6 t) (iblk m c 7 t) (iblk m c 8 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  unfold leaves
  rw [outsAt0_B m c t h0]
  dsimp only
  exact left_next (data m c) (batch (grid0.coords t)) (pair t) 1536 done (reads m c t) _ _ ih d p

theorem left (n : Nat) (hn : n < cfg0.N) :
    Left (data m c) (batch (grid0.coords ⟨n, hn⟩)) (pair ⟨n, hn⟩) 1536 (512 * (n % 3)) (leaves m c n hn) := by
  induction n with
  | zero => exact left_A m c ⟨0, hn⟩ rfl
  | succ n ih =>
    by_cases h0 : (n + 1) % 3 = 0
    · rw [h0]; exact left_A m c ⟨n + 1, hn⟩ h0
    · have hb : batch (grid0.coords ⟨n, Nat.lt_of_succ_lt hn⟩) = batch (grid0.coords ⟨n + 1, hn⟩) := Fin.ext (by
        show (grid0.coords ⟨n, Nat.lt_of_succ_lt hn⟩ 0).val = (grid0.coords ⟨n + 1, hn⟩ 0).val
        rw [coord0, coord0]; show n / 42 = (n + 1) / 42; omega)
      have hp : pair ⟨n, Nat.lt_of_succ_lt hn⟩ = pair ⟨n + 1, hn⟩ := Fin.ext (by
        show (grid0.coords ⟨n, Nat.lt_of_succ_lt hn⟩ 1).val = (grid0.coords ⟨n + 1, hn⟩ 1).val
        rw [coord1, coord1]; show n / 3 % 14 = (n + 1) / 3 % 14; omega)
      have l := ih (Nat.lt_of_succ_lt hn)
      rw [hb, hp] at l
      have hd : 512 * ((n + 1) % 3) = 512 * (n % 3) + 512 := by omega
      rw [hd]
      exact left_B m c ⟨n + 1, hn⟩ h0 _ hd l

/-! ## The result arrays -/

/-- The grid point of a batch entry, a pair of heads and a block of tokens. -/
def point (b : Fin 2) (p : Fin 14) (k : Fin 3) : Fin cfg0.N :=
  ⟨42 * b.val + 3 * p.val + k.val, by
    have := b.isLt; have := p.isLt; have := k.isLt
    rw [show cfg0.N = 84 from N_0]; omega⟩

theorem point_mod (b : Fin 2) (p : Fin 14) (k : Fin 3) : (point b p k).val % 3 = k.val := by
  have := k.isLt
  show (42 * b.val + 3 * p.val + k.val) % 3 = k.val; omega

theorem batch_point (b : Fin 2) (p : Fin 14) (k : Fin 3) : batch (grid0.coords (point b p k)) = b := Fin.ext (by
  have := b.isLt; have := p.isLt; have := k.isLt
  show (grid0.coords (point b p k) 0).val = b.val
  rw [coord0]; show (42 * b.val + 3 * p.val + k.val) / 42 = b.val; omega)

theorem pair_point (b : Fin 2) (p : Fin 14) (k : Fin 3) : pair (point b p k) = p := Fin.ext (by
  have := b.isLt; have := p.isLt; have := k.isLt
  show (grid0.coords (point b p k) 1).val = p.val
  rw [coord1]; show (42 * b.val + 3 * p.val + k.val) / 3 % 14 = p.val; omega)

/-- The block of tokens a token lies in, and its row there. -/
theorem token_split (n : Nat) (h : 1536 ≤ n ∧ n < 3072) : ∃ (k : Fin 3) (r : Fin 512), n = 1536 + 512 * k.val + r.val :=
  ⟨⟨(n - 1536) / 512, by omega⟩, ⟨(n - 1536) % 512, Nat.mod_lt _ (by decide)⟩, by
    show n = 1536 + 512 * ((n - 1536) / 512) + (n - 1536) % 512
    omega⟩

theorem head_split (hd : Fin 28) : ∃ (p : Fin 14) (h : Fin 2), hd = head p h := ⟨pairOf hd, halfOf hd, (head_pairOf hd).symm⟩

theorem y_at (b : Fin 2) (n : Fin 4096) (hn : 1536 ≤ n.val ∧ n.val < 3072) (hd : Fin 28) (d : Fin 256) :
    (dats m 0 c).arrAt 9 cfg0.N (ix3 b n (col hd d)) = (data m c).y b n hd d := by
  obtain ⟨k, r, e⟩ := token_split n.val hn
  obtain ⟨p, h, rfl⟩ := head_split hd
  have l := (left m c _ (point b p k).isLt).y r h d
  have a := tok_emb (point b p k) r h d
  have f := (dats m 0 c).arrAt_emb_eq_flushed 9 disjoint9 (point b p k) (flush0_9 _) (ix3 (0 : Fin 1) r (cat h d))
  have en : tokenAt (1536 + 512 * k.val + r.val) = n := Fin.ext ((tokenAt_val _ (by omega)).trans e.symm)
  rw [batch_point, pair_point, point_mod, en] at a
  rw [show (point b p k).val % 3 = k.val from point_mod b p k] at l
  rw [show (⟨(point b p k).val, (point b p k).isLt⟩ : Fin cfg0.N) = point b p k from rfl, batch_point, pair_point,
    en] at l
  rw [flushed9] at f
  refine (congrArg ((dats m 0 c).arrAt 9 cfg0.N) a.symm).trans (f.trans ?_)
  exact l

theorem g_at (b : Fin 2) (n : Fin 4096) (hn : 1536 ≤ n.val ∧ n.val < 3072) (hd : Fin 28) (f : Fin 768) :
    (dats m 0 c).arrAt 10 cfg0.N (ix4 b hd n f) = (data m c).g b n hd f := by
  obtain ⟨k, r, e⟩ := token_split n.val hn
  obtain ⟨p, h, rfl⟩ := head_split hd
  have l := (left m c _ (point b p k).isLt).g r h f
  have a := hid_emb (point b p k) h r f
  have w := (dats m 0 c).arrAt_emb_eq_flushed 10 disjoint10 (point b p k) (flush0_10 _) (ix4 (0 : Fin 1) h r f)
  have en : tokenAt (1536 + 512 * k.val + r.val) = n := Fin.ext ((tokenAt_val _ (by omega)).trans e.symm)
  rw [batch_point, pair_point, point_mod, en] at a
  rw [show (point b p k).val % 3 = k.val from point_mod b p k] at l
  rw [show (⟨(point b p k).val, (point b p k).isLt⟩ : Fin cfg0.N) = point b p k from rfl, batch_point, pair_point,
    en] at l
  rw [flushed10] at w
  refine (congrArg ((dats m 0 c).arrAt 10 cfg0.N) a.symm).trans (w.trans ?_)
  exact l

/-- Among the points that write the gradients back, no two write the same block. -/
theorem mat_inj : ∀ t t' : Fin cfg0.N, t.val % 3 = 2 → t'.val % 3 = 2 → win0_11.index t = win0_11.index t' → t = t' := by
  intro t t' h h' e
  have hN : t.val < 84 := lt_of_lt_of_eq t.isLt N_0
  have hN' : t'.val < 84 := lt_of_lt_of_eq t'.isLt N_0
  have e0 := congrFun e 0
  have e1 := congrFun e 1
  rw [show win0_11.index t 0 = t.val / 42 from (congrFun (mat_index (grid0.coords t)) 0).trans (coord0 t),
    show win0_11.index t' 0 = t'.val / 42 from (congrFun (mat_index (grid0.coords t')) 0).trans (coord0 t')] at e0
  rw [show win0_11.index t 1 = t.val / 3 % 14 from (congrFun (mat_index (grid0.coords t)) 1).trans (coord1 t),
    show win0_11.index t' 1 = t'.val / 3 % 14 from (congrFun (mat_index (grid0.coords t')) 1).trans (coord1 t')] at e1
  exact Fin.ext (by omega)

theorem disjoint11 : ∀ t t' : Fin cfg0.N, (cfg0.win 11).flush t = true → (cfg0.win 11).flush t' = true → t ≠ t' →
    Disjoint ((cfg0.win 11).blk t).view.set ((cfg0.win 11).blk t').view.set :=
  fun t t' h h' hne => (cfg0.win 11).disjoint_blk fun e => hne (mat_inj t t' ((flush0_11 t).mp h) ((flush0_11 t').mp h') e)

theorem t1_at (b : Fin 2) (hd : Fin 28) (d : Fin 256) (f : Fin 768) :
    (dats m 0 c).arrAt 11 cfg0.N (ix4 b hd d f) = total (fun n => (data m c).t1 b n hd d f) 1536 1536 := by
  obtain ⟨p, h, rfl⟩ := head_split hd
  have l := (left m c _ (point b p 2).isLt).g1 h d f
  have a := mat_emb (point b p 2) h d f
  have w := (dats m 0 c).arrAt_emb_eq_flushed 11 disjoint11 (point b p 2) ((flush0_11 _).mpr (point_mod b p 2)) (ix4 (0 : Fin 1) h d f)
  rw [batch_point, pair_point] at a
  rw [show (point b p 2).val % 3 = 2 from point_mod b p 2] at l
  rw [show (⟨(point b p 2).val, (point b p 2).isLt⟩ : Fin cfg0.N) = point b p 2 from rfl, batch_point, pair_point] at l
  rw [flushed11] at w
  refine (congrArg ((dats m 0 c).arrAt 11 cfg0.N) a.symm).trans (w.trans ?_)
  exact l

theorem disjoint12 : ∀ t t' : Fin cfg0.N, (cfg0.win 12).flush t = true → (cfg0.win 12).flush t' = true → t ≠ t' →
    Disjoint ((cfg0.win 12).blk t).view.set ((cfg0.win 12).blk t').view.set :=
  fun t t' h h' hne => (cfg0.win 12).disjoint_blk fun e => hne (mat_inj t t' ((flush0_12 t).mp h) ((flush0_12 t').mp h') e)

theorem t3_at (b : Fin 2) (hd : Fin 28) (d : Fin 256) (f : Fin 768) :
    (dats m 0 c).arrAt 12 cfg0.N (ix4 b hd d f) = total (fun n => (data m c).t3 b n hd d f) 1536 1536 := by
  obtain ⟨p, h, rfl⟩ := head_split hd
  have l := (left m c _ (point b p 2).isLt).g3 h d f
  have a := mat_emb (point b p 2) h d f
  have w := (dats m 0 c).arrAt_emb_eq_flushed 12 disjoint12 (point b p 2) ((flush0_12 _).mpr (point_mod b p 2)) (ix4 (0 : Fin 1) h d f)
  rw [batch_point, pair_point] at a
  rw [show (point b p 2).val % 3 = 2 from point_mod b p 2] at l
  rw [show (⟨(point b p 2).val, (point b p 2).isLt⟩ : Fin cfg0.N) = point b p 2 from rfl, batch_point, pair_point] at l
  rw [flushed12] at w
  refine (congrArg ((dats m 0 c).arrAt 12 cfg0.N) a.symm).trans (w.trans ?_)
  exact l

theorem disjoint13 : ∀ t t' : Fin cfg0.N, (cfg0.win 13).flush t = true → (cfg0.win 13).flush t' = true → t ≠ t' →
    Disjoint ((cfg0.win 13).blk t).view.set ((cfg0.win 13).blk t').view.set :=
  fun t t' h h' hne => (cfg0.win 13).disjoint_blk fun e => hne (mat_inj t t' ((flush0_13 t).mp h) ((flush0_13 t').mp h') e)

theorem t2_at (b : Fin 2) (hd : Fin 28) (d : Fin 256) (f : Fin 768) :
    (dats m 0 c).arrAt 13 cfg0.N (ix4 b hd d f) = total (fun n => (data m c).t2 b n hd d f) 1536 1536 := by
  obtain ⟨p, h, rfl⟩ := head_split hd
  have l := (left m c _ (point b p 2).isLt).g2 h d f
  have a := mat_emb (point b p 2) h d f
  have w := (dats m 0 c).arrAt_emb_eq_flushed 13 disjoint13 (point b p 2) ((flush0_13 _).mpr (point_mod b p 2)) (ix4 (0 : Fin 1) h d f)
  rw [batch_point, pair_point] at a
  rw [show (point b p 2).val % 3 = 2 from point_mod b p 2] at l
  rw [show (⟨(point b p 2).val, (point b p 2).isLt⟩ : Fin cfg0.N) = point b p 2 from rfl, batch_point, pair_point] at l
  rw [flushed13] at w
  refine (congrArg ((dats m 0 c).arrAt 13 cfg0.N) a.symm).trans (w.trans ?_)
  exact l

end Cert.SecondIdeal.Arrays

end
-- ==== Proof.SecondReading.lean ====
/-
  The second chunk's reference, line by line at an index: every line of it is what the specification says of a token,
  a head and a column, and the results are the chunk's.
-/
module

public import proofs.«01_k».proof.Proof.Host
public import proofs.«01_k».proof.Proof.Coord
public import proofs.«01_k».proof.Proof.Gen.SecondPlainIdeal.Read

@[expose] public section

noncomputable section

namespace Cert.SecondPlainIdeal.Reading

open Idealize.ShloMosaic Idealize.ShloMosaic.TcCoe Idealize.SL.Sem Idealize.ShloMosaic.StableHlo Idealize.ShloMosaic.ValueIdx
open Cert.SecondPlainIdeal Cert.SecondPlainIdeal.Gen Cert.SecondPlainIdeal.Read Cert.Chunk Cert.Coord Cert.Spec Cert.Host

variable (x0 : (⟨S2x4096x7168, .bf16⟩ : BufTy).Contents (Elt Ideal)) (x1 : (⟨S2x4096x28, .f32⟩ : BufTy).Contents (Elt Ideal))
  (x2 : (⟨S2x4096x7168, .bf16⟩ : BufTy).Contents (Elt Ideal)) (x3 : (⟨S2x4096x28, .f32⟩ : BufTy).Contents (Elt Ideal))
  (x4 : (⟨S2x4096x7168, .bf16⟩ : BufTy).Contents (Elt Ideal)) (x5 : (⟨S2x4096x28, .f32⟩ : BufTy).Contents (Elt Ideal))
  (x6 x7 x8 : (⟨S2x28x256x768, .f32⟩ : BufTy).Contents (Elt Ideal))
  (x9 : (⟨S2x4096x7168, .bf16⟩ : BufTy).Contents (Elt Ideal)) (x10 : (⟨S2x28x4096x768, .bf16⟩ : BufTy).Contents (Elt Ideal))

/-- The chunk's data: the arguments. -/
def data : Data where
  q b n hd d := x0 (ix3 b n (col hd d))
  qs b n hd := x1 (ix3 b n hd)
  k b n hd d := x2 (ix3 b n (col hd d))
  ks b n hd := x3 (ix3 b n hd)
  v b n hd d := x4 (ix3 b n (col hd d))
  eta b n hd := x5 (ix3 b n hd)
  W1 b hd d f := x6 (ix4 b hd d f)
  W3 b hd d f := x7 (ix4 b hd d f)
  W2 b hd d f := x8 (ix4 b hd d f)

/-- The chunk's tokens in the sequence. -/
def tk (n : Fin 1536) : Fin 4096 := ⟨1536 + n.val, by have := n.isLt; omega⟩

theorem total_fin (T : Fin 4096 → EReal) : total T 1536 1536 = ∑ n : Fin 1536, T (tk n) := by
  unfold total
  rw [← Fin.sum_univ_eq_sum_range (fun i => T (tokenAt (1536 + i)))]
  refine Finset.sum_congr rfl fun n _ => congrArg T (Fin.ext ?_)
  have := n.isLt
  show (1536 + n.val) % 4096 = 1536 + n.val
  omega

theorem q_at (b : Fin 2) (n : Fin 1536) (hd : Fin 28) (d : Fin 256) :
    val_main_v1 (F := Ideal) x0 (ix4 b n hd d) = (data x0 x1 x2 x3 x4 x5 x6 x7 x8).q b (tk n) hd d := by
  have hb := b.isLt; have hn := n.isLt; have hh := hd.isLt; have hd' := d.isLt
  rw [val_main_v1_apply, val_main_v0_apply]
  exact congrArg x0 (ext3
    (Fin.ext (by show ((((b.val * 1536) + n.val) * 28 + hd.val) * 256 + d.val) / 11010048 = b.val; omega))
    (Fin.ext (by show 1536 + ((((b.val * 1536) + n.val) * 28 + hd.val) * 256 + d.val) / 7168 % 1536 = 1536 + n.val; omega))
    (Fin.ext (by show ((((b.val * 1536) + n.val) * 28 + hd.val) * 256 + d.val) % 7168 = 256 * hd.val + d.val; omega)))

theorem k_at (b : Fin 2) (n : Fin 1536) (hd : Fin 28) (d : Fin 256) :
    val_main_v3 (F := Ideal) x2 (ix4 b n hd d) = (data x0 x1 x2 x3 x4 x5 x6 x7 x8).k b (tk n) hd d := by
  have hb := b.isLt; have hn := n.isLt; have hh := hd.isLt; have hd' := d.isLt
  rw [val_main_v3_apply, val_main_v2_apply]
  exact congrArg x2 (ext3
    (Fin.ext (by show ((((b.val * 1536) + n.val) * 28 + hd.val) * 256 + d.val) / 11010048 = b.val; omega))
    (Fin.ext (by show 1536 + ((((b.val * 1536) + n.val) * 28 + hd.val) * 256 + d.val) / 7168 % 1536 = 1536 + n.val; omega))
    (Fin.ext (by show ((((b.val * 1536) + n.val) * 28 + hd.val) * 256 + d.val) % 7168 = 256 * hd.val + d.val; omega)))

theorem v_at (b : Fin 2) (n : Fin 1536) (hd : Fin 28) (d : Fin 256) :
    val_main_v5 (F := Ideal) x4 (ix4 b n hd d) = (data x0 x1 x2 x3 x4 x5 x6 x7 x8).v b (tk n) hd d := by
  have hb := b.isLt; have hn := n.isLt; have hh := hd.isLt; have hd' := d.isLt
  rw [val_main_v5_apply, val_main_v4_apply]
  exact congrArg x4 (ext3
    (Fin.ext (by show ((((b.val * 1536) + n.val) * 28 + hd.val) * 256 + d.val) / 11010048 = b.val; omega))
    (Fin.ext (by show 1536 + ((((b.val * 1536) + n.val) * 28 + hd.val) * 256 + d.val) / 7168 % 1536 = 1536 + n.val; omega))
    (Fin.ext (by show ((((b.val * 1536) + n.val) * 28 + hd.val) * 256 + d.val) % 7168 = 256 * hd.val + d.val; omega)))

theorem qs_at (b : Fin 2) (n : Fin 1536) (hd : Fin 28) :
    val_main_v6 (F := Ideal) x1 (ix3 b n hd) = (data x0 x1 x2 x3 x4 x5 x6 x7 x8).qs b (tk n) hd := by
  rw [val_main_v6_apply]
  exact congrArg x1 (ext3 rfl rfl rfl)

theorem ks_at (b : Fin 2) (n : Fin 1536) (hd : Fin 28) :
    val_main_v7 (F := Ideal) x3 (ix3 b n hd) = (data x0 x1 x2 x3 x4 x5 x6 x7 x8).ks b (tk n) hd := by
  rw [val_main_v7_apply]
  exact congrArg x3 (ext3 rfl rfl rfl)

theorem eta_at (b : Fin 2) (n : Fin 1536) (hd : Fin 28) :
    val_main_v8 (F := Ideal) x5 (ix3 b n hd) = (data x0 x1 x2 x3 x4 x5 x6 x7 x8).eta b (tk n) hd := by
  rw [val_main_v8_apply]
  exact congrArg x5 (ext3 rfl rfl rfl)

theorem w1_at (b : Fin 2) (hd : Fin 28) (d : Fin 256) (f : Fin 768) :
    val_main_v11 (F := Ideal) x6 (ix4 b hd f d) = (data x0 x1 x2 x3 x4 x5 x6 x7 x8).W1 b hd d f := by
  rw [val_main_v11_apply, val_main_v9_apply]
  exact congrArg x6 (ext4 rfl rfl rfl rfl)

theorem w3_at (b : Fin 2) (hd : Fin 28) (d : Fin 256) (f : Fin 768) :
    val_main_v12 (F := Ideal) x7 (ix4 b hd f d) = (data x0 x1 x2 x3 x4 x5 x6 x7 x8).W3 b hd d f := by
  rw [val_main_v12_apply, val_main_v10_apply]
  exact congrArg x7 (ext4 rfl rfl rfl rfl)

theorem w2_at (b : Fin 2) (hd : Fin 28) (d : Fin 256) (f : Fin 768) :
    val_main_v13 (F := Ideal) x8 (ix4 b hd d f) = (data x0 x1 x2 x3 x4 x5 x6 x7 x8).W2 b hd d f := by
  rw [val_main_v13_apply]
  rfl

theorem h1q (b : Fin 2) (n : Fin 1536) (hd : Fin 28) (f : Fin 768) :
    val_main_v18 (F := Ideal) x0 x1 x6 (ix4 b n hd f) = hidden ((data x0 x1 x2 x3 x4 x5 x6 x7 x8).W1 b hd) ((data x0 x1 x2 x3 x4 x5 x6 x7 x8).q b (tk n) hd) ((data x0 x1 x2 x3 x4 x5 x6 x7 x8).qs b (tk n) hd) f := by
  rw [val_main_v18_apply, val_main_v15_apply, val_main_v17_apply, val_main_v16_apply, show idx_main_v15 (ix4 b n hd f) = ix4 b hd f n from ext4 rfl rfl rfl rfl,
    show idx_main_v16 (idx_main_v17 (ix4 b n hd f)) = ix3 b n hd from ext3 rfl rfl rfl, qs_at x0 x1 x2 x3 x4 x5 x6 x7 x8, val_main_v14_apply]
  refine congrArg (· * _) (Finset.sum_congr rfl fun d _ => ?_)
  rw [show lidx_main_v14 (ix4 b hd f n) d = ix4 b hd f d from ext4 rfl rfl rfl rfl, show ridx_main_v14 (ix4 b hd f n) d = ix4 b n hd d from ext4 rfl rfl rfl rfl,
    w1_at x0 x1 x2 x3 x4 x5 x6 x7 x8, q_at x0 x1 x2 x3 x4 x5 x6 x7 x8]
  exact mul_comm _ _

theorem h3q (b : Fin 2) (n : Fin 1536) (hd : Fin 28) (f : Fin 768) :
    val_main_v23 (F := Ideal) x0 x1 x7 (ix4 b n hd f) = hidden ((data x0 x1 x2 x3 x4 x5 x6 x7 x8).W3 b hd) ((data x0 x1 x2 x3 x4 x5 x6 x7 x8).q b (tk n) hd) ((data x0 x1 x2 x3 x4 x5 x6 x7 x8).qs b (tk n) hd) f := by
  rw [val_main_v23_apply, val_main_v20_apply, val_main_v22_apply, val_main_v21_apply, show idx_main_v20 (ix4 b n hd f) = ix4 b hd f n from ext4 rfl rfl rfl rfl,
    show idx_main_v21 (idx_main_v22 (ix4 b n hd f)) = ix3 b n hd from ext3 rfl rfl rfl, qs_at x0 x1 x2 x3 x4 x5 x6 x7 x8, val_main_v19_apply]
  refine congrArg (· * _) (Finset.sum_congr rfl fun d _ => ?_)
  rw [show lidx_main_v19 (ix4 b hd f n) d = ix4 b hd f d from ext4 rfl rfl rfl rfl, show ridx_main_v19 (ix4 b hd f n) d = ix4 b n hd d from ext4 rfl rfl rfl rfl,
    w3_at x0 x1 x2 x3 x4 x5 x6 x7 x8, q_at x0 x1 x2 x3 x4 x5 x6 x7 x8]
  exact mul_comm _ _

theorem silu_q (b : Fin 2) (n : Fin 1536) (hd : Fin 28) (f : Fin 768) :
    val_main_v24 (F := Ideal) x0 x1 x6 (ix4 b n hd f) = gate (hidden ((data x0 x1 x2 x3 x4 x5 x6 x7 x8).W1 b hd) ((data x0 x1 x2 x3 x4 x5 x6 x7 x8).q b (tk n) hd) ((data x0 x1 x2 x3 x4 x5 x6 x7 x8).qs b (tk n) hd) f) := by
  rw [val_main_v24_apply, val_main_call0_v5_apply, val_main_call0_v4_apply, val_main_call0_cst_0_apply, val_main_call0_v3_apply, val_main_call0_v2_apply,
    val_main_call0_cst_apply, val_main_call0_v1_apply, val_main_call0_v0_apply, h1q x0 x1 x2 x3 x4 x5 x6 x7 x8]
  exact gate_of _

theorem act_q (b : Fin 2) (n : Fin 1536) (hd : Fin 28) (f : Fin 768) :
    val_main_v26 (F := Ideal) x0 x1 x6 x7 (ix4 b n hd f) = act ((data x0 x1 x2 x3 x4 x5 x6 x7 x8).W1 b hd) ((data x0 x1 x2 x3 x4 x5 x6 x7 x8).W3 b hd) ((data x0 x1 x2 x3 x4 x5 x6 x7 x8).q b (tk n) hd) ((data x0 x1 x2 x3 x4 x5 x6 x7 x8).qs b (tk n) hd) f := by
  rw [val_main_v26_apply, val_main_v25_apply, silu_q x0 x1 x2 x3 x4 x5 x6 x7 x8, h3q x0 x1 x2 x3 x4 x5 x6 x7 x8]
  rfl

theorem y_row (b : Fin 2) (n : Fin 1536) (hd : Fin 28) (d : Fin 256) :
    val_main_v28 (F := Ideal) x0 x1 x6 x7 x8 (ix4 b n hd d) = (data x0 x1 x2 x3 x4 x5 x6 x7 x8).y b (tk n) hd d := by
  rw [val_main_v28_apply, show idx_main_v28 (ix4 b n hd d) = ix4 b hd d n from ext4 rfl rfl rfl rfl, val_main_v27_apply]
  show _ = ∑ f, act ((data x0 x1 x2 x3 x4 x5 x6 x7 x8).W1 b hd) ((data x0 x1 x2 x3 x4 x5 x6 x7 x8).W3 b hd) ((data x0 x1 x2 x3 x4 x5 x6 x7 x8).q b (tk n) hd) ((data x0 x1 x2 x3 x4 x5 x6 x7 x8).qs b (tk n) hd) f * (data x0 x1 x2 x3 x4 x5 x6 x7 x8).W2 b hd d f
  refine Finset.sum_congr rfl fun f _ => ?_
  rw [show lidx_main_v27 (ix4 b hd d n) f = ix4 b hd d f from ext4 rfl rfl rfl rfl, show ridx_main_v27 (ix4 b hd d n) f = ix4 b n hd f from ext4 rfl rfl rfl rfl, w2_at x0 x1 x2 x3 x4 x5 x6 x7 x8, act_q x0 x1 x2 x3 x4 x5 x6 x7 x8]
  exact mul_comm _ _

theorem h1k (b : Fin 2) (n : Fin 1536) (hd : Fin 28) (f : Fin 768) :
    val_main_v33 (F := Ideal) x2 x3 x6 (ix4 b n hd f) = hidden ((data x0 x1 x2 x3 x4 x5 x6 x7 x8).W1 b hd) ((data x0 x1 x2 x3 x4 x5 x6 x7 x8).k b (tk n) hd) ((data x0 x1 x2 x3 x4 x5 x6 x7 x8).ks b (tk n) hd) f := by
  rw [val_main_v33_apply, val_main_v30_apply, val_main_v32_apply, val_main_v31_apply, show idx_main_v30 (ix4 b n hd f) = ix4 b hd f n from ext4 rfl rfl rfl rfl,
    show idx_main_v31 (idx_main_v32 (ix4 b n hd f)) = ix3 b n hd from ext3 rfl rfl rfl, ks_at x0 x1 x2 x3 x4 x5 x6 x7 x8, val_main_v29_apply]
  refine congrArg (· * _) (Finset.sum_congr rfl fun d _ => ?_)
  rw [show lidx_main_v29 (ix4 b hd f n) d = ix4 b hd f d from ext4 rfl rfl rfl rfl, show ridx_main_v29 (ix4 b hd f n) d = ix4 b n hd d from ext4 rfl rfl rfl rfl,
    w1_at x0 x1 x2 x3 x4 x5 x6 x7 x8, k_at x0 x1 x2 x3 x4 x5 x6 x7 x8]
  exact mul_comm _ _

theorem h3k (b : Fin 2) (n : Fin 1536) (hd : Fin 28) (f : Fin 768) :
    val_main_v38 (F := Ideal) x2 x3 x7 (ix4 b n hd f) = hidden ((data x0 x1 x2 x3 x4 x5 x6 x7 x8).W3 b hd) ((data x0 x1 x2 x3 x4 x5 x6 x7 x8).k b (tk n) hd) ((data x0 x1 x2 x3 x4 x5 x6 x7 x8).ks b (tk n) hd) f := by
  rw [val_main_v38_apply, val_main_v35_apply, val_main_v37_apply, val_main_v36_apply, show idx_main_v35 (ix4 b n hd f) = ix4 b hd f n from ext4 rfl rfl rfl rfl,
    show idx_main_v36 (idx_main_v37 (ix4 b n hd f)) = ix3 b n hd from ext3 rfl rfl rfl, ks_at x0 x1 x2 x3 x4 x5 x6 x7 x8, val_main_v34_apply]
  refine congrArg (· * _) (Finset.sum_congr rfl fun d _ => ?_)
  rw [show lidx_main_v34 (ix4 b hd f n) d = ix4 b hd f d from ext4 rfl rfl rfl rfl, show ridx_main_v34 (ix4 b hd f n) d = ix4 b n hd d from ext4 rfl rfl rfl rfl,
    w3_at x0 x1 x2 x3 x4 x5 x6 x7 x8, k_at x0 x1 x2 x3 x4 x5 x6 x7 x8]
  exact mul_comm _ _

theorem sig_k (b : Fin 2) (n : Fin 1536) (hd : Fin 28) (f : Fin 768) :
    val_main_v44 (F := Ideal) x2 x3 x6 (ix4 b n hd f) = Ideal.logistic (hidden ((data x0 x1 x2 x3 x4 x5 x6 x7 x8).W1 b hd) ((data x0 x1 x2 x3 x4 x5 x6 x7 x8).k b (tk n) hd) ((data x0 x1 x2 x3 x4 x5 x6 x7 x8).ks b (tk n) hd) f) := by
  rw [val_main_v44_apply, val_main_v43_apply, val_main_cst_0_apply, val_main_v42_apply, val_main_v41_apply, val_main_cst_apply, val_main_v40_apply, val_main_v39_apply, h1k x0 x1 x2 x3 x4 x5 x6 x7 x8]
  exact logistic_of _

theorem gate_k (b : Fin 2) (n : Fin 1536) (hd : Fin 28) (f : Fin 768) :
    val_main_v45 (F := Ideal) x2 x3 x6 (ix4 b n hd f) = gate (hidden ((data x0 x1 x2 x3 x4 x5 x6 x7 x8).W1 b hd) ((data x0 x1 x2 x3 x4 x5 x6 x7 x8).k b (tk n) hd) ((data x0 x1 x2 x3 x4 x5 x6 x7 x8).ks b (tk n) hd) f) := by
  rw [val_main_v45_apply, h1k x0 x1 x2 x3 x4 x5 x6 x7 x8, sig_k x0 x1 x2 x3 x4 x5 x6 x7 x8]
  rfl

theorem g_row (b : Fin 2) (n : Fin 1536) (hd : Fin 28) (f : Fin 768) :
    val_main_v47 (F := Ideal) x2 x3 x6 x7 (ix4 b n hd f) = (data x0 x1 x2 x3 x4 x5 x6 x7 x8).g b (tk n) hd f := by
  rw [val_main_v47_apply, val_main_v46_apply, gate_k x0 x1 x2 x3 x4 x5 x6 x7 x8, h3k x0 x1 x2 x3 x4 x5 x6 x7 x8]
  rfl

theorem e_row (b : Fin 2) (n : Fin 1536) (hd : Fin 28) (d : Fin 256) :
    val_main_v72 (F := Ideal) x4 x5 (ix4 b n hd d) = -((data x0 x1 x2 x3 x4 x5 x6 x7 x8).eta b (tk n) hd) * (data x0 x1 x2 x3 x4 x5 x6 x7 x8).v b (tk n) hd d := by
  rw [val_main_v72_apply, val_main_v52_apply, val_main_v51_apply, val_main_v49_apply, val_main_v48_apply, val_main_v50_apply, v_at x0 x1 x2 x3 x4 x5 x6 x7 x8,
    show idx_main_v48 (idx_main_v51 (ix4 b n hd d)) = ix3 b n hd from ext3 rfl rfl rfl, eta_at x0 x1 x2 x3 x4 x5 x6 x7 x8]
  rfl

theorem back_row (b : Fin 2) (n : Fin 1536) (hd : Fin 28) (f : Fin 768) :
    val_main_v58 (F := Ideal) x4 x5 x8 (ix4 b n hd f) = back ((data x0 x1 x2 x3 x4 x5 x6 x7 x8).W2 b hd) ((data x0 x1 x2 x3 x4 x5 x6 x7 x8).v b (tk n) hd) ((data x0 x1 x2 x3 x4 x5 x6 x7 x8).eta b (tk n) hd) f := by
  rw [val_main_v58_apply, val_main_v57_apply, val_main_v54_apply, val_main_v53_apply, show idx_main_v53 (idx_main_v57 (ix4 b n hd f)) = ix3 b n hd from ext3 rfl rfl rfl, eta_at x0 x1 x2 x3 x4 x5 x6 x7 x8,
    val_main_v56_apply, show idx_main_v56 (ix4 b n hd f) = ix4 b hd f n from ext4 rfl rfl rfl rfl, val_main_v55_apply]
  refine congrArg (_ * ·) (Finset.sum_congr rfl fun d _ => ?_)
  rw [show lidx_main_v55 (ix4 b hd f n) d = ix4 b hd d f from ext4 rfl rfl rfl rfl, show ridx_main_v55 (ix4 b hd f n) d = ix4 b n hd d from ext4 rfl rfl rfl rfl, w2_at x0 x1 x2 x3 x4 x5 x6 x7 x8, v_at x0 x1 x2 x3 x4 x5 x6 x7 x8]
  exact mul_comm _ _

theorem dh3_row (b : Fin 2) (n : Fin 1536) (hd : Fin 28) (f : Fin 768) :
    val_main_v76 (F := Ideal) x2 x3 x4 x5 x6 x8 (ix4 b n hd f) = dh3 ((data x0 x1 x2 x3 x4 x5 x6 x7 x8).W1 b hd) ((data x0 x1 x2 x3 x4 x5 x6 x7 x8).W2 b hd) ((data x0 x1 x2 x3 x4 x5 x6 x7 x8).k b (tk n) hd) ((data x0 x1 x2 x3 x4 x5 x6 x7 x8).ks b (tk n) hd) ((data x0 x1 x2 x3 x4 x5 x6 x7 x8).v b (tk n) hd) ((data x0 x1 x2 x3 x4 x5 x6 x7 x8).eta b (tk n) hd) f := by
  rw [val_main_v76_apply, val_main_v59_apply, back_row x0 x1 x2 x3 x4 x5 x6 x7 x8, gate_k x0 x1 x2 x3 x4 x5 x6 x7 x8]
  rfl

theorem dh1_row (b : Fin 2) (n : Fin 1536) (hd : Fin 28) (f : Fin 768) :
    val_main_v74 (F := Ideal) x2 x3 x4 x5 x6 x7 x8 (ix4 b n hd f) = dh1 ((data x0 x1 x2 x3 x4 x5 x6 x7 x8).W1 b hd) ((data x0 x1 x2 x3 x4 x5 x6 x7 x8).W3 b hd) ((data x0 x1 x2 x3 x4 x5 x6 x7 x8).W2 b hd) ((data x0 x1 x2 x3 x4 x5 x6 x7 x8).k b (tk n) hd) ((data x0 x1 x2 x3 x4 x5 x6 x7 x8).ks b (tk n) hd) ((data x0 x1 x2 x3 x4 x5 x6 x7 x8).v b (tk n) hd) ((data x0 x1 x2 x3 x4 x5 x6 x7 x8).eta b (tk n) hd) f := by
  rw [val_main_v74_apply, val_main_v67_apply, val_main_v61_apply, val_main_v60_apply, back_row x0 x1 x2 x3 x4 x5 x6 x7 x8, h3k x0 x1 x2 x3 x4 x5 x6 x7 x8, val_main_v66_apply, val_main_v65_apply, val_main_cst_2_apply, val_main_v64_apply,
    val_main_v63_apply, val_main_v62_apply, val_main_cst_1_apply, sig_k x0 x1 x2 x3 x4 x5 x6 x7 x8, h1k x0 x1 x2 x3 x4 x5 x6 x7 x8]
  exact times_slope _ _ _ _

theorem kq_row (b : Fin 2) (n : Fin 1536) (hd : Fin 28) (d : Fin 256) :
    val_main_v71 (F := Ideal) x2 x3 (ix4 b n hd d) = (data x0 x1 x2 x3 x4 x5 x6 x7 x8).k b (tk n) hd d * (data x0 x1 x2 x3 x4 x5 x6 x7 x8).ks b (tk n) hd := by
  rw [val_main_v71_apply, val_main_v70_apply, val_main_v69_apply, val_main_v68_apply, k_at x0 x1 x2 x3 x4 x5 x6 x7 x8,
    show idx_main_v68 (idx_main_v70 (ix4 b n hd d)) = ix3 b n hd from ext3 rfl rfl rfl, ks_at x0 x1 x2 x3 x4 x5 x6 x7 x8]
  rfl

theorem t2_at (b : Fin 2) (hd : Fin 28) (d : Fin 256) (f : Fin 768) :
    val_main_v73 (F := Ideal) x2 x3 x4 x5 x6 x7 (ix4 b hd d f) = total (fun n => (data x0 x1 x2 x3 x4 x5 x6 x7 x8).t2 b n hd d f) 1536 1536 := by
  rw [val_main_v73_apply, total_fin]
  refine Finset.sum_congr rfl fun n _ => ?_
  rw [show lidx_main_v73 (ix4 b hd d f) n = ix4 b n hd d from ext4 rfl rfl rfl rfl, show ridx_main_v73 (ix4 b hd d f) n = ix4 b n hd f from ext4 rfl rfl rfl rfl, e_row x0 x1 x2 x3 x4 x5 x6 x7 x8, g_row x0 x1 x2 x3 x4 x5 x6 x7 x8]
  rfl

theorem t1_at (b : Fin 2) (hd : Fin 28) (d : Fin 256) (f : Fin 768) :
    val_main_v89 (F := Ideal) x2 x3 x4 x5 x6 x7 x8 (ix4 b hd d f) = total (fun n => (data x0 x1 x2 x3 x4 x5 x6 x7 x8).t1 b n hd d f) 1536 1536 := by
  rw [val_main_v89_apply, show idx_main_v89 (ix4 b hd d f) = ix4 b hd f d from ext4 rfl rfl rfl rfl, val_main_v75_apply, total_fin]
  refine Finset.sum_congr rfl fun n _ => ?_
  rw [show lidx_main_v75 (ix4 b hd f d) n = ix4 b n hd f from ext4 rfl rfl rfl rfl, show ridx_main_v75 (ix4 b hd f d) n = ix4 b n hd d from ext4 rfl rfl rfl rfl, dh1_row x0 x1 x2 x3 x4 x5 x6 x7 x8, kq_row x0 x1 x2 x3 x4 x5 x6 x7 x8]
  exact mul_comm _ _

theorem t3_at (b : Fin 2) (hd : Fin 28) (d : Fin 256) (f : Fin 768) :
    val_main_v90 (F := Ideal) x2 x3 x4 x5 x6 x8 (ix4 b hd d f) = total (fun n => (data x0 x1 x2 x3 x4 x5 x6 x7 x8).t3 b n hd d f) 1536 1536 := by
  rw [val_main_v90_apply, show idx_main_v90 (ix4 b hd d f) = ix4 b hd f d from ext4 rfl rfl rfl rfl, val_main_v77_apply, total_fin]
  refine Finset.sum_congr rfl fun n _ => ?_
  rw [show lidx_main_v77 (ix4 b hd f d) n = ix4 b n hd f from ext4 rfl rfl rfl rfl, show ridx_main_v77 (ix4 b hd f d) n = ix4 b n hd d from ext4 rfl rfl rfl rfl, dh3_row x0 x1 x2 x3 x4 x5 x6 x7 x8, kq_row x0 x1 x2 x3 x4 x5 x6 x7 x8]
  exact mul_comm _ _

theorem y_at (b : Fin 2) (n : Fin 1536) (hd : Fin 28) (d : Fin 256) :
    val_main_v83 (F := Ideal) x0 x1 x6 x7 x8 x9 (ix3 b (tk n) (col hd d)) = (data x0 x1 x2 x3 x4 x5 x6 x7 x8).y b (tk n) hd d := by
  have hb := b.isLt; have hn := n.isLt; have hh := hd.isLt; have hd' := d.isLt
  refine (concatenate_pair_apply_left (t := S2x4096x7168) (s₁ := S2x3072x7168) (s₂ := S2x1024x7168) (1 : Fin 3) _ _ _ (ix3 b (tk n) (col hd d)) rfl
    (ix3 b (⟨1536 + n.val, by omega⟩ : Fin 3072) (col hd d)) (fun a => match a with | ⟨0, _⟩ => rfl | ⟨1, _⟩ => rfl | ⟨2, _⟩ => rfl)).trans ?_
  refine (concatenate_pair_apply_right (t := S2x3072x7168) (s₁ := S2x1536x7168) (s₂ := S2x1536x7168) (1 : Fin 3) _ _ _ (ix3 b (⟨1536 + n.val, by omega⟩ : Fin 3072) (col hd d)) rfl rfl
    (ix3 b n (col hd d)) (fun a => match a with | ⟨0, _⟩ => fun _ => rfl | ⟨1, _⟩ => fun h => absurd rfl h | ⟨2, _⟩ => fun _ => rfl) (by show n.val + 1536 = 1536 + n.val; omega)).trans ?_
  rw [val_main_v79_apply, show idx_main_v79 (ix3 b n (col hd d)) = ix4 b n hd d from ext4
    (Fin.ext (by show ((b.val * 1536 + n.val) * 7168 + (256 * hd.val + d.val)) / 11010048 = b.val; omega))
    (Fin.ext (by show ((b.val * 1536 + n.val) * 7168 + (256 * hd.val + d.val)) / 7168 % 1536 = n.val; omega))
    (Fin.ext (by show ((b.val * 1536 + n.val) * 7168 + (256 * hd.val + d.val)) / 256 % 28 = hd.val; omega))
    (Fin.ext (by show ((b.val * 1536 + n.val) * 7168 + (256 * hd.val + d.val)) % 256 = d.val; omega)), val_main_v78_apply, y_row x0 x1 x2 x3 x4 x5 x6 x7 x8]
  rfl

theorem g_at (b : Fin 2) (n : Fin 1536) (hd : Fin 28) (f : Fin 768) :
    val_main_v88 (F := Ideal) x2 x3 x6 x7 x10 (ix4 b hd (tk n) f) = (data x0 x1 x2 x3 x4 x5 x6 x7 x8).g b (tk n) hd f := by
  have hn := n.isLt
  refine (concatenate_pair_apply_left (t := S2x28x4096x768) (s₁ := S2x28x3072x768) (s₂ := S2x28x1024x768) (2 : Fin 4) _ _ _ (ix4 b hd (tk n) f) rfl
    (ix4 b hd (⟨1536 + n.val, by omega⟩ : Fin 3072) f) (fun a => match a with | ⟨0, _⟩ => rfl | ⟨1, _⟩ => rfl | ⟨2, _⟩ => rfl | ⟨3, _⟩ => rfl)).trans ?_
  refine (concatenate_pair_apply_right (t := S2x28x3072x768) (s₁ := S2x28x1536x768) (s₂ := S2x28x1536x768) (2 : Fin 4) _ _ _ (ix4 b hd (⟨1536 + n.val, by omega⟩ : Fin 3072) f) rfl rfl
    (ix4 b hd n f) (fun a => match a with | ⟨0, _⟩ => fun _ => rfl | ⟨1, _⟩ => fun _ => rfl | ⟨2, _⟩ => fun h => absurd rfl h | ⟨3, _⟩ => fun _ => rfl) (by show n.val + 1536 = 1536 + n.val; omega)).trans ?_
  rw [val_main_v84_apply, show idx_main_v84 (ix4 b hd n f) = ix4 b n hd f from ext4 rfl rfl rfl rfl, g_row x0 x1 x2 x3 x4 x5 x6 x7 x8]

end Cert.SecondPlainIdeal.Reading

end
-- ==== Proof.SecondRun.lean ====
/-
  The second chunk's reference on whole arrays: the program decodes the query and key codes in one launch and computes
  the rest on the host, and its results are the plain program's results of its arguments.
-/
module

public import proofs.«01_k».proof.Proof.Gen.SecondReferenceIdeal.Frame
public import proofs.«01_k».proof.Proof.Gen.SecondPlainIdeal.Read
public import proofs.«01_k».proof.Proof.Blocks

@[expose] public section

set_option maxRecDepth 16384

noncomputable section

namespace Cert.SecondReferenceIdeal.Results

open Idealize.ShloMosaic Idealize.ShloMosaic.TcCoe Idealize.SL Idealize.SL.Sem Idealize.ShloMosaic.StableHlo
open Cert.SecondReferenceIdeal Cert.SecondReferenceIdeal.Gen

/-! ## The host lines, from any contents -/

section Lines
variable {F : FTy → Type} [FloatOps F] (V : Valuation τ sig (Elt F))

set_option maxHeartbeats 2000000 in
theorem y_of : StableHlo.after (List.flatten [hostOps1, hostOps1_1, hostOps1_2]) V (Proc.devRef .tc main_v84)
    = Cert.SecondPlainIdeal.Read.val_main_v83 (F := F) (V (Proc.devRef .tc main_v0_0)) (V (Proc.devRef .tc main_arg1)) (V (Proc.devRef .tc main_arg6)) (V (Proc.devRef .tc main_arg7)) (V (Proc.devRef .tc main_arg8)) (V (Proc.devRef .tc main_arg9)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

set_option maxHeartbeats 2000000 in
theorem g_of : StableHlo.after (List.flatten [hostOps1, hostOps1_1, hostOps1_2]) V (Proc.devRef .tc main_v89)
    = Cert.SecondPlainIdeal.Read.val_main_v88 (F := F) (V (Proc.devRef .tc main_v0_1)) (V (Proc.devRef .tc main_arg3)) (V (Proc.devRef .tc main_arg6)) (V (Proc.devRef .tc main_arg7)) (V (Proc.devRef .tc main_arg10)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

theorem g1_of : StableHlo.after (List.flatten [hostOps1, hostOps1_1, hostOps1_2]) V (Proc.devRef .tc main_v90)
    = Cert.SecondPlainIdeal.Read.val_main_v89 (F := F) (V (Proc.devRef .tc main_v0_1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

theorem g3_of : StableHlo.after (List.flatten [hostOps1, hostOps1_1, hostOps1_2]) V (Proc.devRef .tc main_v91)
    = Cert.SecondPlainIdeal.Read.val_main_v90 (F := F) (V (Proc.devRef .tc main_v0_1)) (V (Proc.devRef .tc main_arg3)) (V (Proc.devRef .tc main_arg4)) (V (Proc.devRef .tc main_arg5)) (V (Proc.devRef .tc main_arg6)) (V (Proc.devRef .tc main_arg8)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

theorem g2_of : StableHlo.after (List.flatten [hostOps1, hostOps1_1, hostOps1_2]) V (Proc.devRef .tc main_v74)
    = Cert.SecondPlainIdeal.Read.val_main_v73 (F := F) (V (Proc.devRef .tc main_v0_1)) (V (Proc.devRef .tc main_arg3)) (V (Proc.devRef .tc main_arg4)) (V (Proc.devRef .tc main_arg5)) (V (Proc.devRef .tc main_arg6)) (V (Proc.devRef .tc main_arg7)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

end Lines

/-! ## The decoded codes -/

variable (m : (ℓ : Loc nD τ sig) → Buf (Elt Ideal) ℓ) (ρ : Dev nD → PrngReg) (c : Dev nD)

/-- The launch's one grid point. -/
abbrev one : Fin cfg0.N := ⟨0, by decide⟩

theorem only (t : Fin cfg0.N) : t = one := Fin.ext (by have := t.isLt; have e : cfg0.N = 1 := by decide
                                                       omega)

theorem whole_emb (i : S2x4096x7168.Idx) : r0_0.emb i = i :=
  (Cert.Blocks.emb_unit_of _ _ _ i i fun a => by
    match a with
    | ⟨0, _⟩ => exact (Nat.zero_add _).symm
    | ⟨1, _⟩ => exact (Nat.zero_add _).symm
    | ⟨2, _⟩ => exact (Nat.zero_add _).symm).symm

theorem emb2 (i : S2x4096x7168.Idx) : ((cfg0.win 2).blk one).view.emb i = i := by
  funext a
  apply Fin.ext
  refine (win0_2.rect_emb_val one _ a).trans ?_
  match a with
  | ⟨0, _⟩ => show 0 * 2 + (i 0).val = (i 0).val; omega
  | ⟨1, _⟩ => show 0 * 4096 + (i 1).val = (i 1).val; omega
  | ⟨2, _⟩ => show 0 * 7168 + (i 2).val = (i 2).val; omega

theorem emb0 (i : S2x4096x7168.Idx) : ((cfg0.win 0).blk one).view.emb i = i := by
  funext a
  apply Fin.ext
  refine (win0_0.rect_emb_val one _ a).trans ?_
  match a with
  | ⟨0, _⟩ => show 0 * 2 + (i 0).val = (i 0).val; omega
  | ⟨1, _⟩ => show 0 * 4096 + (i 1).val = (i 1).val; omega
  | ⟨2, _⟩ => show 0 * 7168 + (i 2).val = (i 2).val; omega

/-- A code's decoded value is the code's own value. -/
theorem decoded2 : (dats m 0 c).arrAt 2 cfg0.N = ((fun i => m ((c : Thread nD τ).loc main_arg0) i) : S2x4096x7168.Idx → EReal) := by
  funext i
  have f := (dats m 0 c).arrAt_emb_eq_flushed 2 (fun t t' _ _ h => absurd ((only t).trans (only t').symm) h) one (flush0_2 _) i
  rw [emb2] at f
  refine f.trans ?_
  show (dats m 0 c).after 2 one i = _
  rw [after0_2]
  unfold out0_2
  refine ((congrArg _ (whole_emb i).symm).trans (View.canon_cons_emb r0_0 _ [] i)).trans ?_
  show iblk m c 0 one (r0_0.emb i) = _
  rw [whole_emb]
  show V m c main_arg0 (((cfg0.win 0).blk one).view.emb i) = _
  rw [emb0]
  rfl

theorem emb3 (i : S2x4096x7168.Idx) : ((cfg0.win 3).blk one).view.emb i = i := by
  funext a
  apply Fin.ext
  refine (win0_3.rect_emb_val one _ a).trans ?_
  match a with
  | ⟨0, _⟩ => show 0 * 2 + (i 0).val = (i 0).val; omega
  | ⟨1, _⟩ => show 0 * 4096 + (i 1).val = (i 1).val; omega
  | ⟨2, _⟩ => show 0 * 7168 + (i 2).val = (i 2).val; omega

theorem emb1 (i : S2x4096x7168.Idx) : ((cfg0.win 1).blk one).view.emb i = i := by
  funext a
  apply Fin.ext
  refine (win0_1.rect_emb_val one _ a).trans ?_
  match a with
  | ⟨0, _⟩ => show 0 * 2 + (i 0).val = (i 0).val; omega
  | ⟨1, _⟩ => show 0 * 4096 + (i 1).val = (i 1).val; omega
  | ⟨2, _⟩ => show 0 * 7168 + (i 2).val = (i 2).val; omega

/-- A code's decoded value is the code's own value. -/
theorem decoded3 : (dats m 0 c).arrAt 3 cfg0.N = ((fun i => m ((c : Thread nD τ).loc main_arg2) i) : S2x4096x7168.Idx → EReal) := by
  funext i
  have f := (dats m 0 c).arrAt_emb_eq_flushed 3 (fun t t' _ _ h => absurd ((only t).trans (only t').symm) h) one (flush0_3 _) i
  rw [emb3] at f
  refine f.trans ?_
  show (dats m 0 c).after 3 one i = _
  rw [after0_3]
  unfold out0_3
  refine ((congrArg _ (whole_emb i).symm).trans (View.canon_cons_emb r0_0 _ [] i)).trans ?_
  show iblk m c 1 one (r0_0.emb i) = _
  rw [whole_emb]
  show V m c main_arg2 (((cfg0.win 1).blk one).view.emb i) = _
  rw [emb1]
  rfl

/-! ## The run -/

/-- The arrays as the launch leaves them, which the host lines find. -/
abbrev left : Valuation τ sig (Elt Ideal) :=
  Pipeline.withArrays (cfgs 0).spec c (V0 m c) fun w => (dats m 0 c).arrAt w (cfgs 0).N

theorem left_v0_0 : left m c (Proc.devRef .tc main_v0_0) = ((fun i => m ((c : Thread nD τ).loc main_arg0) i) : S2x4096x7168.Idx → EReal) :=
  (Pipeline.withArrays_arr _ launch0.win.arr_inj c _ _ 2).trans (decoded2 m c)

theorem left_v0_1 : left m c (Proc.devRef .tc main_v0_1) = ((fun i => m ((c : Thread nD τ).loc main_arg2) i) : S2x4096x7168.Idx → EReal) :=
  (Pipeline.withArrays_arr _ launch0.win.arr_inj c _ _ 3).trans (decoded3 m c)

theorem left_arg1 : left m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem left_arg3 : left m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

theorem left_arg4 : left m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

theorem left_arg5 : left m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem left_arg6 : left m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

theorem left_arg7 : left m c (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)

theorem left_arg8 : left m c (Proc.devRef .tc main_arg8) = m ((c : Thread nD τ).loc main_arg8) :=
  (Pipeline.withArrays_of_ne _ c (V0 m c) _ main_arg8 (by exact (by decide : ∀ w, Pipeline.arrRef spec0 w ≠ main_arg8))).trans (V_main_arg8 m c)

theorem left_arg9 : left m c (Proc.devRef .tc main_arg9) = m ((c : Thread nD τ).loc main_arg9) :=
  (Pipeline.withArrays_of_ne _ c (V0 m c) _ main_arg9 (by exact (by decide : ∀ w, Pipeline.arrRef spec0 w ≠ main_arg9))).trans (V_main_arg9 m c)

theorem left_arg10 : left m c (Proc.devRef .tc main_arg10) = m ((c : Thread nD τ).loc main_arg10) :=
  (Pipeline.withArrays_of_ne _ c (V0 m c) _ main_arg10 (by exact (by decide : ∀ w, Pipeline.arrRef spec0 w ≠ main_arg10))).trans (V_main_arg10 m c)

theorem y_end : Pipeline.afterTail₀ cfgs (dats m) 0 (V0 m) [hostOps1, hostOps1_1, hostOps1_2] c main_v84
    = Cert.SecondPlainIdeal.Read.val_main_v83 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) := by
  unfold Pipeline.afterTail₀
  refine (y_of (left m c)).trans ?_
  rw [left_v0_0, left_arg1, left_arg6, left_arg7, left_arg8, left_arg9]

theorem g_end : Pipeline.afterTail₀ cfgs (dats m) 0 (V0 m) [hostOps1, hostOps1_1, hostOps1_2] c main_v89
    = Cert.SecondPlainIdeal.Read.val_main_v88 (F := Ideal) (m ((c : Thread nD τ).loc main_arg2)) (m ((c : Thread nD τ).loc main_arg3)) (m ((c : Thread nD τ).loc main_arg6)) (m ((c : Thread nD τ).loc main_arg7)) (m ((c : Thread nD τ).loc main_arg10)) := by
  unfold Pipeline.afterTail₀
  refine (g_of (left m c)).trans ?_
  rw [left_v0_1, left_arg3, left_arg6, left_arg7, left_arg10]

theorem g1_end : Pipeline.afterTail₀ cfgs (dats m) 0 (V0 m) [hostOps1, hostOps1_1, hostOps1_2] c main_v90
    = Cert.SecondPlainIdeal.Read.val_main_v89 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  refine (g1_of (left m c)).trans ?_
  rw [left_v0_1, left_arg3, left_arg4, left_arg5, left_arg6, left_arg7, left_arg8]

theorem g3_end : Pipeline.afterTail₀ cfgs (dats m) 0 (V0 m) [hostOps1, hostOps1_1, hostOps1_2] c main_v91
    = Cert.SecondPlainIdeal.Read.val_main_v90 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  unfold Pipeline.afterTail₀
  refine (g3_of (left m c)).trans ?_
  rw [left_v0_1, left_arg3, left_arg4, left_arg5, left_arg6, left_arg8]

theorem g2_end : Pipeline.afterTail₀ cfgs (dats m) 0 (V0 m) [hostOps1, hostOps1_1, hostOps1_2] c main_v74
    = Cert.SecondPlainIdeal.Read.val_main_v73 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  refine (g2_of (left m c)).trans ?_
  rw [left_v0_1, left_arg3, left_arg4, left_arg5, left_arg6, left_arg7]

/-- The reference's results are the plain program's of its arguments, and its arguments end as they began. -/
theorem run : θ_run defs (onTc (τ := τ) (main (F := Ideal))) ⟨m, fun _ => 0, ρ⟩ fun r => ∀ c : Dev nD,
    r.2.mem ((c : Thread nD τ).loc main_v84) = Cert.SecondPlainIdeal.Read.val_main_v83 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))
      ∧     r.2.mem ((c : Thread nD τ).loc main_v89) = Cert.SecondPlainIdeal.Read.val_main_v88 (F := Ideal) (m ((c : Thread nD τ).loc main_arg2)) (m ((c : Thread nD τ).loc main_arg3)) (m ((c : Thread nD τ).loc main_arg6)) (m ((c : Thread nD τ).loc main_arg7)) (m ((c : Thread nD τ).loc main_arg10))
      ∧     r.2.mem ((c : Thread nD τ).loc main_v90) = Cert.SecondPlainIdeal.Read.val_main_v89 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧     r.2.mem ((c : Thread nD τ).loc main_v91) = Cert.SecondPlainIdeal.Read.val_main_v90 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8))
      ∧     r.2.mem ((c : Thread nD τ).loc main_v74) = Cert.SecondPlainIdeal.Read.val_main_v73 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨((h c).2 main_v84 (Pipeline.mem_restRefs_of main_v84 (by decide) (by decide))).trans (y_end m c),
    ((h c).2 main_v89 (Pipeline.mem_restRefs_of main_v89 (by decide) (by decide))).trans (g_end m c),
    ((h c).2 main_v90 (Pipeline.mem_restRefs_of main_v90 (by decide) (by decide))).trans (g1_end m c),
    ((h c).2 main_v91 (Pipeline.mem_restRefs_of main_v91 (by decide) (by decide))).trans (g3_end m c),
    ((h c).2 main_v74 (Pipeline.mem_restRefs_of main_v74 (by decide) (by decide))).trans (g2_end m c),
    ((h c).1 0).trans (((dats m 0 c).arrAt_in 0 rfl _).trans (V_main_arg0 m c)),
    ((h c).2 main_arg1 (Pipeline.mem_restRefs_of main_arg1 (by decide) (by decide))).trans (W_main_arg1 m (dats m) c),
    ((h c).1 1).trans (((dats m 0 c).arrAt_in 1 rfl _).trans (V_main_arg2 m c)),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c)⟩)
    (run_main m ρ)

end Cert.SecondReferenceIdeal.Results

end
-- ==== Proof.SecondClaims.lean ====
/-
  The second chunk's claims: where the mask is set, the kernel's arrays and the reference's are both what the chunk's
  data (Proof/Chunk.lean) give, so they are equal.
-/
module

public import proofs.«01_k».proof.Defs
public import proofs.«01_k».proof.Proof.SecondArrays
public import proofs.«01_k».proof.Proof.SecondReading
public import proofs.«01_k».proof.Proof.SecondRun
public import proofs.«01_k».proof.Proof.Gen.Second.Frame
public import proofs.«01_k».proof.Proof.Gen.SecondPlainIdeal.Run
public import proofs.«01_k».proof.Proof.Gen.On_second_rows

@[expose] public section

set_option maxRecDepth 16384

noncomputable section

/-! ## The mask -/

namespace Cert.On_second_rows

open Idealize.ShloMosaic Idealize.ShloMosaic.ValueIdx

variable {F : FTy → Type} [FloatOps F] [Facts]

/-- The mask of the first result is the second chunk's rows, -/
theorem y_iff (main_arg0 : FVec F S2x4096x7168 .fp8e4m3) (main_arg1 : FVec F S2x4096x28 .f32) (main_arg2 : FVec F S2x4096x7168 .fp8e4m3) (main_arg3 : FVec F S2x4096x28 .f32) (main_arg4 : FVec F S2x4096x7168 .bf16) (main_arg5 : FVec F S2x4096x28 .f32) (main_arg6 : FVec F S2x28x256x768 .f32) (main_arg7 : FVec F S2x28x256x768 .f32) (main_arg8 : FVec F S2x28x256x768 .f32) (main_arg9 : FVec F S2x4096x7168 .bf16) (main_arg10 : FVec F S2x28x4096x768 .bf16) (i : S2x4096x7168.Idx) : (fn main_arg0 main_arg1 main_arg2 main_arg3 main_arg4 main_arg5 main_arg6 main_arg7 main_arg8 main_arg9 main_arg10).1 i = 1#1 ↔ 1536 ≤ (i 1).val ∧ (i 1).val < 3072 := by
  have key : ∀ r < 4096, IntOp.andi (IntOp.cmpi .sge (BitVec.ofNat 32 r) 1536#32) (IntOp.cmpi .slt (BitVec.ofNat 32 r) 3072#32) = 1#1
      ↔ 1536 ≤ r ∧ r < 3072 := by decide +kernel
  exact key _ (i 1).isLt

/-- and so is the second's. -/
theorem g_iff (main_arg0 : FVec F S2x4096x7168 .fp8e4m3) (main_arg1 : FVec F S2x4096x28 .f32) (main_arg2 : FVec F S2x4096x7168 .fp8e4m3) (main_arg3 : FVec F S2x4096x28 .f32) (main_arg4 : FVec F S2x4096x7168 .bf16) (main_arg5 : FVec F S2x4096x28 .f32) (main_arg6 : FVec F S2x28x256x768 .f32) (main_arg7 : FVec F S2x28x256x768 .f32) (main_arg8 : FVec F S2x28x256x768 .f32) (main_arg9 : FVec F S2x4096x7168 .bf16) (main_arg10 : FVec F S2x28x4096x768 .bf16) (i : S2x28x4096x768.Idx) : (fn main_arg0 main_arg1 main_arg2 main_arg3 main_arg4 main_arg5 main_arg6 main_arg7 main_arg8 main_arg9 main_arg10).2.1 i = 1#1 ↔ 1536 ≤ (i 2).val ∧ (i 2).val < 3072 := by
  have key : ∀ r < 4096, IntOp.andi (IntOp.cmpi .sge (BitVec.ofNat 32 r) 1536#32) (IntOp.cmpi .slt (BitVec.ofNat 32 r) 3072#32) = 1#1
      ↔ 1536 ≤ r ∧ r < 3072 := by decide +kernel
  exact key _ (i 2).isLt

end Cert.On_second_rows

/-! ## Equal arrays -/

namespace Cert.SecondIdeal.Claims

open Idealize.ShloMosaic Idealize.ShloMosaic.TcCoe Idealize.SL Idealize.SL.Sem Idealize.ShloMosaic.ValueIdx
open Cert.SecondIdeal Cert.SecondIdeal.Gen Cert.SecondIdeal.Arrays Cert.SecondPlainIdeal.Read Cert.Chunk Cert.Coord
open Cert.SecondPlainIdeal.Reading (tk)

variable (m : (ℓ : Loc nD τ sig) → Buf (Elt Ideal) ℓ) (c : Dev nD)

/-- The kernel's arguments and the reference's, taken as the chunk's data, are the same data. -/
theorem same : data m c = Cert.SecondPlainIdeal.Reading.data (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := rfl

theorem token_of (n : Fin 4096) (h : 1536 ≤ n.val ∧ n.val < 3072) : n = tk ⟨n.val - 1536, by omega⟩ := Fin.ext (by
  show n.val = 1536 + (n.val - 1536)
  omega)

theorem column_of (k : Fin 7168) : k = col ⟨k.val / 256, by have := k.isLt; omega⟩ ⟨k.val % 256, by omega⟩ := Fin.ext (by
  show k.val = 256 * (k.val / 256) + k.val % 256
  omega)

theorem y_eq (i : S2x4096x7168.Idx) (h : 1536 ≤ (i 1).val ∧ (i 1).val < 3072) :
    (dats m 0 c).arrAt 9 cfg0.N i = val_main_v83 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) i := by
  have e : i = ix3 (i 0) (tk ⟨(i 1).val - 1536, by omega⟩) (col ⟨(i 2).val / 256, by have : (i 2).val < 7168 := (i 2).isLt; omega⟩ ⟨(i 2).val % 256, by omega⟩) :=
    ext3 rfl (token_of (i 1) h) (column_of (i 2))
  rw [e]
  refine (y_at m c _ _ (by show 1536 ≤ 1536 + ((i 1).val - 1536) ∧ 1536 + ((i 1).val - 1536) < 3072; omega) _ _).trans ?_
  rw [same]
  exact (Cert.SecondPlainIdeal.Reading.y_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _ _).symm

theorem g_eq (i : S2x28x4096x768.Idx) (h : 1536 ≤ (i 2).val ∧ (i 2).val < 3072) :
    (dats m 0 c).arrAt 10 cfg0.N i = val_main_v88 (F := Ideal) (m ((c : Thread nD τ).loc main_arg2)) (m ((c : Thread nD τ).loc main_arg3)) (m ((c : Thread nD τ).loc main_arg6)) (m ((c : Thread nD τ).loc main_arg7)) (m ((c : Thread nD τ).loc main_arg10)) i := by
  have e : i = ix4 (i 0) (i 1) (tk ⟨(i 2).val - 1536, by omega⟩) (i 3) := ext4 rfl rfl (token_of (i 2) h) rfl
  rw [e]
  refine (g_at m c _ _ (by show 1536 ≤ 1536 + ((i 2).val - 1536) ∧ 1536 + ((i 2).val - 1536) < 3072; omega) _ _).trans ?_
  rw [same]
  exact (Cert.SecondPlainIdeal.Reading.g_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _ _).symm

theorem t1_eq : (dats m 0 c).arrAt 11 cfg0.N = val_main_v89 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  rw [show i = ix4 (i 0) (i 1) (i 2) (i 3) from ext4 rfl rfl rfl rfl]
  refine (t1_at m c _ _ _ _).trans ?_
  rw [same]
  exact (Cert.SecondPlainIdeal.Reading.t1_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _).symm

theorem t3_eq : (dats m 0 c).arrAt 12 cfg0.N = val_main_v90 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  funext i
  rw [show i = ix4 (i 0) (i 1) (i 2) (i 3) from ext4 rfl rfl rfl rfl]
  refine (t3_at m c _ _ _ _).trans ?_
  rw [same]
  exact (Cert.SecondPlainIdeal.Reading.t3_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _).symm

theorem t2_eq : (dats m 0 c).arrAt 13 cfg0.N = val_main_v73 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  rw [show i = ix4 (i 0) (i 1) (i 2) (i 3) from ext4 rfl rfl rfl rfl]
  refine (t2_at m c _ _ _ _).trans ?_
  rw [same]
  exact (Cert.SecondPlainIdeal.Reading.t2_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _).symm

end Cert.SecondIdeal.Claims

/-! ## The claims -/

namespace Cert.Proof.SecondClaims

open Idealize.ShloMosaic Idealize.ShloMosaic.TcCoe Idealize.SL Idealize.SL.Sem
open Cert.SecondIdeal.Claims

theorem frame : Cert.quiescent_Second := fun m ρ _ => Cert.Second.Gen.frame m ρ
theorem frame_ideal : Cert.quiescent_SecondIdeal := fun m ρ _ => Cert.SecondIdeal.Gen.frame m ρ
theorem frame_reference : Cert.quiescent_SecondReferenceIdeal := fun m ρ _ => Cert.SecondReferenceIdeal.Gen.frame m ρ
theorem frame_plain : Cert.quiescent_SecondPlainIdeal := fun m ρ _ =>
  (θ_run Cert.SecondPlainIdeal.defs _ _).mono (fun r h => ⟨fun c => (h c).2.2.2.2.2, sem_eq_zero_of_no_sems (by decide) r.2⟩)
    (Cert.SecondPlainIdeal.Value.run m ρ)

/-- The one named constant is the number its bits round. -/
theorem preserves : Cert.preserves_Second_SecondIdeal :=
  IdealRules.named_const.statement Cert.SecondIdeal.κ "neg_log2_e" .f32 0xBFB8AA3B#32 ((-((Real.log 2)⁻¹) : ℝ) : EReal) rfl

theorem algebraic : Cert.algebraic_SecondIdeal_SecondReferenceIdeal_on_second_rows := by
  intro m ρ m' ρ' _ hagree

  refine ⟨fun c => (Cert.SecondIdeal.Gen.dats m 0 c).arrAt 9 Cert.SecondIdeal.cfg0.N, fun c => (Cert.SecondIdeal.Gen.dats m 0 c).arrAt 10 Cert.SecondIdeal.cfg0.N, fun c => (Cert.SecondIdeal.Gen.dats m 0 c).arrAt 11 Cert.SecondIdeal.cfg0.N, fun c => (Cert.SecondIdeal.Gen.dats m 0 c).arrAt 12 Cert.SecondIdeal.cfg0.N, fun c => (Cert.SecondIdeal.Gen.dats m 0 c).arrAt 13 Cert.SecondIdeal.cfg0.N, ?_, ?_⟩
  · refine (θ_run Cert.SecondIdeal.defs _ _).mono (fun _ h c => ?_) (Cert.SecondIdeal.Value.run_blocks (F := Ideal) m ρ)
    obtain ⟨hy, hg, h1, h3, h2, rest⟩ := h c
    exact ⟨fun i _ => congrFun hy i, fun i _ => congrFun hg i, fun i _ => congrFun h1 i, fun i _ => congrFun h3 i, fun i _ => congrFun h2 i, rest⟩
  · refine (θ_run Cert.SecondReferenceIdeal.defs _ _).mono (fun _ h c => ?_) (Cert.SecondReferenceIdeal.Results.run m' ρ')
    obtain ⟨hy, hg, h1, h3, h2, rest⟩ := h c
    obtain ⟨a0, a1, a2, a3, a4, a5, a6, a7, a8, a9, a10⟩ := hagree c
    rw [a0, a1, a6, a7, a8, a9] at hy
    rw [a2, a3, a6, a7, a10] at hg
    rw [a2, a3, a4, a5, a6, a7, a8] at h1
    rw [a2, a3, a4, a5, a6, a8] at h3
    rw [a2, a3, a4, a5, a6, a7] at h2
    exact ⟨fun i hi => (congrFun hy i).trans (y_eq m c i ((Cert.On_second_rows.y_iff _ _ _ _ _ _ _ _ _ _ _ i).mp hi)).symm,
      fun i hi => (congrFun hg i).trans (g_eq m c i ((Cert.On_second_rows.g_iff _ _ _ _ _ _ _ _ _ _ _ i).mp hi)).symm,
      fun i _ => (congrFun h1 i).trans (congrFun (t1_eq m c) i).symm, fun i _ => (congrFun h3 i).trans (congrFun (t3_eq m c) i).symm,
      fun i _ => (congrFun h2 i).trans (congrFun (t2_eq m c) i).symm, rest⟩

end Cert.Proof.SecondClaims

end
-- ==== Proof.ThirdPoint.lean ====
/-
  The third chunk's kernel at one grid point: the pieces its body stores are the four steps' results (Proof/Blocks.lean),
  at a pair's first point (weights read and kept, gradients begun) and at a later one.
-/
module

public import proofs.«01_k».proof.Proof.Gen.ThirdIdeal.Frame
public import proofs.«01_k».proof.Proof.Chunk
public import Idealize.ShloMosaic.Lib.Pipeline.ReadBack

@[expose] public section

set_option maxRecDepth 16384

noncomputable section

namespace Cert.ThirdIdeal.Point

open Idealize.ShloMosaic Idealize.ShloMosaic.TcCoe Idealize.SL Idealize.SL.Sem Idealize.ShloMosaic.ValueIdx
open Cert.ThirdIdeal Cert.ThirdIdeal.Gen Cert.Blocks Cert.Step Cert.Spec

/-- The named constant. -/
abbrev cst : Ideal .f32 := Named.named κ "neg_log2_e" 0xBFB8AA3B#32

theorem cst_eq : cst = negLog2E := IdealRules.named_const.ideal_named_scalar _ _ _ _ rfl

/-- The batch entry, as the body computes it from the grid coordinate. -/
abbrev batchAt (i : grid0.Coords) : Nat := BitVec.toNat (Scalar.indexCast (BitVec.ofNat 32 (i 0).val))

theorem batchAt_eq (i : grid0.Coords) : batchAt i = (i 0).val := by
  have h : (i 0).val < 2 := (i 0).isLt
  show BitVec.toNat (Scalar.indexCast (BitVec.ofNat 32 (i 0).val)) = _
  generalize (i 0).val = n at h
  interval_cases n <;> rfl

theorem batchAt_lt (i : grid0.Coords) : batchAt i < 2 := by rw [batchAt_eq]; exact (i 0).isLt

/-- The batch entry of a grid point. -/
def batch (i : grid0.Coords) : Fin 2 := ⟨(i 0).val, (i 0).isLt⟩

theorem batch_eq (i : grid0.Coords) : (⟨batchAt i, batchAt_lt i⟩ : Fin 2) = batch i := Fin.ext (batchAt_eq i)

/-- The pieces a pair's first point stores. -/
theorem pieces_A (c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0) (x0 x1 x2 x3 x4 x5 x6 x7 x8) (hb) :
    (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).1 = yPieces (yAt cst x0 x3 (batchAt i) hb (fun h => keep (ldMat x6 h)) (fun h => keep (ldMat x7 h)) (fun h => keep (ldMat x8 h)))
    ∧ (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.1 = gPieces (gAt cst x1 x4 (batchAt i) hb (fun h => keep (ldMat x6 h)) (fun h => keep (ldMat x7 h)))
    ∧ (∃ L, (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.2.1 = accPieces (g1At cst x1 x2 x4 x5 (batchAt i) hb (fun h => keep (ldMat x6 h)) (fun h => keep (ldMat x7 h)) (fun h => keep (ldMat x8 h)) (fun _ => zeros)) ++ L)
    ∧ (∃ L, (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.2.2.1 = accPieces (g3At cst x1 x2 x4 x5 (batchAt i) hb (fun h => keep (ldMat x6 h)) (fun h => keep (ldMat x8 h)) (fun _ => zeros)) ++ L)
    ∧ (∃ L, (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.2.2.2.1 = accPieces (g2At cst x1 x2 x4 x5 (batchAt i) hb (fun h => keep (ldMat x6 h)) (fun h => keep (ldMat x7 h)) (fun _ => zeros)) ++ L)
    ∧ (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.2.2.2.2.1 = keptPieces (fun h => keep (ldMat x6 h))
    ∧ (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.2.2.2.2.2.1 = keptPieces (fun h => keep (ldMat x7 h))
    ∧ (kernelRun0_A (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8).2.2.2.2.2.2.2.1 = keptPieces (fun h => keep (ldMat x8 h)) := by
  unfold kernelRun0_A
  dsimp only
  sl_unfold_words
  simp (disch := decide) only [↓ View.readCov_skip, ↓ View.readCov_cons_toLoadRect, View.readAt_eq_ld, Memref.IsWhole.read_unread]
  exact ⟨rfl, rfl, ⟨_, rfl⟩, ⟨_, rfl⟩, ⟨_, rfl⟩, rfl, rfl, rfl⟩

/-- The pieces a later point stores. -/
theorem pieces_B (c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0) (x0 x1 x2 x3 x4 x5 x6 x7 x8 xo11 xo12 xo13 xs0 xs1 xs2) (hb) :
    (kernelRun0_B (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2).1 = yPieces (yAt cst x0 x3 (batchAt i) hb (fun h => ldKept xs0 h) (fun h => ldKept xs1 h) (fun h => ldKept xs2 h))
    ∧ (kernelRun0_B (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2).2.1 = gPieces (gAt cst x1 x4 (batchAt i) hb (fun h => ldKept xs0 h) (fun h => ldKept xs1 h))
    ∧ (∃ L, (kernelRun0_B (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2).2.2.1 = accPieces (g1At cst x1 x2 x4 x5 (batchAt i) hb (fun h => ldKept xs0 h) (fun h => ldKept xs1 h) (fun h => ldKept xs2 h) (fun h => ldMat xo11 h)) ++ L)
    ∧ (∃ L, (kernelRun0_B (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2).2.2.2.1 = accPieces (g3At cst x1 x2 x4 x5 (batchAt i) hb (fun h => ldKept xs0 h) (fun h => ldKept xs2 h) (fun h => ldMat xo12 h)) ++ L)
    ∧ (∃ L, (kernelRun0_B (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2).2.2.2.2.1 = accPieces (g2At cst x1 x2 x4 x5 (batchAt i) hb (fun h => ldKept xs0 h) (fun h => ldKept xs1 h) (fun h => ldMat xo13 h)) ++ L) := by
  unfold kernelRun0_B
  dsimp only
  sl_unfold_words
  simp (disch := decide) only [↓ View.readCov_skip, ↓ View.readCov_cons_toLoadRect, View.readAt_eq_ld, Memref.IsWhole.read_unread]
  exact ⟨rfl, rfl, ⟨_, rfl⟩, ⟨_, rfl⟩, ⟨_, rfl⟩⟩

/-- What a pair's first point does. -/
theorem does_A (c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0) (x0 x1 x2 x3 x4 x5 x6 x7 x8) :
    Does ⟨x0, x1, x2, x3, x4, x5⟩ (batch i) (fun h d f => x6 (ix4 (0 : Fin 1) h d f)) (fun h d f => x7 (ix4 (0 : Fin 1) h d f))
      (fun h d f => x8 (ix4 (0 : Fin 1) h d f)) (fun _ _ _ => 0) (fun _ _ _ => 0) (fun _ _ _ => 0)
      ⟨out0_A_9 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_10 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_11 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_12 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_13 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      sout0_A_0 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      sout0_A_1 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      sout0_A_2 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8⟩ := by
  obtain ⟨py, pg, ⟨L1, p1⟩, ⟨L3, p3⟩, ⟨L2, p2⟩, pk1, pk3, pk2⟩ := pieces_A c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 (batchAt_lt i)
  have e := does_of_pieces_kept cst cst_eq ⟨x0, x1, x2, x3, x4, x5⟩ (batchAt i) (batchAt_lt i) (fun h => keep (ldMat x6 h)) (fun h => keep (ldMat x7 h))
    (fun h => keep (ldMat x8 h)) (fun _ => zeros) (fun _ => zeros) (fun _ => zeros)
    ⟨out0_A_9 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_10 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_11 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_12 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      out0_A_13 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      sout0_A_0 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      sout0_A_1 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8,
      sout0_A_2 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8⟩ L1 L3 L2
    (by unfold out0_A_9; rw [View.read_writes_eq_canon _ _ _ (cover0_A_9 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), py])
    (by unfold out0_A_10; rw [View.read_writes_eq_canon _ _ _ (cover0_A_10 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), pg])
    (by unfold out0_A_11; rw [View.read_writes_eq_canon _ _ _ (cover0_A_11 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), p1])
    (by unfold out0_A_12; rw [View.read_writes_eq_canon _ _ _ (cover0_A_12 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), p3])
    (by unfold out0_A_13; rw [View.read_writes_eq_canon _ _ _ (cover0_A_13 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), p2])
    (by unfold sout0_A_0; rw [View.read_writes_eq_canon _ _ _ (scover0_A_0 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), pk1])
    (by unfold sout0_A_1; rw [View.read_writes_eq_canon _ _ _ (scover0_A_1 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), pk3])
    (by unfold sout0_A_2; rw [View.read_writes_eq_canon _ _ _ (scover0_A_2 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8), pk2])
  simp only [mat_keep_ld, zeros_apply, batch_eq] at e
  exact e

/-- What a later point does. -/
theorem does_B (c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0) (x0 x1 x2 x3 x4 x5 x6 x7 x8 xo11 xo12 xo13 xs0 xs1 xs2) :
    Does ⟨x0, x1, x2, x3, x4, x5⟩ (batch i) (fun h d f => xs0 (ix3 h d f)) (fun h d f => xs1 (ix3 h d f))
      (fun h d f => xs2 (ix3 h d f)) (fun h d f => xo11 (ix4 (0 : Fin 1) h d f)) (fun h d f => xo12 (ix4 (0 : Fin 1) h d f))
      (fun h d f => xo13 (ix4 (0 : Fin 1) h d f))
      ⟨out0_B_9 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_10 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_11 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_12 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_13 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      sout0_B_0 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      sout0_B_1 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      sout0_B_2 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2⟩ := by
  obtain ⟨py, pg, ⟨L1, p1⟩, ⟨L3, p3⟩, ⟨L2, p2⟩⟩ := pieces_B c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2 (batchAt_lt i)
  have e := does_of_pieces cst cst_eq ⟨x0, x1, x2, x3, x4, x5⟩ (batchAt i) (batchAt_lt i) (fun h => ldKept xs0 h) (fun h => ldKept xs1 h)
    (fun h => ldKept xs2 h) (fun h => ldMat xo11 h) (fun h => ldMat xo12 h) (fun h => ldMat xo13 h)
    ⟨out0_B_9 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_10 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_11 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_12 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      out0_B_13 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      sout0_B_0 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      sout0_B_1 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2,
      sout0_B_2 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2⟩ L1 L3 L2
    (by unfold out0_B_9; rw [View.read_writes_eq_canon _ _ _ (cover0_B_9 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2), py])
    (by unfold out0_B_10; rw [View.read_writes_eq_canon _ _ _ (cover0_B_10 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2), pg])
    (by unfold out0_B_11; rw [View.read_writes_eq_canon _ _ _ (cover0_B_11 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2), p1])
    (by unfold out0_B_12; rw [View.read_writes_eq_canon _ _ _ (cover0_B_12 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2), p3])
    (by unfold out0_B_13; rw [View.read_writes_eq_canon _ _ _ (cover0_B_13 c i arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 hc0 x0 x1 x2 x3 x4 x5 x6 x7 x8 xo11 xo12 xo13 xs0 xs1 xs2), p2])
    (fun h d f => (congrFun (congrFun (mat_ld_kept xs0 h) d) f).symm)
    (fun h d f => (congrFun (congrFun (mat_ld_kept xs1 h) d) f).symm)
    (fun h d f => (congrFun (congrFun (mat_ld_kept xs2 h) d) f).symm)
  simp only [mat_ld_kept, ld_mat, batch_eq] at e
  exact e

end Cert.ThirdIdeal.Point

end
-- ==== Proof.ThirdArrays.lean ====
/-
  The third chunk's kernel on whole arrays: what every grid point's blocks are in the arguments, what every point leaves,
  and what the five result arrays hold in the end.
-/
module

public import proofs.«01_k».proof.Proof.ThirdPoint
public import proofs.«01_k».proof.Proof.Coord
public import proofs.«01_k».proof.Proof.Gen.ThirdIdeal.Value

@[expose] public section

set_option maxRecDepth 16356

noncomputable section

namespace Cert.ThirdIdeal.Arrays

open Idealize.ShloMosaic Idealize.ShloMosaic.TcCoe Idealize.SL Idealize.SL.Sem Idealize.ShloMosaic.ValueIdx
open Cert.ThirdIdeal Cert.ThirdIdeal.Gen Cert.ThirdIdeal.Value Cert.ThirdIdeal.Point Cert.Blocks Cert.Chunk Cert.Coord Cert.Spec Cert.Step

variable (m : (ℓ : Loc nD τ sig) → Buf (Elt Ideal) ℓ) (c : Dev nD)

/-- The chunk's data: the arguments. -/
def data : Data where
  q b n hd d := m ((c : Thread nD τ).loc main_arg0) (ix3 b n (col hd d))
  qs b n hd := m ((c : Thread nD τ).loc main_arg1) (ix3 b n hd)
  k b n hd d := m ((c : Thread nD τ).loc main_arg2) (ix3 b n (col hd d))
  ks b n hd := m ((c : Thread nD τ).loc main_arg3) (ix3 b n hd)
  v b n hd d := m ((c : Thread nD τ).loc main_arg4) (ix3 b n (col hd d))
  eta b n hd := m ((c : Thread nD τ).loc main_arg5) (ix3 b n hd)
  W1 b hd d f := m ((c : Thread nD τ).loc main_arg6) (ix4 b hd d f)
  W3 b hd d f := m ((c : Thread nD τ).loc main_arg7) (ix4 b hd d f)
  W2 b hd d f := m ((c : Thread nD τ).loc main_arg8) (ix4 b hd d f)

/-! ## The grid -/

theorem coord0 (t : Fin cfg0.N) : (grid0.coords t 0).val = t.val / 28 := by
  have h := Pipeline.Grid.coords_val (G := grid0) t 0 (S := 28) (B := 2) (by decide) rfl
  have hN : t.val < 56 := lt_of_lt_of_eq t.isLt N_0
  rw [h]; omega

theorem coord1 (t : Fin cfg0.N) : (grid0.coords t 1).val = t.val / 2 % 14 :=
  Pipeline.Grid.coords_val (G := grid0) t 1 (S := 2) (B := 14) (by decide) rfl

theorem coord2 (t : Fin cfg0.N) : (grid0.coords t 2).val = t.val % 2 := by
  have h := Pipeline.Grid.coords_val (G := grid0) t 2 (S := 1) (B := 2) (by decide) rfl
  rw [h, Nat.div_one]

/-- A point's pair of heads. -/
def pair (t : Fin cfg0.N) : Fin 14 := ⟨(grid0.coords t 1).val, (grid0.coords t 1).isLt⟩

theorem tok_index (i : grid0.Coords) : cc0_transform_0 i = ![(i 0).val, 6 + (i 2).val, (i 1).val] := by
  have h0 : (i 0).val < 2 := (i 0).isLt
  have h1 : (i 1).val < 14 := (i 1).isLt
  have h2 : (i 2).val < 2 := (i 2).isLt
  funext a
  match a with
  | ⟨0, _⟩ => exact toNat_word _ (by omega)
  | ⟨1, _⟩ => exact toNat_add 6 _ (by omega)
  | ⟨2, _⟩ => exact toNat_word _ (by omega)

theorem sc_index (i : grid0.Coords) : cc0_transform_3 i = ![(i 1).val, 0, 6 + (i 2).val] := by
  have h1 : (i 1).val < 14 := (i 1).isLt
  have h2 : (i 2).val < 2 := (i 2).isLt
  funext a
  match a with
  | ⟨0, _⟩ => exact toNat_word _ (by omega)
  | ⟨1, _⟩ => rfl
  | ⟨2, _⟩ => exact toNat_add 6 _ (by omega)

theorem hid_index (i : grid0.Coords) : cc0_transform_12 i = ![(i 0).val, (i 1).val, 6 + (i 2).val, 0] := by
  have h0 : (i 0).val < 2 := (i 0).isLt
  have h1 : (i 1).val < 14 := (i 1).isLt
  have h2 : (i 2).val < 2 := (i 2).isLt
  funext a
  match a with
  | ⟨0, _⟩ => exact toNat_word _ (by omega)
  | ⟨1, _⟩ => exact toNat_word _ (by omega)
  | ⟨2, _⟩ => exact toNat_add 6 _ (by omega)
  | ⟨3, _⟩ => rfl

theorem mat_index (i : grid0.Coords) : cc0_transform_13 i = ![(i 0).val, (i 1).val, 0, 0] := by
  have h0 : (i 0).val < 2 := (i 0).isLt
  have h1 : (i 1).val < 14 := (i 1).isLt
  funext a
  match a with
  | ⟨0, _⟩ => exact toNat_word _ (by omega)
  | ⟨1, _⟩ => exact toNat_word _ (by omega)
  | ⟨2, _⟩ => rfl
  | ⟨3, _⟩ => rfl

/-! ## Where a block's element lies in its array -/

theorem tok_emb (t : Fin cfg0.N) (r : Fin 512) (h : Fin 2) (d : Fin 256) :
    (win0_0.rect t).emb (ix3 (0 : Fin 1) r (cat h d))
      = ix3 (batch (grid0.coords t)) (tokenAt (3072 + 512 * (t.val % 2) + r.val)) (col (head (pair t) h) d) := by
  funext a
  apply Fin.ext
  refine (win0_0.rect_emb_val t _ a).trans ?_
  have hr := r.isLt
  have e := congrFun (tok_index (grid0.coords t)) a
  have h2 := coord2 t
  match a with
  | ⟨0, _⟩ =>
    show cc0_transform_0 (grid0.coords t) 0 * 1 + 0 = (grid0.coords t 0).val
    rw [show cc0_transform_0 (grid0.coords t) 0 = (grid0.coords t 0).val from e]; omega
  | ⟨1, _⟩ =>
    show cc0_transform_0 (grid0.coords t) 1 * 512 + r.val = (tokenAt (3072 + 512 * (t.val % 2) + r.val)).val
    rw [show cc0_transform_0 (grid0.coords t) 1 = 6 + (grid0.coords t 2).val from e, tokenAt_val _ (by omega)]; omega
  | ⟨2, _⟩ =>
    show cc0_transform_0 (grid0.coords t) 2 * 512 + (256 * h.val + d.val) = 256 * (2 * (grid0.coords t 1).val + h.val) + d.val
    rw [show cc0_transform_0 (grid0.coords t) 2 = (grid0.coords t 1).val from e]; omega

theorem sc_emb (t : Fin cfg0.N) (r : Fin 512) (h : Fin 2) (b : Fin 2) :
    (win0_3.rect t).emb (ix3 h b r) = ix3 (head (pair t) h) b (tokenAt (3072 + 512 * (t.val % 2) + r.val)) := by
  funext a
  apply Fin.ext
  refine (win0_3.rect_emb_val t _ a).trans ?_
  have hr := r.isLt
  have e := congrFun (sc_index (grid0.coords t)) a
  have h2 := coord2 t
  match a with
  | ⟨0, _⟩ =>
    show cc0_transform_3 (grid0.coords t) 0 * 2 + h.val = 2 * (grid0.coords t 1).val + h.val
    rw [show cc0_transform_3 (grid0.coords t) 0 = (grid0.coords t 1).val from e]; omega
  | ⟨1, _⟩ =>
    show cc0_transform_3 (grid0.coords t) 1 * 2 + b.val = b.val
    rw [show cc0_transform_3 (grid0.coords t) 1 = 0 from e]; omega
  | ⟨2, _⟩ =>
    show cc0_transform_3 (grid0.coords t) 2 * 512 + r.val = (tokenAt (3072 + 512 * (t.val % 2) + r.val)).val
    rw [show cc0_transform_3 (grid0.coords t) 2 = 6 + (grid0.coords t 2).val from e, tokenAt_val _ (by omega)]; omega

theorem hid_emb (t : Fin cfg0.N) (h : Fin 2) (r : Fin 512) (f : Fin 768) :
    (win0_10.rect t).emb (ix4 (0 : Fin 1) h r f)
      = ix4 (batch (grid0.coords t)) (head (pair t) h) (tokenAt (3072 + 512 * (t.val % 2) + r.val)) f := by
  funext a
  apply Fin.ext
  refine (win0_10.rect_emb_val t _ a).trans ?_
  have hr := r.isLt
  have e := congrFun (hid_index (grid0.coords t)) a
  have h2 := coord2 t
  match a with
  | ⟨0, _⟩ =>
    show cc0_transform_12 (grid0.coords t) 0 * 1 + 0 = (grid0.coords t 0).val
    rw [show cc0_transform_12 (grid0.coords t) 0 = (grid0.coords t 0).val from e]; omega
  | ⟨1, _⟩ =>
    show cc0_transform_12 (grid0.coords t) 1 * 2 + h.val = 2 * (grid0.coords t 1).val + h.val
    rw [show cc0_transform_12 (grid0.coords t) 1 = (grid0.coords t 1).val from e]; omega
  | ⟨2, _⟩ =>
    show cc0_transform_12 (grid0.coords t) 2 * 512 + r.val = (tokenAt (3072 + 512 * (t.val % 2) + r.val)).val
    rw [show cc0_transform_12 (grid0.coords t) 2 = 6 + (grid0.coords t 2).val from e, tokenAt_val _ (by omega)]; omega
  | ⟨3, _⟩ =>
    show cc0_transform_12 (grid0.coords t) 3 * 768 + f.val = f.val
    rw [show cc0_transform_12 (grid0.coords t) 3 = 0 from e]; omega

theorem mat_emb (t : Fin cfg0.N) (h : Fin 2) (d : Fin 256) (f : Fin 768) :
    (win0_11.rect t).emb (ix4 (0 : Fin 1) h d f) = ix4 (batch (grid0.coords t)) (head (pair t) h) d f := by
  funext a
  apply Fin.ext
  refine (win0_11.rect_emb_val t _ a).trans ?_
  have e := congrFun (mat_index (grid0.coords t)) a
  match a with
  | ⟨0, _⟩ =>
    show cc0_transform_13 (grid0.coords t) 0 * 1 + 0 = (grid0.coords t 0).val
    rw [show cc0_transform_13 (grid0.coords t) 0 = (grid0.coords t 0).val from e]; omega
  | ⟨1, _⟩ =>
    show cc0_transform_13 (grid0.coords t) 1 * 2 + h.val = 2 * (grid0.coords t 1).val + h.val
    rw [show cc0_transform_13 (grid0.coords t) 1 = (grid0.coords t 1).val from e]; omega
  | ⟨2, _⟩ =>
    show cc0_transform_13 (grid0.coords t) 2 * 256 + d.val = d.val
    rw [show cc0_transform_13 (grid0.coords t) 2 = 0 from e]; omega
  | ⟨3, _⟩ =>
    show cc0_transform_13 (grid0.coords t) 3 * 768 + f.val = f.val
    rw [show cc0_transform_13 (grid0.coords t) 3 = 0 from e]; omega

/-! ## What the region finds in the arrays the host prepared -/

theorem V_v0 (hd : Fin 28) (b : Fin 2) (n : Fin 4096) : V m c main_v0 (ix3 hd b n) = (data m c).qs b n hd := by
  have e : V m c main_v0 = transpose S28x2x4096 [2, 0, 1] (m ((c : Thread nD τ).loc main_arg1)) transposes_S2x4096x28_S28x2x4096_2_0_1 := by
    show StableHlo.after hostOps0 _ _ = _
    simp only [hostOps0]
    after_results_simp <;> rfl
  rw [e]; exact scales_apply _ _ hd b n

theorem V_v1 (hd : Fin 28) (b : Fin 2) (n : Fin 4096) : V m c main_v1 (ix3 hd b n) = (data m c).ks b n hd := by
  have e : V m c main_v1 = transpose S28x2x4096 [2, 0, 1] (m ((c : Thread nD τ).loc main_arg3)) transposes_S2x4096x28_S28x2x4096_2_0_1 := by
    show StableHlo.after hostOps0 _ _ = _
    simp only [hostOps0]
    after_results_simp <;> rfl
  rw [e]; exact scales_apply _ _ hd b n

theorem V_v2 (hd : Fin 28) (b : Fin 2) (n : Fin 4096) : V m c main_v2 (ix3 hd b n) = (data m c).eta b n hd := by
  have e : V m c main_v2 = transpose S28x2x4096 [2, 0, 1] (m ((c : Thread nD τ).loc main_arg5)) transposes_S2x4096x28_S28x2x4096_2_0_1 := by
    show StableHlo.after hostOps0 _ _ = _
    simp only [hostOps0]
    after_results_simp <;> rfl
  rw [e]; exact scales_apply _ _ hd b n

/-! ## The points -/

/-- The blocks a point reads. -/
def reads (t : Fin cfg0.N) : Reads := ⟨iblk m c 0 t, iblk m c 1 t, iblk m c 2 t, iblk m c 3 t, iblk m c 4 t, iblk m c 5 t⟩

/-- The blocks a point leaves. -/
def leaves (n : Nat) (hn : n < cfg0.N) : Leaves :=
  ⟨(outsAt0 m c n hn).1, (outsAt0 m c n hn).2.1, (outsAt0 m c n hn).2.2.1, (outsAt0 m c n hn).2.2.2.1,
    (outsAt0 m c n hn).2.2.2.2.1, (outsAt0 m c n hn).2.2.2.2.2.1, (outsAt0 m c n hn).2.2.2.2.2.2.1, (outsAt0 m c n hn).2.2.2.2.2.2.2⟩

theorem part (t : Fin cfg0.N) : Part (data m c) (batch (grid0.coords t)) (pair t) (3072 + 512 * (t.val % 2)) (reads m c t) where
  q r h d := by
    show V m c main_arg0 ((win0_0.rect t).emb _) = _
    rw [V_main_arg0, tok_emb]; rfl
  k r h d := by
    show V m c main_arg2 ((win0_0.rect t).emb _) = _
    rw [V_main_arg2, tok_emb]; rfl
  v r h d := by
    show V m c main_arg4 ((win0_0.rect t).emb _) = _
    rw [V_main_arg4, tok_emb]; rfl
  qs r h := by
    show V m c main_v0 ((win0_3.rect t).emb _) = _
    rw [sc_emb]; exact V_v0 m c _ _ _
  ks r h := by
    show V m c main_v1 ((win0_3.rect t).emb _) = _
    rw [sc_emb]; exact V_v1 m c _ _ _
  eta r h := by
    show V m c main_v2 ((win0_3.rect t).emb _) = _
    rw [sc_emb]; exact V_v2 m c _ _ _

theorem weights1 (t : Fin cfg0.N) (h : Fin 2) (d : Fin 256) (f : Fin 768) :
    iblk m c 6 t (ix4 (0 : Fin 1) h d f) = (data m c).W1 (batch (grid0.coords t)) (head (pair t) h) d f := by
  show V m c main_arg6 ((win0_11.rect t).emb _) = _
  rw [V_main_arg6, mat_emb]; rfl

theorem weights3 (t : Fin cfg0.N) (h : Fin 2) (d : Fin 256) (f : Fin 768) :
    iblk m c 7 t (ix4 (0 : Fin 1) h d f) = (data m c).W3 (batch (grid0.coords t)) (head (pair t) h) d f := by
  show V m c main_arg7 ((win0_11.rect t).emb _) = _
  rw [V_main_arg7, mat_emb]; rfl

theorem weights2 (t : Fin cfg0.N) (h : Fin 2) (d : Fin 256) (f : Fin 768) :
    iblk m c 8 t (ix4 (0 : Fin 1) h d f) = (data m c).W2 (batch (grid0.coords t)) (head (pair t) h) d f := by
  show V m c main_arg8 ((win0_11.rect t).emb _) = _
  rw [V_main_arg8, mat_emb]; rfl

theorem left_A (t : Fin cfg0.N) (h0 : t.val % 2 = 0) :
    Left (data m c) (batch (grid0.coords t)) (pair t) 3072 0 (leaves m c t.val t.isLt) := by
  have p := part m c t
  rw [h0, Nat.mul_zero, Nat.add_zero] at p
  have d := does_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _)
    ((hcond0_0 t).mpr h0) (iblk m c 0 t) (iblk m c 1 t) (iblk m c 2 t) (iblk m c 3 t) (iblk m c 4 t) (iblk m c 5 t) (iblk m c 6 t) (iblk m c 7 t) (iblk m c 8 t)
  unfold leaves
  rw [outsAt0_A m c t h0]
  dsimp only
  exact left_first (data m c) (batch (grid0.coords t)) (pair t) 3072 (reads m c t) _ _ _ _ _ _ _ d p
    (fun h => funext fun d => funext fun f => weights1 m c t h d f) (fun h => funext fun d => funext fun f => weights3 m c t h d f)
    (fun h => funext fun d => funext fun f => weights2 m c t h d f) (fun _ _ _ => rfl) (fun _ _ _ => rfl) (fun _ _ _ => rfl)

theorem left_B (t : Fin cfg0.N) (h0 : ¬t.val % 2 = 0) (done : Nat) (hdone : 512 * (t.val % 2) = done + 512)
    (ih : Left (data m c) (batch (grid0.coords t)) (pair t) 3072 done (leaves m c (t.val - 1) (Nat.lt_of_le_of_lt (Nat.sub_le _ _) t.isLt))) :
    Left (data m c) (batch (grid0.coords t)) (pair t) 3072 (done + 512) (leaves m c t.val t.isLt) := by
  have p := part m c t
  rw [hdone] at p
  have d := does_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _)
    (fun h => h0 ((hcond0_0 t).mp h)) (iblk m c 0 t) (iblk m c 1 t) (iblk m c 2 t) (iblk m c 3 t) (iblk m c 4 t) (iblk m c 5 t) (iblk m c 6 t) (iblk m c 7 t) (iblk m c 8 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  unfold leaves
  rw [outsAt0_B m c t h0]
  dsimp only
  exact left_next (data m c) (batch (grid0.coords t)) (pair t) 3072 done (reads m c t) _ _ ih d p

theorem left (n : Nat) (hn : n < cfg0.N) :
    Left (data m c) (batch (grid0.coords ⟨n, hn⟩)) (pair ⟨n, hn⟩) 3072 (512 * (n % 2)) (leaves m c n hn) := by
  induction n with
  | zero => exact left_A m c ⟨0, hn⟩ rfl
  | succ n ih =>
    by_cases h0 : (n + 1) % 2 = 0
    · rw [h0]; exact left_A m c ⟨n + 1, hn⟩ h0
    · have hb : batch (grid0.coords ⟨n, Nat.lt_of_succ_lt hn⟩) = batch (grid0.coords ⟨n + 1, hn⟩) := Fin.ext (by
        show (grid0.coords ⟨n, Nat.lt_of_succ_lt hn⟩ 0).val = (grid0.coords ⟨n + 1, hn⟩ 0).val
        rw [coord0, coord0]; show n / 28 = (n + 1) / 28; omega)
      have hp : pair ⟨n, Nat.lt_of_succ_lt hn⟩ = pair ⟨n + 1, hn⟩ := Fin.ext (by
        show (grid0.coords ⟨n, Nat.lt_of_succ_lt hn⟩ 1).val = (grid0.coords ⟨n + 1, hn⟩ 1).val
        rw [coord1, coord1]; show n / 2 % 14 = (n + 1) / 2 % 14; omega)
      have l := ih (Nat.lt_of_succ_lt hn)
      rw [hb, hp] at l
      have hd : 512 * ((n + 1) % 2) = 512 * (n % 2) + 512 := by omega
      rw [hd]
      exact left_B m c ⟨n + 1, hn⟩ h0 _ hd l

/-! ## The result arrays -/

/-- The grid point of a batch entry, a pair of heads and a block of tokens. -/
def point (b : Fin 2) (p : Fin 14) (k : Fin 2) : Fin cfg0.N :=
  ⟨28 * b.val + 2 * p.val + k.val, by
    have := b.isLt; have := p.isLt; have := k.isLt
    rw [show cfg0.N = 56 from N_0]; omega⟩

theorem point_mod (b : Fin 2) (p : Fin 14) (k : Fin 2) : (point b p k).val % 2 = k.val := by
  have := k.isLt
  show (28 * b.val + 2 * p.val + k.val) % 2 = k.val; omega

theorem batch_point (b : Fin 2) (p : Fin 14) (k : Fin 2) : batch (grid0.coords (point b p k)) = b := Fin.ext (by
  have := b.isLt; have := p.isLt; have := k.isLt
  show (grid0.coords (point b p k) 0).val = b.val
  rw [coord0]; show (28 * b.val + 2 * p.val + k.val) / 28 = b.val; omega)

theorem pair_point (b : Fin 2) (p : Fin 14) (k : Fin 2) : pair (point b p k) = p := Fin.ext (by
  have := b.isLt; have := p.isLt; have := k.isLt
  show (grid0.coords (point b p k) 1).val = p.val
  rw [coord1]; show (28 * b.val + 2 * p.val + k.val) / 2 % 14 = p.val; omega)

/-- The block of tokens a token lies in, and its row there. -/
theorem token_split (n : Nat) (h : 3072 ≤ n ∧ n < 4096) : ∃ (k : Fin 2) (r : Fin 512), n = 3072 + 512 * k.val + r.val :=
  ⟨⟨(n - 3072) / 512, by omega⟩, ⟨(n - 3072) % 512, Nat.mod_lt _ (by decide)⟩, by
    show n = 3072 + 512 * ((n - 3072) / 512) + (n - 3072) % 512
    omega⟩

theorem head_split (hd : Fin 28) : ∃ (p : Fin 14) (h : Fin 2), hd = head p h := ⟨pairOf hd, halfOf hd, (head_pairOf hd).symm⟩

theorem y_at (b : Fin 2) (n : Fin 4096) (hn : 3072 ≤ n.val ∧ n.val < 4096) (hd : Fin 28) (d : Fin 256) :
    (dats m 0 c).arrAt 9 cfg0.N (ix3 b n (col hd d)) = (data m c).y b n hd d := by
  obtain ⟨k, r, e⟩ := token_split n.val hn
  obtain ⟨p, h, rfl⟩ := head_split hd
  have l := (left m c _ (point b p k).isLt).y r h d
  have a := tok_emb (point b p k) r h d
  have f := (dats m 0 c).arrAt_emb_eq_flushed 9 disjoint9 (point b p k) (flush0_9 _) (ix3 (0 : Fin 1) r (cat h d))
  have en : tokenAt (3072 + 512 * k.val + r.val) = n := Fin.ext ((tokenAt_val _ (by omega)).trans e.symm)
  rw [batch_point, pair_point, point_mod, en] at a
  rw [show (point b p k).val % 2 = k.val from point_mod b p k] at l
  rw [show (⟨(point b p k).val, (point b p k).isLt⟩ : Fin cfg0.N) = point b p k from rfl, batch_point, pair_point,
    en] at l
  rw [flushed9] at f
  refine (congrArg ((dats m 0 c).arrAt 9 cfg0.N) a.symm).trans (f.trans ?_)
  exact l

theorem g_at (b : Fin 2) (n : Fin 4096) (hn : 3072 ≤ n.val ∧ n.val < 4096) (hd : Fin 28) (f : Fin 768) :
    (dats m 0 c).arrAt 10 cfg0.N (ix4 b hd n f) = (data m c).g b n hd f := by
  obtain ⟨k, r, e⟩ := token_split n.val hn
  obtain ⟨p, h, rfl⟩ := head_split hd
  have l := (left m c _ (point b p k).isLt).g r h f
  have a := hid_emb (point b p k) h r f
  have w := (dats m 0 c).arrAt_emb_eq_flushed 10 disjoint10 (point b p k) (flush0_10 _) (ix4 (0 : Fin 1) h r f)
  have en : tokenAt (3072 + 512 * k.val + r.val) = n := Fin.ext ((tokenAt_val _ (by omega)).trans e.symm)
  rw [batch_point, pair_point, point_mod, en] at a
  rw [show (point b p k).val % 2 = k.val from point_mod b p k] at l
  rw [show (⟨(point b p k).val, (point b p k).isLt⟩ : Fin cfg0.N) = point b p k from rfl, batch_point, pair_point,
    en] at l
  rw [flushed10] at w
  refine (congrArg ((dats m 0 c).arrAt 10 cfg0.N) a.symm).trans (w.trans ?_)
  exact l

/-- Among the points that write the gradients back, no two write the same block. -/
theorem mat_inj : ∀ t t' : Fin cfg0.N, t.val % 2 = 1 → t'.val % 2 = 1 → win0_11.index t = win0_11.index t' → t = t' := by
  intro t t' h h' e
  have hN : t.val < 56 := lt_of_lt_of_eq t.isLt N_0
  have hN' : t'.val < 56 := lt_of_lt_of_eq t'.isLt N_0
  have e0 := congrFun e 0
  have e1 := congrFun e 1
  rw [show win0_11.index t 0 = t.val / 28 from (congrFun (mat_index (grid0.coords t)) 0).trans (coord0 t),
    show win0_11.index t' 0 = t'.val / 28 from (congrFun (mat_index (grid0.coords t')) 0).trans (coord0 t')] at e0
  rw [show win0_11.index t 1 = t.val / 2 % 14 from (congrFun (mat_index (grid0.coords t)) 1).trans (coord1 t),
    show win0_11.index t' 1 = t'.val / 2 % 14 from (congrFun (mat_index (grid0.coords t')) 1).trans (coord1 t')] at e1
  exact Fin.ext (by omega)

theorem disjoint11 : ∀ t t' : Fin cfg0.N, (cfg0.win 11).flush t = true → (cfg0.win 11).flush t' = true → t ≠ t' →
    Disjoint ((cfg0.win 11).blk t).view.set ((cfg0.win 11).blk t').view.set :=
  fun t t' h h' hne => (cfg0.win 11).disjoint_blk fun e => hne (mat_inj t t' ((flush0_11 t).mp h) ((flush0_11 t').mp h') e)

theorem t1_at (b : Fin 2) (hd : Fin 28) (d : Fin 256) (f : Fin 768) :
    (dats m 0 c).arrAt 11 cfg0.N (ix4 b hd d f) = total (fun n => (data m c).t1 b n hd d f) 3072 1024 := by
  obtain ⟨p, h, rfl⟩ := head_split hd
  have l := (left m c _ (point b p 1).isLt).g1 h d f
  have a := mat_emb (point b p 1) h d f
  have w := (dats m 0 c).arrAt_emb_eq_flushed 11 disjoint11 (point b p 1) ((flush0_11 _).mpr (point_mod b p 1)) (ix4 (0 : Fin 1) h d f)
  rw [batch_point, pair_point] at a
  rw [show (point b p 1).val % 2 = 1 from point_mod b p 1] at l
  rw [show (⟨(point b p 1).val, (point b p 1).isLt⟩ : Fin cfg0.N) = point b p 1 from rfl, batch_point, pair_point] at l
  rw [flushed11] at w
  refine (congrArg ((dats m 0 c).arrAt 11 cfg0.N) a.symm).trans (w.trans ?_)
  exact l

theorem disjoint12 : ∀ t t' : Fin cfg0.N, (cfg0.win 12).flush t = true → (cfg0.win 12).flush t' = true → t ≠ t' →
    Disjoint ((cfg0.win 12).blk t).view.set ((cfg0.win 12).blk t').view.set :=
  fun t t' h h' hne => (cfg0.win 12).disjoint_blk fun e => hne (mat_inj t t' ((flush0_12 t).mp h) ((flush0_12 t').mp h') e)

theorem t3_at (b : Fin 2) (hd : Fin 28) (d : Fin 256) (f : Fin 768) :
    (dats m 0 c).arrAt 12 cfg0.N (ix4 b hd d f) = total (fun n => (data m c).t3 b n hd d f) 3072 1024 := by
  obtain ⟨p, h, rfl⟩ := head_split hd
  have l := (left m c _ (point b p 1).isLt).g3 h d f
  have a := mat_emb (point b p 1) h d f
  have w := (dats m 0 c).arrAt_emb_eq_flushed 12 disjoint12 (point b p 1) ((flush0_12 _).mpr (point_mod b p 1)) (ix4 (0 : Fin 1) h d f)
  rw [batch_point, pair_point] at a
  rw [show (point b p 1).val % 2 = 1 from point_mod b p 1] at l
  rw [show (⟨(point b p 1).val, (point b p 1).isLt⟩ : Fin cfg0.N) = point b p 1 from rfl, batch_point, pair_point] at l
  rw [flushed12] at w
  refine (congrArg ((dats m 0 c).arrAt 12 cfg0.N) a.symm).trans (w.trans ?_)
  exact l

theorem disjoint13 : ∀ t t' : Fin cfg0.N, (cfg0.win 13).flush t = true → (cfg0.win 13).flush t' = true → t ≠ t' →
    Disjoint ((cfg0.win 13).blk t).view.set ((cfg0.win 13).blk t').view.set :=
  fun t t' h h' hne => (cfg0.win 13).disjoint_blk fun e => hne (mat_inj t t' ((flush0_13 t).mp h) ((flush0_13 t').mp h') e)

theorem t2_at (b : Fin 2) (hd : Fin 28) (d : Fin 256) (f : Fin 768) :
    (dats m 0 c).arrAt 13 cfg0.N (ix4 b hd d f) = total (fun n => (data m c).t2 b n hd d f) 3072 1024 := by
  obtain ⟨p, h, rfl⟩ := head_split hd
  have l := (left m c _ (point b p 1).isLt).g2 h d f
  have a := mat_emb (point b p 1) h d f
  have w := (dats m 0 c).arrAt_emb_eq_flushed 13 disjoint13 (point b p 1) ((flush0_13 _).mpr (point_mod b p 1)) (ix4 (0 : Fin 1) h d f)
  rw [batch_point, pair_point] at a
  rw [show (point b p 1).val % 2 = 1 from point_mod b p 1] at l
  rw [show (⟨(point b p 1).val, (point b p 1).isLt⟩ : Fin cfg0.N) = point b p 1 from rfl, batch_point, pair_point] at l
  rw [flushed13] at w
  refine (congrArg ((dats m 0 c).arrAt 13 cfg0.N) a.symm).trans (w.trans ?_)
  exact l

end Cert.ThirdIdeal.Arrays

end
-- ==== Proof.ThirdReading.lean ====
/-
  The third chunk's reference, line by line at an index: every line of it is what the specification says of a token,
  a head and a column, and the results are the chunk's.
-/
module

public import proofs.«01_k».proof.Proof.Host
public import proofs.«01_k».proof.Proof.Coord
public import proofs.«01_k».proof.Proof.Gen.ThirdPlainIdeal.Read

@[expose] public section

noncomputable section

namespace Cert.ThirdPlainIdeal.Reading

open Idealize.ShloMosaic Idealize.ShloMosaic.TcCoe Idealize.SL.Sem Idealize.ShloMosaic.StableHlo Idealize.ShloMosaic.ValueIdx
open Cert.ThirdPlainIdeal Cert.ThirdPlainIdeal.Gen Cert.ThirdPlainIdeal.Read Cert.Chunk Cert.Coord Cert.Spec Cert.Host

variable (x0 : (⟨S2x4096x7168, .bf16⟩ : BufTy).Contents (Elt Ideal)) (x1 : (⟨S2x4096x28, .f32⟩ : BufTy).Contents (Elt Ideal))
  (x2 : (⟨S2x4096x7168, .bf16⟩ : BufTy).Contents (Elt Ideal)) (x3 : (⟨S2x4096x28, .f32⟩ : BufTy).Contents (Elt Ideal))
  (x4 : (⟨S2x4096x7168, .bf16⟩ : BufTy).Contents (Elt Ideal)) (x5 : (⟨S2x4096x28, .f32⟩ : BufTy).Contents (Elt Ideal))
  (x6 x7 x8 : (⟨S2x28x256x768, .f32⟩ : BufTy).Contents (Elt Ideal))
  (x9 : (⟨S2x4096x7168, .bf16⟩ : BufTy).Contents (Elt Ideal)) (x10 : (⟨S2x28x4096x768, .bf16⟩ : BufTy).Contents (Elt Ideal))

/-- The chunk's data: the arguments. -/
def data : Data where
  q b n hd d := x0 (ix3 b n (col hd d))
  qs b n hd := x1 (ix3 b n hd)
  k b n hd d := x2 (ix3 b n (col hd d))
  ks b n hd := x3 (ix3 b n hd)
  v b n hd d := x4 (ix3 b n (col hd d))
  eta b n hd := x5 (ix3 b n hd)
  W1 b hd d f := x6 (ix4 b hd d f)
  W3 b hd d f := x7 (ix4 b hd d f)
  W2 b hd d f := x8 (ix4 b hd d f)

/-- The chunk's tokens in the sequence. -/
def tk (n : Fin 1024) : Fin 4096 := ⟨3072 + n.val, by have := n.isLt; omega⟩

theorem total_fin (T : Fin 4096 → EReal) : total T 3072 1024 = ∑ n : Fin 1024, T (tk n) := by
  unfold total
  rw [← Fin.sum_univ_eq_sum_range (fun i => T (tokenAt (3072 + i)))]
  refine Finset.sum_congr rfl fun n _ => congrArg T (Fin.ext ?_)
  have := n.isLt
  show (3072 + n.val) % 4096 = 3072 + n.val
  omega

theorem q_at (b : Fin 2) (n : Fin 1024) (hd : Fin 28) (d : Fin 256) :
    val_main_v1 (F := Ideal) x0 (ix4 b n hd d) = (data x0 x1 x2 x3 x4 x5 x6 x7 x8).q b (tk n) hd d := by
  have hb := b.isLt; have hn := n.isLt; have hh := hd.isLt; have hd' := d.isLt
  rw [val_main_v1_apply, val_main_v0_apply]
  exact congrArg x0 (ext3
    (Fin.ext (by show ((((b.val * 1024) + n.val) * 28 + hd.val) * 256 + d.val) / 7340032 = b.val; omega))
    (Fin.ext (by show 3072 + ((((b.val * 1024) + n.val) * 28 + hd.val) * 256 + d.val) / 7168 % 1024 = 3072 + n.val; omega))
    (Fin.ext (by show ((((b.val * 1024) + n.val) * 28 + hd.val) * 256 + d.val) % 7168 = 256 * hd.val + d.val; omega)))

theorem k_at (b : Fin 2) (n : Fin 1024) (hd : Fin 28) (d : Fin 256) :
    val_main_v3 (F := Ideal) x2 (ix4 b n hd d) = (data x0 x1 x2 x3 x4 x5 x6 x7 x8).k b (tk n) hd d := by
  have hb := b.isLt; have hn := n.isLt; have hh := hd.isLt; have hd' := d.isLt
  rw [val_main_v3_apply, val_main_v2_apply]
  exact congrArg x2 (ext3
    (Fin.ext (by show ((((b.val * 1024) + n.val) * 28 + hd.val) * 256 + d.val) / 7340032 = b.val; omega))
    (Fin.ext (by show 3072 + ((((b.val * 1024) + n.val) * 28 + hd.val) * 256 + d.val) / 7168 % 1024 = 3072 + n.val; omega))
    (Fin.ext (by show ((((b.val * 1024) + n.val) * 28 + hd.val) * 256 + d.val) % 7168 = 256 * hd.val + d.val; omega)))

theorem v_at (b : Fin 2) (n : Fin 1024) (hd : Fin 28) (d : Fin 256) :
    val_main_v5 (F := Ideal) x4 (ix4 b n hd d) = (data x0 x1 x2 x3 x4 x5 x6 x7 x8).v b (tk n) hd d := by
  have hb := b.isLt; have hn := n.isLt; have hh := hd.isLt; have hd' := d.isLt
  rw [val_main_v5_apply, val_main_v4_apply]
  exact congrArg x4 (ext3
    (Fin.ext (by show ((((b.val * 1024) + n.val) * 28 + hd.val) * 256 + d.val) / 7340032 = b.val; omega))
    (Fin.ext (by show 3072 + ((((b.val * 1024) + n.val) * 28 + hd.val) * 256 + d.val) / 7168 % 1024 = 3072 + n.val; omega))
    (Fin.ext (by show ((((b.val * 1024) + n.val) * 28 + hd.val) * 256 + d.val) % 7168 = 256 * hd.val + d.val; omega)))

theorem qs_at (b : Fin 2) (n : Fin 1024) (hd : Fin 28) :
    val_main_v6 (F := Ideal) x1 (ix3 b n hd) = (data x0 x1 x2 x3 x4 x5 x6 x7 x8).qs b (tk n) hd := by
  rw [val_main_v6_apply]
  exact congrArg x1 (ext3 rfl rfl rfl)

theorem ks_at (b : Fin 2) (n : Fin 1024) (hd : Fin 28) :
    val_main_v7 (F := Ideal) x3 (ix3 b n hd) = (data x0 x1 x2 x3 x4 x5 x6 x7 x8).ks b (tk n) hd := by
  rw [val_main_v7_apply]
  exact congrArg x3 (ext3 rfl rfl rfl)

theorem eta_at (b : Fin 2) (n : Fin 1024) (hd : Fin 28) :
    val_main_v8 (F := Ideal) x5 (ix3 b n hd) = (data x0 x1 x2 x3 x4 x5 x6 x7 x8).eta b (tk n) hd := by
  rw [val_main_v8_apply]
  exact congrArg x5 (ext3 rfl rfl rfl)

theorem w1_at (b : Fin 2) (hd : Fin 28) (d : Fin 256) (f : Fin 768) :
    val_main_v11 (F := Ideal) x6 (ix4 b hd f d) = (data x0 x1 x2 x3 x4 x5 x6 x7 x8).W1 b hd d f := by
  rw [val_main_v11_apply, val_main_v9_apply]
  exact congrArg x6 (ext4 rfl rfl rfl rfl)

theorem w3_at (b : Fin 2) (hd : Fin 28) (d : Fin 256) (f : Fin 768) :
    val_main_v12 (F := Ideal) x7 (ix4 b hd f d) = (data x0 x1 x2 x3 x4 x5 x6 x7 x8).W3 b hd d f := by
  rw [val_main_v12_apply, val_main_v10_apply]
  exact congrArg x7 (ext4 rfl rfl rfl rfl)

theorem w2_at (b : Fin 2) (hd : Fin 28) (d : Fin 256) (f : Fin 768) :
    val_main_v13 (F := Ideal) x8 (ix4 b hd d f) = (data x0 x1 x2 x3 x4 x5 x6 x7 x8).W2 b hd d f := by
  rw [val_main_v13_apply]
  rfl

theorem h1q (b : Fin 2) (n : Fin 1024) (hd : Fin 28) (f : Fin 768) :
    val_main_v18 (F := Ideal) x0 x1 x6 (ix4 b n hd f) = hidden ((data x0 x1 x2 x3 x4 x5 x6 x7 x8).W1 b hd) ((data x0 x1 x2 x3 x4 x5 x6 x7 x8).q b (tk n) hd) ((data x0 x1 x2 x3 x4 x5 x6 x7 x8).qs b (tk n) hd) f := by
  rw [val_main_v18_apply, val_main_v15_apply, val_main_v17_apply, val_main_v16_apply, show idx_main_v15 (ix4 b n hd f) = ix4 b hd f n from ext4 rfl rfl rfl rfl,
    show idx_main_v16 (idx_main_v17 (ix4 b n hd f)) = ix3 b n hd from ext3 rfl rfl rfl, qs_at x0 x1 x2 x3 x4 x5 x6 x7 x8, val_main_v14_apply]
  refine congrArg (· * _) (Finset.sum_congr rfl fun d _ => ?_)
  rw [show lidx_main_v14 (ix4 b hd f n) d = ix4 b hd f d from ext4 rfl rfl rfl rfl, show ridx_main_v14 (ix4 b hd f n) d = ix4 b n hd d from ext4 rfl rfl rfl rfl,
    w1_at x0 x1 x2 x3 x4 x5 x6 x7 x8, q_at x0 x1 x2 x3 x4 x5 x6 x7 x8]
  exact mul_comm _ _

theorem h3q (b : Fin 2) (n : Fin 1024) (hd : Fin 28) (f : Fin 768) :
    val_main_v23 (F := Ideal) x0 x1 x7 (ix4 b n hd f) = hidden ((data x0 x1 x2 x3 x4 x5 x6 x7 x8).W3 b hd) ((data x0 x1 x2 x3 x4 x5 x6 x7 x8).q b (tk n) hd) ((data x0 x1 x2 x3 x4 x5 x6 x7 x8).qs b (tk n) hd) f := by
  rw [val_main_v23_apply, val_main_v20_apply, val_main_v22_apply, val_main_v21_apply, show idx_main_v20 (ix4 b n hd f) = ix4 b hd f n from ext4 rfl rfl rfl rfl,
    show idx_main_v21 (idx_main_v22 (ix4 b n hd f)) = ix3 b n hd from ext3 rfl rfl rfl, qs_at x0 x1 x2 x3 x4 x5 x6 x7 x8, val_main_v19_apply]
  refine congrArg (· * _) (Finset.sum_congr rfl fun d _ => ?_)
  rw [show lidx_main_v19 (ix4 b hd f n) d = ix4 b hd f d from ext4 rfl rfl rfl rfl, show ridx_main_v19 (ix4 b hd f n) d = ix4 b n hd d from ext4 rfl rfl rfl rfl,
    w3_at x0 x1 x2 x3 x4 x5 x6 x7 x8, q_at x0 x1 x2 x3 x4 x5 x6 x7 x8]
  exact mul_comm _ _

theorem silu_q (b : Fin 2) (n : Fin 1024) (hd : Fin 28) (f : Fin 768) :
    val_main_v24 (F := Ideal) x0 x1 x6 (ix4 b n hd f) = gate (hidden ((data x0 x1 x2 x3 x4 x5 x6 x7 x8).W1 b hd) ((data x0 x1 x2 x3 x4 x5 x6 x7 x8).q b (tk n) hd) ((data x0 x1 x2 x3 x4 x5 x6 x7 x8).qs b (tk n) hd) f) := by
  rw [val_main_v24_apply, val_main_call0_v5_apply, val_main_call0_v4_apply, val_main_call0_cst_0_apply, val_main_call0_v3_apply, val_main_call0_v2_apply,
    val_main_call0_cst_apply, val_main_call0_v1_apply, val_main_call0_v0_apply, h1q x0 x1 x2 x3 x4 x5 x6 x7 x8]
  exact gate_of _

theorem act_q (b : Fin 2) (n : Fin 1024) (hd : Fin 28) (f : Fin 768) :
    val_main_v26 (F := Ideal) x0 x1 x6 x7 (ix4 b n hd f) = act ((data x0 x1 x2 x3 x4 x5 x6 x7 x8).W1 b hd) ((data x0 x1 x2 x3 x4 x5 x6 x7 x8).W3 b hd) ((data x0 x1 x2 x3 x4 x5 x6 x7 x8).q b (tk n) hd) ((data x0 x1 x2 x3 x4 x5 x6 x7 x8).qs b (tk n) hd) f := by
  rw [val_main_v26_apply, val_main_v25_apply, silu_q x0 x1 x2 x3 x4 x5 x6 x7 x8, h3q x0 x1 x2 x3 x4 x5 x6 x7 x8]
  rfl

theorem y_row (b : Fin 2) (n : Fin 1024) (hd : Fin 28) (d : Fin 256) :
    val_main_v28 (F := Ideal) x0 x1 x6 x7 x8 (ix4 b n hd d) = (data x0 x1 x2 x3 x4 x5 x6 x7 x8).y b (tk n) hd d := by
  rw [val_main_v28_apply, show idx_main_v28 (ix4 b n hd d) = ix4 b hd d n from ext4 rfl rfl rfl rfl, val_main_v27_apply]
  show _ = ∑ f, act ((data x0 x1 x2 x3 x4 x5 x6 x7 x8).W1 b hd) ((data x0 x1 x2 x3 x4 x5 x6 x7 x8).W3 b hd) ((data x0 x1 x2 x3 x4 x5 x6 x7 x8).q b (tk n) hd) ((data x0 x1 x2 x3 x4 x5 x6 x7 x8).qs b (tk n) hd) f * (data x0 x1 x2 x3 x4 x5 x6 x7 x8).W2 b hd d f
  refine Finset.sum_congr rfl fun f _ => ?_
  rw [show lidx_main_v27 (ix4 b hd d n) f = ix4 b hd d f from ext4 rfl rfl rfl rfl, show ridx_main_v27 (ix4 b hd d n) f = ix4 b n hd f from ext4 rfl rfl rfl rfl, w2_at x0 x1 x2 x3 x4 x5 x6 x7 x8, act_q x0 x1 x2 x3 x4 x5 x6 x7 x8]
  exact mul_comm _ _

theorem h1k (b : Fin 2) (n : Fin 1024) (hd : Fin 28) (f : Fin 768) :
    val_main_v33 (F := Ideal) x2 x3 x6 (ix4 b n hd f) = hidden ((data x0 x1 x2 x3 x4 x5 x6 x7 x8).W1 b hd) ((data x0 x1 x2 x3 x4 x5 x6 x7 x8).k b (tk n) hd) ((data x0 x1 x2 x3 x4 x5 x6 x7 x8).ks b (tk n) hd) f := by
  rw [val_main_v33_apply, val_main_v30_apply, val_main_v32_apply, val_main_v31_apply, show idx_main_v30 (ix4 b n hd f) = ix4 b hd f n from ext4 rfl rfl rfl rfl,
    show idx_main_v31 (idx_main_v32 (ix4 b n hd f)) = ix3 b n hd from ext3 rfl rfl rfl, ks_at x0 x1 x2 x3 x4 x5 x6 x7 x8, val_main_v29_apply]
  refine congrArg (· * _) (Finset.sum_congr rfl fun d _ => ?_)
  rw [show lidx_main_v29 (ix4 b hd f n) d = ix4 b hd f d from ext4 rfl rfl rfl rfl, show ridx_main_v29 (ix4 b hd f n) d = ix4 b n hd d from ext4 rfl rfl rfl rfl,
    w1_at x0 x1 x2 x3 x4 x5 x6 x7 x8, k_at x0 x1 x2 x3 x4 x5 x6 x7 x8]
  exact mul_comm _ _

theorem h3k (b : Fin 2) (n : Fin 1024) (hd : Fin 28) (f : Fin 768) :
    val_main_v38 (F := Ideal) x2 x3 x7 (ix4 b n hd f) = hidden ((data x0 x1 x2 x3 x4 x5 x6 x7 x8).W3 b hd) ((data x0 x1 x2 x3 x4 x5 x6 x7 x8).k b (tk n) hd) ((data x0 x1 x2 x3 x4 x5 x6 x7 x8).ks b (tk n) hd) f := by
  rw [val_main_v38_apply, val_main_v35_apply, val_main_v37_apply, val_main_v36_apply, show idx_main_v35 (ix4 b n hd f) = ix4 b hd f n from ext4 rfl rfl rfl rfl,
    show idx_main_v36 (idx_main_v37 (ix4 b n hd f)) = ix3 b n hd from ext3 rfl rfl rfl, ks_at x0 x1 x2 x3 x4 x5 x6 x7 x8, val_main_v34_apply]
  refine congrArg (· * _) (Finset.sum_congr rfl fun d _ => ?_)
  rw [show lidx_main_v34 (ix4 b hd f n) d = ix4 b hd f d from ext4 rfl rfl rfl rfl, show ridx_main_v34 (ix4 b hd f n) d = ix4 b n hd d from ext4 rfl rfl rfl rfl,
    w3_at x0 x1 x2 x3 x4 x5 x6 x7 x8, k_at x0 x1 x2 x3 x4 x5 x6 x7 x8]
  exact mul_comm _ _

theorem sig_k (b : Fin 2) (n : Fin 1024) (hd : Fin 28) (f : Fin 768) :
    val_main_v44 (F := Ideal) x2 x3 x6 (ix4 b n hd f) = Ideal.logistic (hidden ((data x0 x1 x2 x3 x4 x5 x6 x7 x8).W1 b hd) ((data x0 x1 x2 x3 x4 x5 x6 x7 x8).k b (tk n) hd) ((data x0 x1 x2 x3 x4 x5 x6 x7 x8).ks b (tk n) hd) f) := by
  rw [val_main_v44_apply, val_main_v43_apply, val_main_cst_0_apply, val_main_v42_apply, val_main_v41_apply, val_main_cst_apply, val_main_v40_apply, val_main_v39_apply, h1k x0 x1 x2 x3 x4 x5 x6 x7 x8]
  exact logistic_of _

theorem gate_k (b : Fin 2) (n : Fin 1024) (hd : Fin 28) (f : Fin 768) :
    val_main_v45 (F := Ideal) x2 x3 x6 (ix4 b n hd f) = gate (hidden ((data x0 x1 x2 x3 x4 x5 x6 x7 x8).W1 b hd) ((data x0 x1 x2 x3 x4 x5 x6 x7 x8).k b (tk n) hd) ((data x0 x1 x2 x3 x4 x5 x6 x7 x8).ks b (tk n) hd) f) := by
  rw [val_main_v45_apply, h1k x0 x1 x2 x3 x4 x5 x6 x7 x8, sig_k x0 x1 x2 x3 x4 x5 x6 x7 x8]
  rfl

theorem g_row (b : Fin 2) (n : Fin 1024) (hd : Fin 28) (f : Fin 768) :
    val_main_v47 (F := Ideal) x2 x3 x6 x7 (ix4 b n hd f) = (data x0 x1 x2 x3 x4 x5 x6 x7 x8).g b (tk n) hd f := by
  rw [val_main_v47_apply, val_main_v46_apply, gate_k x0 x1 x2 x3 x4 x5 x6 x7 x8, h3k x0 x1 x2 x3 x4 x5 x6 x7 x8]
  rfl

theorem e_row (b : Fin 2) (n : Fin 1024) (hd : Fin 28) (d : Fin 256) :
    val_main_v72 (F := Ideal) x4 x5 (ix4 b n hd d) = -((data x0 x1 x2 x3 x4 x5 x6 x7 x8).eta b (tk n) hd) * (data x0 x1 x2 x3 x4 x5 x6 x7 x8).v b (tk n) hd d := by
  rw [val_main_v72_apply, val_main_v52_apply, val_main_v51_apply, val_main_v49_apply, val_main_v48_apply, val_main_v50_apply, v_at x0 x1 x2 x3 x4 x5 x6 x7 x8,
    show idx_main_v48 (idx_main_v51 (ix4 b n hd d)) = ix3 b n hd from ext3 rfl rfl rfl, eta_at x0 x1 x2 x3 x4 x5 x6 x7 x8]
  rfl

theorem back_row (b : Fin 2) (n : Fin 1024) (hd : Fin 28) (f : Fin 768) :
    val_main_v58 (F := Ideal) x4 x5 x8 (ix4 b n hd f) = back ((data x0 x1 x2 x3 x4 x5 x6 x7 x8).W2 b hd) ((data x0 x1 x2 x3 x4 x5 x6 x7 x8).v b (tk n) hd) ((data x0 x1 x2 x3 x4 x5 x6 x7 x8).eta b (tk n) hd) f := by
  rw [val_main_v58_apply, val_main_v57_apply, val_main_v54_apply, val_main_v53_apply, show idx_main_v53 (idx_main_v57 (ix4 b n hd f)) = ix3 b n hd from ext3 rfl rfl rfl, eta_at x0 x1 x2 x3 x4 x5 x6 x7 x8,
    val_main_v56_apply, show idx_main_v56 (ix4 b n hd f) = ix4 b hd f n from ext4 rfl rfl rfl rfl, val_main_v55_apply]
  refine congrArg (_ * ·) (Finset.sum_congr rfl fun d _ => ?_)
  rw [show lidx_main_v55 (ix4 b hd f n) d = ix4 b hd d f from ext4 rfl rfl rfl rfl, show ridx_main_v55 (ix4 b hd f n) d = ix4 b n hd d from ext4 rfl rfl rfl rfl, w2_at x0 x1 x2 x3 x4 x5 x6 x7 x8, v_at x0 x1 x2 x3 x4 x5 x6 x7 x8]
  exact mul_comm _ _

theorem dh3_row (b : Fin 2) (n : Fin 1024) (hd : Fin 28) (f : Fin 768) :
    val_main_v76 (F := Ideal) x2 x3 x4 x5 x6 x8 (ix4 b n hd f) = dh3 ((data x0 x1 x2 x3 x4 x5 x6 x7 x8).W1 b hd) ((data x0 x1 x2 x3 x4 x5 x6 x7 x8).W2 b hd) ((data x0 x1 x2 x3 x4 x5 x6 x7 x8).k b (tk n) hd) ((data x0 x1 x2 x3 x4 x5 x6 x7 x8).ks b (tk n) hd) ((data x0 x1 x2 x3 x4 x5 x6 x7 x8).v b (tk n) hd) ((data x0 x1 x2 x3 x4 x5 x6 x7 x8).eta b (tk n) hd) f := by
  rw [val_main_v76_apply, val_main_v59_apply, back_row x0 x1 x2 x3 x4 x5 x6 x7 x8, gate_k x0 x1 x2 x3 x4 x5 x6 x7 x8]
  rfl

theorem dh1_row (b : Fin 2) (n : Fin 1024) (hd : Fin 28) (f : Fin 768) :
    val_main_v74 (F := Ideal) x2 x3 x4 x5 x6 x7 x8 (ix4 b n hd f) = dh1 ((data x0 x1 x2 x3 x4 x5 x6 x7 x8).W1 b hd) ((data x0 x1 x2 x3 x4 x5 x6 x7 x8).W3 b hd) ((data x0 x1 x2 x3 x4 x5 x6 x7 x8).W2 b hd) ((data x0 x1 x2 x3 x4 x5 x6 x7 x8).k b (tk n) hd) ((data x0 x1 x2 x3 x4 x5 x6 x7 x8).ks b (tk n) hd) ((data x0 x1 x2 x3 x4 x5 x6 x7 x8).v b (tk n) hd) ((data x0 x1 x2 x3 x4 x5 x6 x7 x8).eta b (tk n) hd) f := by
  rw [val_main_v74_apply, val_main_v67_apply, val_main_v61_apply, val_main_v60_apply, back_row x0 x1 x2 x3 x4 x5 x6 x7 x8, h3k x0 x1 x2 x3 x4 x5 x6 x7 x8, val_main_v66_apply, val_main_v65_apply, val_main_cst_2_apply, val_main_v64_apply,
    val_main_v63_apply, val_main_v62_apply, val_main_cst_1_apply, sig_k x0 x1 x2 x3 x4 x5 x6 x7 x8, h1k x0 x1 x2 x3 x4 x5 x6 x7 x8]
  exact times_slope _ _ _ _

theorem kq_row (b : Fin 2) (n : Fin 1024) (hd : Fin 28) (d : Fin 256) :
    val_main_v71 (F := Ideal) x2 x3 (ix4 b n hd d) = (data x0 x1 x2 x3 x4 x5 x6 x7 x8).k b (tk n) hd d * (data x0 x1 x2 x3 x4 x5 x6 x7 x8).ks b (tk n) hd := by
  rw [val_main_v71_apply, val_main_v70_apply, val_main_v69_apply, val_main_v68_apply, k_at x0 x1 x2 x3 x4 x5 x6 x7 x8,
    show idx_main_v68 (idx_main_v70 (ix4 b n hd d)) = ix3 b n hd from ext3 rfl rfl rfl, ks_at x0 x1 x2 x3 x4 x5 x6 x7 x8]
  rfl

theorem t2_at (b : Fin 2) (hd : Fin 28) (d : Fin 256) (f : Fin 768) :
    val_main_v73 (F := Ideal) x2 x3 x4 x5 x6 x7 (ix4 b hd d f) = total (fun n => (data x0 x1 x2 x3 x4 x5 x6 x7 x8).t2 b n hd d f) 3072 1024 := by
  rw [val_main_v73_apply, total_fin]
  refine Finset.sum_congr rfl fun n _ => ?_
  rw [show lidx_main_v73 (ix4 b hd d f) n = ix4 b n hd d from ext4 rfl rfl rfl rfl, show ridx_main_v73 (ix4 b hd d f) n = ix4 b n hd f from ext4 rfl rfl rfl rfl, e_row x0 x1 x2 x3 x4 x5 x6 x7 x8, g_row x0 x1 x2 x3 x4 x5 x6 x7 x8]
  rfl

theorem t1_at (b : Fin 2) (hd : Fin 28) (d : Fin 256) (f : Fin 768) :
    val_main_v85 (F := Ideal) x2 x3 x4 x5 x6 x7 x8 (ix4 b hd d f) = total (fun n => (data x0 x1 x2 x3 x4 x5 x6 x7 x8).t1 b n hd d f) 3072 1024 := by
  rw [val_main_v85_apply, show idx_main_v85 (ix4 b hd d f) = ix4 b hd f d from ext4 rfl rfl rfl rfl, val_main_v75_apply, total_fin]
  refine Finset.sum_congr rfl fun n _ => ?_
  rw [show lidx_main_v75 (ix4 b hd f d) n = ix4 b n hd f from ext4 rfl rfl rfl rfl, show ridx_main_v75 (ix4 b hd f d) n = ix4 b n hd d from ext4 rfl rfl rfl rfl, dh1_row x0 x1 x2 x3 x4 x5 x6 x7 x8, kq_row x0 x1 x2 x3 x4 x5 x6 x7 x8]
  exact mul_comm _ _

theorem t3_at (b : Fin 2) (hd : Fin 28) (d : Fin 256) (f : Fin 768) :
    val_main_v86 (F := Ideal) x2 x3 x4 x5 x6 x8 (ix4 b hd d f) = total (fun n => (data x0 x1 x2 x3 x4 x5 x6 x7 x8).t3 b n hd d f) 3072 1024 := by
  rw [val_main_v86_apply, show idx_main_v86 (ix4 b hd d f) = ix4 b hd f d from ext4 rfl rfl rfl rfl, val_main_v77_apply, total_fin]
  refine Finset.sum_congr rfl fun n _ => ?_
  rw [show lidx_main_v77 (ix4 b hd f d) n = ix4 b n hd f from ext4 rfl rfl rfl rfl, show ridx_main_v77 (ix4 b hd f d) n = ix4 b n hd d from ext4 rfl rfl rfl rfl, dh3_row x0 x1 x2 x3 x4 x5 x6 x7 x8, kq_row x0 x1 x2 x3 x4 x5 x6 x7 x8]
  exact mul_comm _ _

theorem y_at (b : Fin 2) (n : Fin 1024) (hd : Fin 28) (d : Fin 256) :
    val_main_v81 (F := Ideal) x0 x1 x6 x7 x8 x9 (ix3 b (tk n) (col hd d)) = (data x0 x1 x2 x3 x4 x5 x6 x7 x8).y b (tk n) hd d := by
  have hb := b.isLt; have hn := n.isLt; have hh := hd.isLt; have hd' := d.isLt
  refine (concatenate_pair_apply_right (t := S2x4096x7168) (s₁ := S2x3072x7168) (s₂ := S2x1024x7168) (1 : Fin 3) _ _ _ (ix3 b (tk n) (col hd d)) rfl rfl
    (ix3 b n (col hd d)) (fun a => match a with | ⟨0, _⟩ => fun _ => rfl | ⟨1, _⟩ => fun h => absurd rfl h | ⟨2, _⟩ => fun _ => rfl) (by show n.val + 3072 = 3072 + n.val; omega)).trans ?_
  rw [val_main_v79_apply, show idx_main_v79 (ix3 b n (col hd d)) = ix4 b n hd d from ext4
    (Fin.ext (by show ((b.val * 1024 + n.val) * 7168 + (256 * hd.val + d.val)) / 7340032 = b.val; omega))
    (Fin.ext (by show ((b.val * 1024 + n.val) * 7168 + (256 * hd.val + d.val)) / 7168 % 1024 = n.val; omega))
    (Fin.ext (by show ((b.val * 1024 + n.val) * 7168 + (256 * hd.val + d.val)) / 256 % 28 = hd.val; omega))
    (Fin.ext (by show ((b.val * 1024 + n.val) * 7168 + (256 * hd.val + d.val)) % 256 = d.val; omega)), val_main_v78_apply, y_row x0 x1 x2 x3 x4 x5 x6 x7 x8]
  rfl

theorem g_at (b : Fin 2) (n : Fin 1024) (hd : Fin 28) (f : Fin 768) :
    val_main_v84 (F := Ideal) x2 x3 x6 x7 x10 (ix4 b hd (tk n) f) = (data x0 x1 x2 x3 x4 x5 x6 x7 x8).g b (tk n) hd f := by
  have hn := n.isLt
  refine (concatenate_pair_apply_right (t := S2x28x4096x768) (s₁ := S2x28x3072x768) (s₂ := S2x28x1024x768) (2 : Fin 4) _ _ _ (ix4 b hd (tk n) f) rfl rfl
    (ix4 b hd n f) (fun a => match a with | ⟨0, _⟩ => fun _ => rfl | ⟨1, _⟩ => fun _ => rfl | ⟨2, _⟩ => fun h => absurd rfl h | ⟨3, _⟩ => fun _ => rfl) (by show n.val + 3072 = 3072 + n.val; omega)).trans ?_
  rw [val_main_v82_apply, show idx_main_v82 (ix4 b hd n f) = ix4 b n hd f from ext4 rfl rfl rfl rfl, g_row x0 x1 x2 x3 x4 x5 x6 x7 x8]

end Cert.ThirdPlainIdeal.Reading

end
-- ==== Proof.ThirdRun.lean ====
/-
  The third chunk's reference on whole arrays: the program decodes the query and key codes in one launch and computes
  the rest on the host, and its results are the plain program's results of its arguments.
-/
module

public import proofs.«01_k».proof.Proof.Gen.ThirdReferenceIdeal.Frame
public import proofs.«01_k».proof.Proof.Gen.ThirdPlainIdeal.Read
public import proofs.«01_k».proof.Proof.Blocks

@[expose] public section

set_option maxRecDepth 16384

noncomputable section

namespace Cert.ThirdReferenceIdeal.Results

open Idealize.ShloMosaic Idealize.ShloMosaic.TcCoe Idealize.SL Idealize.SL.Sem Idealize.ShloMosaic.StableHlo
open Cert.ThirdReferenceIdeal Cert.ThirdReferenceIdeal.Gen

/-! ## The host lines, from any contents -/

section Lines
variable {F : FTy → Type} [FloatOps F] (V : Valuation τ sig (Elt F))

set_option maxHeartbeats 2000000 in
theorem y_of : StableHlo.after (List.flatten [hostOps1, hostOps1_1, hostOps1_2]) V (Proc.devRef .tc main_v82)
    = Cert.ThirdPlainIdeal.Read.val_main_v81 (F := F) (V (Proc.devRef .tc main_v0_0)) (V (Proc.devRef .tc main_arg1)) (V (Proc.devRef .tc main_arg6)) (V (Proc.devRef .tc main_arg7)) (V (Proc.devRef .tc main_arg8)) (V (Proc.devRef .tc main_arg9)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

set_option maxHeartbeats 2000000 in
theorem g_of : StableHlo.after (List.flatten [hostOps1, hostOps1_1, hostOps1_2]) V (Proc.devRef .tc main_v85)
    = Cert.ThirdPlainIdeal.Read.val_main_v84 (F := F) (V (Proc.devRef .tc main_v0_1)) (V (Proc.devRef .tc main_arg3)) (V (Proc.devRef .tc main_arg6)) (V (Proc.devRef .tc main_arg7)) (V (Proc.devRef .tc main_arg10)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

theorem g1_of : StableHlo.after (List.flatten [hostOps1, hostOps1_1, hostOps1_2]) V (Proc.devRef .tc main_v86)
    = Cert.ThirdPlainIdeal.Read.val_main_v85 (F := F) (V (Proc.devRef .tc main_v0_1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

theorem g3_of : StableHlo.after (List.flatten [hostOps1, hostOps1_1, hostOps1_2]) V (Proc.devRef .tc main_v87)
    = Cert.ThirdPlainIdeal.Read.val_main_v86 (F := F) (V (Proc.devRef .tc main_v0_1)) (V (Proc.devRef .tc main_arg3)) (V (Proc.devRef .tc main_arg4)) (V (Proc.devRef .tc main_arg5)) (V (Proc.devRef .tc main_arg6)) (V (Proc.devRef .tc main_arg8)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

theorem g2_of : StableHlo.after (List.flatten [hostOps1, hostOps1_1, hostOps1_2]) V (Proc.devRef .tc main_v74)
    = Cert.ThirdPlainIdeal.Read.val_main_v73 (F := F) (V (Proc.devRef .tc main_v0_1)) (V (Proc.devRef .tc main_arg3)) (V (Proc.devRef .tc main_arg4)) (V (Proc.devRef .tc main_arg5)) (V (Proc.devRef .tc main_arg6)) (V (Proc.devRef .tc main_arg7)) := by
  simp only [List.flatten_cons, List.flatten_nil, List.append_nil, hostOps1, hostOps1_1, hostOps1_2, List.cons_append,
    List.nil_append, TRef.binary, TRef.nullary, TRef.unary, TRef.toBuf, TRef.ofBuf, cast_eq]
  after_results_simp <;> rfl

end Lines

/-! ## The decoded codes -/

variable (m : (ℓ : Loc nD τ sig) → Buf (Elt Ideal) ℓ) (ρ : Dev nD → PrngReg) (c : Dev nD)

/-- The launch's one grid point. -/
abbrev one : Fin cfg0.N := ⟨0, by decide⟩

theorem only (t : Fin cfg0.N) : t = one := Fin.ext (by have := t.isLt; have e : cfg0.N = 1 := by decide
                                                       omega)

theorem whole_emb (i : S2x4096x7168.Idx) : r0_0.emb i = i :=
  (Cert.Blocks.emb_unit_of _ _ _ i i fun a => by
    match a with
    | ⟨0, _⟩ => exact (Nat.zero_add _).symm
    | ⟨1, _⟩ => exact (Nat.zero_add _).symm
    | ⟨2, _⟩ => exact (Nat.zero_add _).symm).symm

theorem emb2 (i : S2x4096x7168.Idx) : ((cfg0.win 2).blk one).view.emb i = i := by
  funext a
  apply Fin.ext
  refine (win0_2.rect_emb_val one _ a).trans ?_
  match a with
  | ⟨0, _⟩ => show 0 * 2 + (i 0).val = (i 0).val; omega
  | ⟨1, _⟩ => show 0 * 4096 + (i 1).val = (i 1).val; omega
  | ⟨2, _⟩ => show 0 * 7168 + (i 2).val = (i 2).val; omega

theorem emb0 (i : S2x4096x7168.Idx) : ((cfg0.win 0).blk one).view.emb i = i := by
  funext a
  apply Fin.ext
  refine (win0_0.rect_emb_val one _ a).trans ?_
  match a with
  | ⟨0, _⟩ => show 0 * 2 + (i 0).val = (i 0).val; omega
  | ⟨1, _⟩ => show 0 * 4096 + (i 1).val = (i 1).val; omega
  | ⟨2, _⟩ => show 0 * 7168 + (i 2).val = (i 2).val; omega

/-- A code's decoded value is the code's own value. -/
theorem decoded2 : (dats m 0 c).arrAt 2 cfg0.N = ((fun i => m ((c : Thread nD τ).loc main_arg0) i) : S2x4096x7168.Idx → EReal) := by
  funext i
  have f := (dats m 0 c).arrAt_emb_eq_flushed 2 (fun t t' _ _ h => absurd ((only t).trans (only t').symm) h) one (flush0_2 _) i
  rw [emb2] at f
  refine f.trans ?_
  show (dats m 0 c).after 2 one i = _
  rw [after0_2]
  unfold out0_2
  refine ((congrArg _ (whole_emb i).symm).trans (View.canon_cons_emb r0_0 _ [] i)).trans ?_
  show iblk m c 0 one (r0_0.emb i) = _
  rw [whole_emb]
  show V m c main_arg0 (((cfg0.win 0).blk one).view.emb i) = _
  rw [emb0]
  rfl

theorem emb3 (i : S2x4096x7168.Idx) : ((cfg0.win 3).blk one).view.emb i = i := by
  funext a
  apply Fin.ext
  refine (win0_3.rect_emb_val one _ a).trans ?_
  match a with
  | ⟨0, _⟩ => show 0 * 2 + (i 0).val = (i 0).val; omega
  | ⟨1, _⟩ => show 0 * 4096 + (i 1).val = (i 1).val; omega
  | ⟨2, _⟩ => show 0 * 7168 + (i 2).val = (i 2).val; omega

theorem emb1 (i : S2x4096x7168.Idx) : ((cfg0.win 1).blk one).view.emb i = i := by
  funext a
  apply Fin.ext
  refine (win0_1.rect_emb_val one _ a).trans ?_
  match a with
  | ⟨0, _⟩ => show 0 * 2 + (i 0).val = (i 0).val; omega
  | ⟨1, _⟩ => show 0 * 4096 + (i 1).val = (i 1).val; omega
  | ⟨2, _⟩ => show 0 * 7168 + (i 2).val = (i 2).val; omega

/-- A code's decoded value is the code's own value. -/
theorem decoded3 : (dats m 0 c).arrAt 3 cfg0.N = ((fun i => m ((c : Thread nD τ).loc main_arg2) i) : S2x4096x7168.Idx → EReal) := by
  funext i
  have f := (dats m 0 c).arrAt_emb_eq_flushed 3 (fun t t' _ _ h => absurd ((only t).trans (only t').symm) h) one (flush0_3 _) i
  rw [emb3] at f
  refine f.trans ?_
  show (dats m 0 c).after 3 one i = _
  rw [after0_3]
  unfold out0_3
  refine ((congrArg _ (whole_emb i).symm).trans (View.canon_cons_emb r0_0 _ [] i)).trans ?_
  show iblk m c 1 one (r0_0.emb i) = _
  rw [whole_emb]
  show V m c main_arg2 (((cfg0.win 1).blk one).view.emb i) = _
  rw [emb1]
  rfl

/-! ## The run -/

/-- The arrays as the launch leaves them, which the host lines find. -/
abbrev left : Valuation τ sig (Elt Ideal) :=
  Pipeline.withArrays (cfgs 0).spec c (V0 m c) fun w => (dats m 0 c).arrAt w (cfgs 0).N

theorem left_v0_0 : left m c (Proc.devRef .tc main_v0_0) = ((fun i => m ((c : Thread nD τ).loc main_arg0) i) : S2x4096x7168.Idx → EReal) :=
  (Pipeline.withArrays_arr _ launch0.win.arr_inj c _ _ 2).trans (decoded2 m c)

theorem left_v0_1 : left m c (Proc.devRef .tc main_v0_1) = ((fun i => m ((c : Thread nD τ).loc main_arg2) i) : S2x4096x7168.Idx → EReal) :=
  (Pipeline.withArrays_arr _ launch0.win.arr_inj c _ _ 3).trans (decoded3 m c)

theorem left_arg1 : left m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem left_arg3 : left m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

theorem left_arg4 : left m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

theorem left_arg5 : left m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem left_arg6 : left m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

theorem left_arg7 : left m c (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)

theorem left_arg8 : left m c (Proc.devRef .tc main_arg8) = m ((c : Thread nD τ).loc main_arg8) :=
  (Pipeline.withArrays_of_ne _ c (V0 m c) _ main_arg8 (by exact (by decide : ∀ w, Pipeline.arrRef spec0 w ≠ main_arg8))).trans (V_main_arg8 m c)

theorem left_arg9 : left m c (Proc.devRef .tc main_arg9) = m ((c : Thread nD τ).loc main_arg9) :=
  (Pipeline.withArrays_of_ne _ c (V0 m c) _ main_arg9 (by exact (by decide : ∀ w, Pipeline.arrRef spec0 w ≠ main_arg9))).trans (V_main_arg9 m c)

theorem left_arg10 : left m c (Proc.devRef .tc main_arg10) = m ((c : Thread nD τ).loc main_arg10) :=
  (Pipeline.withArrays_of_ne _ c (V0 m c) _ main_arg10 (by exact (by decide : ∀ w, Pipeline.arrRef spec0 w ≠ main_arg10))).trans (V_main_arg10 m c)

theorem y_end : Pipeline.afterTail₀ cfgs (dats m) 0 (V0 m) [hostOps1, hostOps1_1, hostOps1_2] c main_v82
    = Cert.ThirdPlainIdeal.Read.val_main_v81 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) := by
  unfold Pipeline.afterTail₀
  refine (y_of (left m c)).trans ?_
  rw [left_v0_0, left_arg1, left_arg6, left_arg7, left_arg8, left_arg9]

theorem g_end : Pipeline.afterTail₀ cfgs (dats m) 0 (V0 m) [hostOps1, hostOps1_1, hostOps1_2] c main_v85
    = Cert.ThirdPlainIdeal.Read.val_main_v84 (F := Ideal) (m ((c : Thread nD τ).loc main_arg2)) (m ((c : Thread nD τ).loc main_arg3)) (m ((c : Thread nD τ).loc main_arg6)) (m ((c : Thread nD τ).loc main_arg7)) (m ((c : Thread nD τ).loc main_arg10)) := by
  unfold Pipeline.afterTail₀
  refine (g_of (left m c)).trans ?_
  rw [left_v0_1, left_arg3, left_arg6, left_arg7, left_arg10]

theorem g1_end : Pipeline.afterTail₀ cfgs (dats m) 0 (V0 m) [hostOps1, hostOps1_1, hostOps1_2] c main_v86
    = Cert.ThirdPlainIdeal.Read.val_main_v85 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  refine (g1_of (left m c)).trans ?_
  rw [left_v0_1, left_arg3, left_arg4, left_arg5, left_arg6, left_arg7, left_arg8]

theorem g3_end : Pipeline.afterTail₀ cfgs (dats m) 0 (V0 m) [hostOps1, hostOps1_1, hostOps1_2] c main_v87
    = Cert.ThirdPlainIdeal.Read.val_main_v86 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  unfold Pipeline.afterTail₀
  refine (g3_of (left m c)).trans ?_
  rw [left_v0_1, left_arg3, left_arg4, left_arg5, left_arg6, left_arg8]

theorem g2_end : Pipeline.afterTail₀ cfgs (dats m) 0 (V0 m) [hostOps1, hostOps1_1, hostOps1_2] c main_v74
    = Cert.ThirdPlainIdeal.Read.val_main_v73 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  refine (g2_of (left m c)).trans ?_
  rw [left_v0_1, left_arg3, left_arg4, left_arg5, left_arg6, left_arg7]

/-- The reference's results are the plain program's of its arguments, and its arguments end as they began. -/
theorem run : θ_run defs (onTc (τ := τ) (main (F := Ideal))) ⟨m, fun _ => 0, ρ⟩ fun r => ∀ c : Dev nD,
    r.2.mem ((c : Thread nD τ).loc main_v82) = Cert.ThirdPlainIdeal.Read.val_main_v81 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))
      ∧     r.2.mem ((c : Thread nD τ).loc main_v85) = Cert.ThirdPlainIdeal.Read.val_main_v84 (F := Ideal) (m ((c : Thread nD τ).loc main_arg2)) (m ((c : Thread nD τ).loc main_arg3)) (m ((c : Thread nD τ).loc main_arg6)) (m ((c : Thread nD τ).loc main_arg7)) (m ((c : Thread nD τ).loc main_arg10))
      ∧     r.2.mem ((c : Thread nD τ).loc main_v86) = Cert.ThirdPlainIdeal.Read.val_main_v85 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧     r.2.mem ((c : Thread nD τ).loc main_v87) = Cert.ThirdPlainIdeal.Read.val_main_v86 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8))
      ∧     r.2.mem ((c : Thread nD τ).loc main_v74) = Cert.ThirdPlainIdeal.Read.val_main_v73 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨((h c).2 main_v82 (Pipeline.mem_restRefs_of main_v82 (by decide) (by decide))).trans (y_end m c),
    ((h c).2 main_v85 (Pipeline.mem_restRefs_of main_v85 (by decide) (by decide))).trans (g_end m c),
    ((h c).2 main_v86 (Pipeline.mem_restRefs_of main_v86 (by decide) (by decide))).trans (g1_end m c),
    ((h c).2 main_v87 (Pipeline.mem_restRefs_of main_v87 (by decide) (by decide))).trans (g3_end m c),
    ((h c).2 main_v74 (Pipeline.mem_restRefs_of main_v74 (by decide) (by decide))).trans (g2_end m c),
    ((h c).1 0).trans (((dats m 0 c).arrAt_in 0 rfl _).trans (V_main_arg0 m c)),
    ((h c).2 main_arg1 (Pipeline.mem_restRefs_of main_arg1 (by decide) (by decide))).trans (W_main_arg1 m (dats m) c),
    ((h c).1 1).trans (((dats m 0 c).arrAt_in 1 rfl _).trans (V_main_arg2 m c)),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c)⟩)
    (run_main m ρ)

end Cert.ThirdReferenceIdeal.Results

end
-- ==== Proof.ThirdClaims.lean ====
/-
  The third chunk's claims: where the mask is set, the kernel's arrays and the reference's are both what the chunk's
  data (Proof/Chunk.lean) give, so they are equal.
-/
module

public import proofs.«01_k».proof.Defs
public import proofs.«01_k».proof.Proof.ThirdArrays
public import proofs.«01_k».proof.Proof.ThirdReading
public import proofs.«01_k».proof.Proof.ThirdRun
public import proofs.«01_k».proof.Proof.Gen.Third.Frame
public import proofs.«01_k».proof.Proof.Gen.ThirdPlainIdeal.Run
public import proofs.«01_k».proof.Proof.Gen.On_third_rows

@[expose] public section

set_option maxRecDepth 16384

noncomputable section

/-! ## The mask -/

namespace Cert.On_third_rows

open Idealize.ShloMosaic Idealize.ShloMosaic.ValueIdx

variable {F : FTy → Type} [FloatOps F] [Facts]

/-- The mask of the first result is the third chunk's rows, -/
theorem y_iff (main_arg0 : FVec F S2x4096x7168 .fp8e4m3) (main_arg1 : FVec F S2x4096x28 .f32) (main_arg2 : FVec F S2x4096x7168 .fp8e4m3) (main_arg3 : FVec F S2x4096x28 .f32) (main_arg4 : FVec F S2x4096x7168 .bf16) (main_arg5 : FVec F S2x4096x28 .f32) (main_arg6 : FVec F S2x28x256x768 .f32) (main_arg7 : FVec F S2x28x256x768 .f32) (main_arg8 : FVec F S2x28x256x768 .f32) (main_arg9 : FVec F S2x4096x7168 .bf16) (main_arg10 : FVec F S2x28x4096x768 .bf16) (i : S2x4096x7168.Idx) : (fn main_arg0 main_arg1 main_arg2 main_arg3 main_arg4 main_arg5 main_arg6 main_arg7 main_arg8 main_arg9 main_arg10).1 i = 1#1 ↔ 3072 ≤ (i 1).val ∧ (i 1).val < 4096 := by
  have key : ∀ r < 4096, IntOp.cmpi .sge (BitVec.ofNat 32 r) 3072#32 = 1#1 ↔ 3072 ≤ r ∧ r < 4096 := by decide +kernel
  exact key _ (i 1).isLt

/-- and so is the second's. -/
theorem g_iff (main_arg0 : FVec F S2x4096x7168 .fp8e4m3) (main_arg1 : FVec F S2x4096x28 .f32) (main_arg2 : FVec F S2x4096x7168 .fp8e4m3) (main_arg3 : FVec F S2x4096x28 .f32) (main_arg4 : FVec F S2x4096x7168 .bf16) (main_arg5 : FVec F S2x4096x28 .f32) (main_arg6 : FVec F S2x28x256x768 .f32) (main_arg7 : FVec F S2x28x256x768 .f32) (main_arg8 : FVec F S2x28x256x768 .f32) (main_arg9 : FVec F S2x4096x7168 .bf16) (main_arg10 : FVec F S2x28x4096x768 .bf16) (i : S2x28x4096x768.Idx) : (fn main_arg0 main_arg1 main_arg2 main_arg3 main_arg4 main_arg5 main_arg6 main_arg7 main_arg8 main_arg9 main_arg10).2.1 i = 1#1 ↔ 3072 ≤ (i 2).val ∧ (i 2).val < 4096 := by
  have key : ∀ r < 4096, IntOp.cmpi .sge (BitVec.ofNat 32 r) 3072#32 = 1#1 ↔ 3072 ≤ r ∧ r < 4096 := by decide +kernel
  exact key _ (i 2).isLt

end Cert.On_third_rows

/-! ## Equal arrays -/

namespace Cert.ThirdIdeal.Claims

open Idealize.ShloMosaic Idealize.ShloMosaic.TcCoe Idealize.SL Idealize.SL.Sem Idealize.ShloMosaic.ValueIdx
open Cert.ThirdIdeal Cert.ThirdIdeal.Gen Cert.ThirdIdeal.Arrays Cert.ThirdPlainIdeal.Read Cert.Chunk Cert.Coord
open Cert.ThirdPlainIdeal.Reading (tk)

variable (m : (ℓ : Loc nD τ sig) → Buf (Elt Ideal) ℓ) (c : Dev nD)

/-- The kernel's arguments and the reference's, taken as the chunk's data, are the same data. -/
theorem same : data m c = Cert.ThirdPlainIdeal.Reading.data (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := rfl

theorem token_of (n : Fin 4096) (h : 3072 ≤ n.val ∧ n.val < 4096) : n = tk ⟨n.val - 3072, by omega⟩ := Fin.ext (by
  show n.val = 3072 + (n.val - 3072)
  omega)

theorem column_of (k : Fin 7168) : k = col ⟨k.val / 256, by have := k.isLt; omega⟩ ⟨k.val % 256, by omega⟩ := Fin.ext (by
  show k.val = 256 * (k.val / 256) + k.val % 256
  omega)

theorem y_eq (i : S2x4096x7168.Idx) (h : 3072 ≤ (i 1).val ∧ (i 1).val < 4096) :
    (dats m 0 c).arrAt 9 cfg0.N i = val_main_v81 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) i := by
  have e : i = ix3 (i 0) (tk ⟨(i 1).val - 3072, by omega⟩) (col ⟨(i 2).val / 256, by have : (i 2).val < 7168 := (i 2).isLt; omega⟩ ⟨(i 2).val % 256, by omega⟩) :=
    ext3 rfl (token_of (i 1) h) (column_of (i 2))
  rw [e]
  refine (y_at m c _ _ (by show 3072 ≤ 3072 + ((i 1).val - 3072) ∧ 3072 + ((i 1).val - 3072) < 4096; omega) _ _).trans ?_
  rw [same]
  exact (Cert.ThirdPlainIdeal.Reading.y_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _ _).symm

theorem g_eq (i : S2x28x4096x768.Idx) (h : 3072 ≤ (i 2).val ∧ (i 2).val < 4096) :
    (dats m 0 c).arrAt 10 cfg0.N i = val_main_v84 (F := Ideal) (m ((c : Thread nD τ).loc main_arg2)) (m ((c : Thread nD τ).loc main_arg3)) (m ((c : Thread nD τ).loc main_arg6)) (m ((c : Thread nD τ).loc main_arg7)) (m ((c : Thread nD τ).loc main_arg10)) i := by
  have e : i = ix4 (i 0) (i 1) (tk ⟨(i 2).val - 3072, by omega⟩) (i 3) := ext4 rfl rfl (token_of (i 2) h) rfl
  rw [e]
  refine (g_at m c _ _ (by show 3072 ≤ 3072 + ((i 2).val - 3072) ∧ 3072 + ((i 2).val - 3072) < 4096; omega) _ _).trans ?_
  rw [same]
  exact (Cert.ThirdPlainIdeal.Reading.g_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _ _).symm

theorem t1_eq : (dats m 0 c).arrAt 11 cfg0.N = val_main_v85 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  rw [show i = ix4 (i 0) (i 1) (i 2) (i 3) from ext4 rfl rfl rfl rfl]
  refine (t1_at m c _ _ _ _).trans ?_
  rw [same]
  exact (Cert.ThirdPlainIdeal.Reading.t1_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _).symm

theorem t3_eq : (dats m 0 c).arrAt 12 cfg0.N = val_main_v86 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  funext i
  rw [show i = ix4 (i 0) (i 1) (i 2) (i 3) from ext4 rfl rfl rfl rfl]
  refine (t3_at m c _ _ _ _).trans ?_
  rw [same]
  exact (Cert.ThirdPlainIdeal.Reading.t3_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _).symm

theorem t2_eq : (dats m 0 c).arrAt 13 cfg0.N = val_main_v73 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  rw [show i = ix4 (i 0) (i 1) (i 2) (i 3) from ext4 rfl rfl rfl rfl]
  refine (t2_at m c _ _ _ _).trans ?_
  rw [same]
  exact (Cert.ThirdPlainIdeal.Reading.t2_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _).symm

end Cert.ThirdIdeal.Claims

/-! ## The claims -/

namespace Cert.Proof.ThirdClaims

open Idealize.ShloMosaic Idealize.ShloMosaic.TcCoe Idealize.SL Idealize.SL.Sem
open Cert.ThirdIdeal.Claims

theorem frame : Cert.quiescent_Third := fun m ρ _ => Cert.Third.Gen.frame m ρ
theorem frame_ideal : Cert.quiescent_ThirdIdeal := fun m ρ _ => Cert.ThirdIdeal.Gen.frame m ρ
theorem frame_reference : Cert.quiescent_ThirdReferenceIdeal := fun m ρ _ => Cert.ThirdReferenceIdeal.Gen.frame m ρ
theorem frame_plain : Cert.quiescent_ThirdPlainIdeal := fun m ρ _ =>
  (θ_run Cert.ThirdPlainIdeal.defs _ _).mono (fun r h => ⟨fun c => (h c).2.2.2.2.2, sem_eq_zero_of_no_sems (by decide) r.2⟩)
    (Cert.ThirdPlainIdeal.Value.run m ρ)

/-- The one named constant is the number its bits round. -/
theorem preserves : Cert.preserves_Third_ThirdIdeal :=
  IdealRules.named_const.statement Cert.ThirdIdeal.κ "neg_log2_e" .f32 0xBFB8AA3B#32 ((-((Real.log 2)⁻¹) : ℝ) : EReal) rfl

theorem algebraic : Cert.algebraic_ThirdIdeal_ThirdReferenceIdeal_on_third_rows := by
  intro m ρ m' ρ' _ hagree

  refine ⟨fun c => (Cert.ThirdIdeal.Gen.dats m 0 c).arrAt 9 Cert.ThirdIdeal.cfg0.N, fun c => (Cert.ThirdIdeal.Gen.dats m 0 c).arrAt 10 Cert.ThirdIdeal.cfg0.N, fun c => (Cert.ThirdIdeal.Gen.dats m 0 c).arrAt 11 Cert.ThirdIdeal.cfg0.N, fun c => (Cert.ThirdIdeal.Gen.dats m 0 c).arrAt 12 Cert.ThirdIdeal.cfg0.N, fun c => (Cert.ThirdIdeal.Gen.dats m 0 c).arrAt 13 Cert.ThirdIdeal.cfg0.N, ?_, ?_⟩
  · refine (θ_run Cert.ThirdIdeal.defs _ _).mono (fun _ h c => ?_) (Cert.ThirdIdeal.Value.run_blocks (F := Ideal) m ρ)
    obtain ⟨hy, hg, h1, h3, h2, rest⟩ := h c
    exact ⟨fun i _ => congrFun hy i, fun i _ => congrFun hg i, fun i _ => congrFun h1 i, fun i _ => congrFun h3 i, fun i _ => congrFun h2 i, rest⟩
  · refine (θ_run Cert.ThirdReferenceIdeal.defs _ _).mono (fun _ h c => ?_) (Cert.ThirdReferenceIdeal.Results.run m' ρ')
    obtain ⟨hy, hg, h1, h3, h2, rest⟩ := h c
    obtain ⟨a0, a1, a2, a3, a4, a5, a6, a7, a8, a9, a10⟩ := hagree c
    rw [a0, a1, a6, a7, a8, a9] at hy
    rw [a2, a3, a6, a7, a10] at hg
    rw [a2, a3, a4, a5, a6, a7, a8] at h1
    rw [a2, a3, a4, a5, a6, a8] at h3
    rw [a2, a3, a4, a5, a6, a7] at h2
    exact ⟨fun i hi => (congrFun hy i).trans (y_eq m c i ((Cert.On_third_rows.y_iff _ _ _ _ _ _ _ _ _ _ _ i).mp hi)).symm,
      fun i hi => (congrFun hg i).trans (g_eq m c i ((Cert.On_third_rows.g_iff _ _ _ _ _ _ _ _ _ _ _ i).mp hi)).symm,
      fun i _ => (congrFun h1 i).trans (congrFun (t1_eq m c) i).symm, fun i _ => (congrFun h3 i).trans (congrFun (t3_eq m c) i).symm,
      fun i _ => (congrFun h2 i).trans (congrFun (t2_eq m c) i).symm, rest⟩

end Cert.Proof.ThirdClaims

end
-- ==== Proof.lean ====
module

public import proofs.«01_k».proof.Defs
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstIdeal.Value
public import proofs.«01_k».proof.Proof.Gen.FirstReferenceIdeal
public import proofs.«01_k».proof.Proof.Gen.FirstReferenceIdeal.Skeleton
public import proofs.«01_k».proof.Proof.Gen.FirstReferenceIdeal.Launch
public import proofs.«01_k».proof.Proof.Gen.FirstReferenceIdeal.Points
public import proofs.«01_k».proof.Proof.Gen.FirstReferenceIdeal.Frame
public import proofs.«01_k».proof.Proof.Gen.FirstPlainIdeal
public import proofs.«01_k».proof.Proof.Gen.FirstPlainIdeal.Run
public import proofs.«01_k».proof.Proof.Gen.FirstPlainIdeal.Read
public import proofs.«01_k».proof.Proof.Gen.On_first_rows
public import proofs.«01_k».proof.Proof.Gen.Second
public import proofs.«01_k».proof.Proof.Gen.Second.Skeleton
public import proofs.«01_k».proof.Proof.Gen.Second.Launch
public import proofs.«01_k».proof.Proof.Gen.Second.Points
public import proofs.«01_k».proof.Proof.Gen.Second.Frame
public import proofs.«01_k».proof.Proof.Gen.SecondIdeal
public import proofs.«01_k».proof.Proof.Gen.SecondIdeal.Skeleton
public import proofs.«01_k».proof.Proof.Gen.SecondIdeal.Launch
public import proofs.«01_k».proof.Proof.Gen.SecondIdeal.Points
public import proofs.«01_k».proof.Proof.Gen.SecondIdeal.Frame
public import proofs.«01_k».proof.Proof.Gen.SecondIdeal.Value
public import proofs.«01_k».proof.Proof.Gen.SecondReferenceIdeal
public import proofs.«01_k».proof.Proof.Gen.SecondReferenceIdeal.Skeleton
public import proofs.«01_k».proof.Proof.Gen.SecondReferenceIdeal.Launch
public import proofs.«01_k».proof.Proof.Gen.SecondReferenceIdeal.Points
public import proofs.«01_k».proof.Proof.Gen.SecondReferenceIdeal.Frame
public import proofs.«01_k».proof.Proof.Gen.SecondPlainIdeal
public import proofs.«01_k».proof.Proof.Gen.SecondPlainIdeal.Run
public import proofs.«01_k».proof.Proof.Gen.SecondPlainIdeal.Read
public import proofs.«01_k».proof.Proof.Gen.On_second_rows
public import proofs.«01_k».proof.Proof.Gen.Third
public import proofs.«01_k».proof.Proof.Gen.Third.Skeleton
public import proofs.«01_k».proof.Proof.Gen.Third.Launch
public import proofs.«01_k».proof.Proof.Gen.Third.Points
public import proofs.«01_k».proof.Proof.Gen.Third.Frame
public import proofs.«01_k».proof.Proof.Gen.ThirdIdeal
public import proofs.«01_k».proof.Proof.Gen.ThirdIdeal.Skeleton
public import proofs.«01_k».proof.Proof.Gen.ThirdIdeal.Launch
public import proofs.«01_k».proof.Proof.Gen.ThirdIdeal.Points
public import proofs.«01_k».proof.Proof.Gen.ThirdIdeal.Frame
public import proofs.«01_k».proof.Proof.Gen.ThirdIdeal.Value
public import proofs.«01_k».proof.Proof.Gen.ThirdReferenceIdeal
public import proofs.«01_k».proof.Proof.Gen.ThirdReferenceIdeal.Skeleton
public import proofs.«01_k».proof.Proof.Gen.ThirdReferenceIdeal.Launch
public import proofs.«01_k».proof.Proof.Gen.ThirdReferenceIdeal.Points
public import proofs.«01_k».proof.Proof.Gen.ThirdReferenceIdeal.Frame
public import proofs.«01_k».proof.Proof.Gen.ThirdPlainIdeal
public import proofs.«01_k».proof.Proof.Gen.ThirdPlainIdeal.Run
public import proofs.«01_k».proof.Proof.Gen.ThirdPlainIdeal.Read
public import proofs.«01_k».proof.Proof.Gen.On_third_rows
public import proofs.«01_k».proof.Proof.FirstClaims
public import proofs.«01_k».proof.Proof.SecondClaims
public import proofs.«01_k».proof.Proof.ThirdClaims
public import Idealize.ShloMosaic.Adequacy
public import Idealize.ShloMosaic.Init

@[expose] public section

noncomputable section

namespace Cert.Proof

open Idealize.ShloMosaic Idealize.SL.Sem Cert.First

theorem claim : Cert.Claim := ⟨Cert.First.Gen.facts, Cert.FirstIdeal.Gen.facts, Cert.FirstReferenceIdeal.Gen.facts, Cert.FirstPlainIdeal.Gen.facts, Cert.Second.Gen.facts, Cert.SecondIdeal.Gen.facts, Cert.SecondReferenceIdeal.Gen.facts, Cert.SecondPlainIdeal.Gen.facts, Cert.Third.Gen.facts, Cert.ThirdIdeal.Gen.facts, Cert.ThirdReferenceIdeal.Gen.facts, Cert.ThirdPlainIdeal.Gen.facts, Cert.On_first_rows.Gen.facts, Cert.On_second_rows.Gen.facts, Cert.On_third_rows.Gen.facts,
  FirstClaims.frame, FirstClaims.frame_ideal, FirstClaims.frame_reference, FirstClaims.frame_plain,
  SecondClaims.frame, SecondClaims.frame_ideal, SecondClaims.frame_reference, SecondClaims.frame_plain,
  ThirdClaims.frame, ThirdClaims.frame_ideal, ThirdClaims.frame_reference, ThirdClaims.frame_plain,
  FirstClaims.preserves, FirstClaims.algebraic,
  SecondClaims.preserves, SecondClaims.algebraic,
  ThirdClaims.preserves, ThirdClaims.algebraic⟩

end Cert.Proof

end
